-- ==== Defs.lean ====
def Pre_KernelIdeal [hPre_boxes_in_image : Cert.Pre_boxes_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_image [hPre_boxes_in_image : Cert.Pre_boxes_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] [hPre_boxes_in_image : Cert.Pre_boxes_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_in_image [hReferenceIdeal : Cert.ReferenceIdeal.Facts] [hPre_boxes_in_image : Cert.Pre_boxes_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] [hPre_boxes_in_image : Cert.Pre_boxes_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_boxes_in_image : Cert.Pre_boxes_in_image.Facts),
    quiescent_KernelIdeal (hKernelIdeal := hKernelIdeal) (hPre_boxes_in_image := hPre_boxes_in_image)
    ∧ quiescent_ReferenceIdeal (hReferenceIdeal := hReferenceIdeal)
    ∧ quiescent_ReferenceIdeal_pre_boxes_in_image (hReferenceIdeal := hReferenceIdeal) (hPre_boxes_in_image := hPre_boxes_in_image)
    ∧ algebraic_KernelIdeal_ReferenceIdeal (hKernelIdeal := hKernelIdeal) (hReferenceIdeal := hReferenceIdeal) (hPre_boxes_in_image := hPre_boxes_in_image)
-- ==== Pre_boxes_in_image.lean ====
abbrev S2x256x128x128 : Shape := ⟨4, ![2, 256, 128, 128]⟩
abbrev S1024x5 : Shape := ⟨2, ![1024, 5]⟩
abbrev S1024x1 : Shape := ⟨2, ![1024, 1]⟩
abbrev S1024x4 : Shape := ⟨2, ![1024, 4]⟩
abbrev S_ : Shape := ⟨0, ![]⟩

class Facts : Prop where
  slices_S1024x5_S1024x1_0_0 : S1024x5.Slices ![0, 0] S1024x1
  slices_S1024x5_S1024x4_0_1 : S1024x5.Slices ![0, 1] S1024x4
  bcast_S_S1024x1 : S_.BroadcastsInDim S1024x1 (![] : Fin 0 → Fin S1024x1.rank)
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)

variable [Facts]

def fn {F : FTy → Type} [FloatOps F] (main_arg0 : FVec F S2x256x128x128 .f32) (main_arg1 : FVec F S1024x5 .f32) : IVec S1024x4 1 :=
  let main_v0 : FVec F S1024x1 .f32 := (extractStridedSlice S1024x1 ![0, 0] · slices_S1024x5_S1024x1_0_0) main_arg1
  let main_v1 : FVec F S1024x4 .f32 := (extractStridedSlice S1024x4 ![0, 1] · slices_S1024x5_S1024x4_0_1) main_arg1
  let main_cst : FVec F S_ .f32 := constant S_ .f32 0x00000000#32
  let main_v2 : FVec F S1024x1 .f32 := broadcastInDim S1024x1 ![] bcast_S_S1024x1 main_cst
  let main_v3 : IVec S1024x1 1 := cmpf .oge main_v0 main_v2
  let main_cst_0 : FVec F S_ .f32 := constant S_ .f32 0x3F800000#32
  let main_v4 : FVec F S1024x1 .f32 := broadcastInDim S1024x1 ![] bcast_S_S1024x1 main_cst_0
  let main_v5 : IVec S1024x1 1 := cmpf .ole main_v0 main_v4
  let main_v6 : IVec S1024x1 1 := andi main_v3 main_v5
  let main_cst_1 : FVec F S_ .f32 := constant S_ .f32 0x00000000#32
  let main_v7 : FVec F S1024x4 .f32 := broadcastInDim S1024x4 ![] bcast_S_S1024x4 main_cst_1
  let main_v8 : IVec S1024x4 1 := cmpf .oge main_v1 main_v7
  let main_v9 : IVec S1024x4 1 := broadcastInDim S1024x4 ![0, 1] bcast_S1024x1_S1024x4_0_1 main_v6
  let main_v10 : IVec S1024x4 1 := andi main_v9 main_v8
  let main_cst_2 : FVec F S_ .f32 := constant S_ .f32 0x45000000#32
  let main_v11 : FVec F S1024x4 .f32 := broadcastInDim S1024x4 ![] bcast_S_S1024x4 main_cst_2
  let main_v12 : IVec S1024x4 1 := cmpf .ole main_v1 main_v11
  let main_v13 : IVec S1024x4 1 := andi main_v10 main_v12
  main_v13
-- ==== KernelIdeal.lean ====
abbrev S2x256x128x128 : Shape := ⟨4, ![2, 256, 128, 128]⟩
abbrev S1024x5 : Shape := ⟨2, ![1024, 5]⟩
abbrev S2x128x128x256 : Shape := ⟨4, ![2, 128, 128, 256]⟩
abbrev S256x128x256 : Shape := ⟨3, ![256, 128, 256]⟩
abbrev S1024x7x7x256 : Shape := ⟨4, ![1024, 7, 7, 256]⟩
abbrev S16x7x7x256 : Shape := ⟨4, ![16, 7, 7, 256]⟩
abbrev S16x7x128x256 : Shape := ⟨4, ![16, 7, 128, 256]⟩
abbrev S_ : Shape := ⟨0, ![]⟩
abbrev S1x1 : Shape := ⟨2, ![1, 1]⟩
abbrev S1x128x256 : Shape := ⟨3, ![1, 128, 256]⟩
abbrev S128x256 : Shape := ⟨2, ![128, 256]⟩
abbrev S1x1x128x256 : Shape := ⟨4, ![1, 1, 128, 256]⟩
abbrev S1x128 : Shape := ⟨2, ![1, 128]⟩
abbrev S7x128 : Shape := ⟨2, ![7, 128]⟩
abbrev S7x256 : Shape := ⟨2, ![7, 256]⟩
abbrev S1x1x7x256 : Shape := ⟨4, ![1, 1, 7, 256]⟩
abbrev S1024x256x7x7 : Shape := ⟨4, ![1024, 256, 7, 7]⟩

abbrev nBuf : Space → Nat
  | .hbm => 6
  | .vmem => 4
  | .smem => 1
  | _ => 0

abbrev bufTy : (tb : Table) → Fin (tcTables nBuf tb) → BufTy
  | .hbm, ⟨0, _⟩ => ⟨S2x256x128x128, .f32⟩
  | .hbm, ⟨1, _⟩ => ⟨S1024x5, .f32⟩
  | .hbm, ⟨2, _⟩ => ⟨S2x128x128x256, .f32⟩
  | .hbm, ⟨3, _⟩ => ⟨S256x128x256, .f32⟩
  | .hbm, ⟨4, _⟩ => ⟨S1024x7x7x256, .f32⟩
  | .hbm, ⟨5, _⟩ => ⟨S1024x256x7x7, .f32⟩
  | .local _ .vmem, ⟨0, _⟩ => ⟨S16x7x7x256, .f32⟩
  | .local _ .vmem, ⟨1, _⟩ => ⟨S16x7x7x256, .f32⟩
  | .local _ .vmem, ⟨2, _⟩ => ⟨S256x128x256, .f32⟩
  | .local _ .vmem, ⟨3, _⟩ => ⟨S16x7x128x256, .f32⟩
  | .local _ .smem, ⟨0, _⟩ => ⟨S1024x5, .f32⟩
  | _, _ => ⟨S2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c0_i32_1 : BitVec 32 := 0#32
  let v6 : BitVec 32 := Scalar.addi v5 c0_i32_1
  let v7 : Index := Scalar.indexCast v6
  let c0 : Index := 0#32
  ![v7.toNat, 0]
def k0_off2 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c0_i32_1 : BitVec 32 := 0#32
  let v6 : BitVec 32 := Scalar.addi v5 c0_i32_1
  let v10 : Index := Scalar.indexCast v6
  let c1 : Index := 1#32
  ![v10.toNat, 1]
def k0_off3 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c0_i32_1 : BitVec 32 := 0#32
  let v6 : BitVec 32 := Scalar.addi v5 c0_i32_1
  let v14 : Index := Scalar.indexCast v6
  let c2 : Index := 2#32
  ![v14.toNat, 2]
def k0_off4 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c0_i32_1 : BitVec 32 := 0#32
  let v6 : BitVec 32 := Scalar.addi v5 c0_i32_1
  let v18 : Index := Scalar.indexCast v6
  let c3 : Index := 3#32
  ![v18.toNat, 3]
def k0_off5 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c0_i32_1 : BitVec 32 := 0#32
  let v6 : BitVec 32 := Scalar.addi v5 c0_i32_1
  let v22 : Index := Scalar.indexCast v6
  let c4 : Index := 4#32
  ![v22.toNat, 4]
def k0_off6 (v9 : BitVec 32) (v39 : BitVec 32) : Fin 3 → Nat :=
  let c128_i32 : BitVec 32 := 128#32
  let v30 : BitVec 32 := Scalar.muli v9 c128_i32
  let v40 : BitVec 32 := Scalar.addi v30 v39
  let v395 : Index := Scalar.indexCast v40
  let c0_233 : Index := 0#32
  let c0_234 : Index := 0#32
  ![v395.toNat, 0, 0]

def k0_off7 (v9 : BitVec 32) (v39 : BitVec 32) : Fin 3 → Nat :=
  let c128_i32 : BitVec 32 := 128#32
  let v30 : BitVec 32 := Scalar.muli v9 c128_i32
  let c1_i32 : BitVec 32 := 1#32
  let v41 : BitVec 32 := Scalar.addi v39 c1_i32
  let c127_i32 : BitVec 32 := 127#32
  let v42 : BitVec 32 := Scalar.minsi v41 c127_i32
  let v43 : BitVec 32 := Scalar.addi v30 v42
  let v398 : Index := Scalar.indexCast v43
  let c0_235 : Index := 0#32
  let c0_236 : Index := 0#32
  ![v398.toNat, 0, 0]

def k0_chk1 (v9 : BitVec 32) (v39 : BitVec 32) : Prop :=
  (∀ a, (k0_off6 v9 v39) a + S1x128x256.size a ≤ S256x128x256.size a) ∧
  (∀ a, (k0_off7 v9 v39) a + S1x128x256.size a ≤ S256x128x256.size a)
theorem k0_off6_inb : ∀ (v9 : BitVec 32) (v39 : BitVec 32) (k0_hw1 : k0_chk1 v9 v39), ∀ a, (k0_off6 v9 v39) a + S1x128x256.size a ≤ S256x128x256.size a := fun v9 v39 k0_hw1 => k0_hw1.1
theorem k0_off7_inb : ∀ (v9 : BitVec 32) (v39 : BitVec 32) (k0_hw1 : k0_chk1 v9 v39), ∀ a, (k0_off7 v9 v39) a + S1x128x256.size a ≤ S256x128x256.size a := fun v9 v39 k0_hw1 => k0_hw1.2

def k0_off8 (v9 : BitVec 32) (v52 : BitVec 32) : Fin 3 → Nat :=
  let c128_i32 : BitVec 32 := 128#32
  let v30 : BitVec 32 := Scalar.muli v9 c128_i32
  let v53 : BitVec 32 := Scalar.addi v30 v52
  let v407 : Index := Scalar.indexCast v53
  let c0_238 : Index := 0#32
  let c0_239 : Index := 0#32
  ![v407.toNat, 0, 0]

def k0_off9 (v9 : BitVec 32) (v52 : BitVec 32) : Fin 3 → Nat :=
  let c128_i32 : BitVec 32 := 128#32
  let v30 : BitVec 32 := Scalar.muli v9 c128_i32
  let c1_i32_21 : BitVec 32 := 1#32
  let v54 : BitVec 32 := Scalar.addi v52 c1_i32_21
  let c127_i32_22 : BitVec 32 := 127#32
  let v55 : BitVec 32 := Scalar.minsi v54 c127_i32_22
  let v56 : BitVec 32 := Scalar.addi v30 v55
  let v410 : Index := Scalar.indexCast v56
  let c0_240 : Index := 0#32
  let c0_241 : Index := 0#32
  ![v410.toNat, 0, 0]

def k0_chk2 (v9 : BitVec 32) (v52 : BitVec 32) : Prop :=
  (∀ a, (k0_off8 v9 v52) a + S1x128x256.size a ≤ S256x128x256.size a) ∧
  (∀ a, (k0_off9 v9 v52) a + S1x128x256.size a ≤ S256x128x256.size a)
theorem k0_off8_inb : ∀ (v9 : BitVec 32) (v52 : BitVec 32) (k0_hw2 : k0_chk2 v9 v52), ∀ a, (k0_off8 v9 v52) a + S1x128x256.size a ≤ S256x128x256.size a := fun v9 v52 k0_hw2 => k0_hw2.1
theorem k0_off9_inb : ∀ (v9 : BitVec 32) (v52 : BitVec 32) (k0_hw2 : k0_chk2 v9 v52), ∀ a, (k0_off9 v9 v52) a + S1x128x256.size a ≤ S256x128x256.size a := fun v9 v52 k0_hw2 => k0_hw2.2

def k0_off10 (v9 : BitVec 32) (v65 : BitVec 32) : Fin 3 → Nat :=
  let c128_i32 : BitVec 32 := 128#32
  let v30 : BitVec 32 := Scalar.muli v9 c128_i32
  let v66 : BitVec 32 := Scalar.addi v30 v65
  let v423 : Index := Scalar.indexCast v66
  let c0_247 : Index := 0#32
  let c0_248 : Index := 0#32
  ![v423.toNat, 0, 0]

def k0_off11 (v9 : BitVec 32) (v65 : BitVec 32) : Fin 3 → Nat :=
  let c128_i32 : BitVec 32 := 128#32
  let v30 : BitVec 32 := Scalar.muli v9 c128_i32
  let c1_i32_28 : BitVec 32 := 1#32
  let v67 : BitVec 32 := Scalar.addi v65 c1_i32_28
  let c127_i32_29 : BitVec 32 := 127#32
  let v68 : BitVec 32 := Scalar.minsi v67 c127_i32_29
  let v69 : BitVec 32 := Scalar.addi v30 v68
  let v426 : Index := Scalar.indexCast v69
  let c0_249 : Index := 0#32
  let c0_250 : Index := 0#32
  ![v426.toNat, 0, 0]

def k0_chk3 (v9 : BitVec 32) (v65 : BitVec 32) : Prop :=
  (∀ a, (k0_off10 v9 v65) a + S1x128x256.size a ≤ S256x128x256.size a) ∧
  (∀ a, (k0_off11 v9 v65) a + S1x128x256.size a ≤ S256x128x256.size a)
theorem k0_off10_inb : ∀ (v9 : BitVec 32) (v65 : BitVec 32) (k0_hw3 : k0_chk3 v9 v65), ∀ a, (k0_off10 v9 v65) a + S1x128x256.size a ≤ S256x128x256.size a := fun v9 v65 k0_hw3 => k0_hw3.1
theorem k0_off11_inb : ∀ (v9 : BitVec 32) (v65 : BitVec 32) (k0_hw3 : k0_chk3 v9 v65), ∀ a, (k0_off11 v9 v65) a + S1x128x256.size a ≤ S256x128x256.size a := fun v9 v65 k0_hw3 => k0_hw3.2

def k0_off12 (v9 : BitVec 32) (v78 : BitVec 32) : Fin 3 → Nat :=
  let c128_i32 : BitVec 32 := 128#32
  let v30 : BitVec 32 := Scalar.muli v9 c128_i32
  let v79 : BitVec 32 := Scalar.addi v30 v78
  let v435 : Index := Scalar.indexCast v79
  let c0_252 : Index := 0#32
  let c0_253 : Index := 0#32
  ![v435.toNat, 0, 0]

def k0_off13 (v9 : BitVec 32) (v78 : BitVec 32) : Fin 3 → Nat :=
  let c128_i32 : BitVec 32 := 128#32
  let v30 : BitVec 32 := Scalar.muli v9 c128_i32
  let c1_i32_35 : BitVec 32 := 1#32
  let v80 : BitVec 32 := Scalar.addi v78 c1_i32_35
  let c127_i32_36 : BitVec 32 := 127#32
  let v81 : BitVec 32 := Scalar.minsi v80 c127_i32_36
  let v82 : BitVec 32 := Scalar.addi v30 v81
  let v438 : Index := Scalar.indexCast v82
  let c0_254 : Index := 0#32
  let c0_255 : Index := 0#32
  ![v438.toNat, 0, 0]

def k0_chk4 (v9 : BitVec 32) (v78 : BitVec 32) : Prop :=
  (∀ a, (k0_off12 v9 v78) a + S1x128x256.size a ≤ S256x128x256.size a) ∧
  (∀ a, (k0_off13 v9 v78) a + S1x128x256.size a ≤ S256x128x256.size a)
theorem k0_off12_inb : ∀ (v9 : BitVec 32) (v78 : BitVec 32) (k0_hw4 : k0_chk4 v9 v78), ∀ a, (k0_off12 v9 v78) a + S1x128x256.size a ≤ S256x128x256.size a := fun v9 v78 k0_hw4 => k0_hw4.1
theorem k0_off13_inb : ∀ (v9 : BitVec 32) (v78 : BitVec 32) (k0_hw4 : k0_chk4 v9 v78), ∀ a, (k0_off13 v9 v78) a + S1x128x256.size a ≤ S256x128x256.size a := fun v9 v78 k0_hw4 => k0_hw4.2

def k0_off14 (v9 : BitVec 32) (v91 : BitVec 32) : Fin 3 → Nat :=
  let c128_i32 : BitVec 32 := 128#32
  let v30 : BitVec 32 := Scalar.muli v9 c128_i32
  let v92 : BitVec 32 := Scalar.addi v30 v91
  let v451 : Index := Scalar.indexCast v92
  let c0_261 : Index := 0#32
  let c0_262 : Index := 0#32
  ![v451.toNat, 0, 0]

def k0_off15 (v9 : BitVec 32) (v91 : BitVec 32) : Fin 3 → Nat :=
  let c128_i32 : BitVec 32 := 128#32
  let v30 : BitVec 32 := Scalar.muli v9 c128_i32
  let c1_i32_42 : BitVec 32 := 1#32
  let v93 : BitVec 32 := Scalar.addi v91 c1_i32_42
  let c127_i32_43 : BitVec 32 := 127#32
  let v94 : BitVec 32 := Scalar.minsi v93 c127_i32_43
  let v95 : BitVec 32 := Scalar.addi v30 v94
  let v454 : Index := Scalar.indexCast v95
  let c0_263 : Index := 0#32
  let c0_264 : Index := 0#32
  ![v454.toNat, 0, 0]

def k0_chk5 (v9 : BitVec 32) (v91 : BitVec 32) : Prop :=
  (∀ a, (k0_off14 v9 v91) a + S1x128x256.size a ≤ S256x128x256.size a) ∧
  (∀ a, (k0_off15 v9 v91) a + S1x128x256.size a ≤ S256x128x256.size a)
theorem k0_off14_inb : ∀ (v9 : BitVec 32) (v91 : BitVec 32) (k0_hw5 : k0_chk5 v9 v91), ∀ a, (k0_off14 v9 v91) a + S1x128x256.size a ≤ S256x128x256.size a := fun v9 v91 k0_hw5 => k0_hw5.1
theorem k0_off15_inb : ∀ (v9 : BitVec 32) (v91 : BitVec 32) (k0_hw5 : k0_chk5 v9 v91), ∀ a, (k0_off15 v9 v91) a + S1x128x256.size a ≤ S256x128x256.size a := fun v9 v91 k0_hw5 => k0_hw5.2

def k0_off16 (v9 : BitVec 32) (v104 : BitVec 32) : Fin 3 → Nat :=
  let c128_i32 : BitVec 32 := 128#32
  let v30 : BitVec 32 := Scalar.muli v9 c128_i32
  let v105 : BitVec 32 := Scalar.addi v30 v104
  let v463 : Index := Scalar.indexCast v105
  let c0_266 : Index := 0#32
  let c0_267 : Index := 0#32
  ![v463.toNat, 0, 0]

def k0_off17 (v9 : BitVec 32) (v104 : BitVec 32) : Fin 3 → Nat :=
  let c128_i32 : BitVec 32 := 128#32
  let v30 : BitVec 32 := Scalar.muli v9 c128_i32
  let c1_i32_49 : BitVec 32 := 1#32
  let v106 : BitVec 32 := Scalar.addi v104 c1_i32_49
  let c127_i32_50 : BitVec 32 := 127#32
  let v107 : BitVec 32 := Scalar.minsi v106 c127_i32_50
  let v108 : BitVec 32 := Scalar.addi v30 v107
  let v466 : Index := Scalar.indexCast v108
  let c0_268 : Index := 0#32
  let c0_269 : Index := 0#32
  ![v466.toNat, 0, 0]

def k0_chk6 (v9 : BitVec 32) (v104 : BitVec 32) : Prop :=
  (∀ a, (k0_off16 v9 v104) a + S1x128x256.size a ≤ S256x128x256.size a) ∧
  (∀ a, (k0_off17 v9 v104) a + S1x128x256.size a ≤ S256x128x256.size a)
theorem k0_off16_inb : ∀ (v9 : BitVec 32) (v104 : BitVec 32) (k0_hw6 : k0_chk6 v9 v104), ∀ a, (k0_off16 v9 v104) a + S1x128x256.size a ≤ S256x128x256.size a := fun v9 v104 k0_hw6 => k0_hw6.1
theorem k0_off17_inb : ∀ (v9 : BitVec 32) (v104 : BitVec 32) (k0_hw6 : k0_chk6 v9 v104), ∀ a, (k0_off17 v9 v104) a + S1x128x256.size a ≤ S256x128x256.size a := fun v9 v104 k0_hw6 => k0_hw6.2

def k0_off18 (v9 : BitVec 32) (v117 : BitVec 32) : Fin 3 → Nat :=
  let c128_i32 : BitVec 32 := 128#32
  let v30 : BitVec 32 := Scalar.muli v9 c128_i32
  let v118 : BitVec 32 := Scalar.addi v30 v117
  let v479 : Index := Scalar.indexCast v118
  let c0_275 : Index := 0#32
  let c0_276 : Index := 0#32
  ![v479.toNat, 0, 0]

def k0_off19 (v9 : BitVec 32) (v117 : BitVec 32) : Fin 3 → Nat :=
  let c128_i32 : BitVec 32 := 128#32
  let v30 : BitVec 32 := Scalar.muli v9 c128_i32
  let c1_i32_56 : BitVec 32 := 1#32
  let v119 : BitVec 32 := Scalar.addi v117 c1_i32_56
  let c127_i32_57 : BitVec 32 := 127#32
  let v120 : BitVec 32 := Scalar.minsi v119 c127_i32_57
  let v121 : BitVec 32 := Scalar.addi v30 v120
  let v482 : Index := Scalar.indexCast v121
  let c0_277 : Index := 0#32
  let c0_278 : Index := 0#32
  ![v482.toNat, 0, 0]

def k0_chk7 (v9 : BitVec 32) (v117 : BitVec 32) : Prop :=
  (∀ a, (k0_off18 v9 v117) a + S1x128x256.size a ≤ S256x128x256.size a) ∧
  (∀ a, (k0_off19 v9 v117) a + S1x128x256.size a ≤ S256x128x256.size a)
theorem k0_off18_inb : ∀ (v9 : BitVec 32) (v117 : BitVec 32) (k0_hw7 : k0_chk7 v9 v117), ∀ a, (k0_off18 v9 v117) a + S1x128x256.size a ≤ S256x128x256.size a := fun v9 v117 k0_hw7 => k0_hw7.1
theorem k0_off19_inb : ∀ (v9 : BitVec 32) (v117 : BitVec 32) (k0_hw7 : k0_chk7 v9 v117), ∀ a, (k0_off19 v9 v117) a + S1x128x256.size a ≤ S256x128x256.size a := fun v9 v117 k0_hw7 => k0_hw7.2

def k0_off20 (v9 : BitVec 32) (v130 : BitVec 32) : Fin 3 → Nat :=
  let c128_i32 : BitVec 32 := 128#32
  let v30 : BitVec 32 := Scalar.muli v9 c128_i32
  let v131 : BitVec 32 := Scalar.addi v30 v130
  let v491 : Index := Scalar.indexCast v131
  let c0_280 : Index := 0#32
  let c0_281 : Index := 0#32
  ![v491.toNat, 0, 0]

def k0_off21 (v9 : BitVec 32) (v130 : BitVec 32) : Fin 3 → Nat :=
  let c128_i32 : BitVec 32 := 128#32
  let v30 : BitVec 32 := Scalar.muli v9 c128_i32
  let c1_i32_63 : BitVec 32 := 1#32
  let v132 : BitVec 32 := Scalar.addi v130 c1_i32_63
  let c127_i32_64 : BitVec 32 := 127#32
  let v133 : BitVec 32 := Scalar.minsi v132 c127_i32_64
  let v134 : BitVec 32 := Scalar.addi v30 v133
  let v494 : Index := Scalar.indexCast v134
  let c0_282 : Index := 0#32
  let c0_283 : Index := 0#32
  ![v494.toNat, 0, 0]

def k0_chk8 (v9 : BitVec 32) (v130 : BitVec 32) : Prop :=
  (∀ a, (k0_off20 v9 v130) a + S1x128x256.size a ≤ S256x128x256.size a) ∧
  (∀ a, (k0_off21 v9 v130) a + S1x128x256.size a ≤ S256x128x256.size a)
theorem k0_off20_inb : ∀ (v9 : BitVec 32) (v130 : BitVec 32) (k0_hw8 : k0_chk8 v9 v130), ∀ a, (k0_off20 v9 v130) a + S1x128x256.size a ≤ S256x128x256.size a := fun v9 v130 k0_hw8 => k0_hw8.1
theorem k0_off21_inb : ∀ (v9 : BitVec 32) (v130 : BitVec 32) (k0_hw8 : k0_chk8 v9 v130), ∀ a, (k0_off21 v9 v130) a + S1x128x256.size a ≤ S256x128x256.size a := fun v9 v130 k0_hw8 => k0_hw8.2

def k0_off22 (v9 : BitVec 32) (v143 : BitVec 32) : Fin 3 → Nat :=
  let c128_i32 : BitVec 32 := 128#32
  let v30 : BitVec 32 := Scalar.muli v9 c128_i32
  let v144 : BitVec 32 := Scalar.addi v30 v143
  let v507 : Index := Scalar.indexCast v144
  let c0_289 : Index := 0#32
  let c0_290 : Index := 0#32
  ![v507.toNat, 0, 0]

def k0_off23 (v9 : BitVec 32) (v143 : BitVec 32) : Fin 3 → Nat :=
  let c128_i32 : BitVec 32 := 128#32
  let v30 : BitVec 32 := Scalar.muli v9 c128_i32
  let c1_i32_70 : BitVec 32 := 1#32
  let v145 : BitVec 32 := Scalar.addi v143 c1_i32_70
  let c127_i32_71 : BitVec 32 := 127#32
  let v146 : BitVec 32 := Scalar.minsi v145 c127_i32_71
  let v147 : BitVec 32 := Scalar.addi v30 v146
  let v510 : Index := Scalar.indexCast v147
  let c0_291 : Index := 0#32
  let c0_292 : Index := 0#32
  ![v510.toNat, 0, 0]

def k0_chk9 (v9 : BitVec 32) (v143 : BitVec 32) : Prop :=
  (∀ a, (k0_off22 v9 v143) a + S1x128x256.size a ≤ S256x128x256.size a) ∧
  (∀ a, (k0_off23 v9 v143) a + S1x128x256.size a ≤ S256x128x256.size a)
theorem k0_off22_inb : ∀ (v9 : BitVec 32) (v143 : BitVec 32) (k0_hw9 : k0_chk9 v9 v143), ∀ a, (k0_off22 v9 v143) a + S1x128x256.size a ≤ S256x128x256.size a := fun v9 v143 k0_hw9 => k0_hw9.1
theorem k0_off23_inb : ∀ (v9 : BitVec 32) (v143 : BitVec 32) (k0_hw9 : k0_chk9 v9 v143), ∀ a, (k0_off23 v9 v143) a + S1x128x256.size a ≤ S256x128x256.size a := fun v9 v143 k0_hw9 => k0_hw9.2

def k0_off24 (v9 : BitVec 32) (v156 : BitVec 32) : Fin 3 → Nat :=
  let c128_i32 : BitVec 32 := 128#32
  let v30 : BitVec 32 := Scalar.muli v9 c128_i32
  let v157 : BitVec 32 := Scalar.addi v30 v156
  let v519 : Index := Scalar.indexCast v157
  let c0_294 : Index := 0#32
  let c0_295 : Index := 0#32
  ![v519.toNat, 0, 0]

def k0_off25 (v9 : BitVec 32) (v156 : BitVec 32) : Fin 3 → Nat :=
  let c128_i32 : BitVec 32 := 128#32
  let v30 : BitVec 32 := Scalar.muli v9 c128_i32
  let c1_i32_77 : BitVec 32 := 1#32
  let v158 : BitVec 32 := Scalar.addi v156 c1_i32_77
  let c127_i32_78 : BitVec 32 := 127#32
  let v159 : BitVec 32 := Scalar.minsi v158 c127_i32_78
  let v160 : BitVec 32 := Scalar.addi v30 v159
  let v522 : Index := Scalar.indexCast v160
  let c0_296 : Index := 0#32
  let c0_297 : Index := 0#32
  ![v522.toNat, 0, 0]

def k0_chk10 (v9 : BitVec 32) (v156 : BitVec 32) : Prop :=
  (∀ a, (k0_off24 v9 v156) a + S1x128x256.size a ≤ S256x128x256.size a) ∧
  (∀ a, (k0_off25 v9 v156) a + S1x128x256.size a ≤ S256x128x256.size a)
theorem k0_off24_inb : ∀ (v9 : BitVec 32) (v156 : BitVec 32) (k0_hw10 : k0_chk10 v9 v156), ∀ a, (k0_off24 v9 v156) a + S1x128x256.size a ≤ S256x128x256.size a := fun v9 v156 k0_hw10 => k0_hw10.1
theorem k0_off25_inb : ∀ (v9 : BitVec 32) (v156 : BitVec 32) (k0_hw10 : k0_chk10 v9 v156), ∀ a, (k0_off25 v9 v156) a + S1x128x256.size a ≤ S256x128x256.size a := fun v9 v156 k0_hw10 => k0_hw10.2

def k0_off26 (v9 : BitVec 32) (v169 : BitVec 32) : Fin 3 → Nat :=
  let c128_i32 : BitVec 32 := 128#32
  let v30 : BitVec 32 := Scalar.muli v9 c128_i32
  let v170 : BitVec 32 := Scalar.addi v30 v169
  let v535 : Index := Scalar.indexCast v170
  let c0_303 : Index := 0#32
  let c0_304 : Index := 0#32
  ![v535.toNat, 0, 0]

def k0_off27 (v9 : BitVec 32) (v169 : BitVec 32) : Fin 3 → Nat :=
  let c128_i32 : BitVec 32 := 128#32
  let v30 : BitVec 32 := Scalar.muli v9 c128_i32
  let c1_i32_84 : BitVec 32 := 1#32
  let v171 : BitVec 32 := Scalar.addi v169 c1_i32_84
  let c127_i32_85 : BitVec 32 := 127#32
  let v172 : BitVec 32 := Scalar.minsi v171 c127_i32_85
  let v173 : BitVec 32 := Scalar.addi v30 v172
  let v538 : Index := Scalar.indexCast v173
  let c0_305 : Index := 0#32
  let c0_306 : Index := 0#32
  ![v538.toNat, 0, 0]

def k0_chk11 (v9 : BitVec 32) (v169 : BitVec 32) : Prop :=
  (∀ a, (k0_off26 v9 v169) a + S1x128x256.size a ≤ S256x128x256.size a) ∧
  (∀ a, (k0_off27 v9 v169) a + S1x128x256.size a ≤ S256x128x256.size a)
theorem k0_off26_inb : ∀ (v9 : BitVec 32) (v169 : BitVec 32) (k0_hw11 : k0_chk11 v9 v169), ∀ a, (k0_off26 v9 v169) a + S1x128x256.size a ≤ S256x128x256.size a := fun v9 v169 k0_hw11 => k0_hw11.1
theorem k0_off27_inb : ∀ (v9 : BitVec 32) (v169 : BitVec 32) (k0_hw11 : k0_chk11 v9 v169), ∀ a, (k0_off27 v9 v169) a + S1x128x256.size a ≤ S256x128x256.size a := fun v9 v169 k0_hw11 => k0_hw11.2

def k0_off28 (v9 : BitVec 32) (v182 : BitVec 32) : Fin 3 → Nat :=
  let c128_i32 : BitVec 32 := 128#32
  let v30 : BitVec 32 := Scalar.muli v9 c128_i32
  let v183 : BitVec 32 := Scalar.addi v30 v182
  let v547 : Index := Scalar.indexCast v183
  let c0_308 : Index := 0#32
  let c0_309 : Index := 0#32
  ![v547.toNat, 0, 0]

def k0_off29 (v9 : BitVec 32) (v182 : BitVec 32) : Fin 3 → Nat :=
  let c128_i32 : BitVec 32 := 128#32
  let v30 : BitVec 32 := Scalar.muli v9 c128_i32
  let c1_i32_91 : BitVec 32 := 1#32
  let v184 : BitVec 32 := Scalar.addi v182 c1_i32_91
  let c127_i32_92 : BitVec 32 := 127#32
  let v185 : BitVec 32 := Scalar.minsi v184 c127_i32_92
  let v186 : BitVec 32 := Scalar.addi v30 v185
  let v550 : Index := Scalar.indexCast v186
  let c0_310 : Index := 0#32
  let c0_311 : Index := 0#32
  ![v550.toNat, 0, 0]

def k0_chk12 (v9 : BitVec 32) (v182 : BitVec 32) : Prop :=
  (∀ a, (k0_off28 v9 v182) a + S1x128x256.size a ≤ S256x128x256.size a) ∧
  (∀ a, (k0_off29 v9 v182) a + S1x128x256.size a ≤ S256x128x256.size a)
theorem k0_off28_inb : ∀ (v9 : BitVec 32) (v182 : BitVec 32) (k0_hw12 : k0_chk12 v9 v182), ∀ a, (k0_off28 v9 v182) a + S1x128x256.size a ≤ S256x128x256.size a := fun v9 v182 k0_hw12 => k0_hw12.1
theorem k0_off29_inb : ∀ (v9 : BitVec 32) (v182 : BitVec 32) (k0_hw12 : k0_chk12 v9 v182), ∀ a, (k0_off29 v9 v182) a + S1x128x256.size a ≤ S256x128x256.size a := fun v9 v182 k0_hw12 => k0_hw12.2

def k0_off30 (v9 : BitVec 32) (v195 : BitVec 32) : Fin 3 → Nat :=
  let c128_i32 : BitVec 32 := 128#32
  let v30 : BitVec 32 := Scalar.muli v9 c128_i32
  let v196 : BitVec 32 := Scalar.addi v30 v195
  let v563 : Index := Scalar.indexCast v196
  let c0_316 : Index := 0#32
  let c0_317 : Index := 0#32
  ![v563.toNat, 0, 0]

def k0_off31 (v9 : BitVec 32) (v195 : BitVec 32) : Fin 3 → Nat :=
  let c128_i32 : BitVec 32 := 128#32
  let v30 : BitVec 32 := Scalar.muli v9 c128_i32
  let c1_i32_98 : BitVec 32 := 1#32
  let v197 : BitVec 32 := Scalar.addi v195 c1_i32_98
  let c127_i32_99 : BitVec 32 := 127#32
  let v198 : BitVec 32 := Scalar.minsi v197 c127_i32_99
  let v199 : BitVec 32 := Scalar.addi v30 v198
  let v566 : Index := Scalar.indexCast v199
  let c0_318 : Index := 0#32
  let c0_319 : Index := 0#32
  ![v566.toNat, 0, 0]

def k0_chk13 (v9 : BitVec 32) (v195 : BitVec 32) : Prop :=
  (∀ a, (k0_off30 v9 v195) a + S1x128x256.size a ≤ S256x128x256.size a) ∧
  (∀ a, (k0_off31 v9 v195) a + S1x128x256.size a ≤ S256x128x256.size a)
theorem k0_off30_inb : ∀ (v9 : BitVec 32) (v195 : BitVec 32) (k0_hw13 : k0_chk13 v9 v195), ∀ a, (k0_off30 v9 v195) a + S1x128x256.size a ≤ S256x128x256.size a := fun v9 v195 k0_hw13 => k0_hw13.1
theorem k0_off31_inb : ∀ (v9 : BitVec 32) (v195 : BitVec 32) (k0_hw13 : k0_chk13 v9 v195), ∀ a, (k0_off31 v9 v195) a + S1x128x256.size a ≤ S256x128x256.size a := fun v9 v195 k0_hw13 => k0_hw13.2

def k0_off32 (v9 : BitVec 32) (v208 : BitVec 32) : Fin 3 → Nat :=
  let c128_i32 : BitVec 32 := 128#32
  let v30 : BitVec 32 := Scalar.muli v9 c128_i32
  let v209 : BitVec 32 := Scalar.addi v30 v208
  let v575 : Index := Scalar.indexCast v209
  let c0_321 : Index := 0#32
  let c0_322 : Index := 0#32
  ![v575.toNat, 0, 0]

def k0_off33 (v9 : BitVec 32) (v208 : BitVec 32) : Fin 3 → Nat :=
  let c128_i32 : BitVec 32 := 128#32
  let v30 : BitVec 32 := Scalar.muli v9 c128_i32
  let c1_i32_105 : BitVec 32 := 1#32
  let v210 : BitVec 32 := Scalar.addi v208 c1_i32_105
  let c127_i32_106 : BitVec 32 := 127#32
  let v211 : BitVec 32 := Scalar.minsi v210 c127_i32_106
  let v212 : BitVec 32 := Scalar.addi v30 v211
  let v578 : Index := Scalar.indexCast v212
  let c0_323 : Index := 0#32
  let c0_324 : Index := 0#32
  ![v578.toNat, 0, 0]

def k0_chk14 (v9 : BitVec 32) (v208 : BitVec 32) : Prop :=
  (∀ a, (k0_off32 v9 v208) a + S1x128x256.size a ≤ S256x128x256.size a) ∧
  (∀ a, (k0_off33 v9 v208) a + S1x128x256.size a ≤ S256x128x256.size a)
theorem k0_off32_inb : ∀ (v9 : BitVec 32) (v208 : BitVec 32) (k0_hw14 : k0_chk14 v9 v208), ∀ a, (k0_off32 v9 v208) a + S1x128x256.size a ≤ S256x128x256.size a := fun v9 v208 k0_hw14 => k0_hw14.1
theorem k0_off33_inb : ∀ (v9 : BitVec 32) (v208 : BitVec 32) (k0_hw14 : k0_chk14 v9 v208), ∀ a, (k0_off33 v9 v208) a + S1x128x256.size a ≤ S256x128x256.size a := fun v9 v208 k0_hw14 => k0_hw14.2

def k0_off34 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c1_i32_448 : BitVec 32 := 1#32
  let v824 : BitVec 32 := Scalar.addi v5 c1_i32_448
  let v825 : Index := Scalar.indexCast v824
  let c0_449 : Index := 0#32
  ![v825.toNat, 0]
def k0_off35 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c1_i32_448 : BitVec 32 := 1#32
  let v824 : BitVec 32 := Scalar.addi v5 c1_i32_448
  let v828 : Index := Scalar.indexCast v824
  let c1_450 : Index := 1#32
  ![v828.toNat, 1]
def k0_off36 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c1_i32_448 : BitVec 32 := 1#32
  let v824 : BitVec 32 := Scalar.addi v5 c1_i32_448
  let v832 : Index := Scalar.indexCast v824
  let c2_453 : Index := 2#32
  ![v832.toNat, 2]
def k0_off37 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c1_i32_448 : BitVec 32 := 1#32
  let v824 : BitVec 32 := Scalar.addi v5 c1_i32_448
  let v836 : Index := Scalar.indexCast v824
  let c3_456 : Index := 3#32
  ![v836.toNat, 3]
def k0_off38 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c1_i32_448 : BitVec 32 := 1#32
  let v824 : BitVec 32 := Scalar.addi v5 c1_i32_448
  let v840 : Index := Scalar.indexCast v824
  let c4_459 : Index := 4#32
  ![v840.toNat, 4]
def k0_off39 (v827 : BitVec 32) (v857 : BitVec 32) : Fin 3 → Nat :=
  let c128_i32_464 : BitVec 32 := 128#32
  let v848 : BitVec 32 := Scalar.muli v827 c128_i32_464
  let v858 : BitVec 32 := Scalar.addi v848 v857
  let v1213 : Index := Scalar.indexCast v858
  let c0_689 : Index := 0#32
  let c0_690 : Index := 0#32
  ![v1213.toNat, 0, 0]

def k0_off40 (v827 : BitVec 32) (v857 : BitVec 32) : Fin 3 → Nat :=
  let c128_i32_464 : BitVec 32 := 128#32
  let v848 : BitVec 32 := Scalar.muli v827 c128_i32_464
  let c1_i32_470 : BitVec 32 := 1#32
  let v859 : BitVec 32 := Scalar.addi v857 c1_i32_470
  let c127_i32_471 : BitVec 32 := 127#32
  let v860 : BitVec 32 := Scalar.minsi v859 c127_i32_471
  let v861 : BitVec 32 := Scalar.addi v848 v860
  let v1216 : Index := Scalar.indexCast v861
  let c0_691 : Index := 0#32
  let c0_692 : Index := 0#32
  ![v1216.toNat, 0, 0]

def k0_chk15 (v827 : BitVec 32) (v857 : BitVec 32) : Prop :=
  (∀ a, (k0_off39 v827 v857) a + S1x128x256.size a ≤ S256x128x256.size a) ∧
  (∀ a, (k0_off40 v827 v857) a + S1x128x256.size a ≤ S256x128x256.size a)
theorem k0_off39_inb : ∀ (v827 : BitVec 32) (v857 : BitVec 32) (k0_hw15 : k0_chk15 v827 v857), ∀ a, (k0_off39 v827 v857) a + S1x128x256.size a ≤ S256x128x256.size a := fun v827 v857 k0_hw15 => k0_hw15.1
theorem k0_off40_inb : ∀ (v827 : BitVec 32) (v857 : BitVec 32) (k0_hw15 : k0_chk15 v827 v857), ∀ a, (k0_off40 v827 v857) a + S1x128x256.size a ≤ S256x128x256.size a := fun v827 v857 k0_hw15 => k0_hw15.2

def k0_off41 (v827 : BitVec 32) (v870 : BitVec 32) : Fin 3 → Nat :=
  let c128_i32_464 : BitVec 32 := 128#32
  let v848 : BitVec 32 := Scalar.muli v827 c128_i32_464
  let v871 : BitVec 32 := Scalar.addi v848 v870
  let v1225 : Index := Scalar.indexCast v871
  let c0_694 : Index := 0#32
  let c0_695 : Index := 0#32
  ![v1225.toNat, 0, 0]

def k0_off42 (v827 : BitVec 32) (v870 : BitVec 32) : Fin 3 → Nat :=
  let c128_i32_464 : BitVec 32 := 128#32
  let v848 : BitVec 32 := Scalar.muli v827 c128_i32_464
  let c1_i32_477 : BitVec 32 := 1#32
  let v872 : BitVec 32 := Scalar.addi v870 c1_i32_477
  let c127_i32_478 : BitVec 32 := 127#32
  let v873 : BitVec 32 := Scalar.minsi v872 c127_i32_478
  let v874 : BitVec 32 := Scalar.addi v848 v873
  let v1228 : Index := Scalar.indexCast v874
  let c0_696 : Index := 0#32
  let c0_697 : Index := 0#32
  ![v1228.toNat, 0, 0]

def k0_chk16 (v827 : BitVec 32) (v870 : BitVec 32) : Prop :=
  (∀ a, (k0_off41 v827 v870) a + S1x128x256.size a ≤ S256x128x256.size a) ∧
  (∀ a, (k0_off42 v827 v870) a + S1x128x256.size a ≤ S256x128x256.size a)
theorem k0_off41_inb : ∀ (v827 : BitVec 32) (v870 : BitVec 32) (k0_hw16 : k0_chk16 v827 v870), ∀ a, (k0_off41 v827 v870) a + S1x128x256.size a ≤ S256x128x256.size a := fun v827 v870 k0_hw16 => k0_hw16.1
theorem k0_off42_inb : ∀ (v827 : BitVec 32) (v870 : BitVec 32) (k0_hw16 : k0_chk16 v827 v870), ∀ a, (k0_off42 v827 v870) a + S1x128x256.size a ≤ S256x128x256.size a := fun v827 v870 k0_hw16 => k0_hw16.2

def k0_off43 (v827 : BitVec 32) (v883 : BitVec 32) : Fin 3 → Nat :=
  let c128_i32_464 : BitVec 32 := 128#32
  let v848 : BitVec 32 := Scalar.muli v827 c128_i32_464
  let v884 : BitVec 32 := Scalar.addi v848 v883
  let v1241 : Index := Scalar.indexCast v884
  let c0_703 : Index := 0#32
  let c0_704 : Index := 0#32
  ![v1241.toNat, 0, 0]

def k0_off44 (v827 : BitVec 32) (v883 : BitVec 32) : Fin 3 → Nat :=
  let c128_i32_464 : BitVec 32 := 128#32
  let v848 : BitVec 32 := Scalar.muli v827 c128_i32_464
  let c1_i32_484 : BitVec 32 := 1#32
  let v885 : BitVec 32 := Scalar.addi v883 c1_i32_484
  let c127_i32_485 : BitVec 32 := 127#32
  let v886 : BitVec 32 := Scalar.minsi v885 c127_i32_485
  let v887 : BitVec 32 := Scalar.addi v848 v886
  let v1244 : Index := Scalar.indexCast v887
  let c0_705 : Index := 0#32
  let c0_706 : Index := 0#32
  ![v1244.toNat, 0, 0]

def k0_chk17 (v827 : BitVec 32) (v883 : BitVec 32) : Prop :=
  (∀ a, (k0_off43 v827 v883) a + S1x128x256.size a ≤ S256x128x256.size a) ∧
  (∀ a, (k0_off44 v827 v883) a + S1x128x256.size a ≤ S256x128x256.size a)
theorem k0_off43_inb : ∀ (v827 : BitVec 32) (v883 : BitVec 32) (k0_hw17 : k0_chk17 v827 v883), ∀ a, (k0_off43 v827 v883) a + S1x128x256.size a ≤ S256x128x256.size a := fun v827 v883 k0_hw17 => k0_hw17.1
theorem k0_off44_inb : ∀ (v827 : BitVec 32) (v883 : BitVec 32) (k0_hw17 : k0_chk17 v827 v883), ∀ a, (k0_off44 v827 v883) a + S1x128x256.size a ≤ S256x128x256.size a := fun v827 v883 k0_hw17 => k0_hw17.2

def k0_off45 (v827 : BitVec 32) (v896 : BitVec 32) : Fin 3 → Nat :=
  let c128_i32_464 : BitVec 32 := 128#32
  let v848 : BitVec 32 := Scalar.muli v827 c128_i32_464
  let v897 : BitVec 32 := Scalar.addi v848 v896
  let v1253 : Index := Scalar.indexCast v897
  let c0_708 : Index := 0#32
  let c0_709 : Index := 0#32
  ![v1253.toNat, 0, 0]

def k0_off46 (v827 : BitVec 32) (v896 : BitVec 32) : Fin 3 → Nat :=
  let c128_i32_464 : BitVec 32 := 128#32
  let v848 : BitVec 32 := Scalar.muli v827 c128_i32_464
  let c1_i32_491 : BitVec 32 := 1#32
  let v898 : BitVec 32 := Scalar.addi v896 c1_i32_491
  let c127_i32_492 : BitVec 32 := 127#32
  let v899 : BitVec 32 := Scalar.minsi v898 c127_i32_492
  let v900 : BitVec 32 := Scalar.addi v848 v899
  let v1256 : Index := Scalar.indexCast v900
  let c0_710 : Index := 0#32
  let c0_711 : Index := 0#32
  ![v1256.toNat, 0, 0]

def k0_chk18 (v827 : BitVec 32) (v896 : BitVec 32) : Prop :=
  (∀ a, (k0_off45 v827 v896) a + S1x128x256.size a ≤ S256x128x256.size a) ∧
  (∀ a, (k0_off46 v827 v896) a + S1x128x256.size a ≤ S256x128x256.size a)
theorem k0_off45_inb : ∀ (v827 : BitVec 32) (v896 : BitVec 32) (k0_hw18 : k0_chk18 v827 v896), ∀ a, (k0_off45 v827 v896) a + S1x128x256.size a ≤ S256x128x256.size a := fun v827 v896 k0_hw18 => k0_hw18.1
theorem k0_off46_inb : ∀ (v827 : BitVec 32) (v896 : BitVec 32) (k0_hw18 : k0_chk18 v827 v896), ∀ a, (k0_off46 v827 v896) a + S1x128x256.size a ≤ S256x128x256.size a := fun v827 v896 k0_hw18 => k0_hw18.2

def k0_off47 (v827 : BitVec 32) (v909 : BitVec 32) : Fin 3 → Nat :=
  let c128_i32_464 : BitVec 32 := 128#32
  let v848 : BitVec 32 := Scalar.muli v827 c128_i32_464
  let v910 : BitVec 32 := Scalar.addi v848 v909
  let v1269 : Index := Scalar.indexCast v910
  let c0_717 : Index := 0#32
  let c0_718 : Index := 0#32
  ![v1269.toNat, 0, 0]

def k0_off48 (v827 : BitVec 32) (v909 : BitVec 32) : Fin 3 → Nat :=
  let c128_i32_464 : BitVec 32 := 128#32
  let v848 : BitVec 32 := Scalar.muli v827 c128_i32_464
  let c1_i32_498 : BitVec 32 := 1#32
  let v911 : BitVec 32 := Scalar.addi v909 c1_i32_498
  let c127_i32_499 : BitVec 32 := 127#32
  let v912 : BitVec 32 := Scalar.minsi v911 c127_i32_499
  let v913 : BitVec 32 := Scalar.addi v848 v912
  let v1272 : Index := Scalar.indexCast v913
  let c0_719 : Index := 0#32
  let c0_720 : Index := 0#32
  ![v1272.toNat, 0, 0]

def k0_chk19 (v827 : BitVec 32) (v909 : BitVec 32) : Prop :=
  (∀ a, (k0_off47 v827 v909) a + S1x128x256.size a ≤ S256x128x256.size a) ∧
  (∀ a, (k0_off48 v827 v909) a + S1x128x256.size a ≤ S256x128x256.size a)
theorem k0_off47_inb : ∀ (v827 : BitVec 32) (v909 : BitVec 32) (k0_hw19 : k0_chk19 v827 v909), ∀ a, (k0_off47 v827 v909) a + S1x128x256.size a ≤ S256x128x256.size a := fun v827 v909 k0_hw19 => k0_hw19.1
theorem k0_off48_inb : ∀ (v827 : BitVec 32) (v909 : BitVec 32) (k0_hw19 : k0_chk19 v827 v909), ∀ a, (k0_off48 v827 v909) a + S1x128x256.size a ≤ S256x128x256.size a := fun v827 v909 k0_hw19 => k0_hw19.2

def k0_off49 (v827 : BitVec 32) (v922 : BitVec 32) : Fin 3 → Nat :=
  let c128_i32_464 : BitVec 32 := 128#32
  let v848 : BitVec 32 := Scalar.muli v827 c128_i32_464
  let v923 : BitVec 32 := Scalar.addi v848 v922
  let v1281 : Index := Scalar.indexCast v923
  let c0_722 : Index := 0#32
  let c0_723 : Index := 0#32
  ![v1281.toNat, 0, 0]

def k0_off50 (v827 : BitVec 32) (v922 : BitVec 32) : Fin 3 → Nat :=
  let c128_i32_464 : BitVec 32 := 128#32
  let v848 : BitVec 32 := Scalar.muli v827 c128_i32_464
  let c1_i32_505 : BitVec 32 := 1#32
  let v924 : BitVec 32 := Scalar.addi v922 c1_i32_505
  let c127_i32_506 : BitVec 32 := 127#32
  let v925 : BitVec 32 := Scalar.minsi v924 c127_i32_506
  let v926 : BitVec 32 := Scalar.addi v848 v925
  let v1284 : Index := Scalar.indexCast v926
  let c0_724 : Index := 0#32
  let c0_725 : Index := 0#32
  ![v1284.toNat, 0, 0]

def k0_chk20 (v827 : BitVec 32) (v922 : BitVec 32) : Prop :=
  (∀ a, (k0_off49 v827 v922) a + S1x128x256.size a ≤ S256x128x256.size a) ∧
  (∀ a, (k0_off50 v827 v922) a + S1x128x256.size a ≤ S256x128x256.size a)
theorem k0_off49_inb : ∀ (v827 : BitVec 32) (v922 : BitVec 32) (k0_hw20 : k0_chk20 v827 v922), ∀ a, (k0_off49 v827 v922) a + S1x128x256.size a ≤ S256x128x256.size a := fun v827 v922 k0_hw20 => k0_hw20.1
theorem k0_off50_inb : ∀ (v827 : BitVec 32) (v922 : BitVec 32) (k0_hw20 : k0_chk20 v827 v922), ∀ a, (k0_off50 v827 v922) a + S1x128x256.size a ≤ S256x128x256.size a := fun v827 v922 k0_hw20 => k0_hw20.2

def k0_off51 (v827 : BitVec 32) (v935 : BitVec 32) : Fin 3 → Nat :=
  let c128_i32_464 : BitVec 32 := 128#32
  let v848 : BitVec 32 := Scalar.muli v827 c128_i32_464
  let v936 : BitVec 32 := Scalar.addi v848 v935
  let v1297 : Index := Scalar.indexCast v936
  let c0_731 : Index := 0#32
  let c0_732 : Index := 0#32
  ![v1297.toNat, 0, 0]

def k0_off52 (v827 : BitVec 32) (v935 : BitVec 32) : Fin 3 → Nat :=
  let c128_i32_464 : BitVec 32 := 128#32
  let v848 : BitVec 32 := Scalar.muli v827 c128_i32_464
  let c1_i32_512 : BitVec 32 := 1#32
  let v937 : BitVec 32 := Scalar.addi v935 c1_i32_512
  let c127_i32_513 : BitVec 32 := 127#32
  let v938 : BitVec 32 := Scalar.minsi v937 c127_i32_513
  let v939 : BitVec 32 := Scalar.addi v848 v938
  let v1300 : Index := Scalar.indexCast v939
  let c0_733 : Index := 0#32
  let c0_734 : Index := 0#32
  ![v1300.toNat, 0, 0]

def k0_chk21 (v827 : BitVec 32) (v935 : BitVec 32) : Prop :=
  (∀ a, (k0_off51 v827 v935) a + S1x128x256.size a ≤ S256x128x256.size a) ∧
  (∀ a, (k0_off52 v827 v935) a + S1x128x256.size a ≤ S256x128x256.size a)
theorem k0_off51_inb : ∀ (v827 : BitVec 32) (v935 : BitVec 32) (k0_hw21 : k0_chk21 v827 v935), ∀ a, (k0_off51 v827 v935) a + S1x128x256.size a ≤ S256x128x256.size a := fun v827 v935 k0_hw21 => k0_hw21.1
theorem k0_off52_inb : ∀ (v827 : BitVec 32) (v935 : BitVec 32) (k0_hw21 : k0_chk21 v827 v935), ∀ a, (k0_off52 v827 v935) a + S1x128x256.size a ≤ S256x128x256.size a := fun v827 v935 k0_hw21 => k0_hw21.2

def k0_off53 (v827 : BitVec 32) (v948 : BitVec 32) : Fin 3 → Nat :=
  let c128_i32_464 : BitVec 32 := 128#32
  let v848 : BitVec 32 := Scalar.muli v827 c128_i32_464
  let v949 : BitVec 32 := Scalar.addi v848 v948
  let v1309 : Index := Scalar.indexCast v949
  let c0_736 : Index := 0#32
  let c0_737 : Index := 0#32
  ![v1309.toNat, 0, 0]

def k0_off54 (v827 : BitVec 32) (v948 : BitVec 32) : Fin 3 → Nat :=
  let c128_i32_464 : BitVec 32 := 128#32
  let v848 : BitVec 32 := Scalar.muli v827 c128_i32_464
  let c1_i32_519 : BitVec 32 := 1#32
  let v950 : BitVec 32 := Scalar.addi v948 c1_i32_519
  let c127_i32_520 : BitVec 32 := 127#32
  let v951 : BitVec 32 := Scalar.minsi v950 c127_i32_520
  let v952 : BitVec 32 := Scalar.addi v848 v951
  let v1312 : Index := Scalar.indexCast v952
  let c0_738 : Index := 0#32
  let c0_739 : Index := 0#32
  ![v1312.toNat, 0, 0]

def k0_chk22 (v827 : BitVec 32) (v948 : BitVec 32) : Prop :=
  (∀ a, (k0_off53 v827 v948) a + S1x128x256.size a ≤ S256x128x256.size a) ∧
  (∀ a, (k0_off54 v827 v948) a + S1x128x256.size a ≤ S256x128x256.size a)
theorem k0_off53_inb : ∀ (v827 : BitVec 32) (v948 : BitVec 32) (k0_hw22 : k0_chk22 v827 v948), ∀ a, (k0_off53 v827 v948) a + S1x128x256.size a ≤ S256x128x256.size a := fun v827 v948 k0_hw22 => k0_hw22.1
theorem k0_off54_inb : ∀ (v827 : BitVec 32) (v948 : BitVec 32) (k0_hw22 : k0_chk22 v827 v948), ∀ a, (k0_off54 v827 v948) a + S1x128x256.size a ≤ S256x128x256.size a := fun v827 v948 k0_hw22 => k0_hw22.2

def k0_off55 (v827 : BitVec 32) (v961 : BitVec 32) : Fin 3 → Nat :=
  let c128_i32_464 : BitVec 32 := 128#32
  let v848 : BitVec 32 := Scalar.muli v827 c128_i32_464
  let v962 : BitVec 32 := Scalar.addi v848 v961
  let v1325 : Index := Scalar.indexCast v962
  let c0_745 : Index := 0#32
  let c0_746 : Index := 0#32
  ![v1325.toNat, 0, 0]

def k0_off56 (v827 : BitVec 32) (v961 : BitVec 32) : Fin 3 → Nat :=
  let c128_i32_464 : BitVec 32 := 128#32
  let v848 : BitVec 32 := Scalar.muli v827 c128_i32_464
  let c1_i32_526 : BitVec 32 := 1#32
  let v963 : BitVec 32 := Scalar.addi v961 c1_i32_526
  let c127_i32_527 : BitVec 32 := 127#32
  let v964 : BitVec 32 := Scalar.minsi v963 c127_i32_527
  let v965 : BitVec 32 := Scalar.addi v848 v964
  let v1328 : Index := Scalar.indexCast v965
  let c0_747 : Index := 0#32
  let c0_748 : Index := 0#32
  ![v1328.toNat, 0, 0]

def k0_chk23 (v827 : BitVec 32) (v961 : BitVec 32) : Prop :=
  (∀ a, (k0_off55 v827 v961) a + S1x128x256.size a ≤ S256x128x256.size a) ∧
  (∀ a, (k0_off56 v827 v961) a + S1x128x256.size a ≤ S256x128x256.size a)
theorem k0_off55_inb : ∀ (v827 : BitVec 32) (v961 : BitVec 32) (k0_hw23 : k0_chk23 v827 v961), ∀ a, (k0_off55 v827 v961) a + S1x128x256.size a ≤ S256x128x256.size a := fun v827 v961 k0_hw23 => k0_hw23.1
theorem k0_off56_inb : ∀ (v827 : BitVec 32) (v961 : BitVec 32) (k0_hw23 : k0_chk23 v827 v961), ∀ a, (k0_off56 v827 v961) a + S1x128x256.size a ≤ S256x128x256.size a := fun v827 v961 k0_hw23 => k0_hw23.2

def k0_off57 (v827 : BitVec 32) (v974 : BitVec 32) : Fin 3 → Nat :=
  let c128_i32_464 : BitVec 32 := 128#32
  let v848 : BitVec 32 := Scalar.muli v827 c128_i32_464
  let v975 : BitVec 32 := Scalar.addi v848 v974
  let v1337 : Index := Scalar.indexCast v975
  let c0_750 : Index := 0#32
  let c0_751 : Index := 0#32
  ![v1337.toNat, 0, 0]

def k0_off58 (v827 : BitVec 32) (v974 : BitVec 32) : Fin 3 → Nat :=
  let c128_i32_464 : BitVec 32 := 128#32
  let v848 : BitVec 32 := Scalar.muli v827 c128_i32_464
  let c1_i32_533 : BitVec 32 := 1#32
  let v976 : BitVec 32 := Scalar.addi v974 c1_i32_533
  let c127_i32_534 : BitVec 32 := 127#32
  let v977 : BitVec 32 := Scalar.minsi v976 c127_i32_534
  let v978 : BitVec 32 := Scalar.addi v848 v977
  let v1340 : Index := Scalar.indexCast v978
  let c0_752 : Index := 0#32
  let c0_753 : Index := 0#32
  ![v1340.toNat, 0, 0]

def k0_chk24 (v827 : BitVec 32) (v974 : BitVec 32) : Prop :=
  (∀ a, (k0_off57 v827 v974) a + S1x128x256.size a ≤ S256x128x256.size a) ∧
  (∀ a, (k0_off58 v827 v974) a + S1x128x256.size a ≤ S256x128x256.size a)
theorem k0_off57_inb : ∀ (v827 : BitVec 32) (v974 : BitVec 32) (k0_hw24 : k0_chk24 v827 v974), ∀ a, (k0_off57 v827 v974) a + S1x128x256.size a ≤ S256x128x256.size a := fun v827 v974 k0_hw24 => k0_hw24.1
theorem k0_off58_inb : ∀ (v827 : BitVec 32) (v974 : BitVec 32) (k0_hw24 : k0_chk24 v827 v974), ∀ a, (k0_off58 v827 v974) a + S1x128x256.size a ≤ S256x128x256.size a := fun v827 v974 k0_hw24 => k0_hw24.2

def k0_off59 (v827 : BitVec 32) (v987 : BitVec 32) : Fin 3 → Nat :=
  let c128_i32_464 : BitVec 32 := 128#32
  let v848 : BitVec 32 := Scalar.muli v827 c128_i32_464
  let v988 : BitVec 32 := Scalar.addi v848 v987
  let v1353 : Index := Scalar.indexCast v988
  let c0_759 : Index := 0#32
  let c0_760 : Index := 0#32
  ![v1353.toNat, 0, 0]

def k0_off60 (v827 : BitVec 32) (v987 : BitVec 32) : Fin 3 → Nat :=
  let c128_i32_464 : BitVec 32 := 128#32
  let v848 : BitVec 32 := Scalar.muli v827 c128_i32_464
  let c1_i32_540 : BitVec 32 := 1#32
  let v989 : BitVec 32 := Scalar.addi v987 c1_i32_540
  let c127_i32_541 : BitVec 32 := 127#32
  let v990 : BitVec 32 := Scalar.minsi v989 c127_i32_541
  let v991 : BitVec 32 := Scalar.addi v848 v990
  let v1356 : Index := Scalar.indexCast v991
  let c0_761 : Index := 0#32
  let c0_762 : Index := 0#32
  ![v1356.toNat, 0, 0]

def k0_chk25 (v827 : BitVec 32) (v987 : BitVec 32) : Prop :=
  (∀ a, (k0_off59 v827 v987) a + S1x128x256.size a ≤ S256x128x256.size a) ∧
  (∀ a, (k0_off60 v827 v987) a + S1x128x256.size a ≤ S256x128x256.size a)
theorem k0_off59_inb : ∀ (v827 : BitVec 32) (v987 : BitVec 32) (k0_hw25 : k0_chk25 v827 v987), ∀ a, (k0_off59 v827 v987) a + S1x128x256.size a ≤ S256x128x256.size a := fun v827 v987 k0_hw25 => k0_hw25.1
theorem k0_off60_inb : ∀ (v827 : BitVec 32) (v987 : BitVec 32) (k0_hw25 : k0_chk25 v827 v987), ∀ a, (k0_off60 v827 v987) a + S1x128x256.size a ≤ S256x128x256.size a := fun v827 v987 k0_hw25 => k0_hw25.2

def k0_off61 (v827 : BitVec 32) (v1000 : BitVec 32) : Fin 3 → Nat :=
  let c128_i32_464 : BitVec 32 := 128#32
  let v848 : BitVec 32 := Scalar.muli v827 c128_i32_464
  let v1001 : BitVec 32 := Scalar.addi v848 v1000
  let v1365 : Index := Scalar.indexCast v1001
  let c0_764 : Index := 0#32
  let c0_765 : Index := 0#32
  ![v1365.toNat, 0, 0]

def k0_off62 (v827 : BitVec 32) (v1000 : BitVec 32) : Fin 3 → Nat :=
  let c128_i32_464 : BitVec 32 := 128#32
  let v848 : BitVec 32 := Scalar.muli v827 c128_i32_464
  let c1_i32_547 : BitVec 32 := 1#32
  let v1002 : BitVec 32 := Scalar.addi v1000 c1_i32_547
  let c127_i32_548 : BitVec 32 := 127#32
  let v1003 : BitVec 32 := Scalar.minsi v1002 c127_i32_548
  let v1004 : BitVec 32 := Scalar.addi v848 v1003
  let v1368 : Index := Scalar.indexCast v1004
  let c0_766 : Index := 0#32
  let c0_767 : Index := 0#32
  ![v1368.toNat, 0, 0]

def k0_chk26 (v827 : BitVec 32) (v1000 : BitVec 32) : Prop :=
  (∀ a, (k0_off61 v827 v1000) a + S1x128x256.size a ≤ S256x128x256.size a) ∧
  (∀ a, (k0_off62 v827 v1000) a + S1x128x256.size a ≤ S256x128x256.size a)
theorem k0_off61_inb : ∀ (v827 : BitVec 32) (v1000 : BitVec 32) (k0_hw26 : k0_chk26 v827 v1000), ∀ a, (k0_off61 v827 v1000) a + S1x128x256.size a ≤ S256x128x256.size a := fun v827 v1000 k0_hw26 => k0_hw26.1
theorem k0_off62_inb : ∀ (v827 : BitVec 32) (v1000 : BitVec 32) (k0_hw26 : k0_chk26 v827 v1000), ∀ a, (k0_off62 v827 v1000) a + S1x128x256.size a ≤ S256x128x256.size a := fun v827 v1000 k0_hw26 => k0_hw26.2

def k0_off63 (v827 : BitVec 32) (v1013 : BitVec 32) : Fin 3 → Nat :=
  let c128_i32_464 : BitVec 32 := 128#32
  let v848 : BitVec 32 := Scalar.muli v827 c128_i32_464
  let v1014 : BitVec 32 := Scalar.addi v848 v1013
  let v1381 : Index := Scalar.indexCast v1014
  let c0_773 : Index := 0#32
  let c0_774 : Index := 0#32
  ![v1381.toNat, 0, 0]

def k0_off64 (v827 : BitVec 32) (v1013 : BitVec 32) : Fin 3 → Nat :=
  let c128_i32_464 : BitVec 32 := 128#32
  let v848 : BitVec 32 := Scalar.muli v827 c128_i32_464
  let c1_i32_554 : BitVec 32 := 1#32
  let v1015 : BitVec 32 := Scalar.addi v1013 c1_i32_554
  let c127_i32_555 : BitVec 32 := 127#32
  let v1016 : BitVec 32 := Scalar.minsi v1015 c127_i32_555
  let v1017 : BitVec 32 := Scalar.addi v848 v1016
  let v1384 : Index := Scalar.indexCast v1017
  let c0_775 : Index := 0#32
  let c0_776 : Index := 0#32
  ![v1384.toNat, 0, 0]

def k0_chk27 (v827 : BitVec 32) (v1013 : BitVec 32) : Prop :=
  (∀ a, (k0_off63 v827 v1013) a + S1x128x256.size a ≤ S256x128x256.size a) ∧
  (∀ a, (k0_off64 v827 v1013) a + S1x128x256.size a ≤ S256x128x256.size a)
theorem k0_off63_inb : ∀ (v827 : BitVec 32) (v1013 : BitVec 32) (k0_hw27 : k0_chk27 v827 v1013), ∀ a, (k0_off63 v827 v1013) a + S1x128x256.size a ≤ S256x128x256.size a := fun v827 v1013 k0_hw27 => k0_hw27.1
theorem k0_off64_inb : ∀ (v827 : BitVec 32) (v1013 : BitVec 32) (k0_hw27 : k0_chk27 v827 v1013), ∀ a, (k0_off64 v827 v1013) a + S1x128x256.size a ≤ S256x128x256.size a := fun v827 v1013 k0_hw27 => k0_hw27.2

def k0_off65 (v827 : BitVec 32) (v1026 : BitVec 32) : Fin 3 → Nat :=
  let c128_i32_464 : BitVec 32 := 128#32
  let v848 : BitVec 32 := Scalar.muli v827 c128_i32_464
  let v1027 : BitVec 32 := Scalar.addi v848 v1026
  let v1393 : Index := Scalar.indexCast v1027
  let c0_778 : Index := 0#32
  let c0_779 : Index := 0#32
  ![v1393.toNat, 0, 0]

def k0_off66 (v827 : BitVec 32) (v1026 : BitVec 32) : Fin 3 → Nat :=
  let c128_i32_464 : BitVec 32 := 128#32
  let v848 : BitVec 32 := Scalar.muli v827 c128_i32_464
  let c1_i32_561 : BitVec 32 := 1#32
  let v1028 : BitVec 32 := Scalar.addi v1026 c1_i32_561
  let c127_i32_562 : BitVec 32 := 127#32
  let v1029 : BitVec 32 := Scalar.minsi v1028 c127_i32_562
  let v1030 : BitVec 32 := Scalar.addi v848 v1029
  let v1396 : Index := Scalar.indexCast v1030
  let c0_780 : Index := 0#32
  let c0_781 : Index := 0#32
  ![v1396.toNat, 0, 0]

def k0_chk28 (v827 : BitVec 32) (v1026 : BitVec 32) : Prop :=
  (∀ a, (k0_off65 v827 v1026) a + S1x128x256.size a ≤ S256x128x256.size a) ∧
  (∀ a, (k0_off66 v827 v1026) a + S1x128x256.size a ≤ S256x128x256.size a)
theorem k0_off65_inb : ∀ (v827 : BitVec 32) (v1026 : BitVec 32) (k0_hw28 : k0_chk28 v827 v1026), ∀ a, (k0_off65 v827 v1026) a + S1x128x256.size a ≤ S256x128x256.size a := fun v827 v1026 k0_hw28 => k0_hw28.1
theorem k0_off66_inb : ∀ (v827 : BitVec 32) (v1026 : BitVec 32) (k0_hw28 : k0_chk28 v827 v1026), ∀ a, (k0_off66 v827 v1026) a + S1x128x256.size a ≤ S256x128x256.size a := fun v827 v1026 k0_hw28 => k0_hw28.2

def k0_off67 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c2_i32 : BitVec 32 := 2#32
  let v1642 : BitVec 32 := Scalar.addi v5 c2_i32
  let v1643 : Index := Scalar.indexCast v1642
  let c0_906 : Index := 0#32
  ![v1643.toNat, 0]
def k0_off68 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c2_i32 : BitVec 32 := 2#32
  let v1642 : BitVec 32 := Scalar.addi v5 c2_i32
  let v1646 : Index := Scalar.indexCast v1642
  let c1_907 : Index := 1#32
  ![v1646.toNat, 1]
def k0_off69 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c2_i32 : BitVec 32 := 2#32
  let v1642 : BitVec 32 := Scalar.addi v5 c2_i32
  let v1650 : Index := Scalar.indexCast v1642
  let c2_910 : Index := 2#32
  ![v1650.toNat, 2]
def k0_off70 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c2_i32 : BitVec 32 := 2#32
  let v1642 : BitVec 32 := Scalar.addi v5 c2_i32
  let v1654 : Index := Scalar.indexCast v1642
  let c3_913 : Index := 3#32
  ![v1654.toNat, 3]
def k0_off71 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c2_i32 : BitVec 32 := 2#32
  let v1642 : BitVec 32 := Scalar.addi v5 c2_i32
  let v1658 : Index := Scalar.indexCast v1642
  let c4_916 : Index := 4#32
  ![v1658.toNat, 4]
def k0_off72 (v1645 : BitVec 32) (v1675 : BitVec 32) : Fin 3 → Nat :=
  let c128_i32_921 : BitVec 32 := 128#32
  let v1666 : BitVec 32 := Scalar.muli v1645 c128_i32_921
  let v1676 : BitVec 32 := Scalar.addi v1666 v1675
  let v2031 : Index := Scalar.indexCast v1676
  let c0_1146 : Index := 0#32
  let c0_1147 : Index := 0#32
  ![v2031.toNat, 0, 0]

def k0_off73 (v1645 : BitVec 32) (v1675 : BitVec 32) : Fin 3 → Nat :=
  let c128_i32_921 : BitVec 32 := 128#32
  let v1666 : BitVec 32 := Scalar.muli v1645 c128_i32_921
  let c1_i32_927 : BitVec 32 := 1#32
  let v1677 : BitVec 32 := Scalar.addi v1675 c1_i32_927
  let c127_i32_928 : BitVec 32 := 127#32
  let v1678 : BitVec 32 := Scalar.minsi v1677 c127_i32_928
  let v1679 : BitVec 32 := Scalar.addi v1666 v1678
  let v2034 : Index := Scalar.indexCast v1679
  let c0_1148 : Index := 0#32
  let c0_1149 : Index := 0#32
  ![v2034.toNat, 0, 0]

def k0_chk29 (v1645 : BitVec 32) (v1675 : BitVec 32) : Prop :=
  (∀ a, (k0_off72 v1645 v1675) a + S1x128x256.size a ≤ S256x128x256.size a) ∧
  (∀ a, (k0_off73 v1645 v1675) a + S1x128x256.size a ≤ S256x128x256.size a)
theorem k0_off72_inb : ∀ (v1645 : BitVec 32) (v1675 : BitVec 32) (k0_hw29 : k0_chk29 v1645 v1675), ∀ a, (k0_off72 v1645 v1675) a + S1x128x256.size a ≤ S256x128x256.size a := fun v1645 v1675 k0_hw29 => k0_hw29.1
theorem k0_off73_inb : ∀ (v1645 : BitVec 32) (v1675 : BitVec 32) (k0_hw29 : k0_chk29 v1645 v1675), ∀ a, (k0_off73 v1645 v1675) a + S1x128x256.size a ≤ S256x128x256.size a := fun v1645 v1675 k0_hw29 => k0_hw29.2

def k0_off74 (v1645 : BitVec 32) (v1688 : BitVec 32) : Fin 3 → Nat :=
  let c128_i32_921 : BitVec 32 := 128#32
  let v1666 : BitVec 32 := Scalar.muli v1645 c128_i32_921
  let v1689 : BitVec 32 := Scalar.addi v1666 v1688
  let v2043 : Index := Scalar.indexCast v1689
  let c0_1151 : Index := 0#32
  let c0_1152 : Index := 0#32
  ![v2043.toNat, 0, 0]

def k0_off75 (v1645 : BitVec 32) (v1688 : BitVec 32) : Fin 3 → Nat :=
  let c128_i32_921 : BitVec 32 := 128#32
  let v1666 : BitVec 32 := Scalar.muli v1645 c128_i32_921
  let c1_i32_934 : BitVec 32 := 1#32
  let v1690 : BitVec 32 := Scalar.addi v1688 c1_i32_934
  let c127_i32_935 : BitVec 32 := 127#32
  let v1691 : BitVec 32 := Scalar.minsi v1690 c127_i32_935
  let v1692 : BitVec 32 := Scalar.addi v1666 v1691
  let v2046 : Index := Scalar.indexCast v1692
  let c0_1153 : Index := 0#32
  let c0_1154 : Index := 0#32
  ![v2046.toNat, 0, 0]

def k0_chk30 (v1645 : BitVec 32) (v1688 : BitVec 32) : Prop :=
  (∀ a, (k0_off74 v1645 v1688) a + S1x128x256.size a ≤ S256x128x256.size a) ∧
  (∀ a, (k0_off75 v1645 v1688) a + S1x128x256.size a ≤ S256x128x256.size a)
theorem k0_off74_inb : ∀ (v1645 : BitVec 32) (v1688 : BitVec 32) (k0_hw30 : k0_chk30 v1645 v1688), ∀ a, (k0_off74 v1645 v1688) a + S1x128x256.size a ≤ S256x128x256.size a := fun v1645 v1688 k0_hw30 => k0_hw30.1
theorem k0_off75_inb : ∀ (v1645 : BitVec 32) (v1688 : BitVec 32) (k0_hw30 : k0_chk30 v1645 v1688), ∀ a, (k0_off75 v1645 v1688) a + S1x128x256.size a ≤ S256x128x256.size a := fun v1645 v1688 k0_hw30 => k0_hw30.2

def k0_off76 (v1645 : BitVec 32) (v1701 : BitVec 32) : Fin 3 → Nat :=
  let c128_i32_921 : BitVec 32 := 128#32
  let v1666 : BitVec 32 := Scalar.muli v1645 c128_i32_921
  let v1702 : BitVec 32 := Scalar.addi v1666 v1701
  let v2059 : Index := Scalar.indexCast v1702
  let c0_1160 : Index := 0#32
  let c0_1161 : Index := 0#32
  ![v2059.toNat, 0, 0]

def k0_off77 (v1645 : BitVec 32) (v1701 : BitVec 32) : Fin 3 → Nat :=
  let c128_i32_921 : BitVec 32 := 128#32
  let v1666 : BitVec 32 := Scalar.muli v1645 c128_i32_921
  let c1_i32_941 : BitVec 32 := 1#32
  let v1703 : BitVec 32 := Scalar.addi v1701 c1_i32_941
  let c127_i32_942 : BitVec 32 := 127#32
  let v1704 : BitVec 32 := Scalar.minsi v1703 c127_i32_942
  let v1705 : BitVec 32 := Scalar.addi v1666 v1704
  let v2062 : Index := Scalar.indexCast v1705
  let c0_1162 : Index := 0#32
  let c0_1163 : Index := 0#32
  ![v2062.toNat, 0, 0]

def k0_chk31 (v1645 : BitVec 32) (v1701 : BitVec 32) : Prop :=
  (∀ a, (k0_off76 v1645 v1701) a + S1x128x256.size a ≤ S256x128x256.size a) ∧
  (∀ a, (k0_off77 v1645 v1701) a + S1x128x256.size a ≤ S256x128x256.size a)
theorem k0_off76_inb : ∀ (v1645 : BitVec 32) (v1701 : BitVec 32) (k0_hw31 : k0_chk31 v1645 v1701), ∀ a, (k0_off76 v1645 v1701) a + S1x128x256.size a ≤ S256x128x256.size a := fun v1645 v1701 k0_hw31 => k0_hw31.1
theorem k0_off77_inb : ∀ (v1645 : BitVec 32) (v1701 : BitVec 32) (k0_hw31 : k0_chk31 v1645 v1701), ∀ a, (k0_off77 v1645 v1701) a + S1x128x256.size a ≤ S256x128x256.size a := fun v1645 v1701 k0_hw31 => k0_hw31.2

def k0_off78 (v1645 : BitVec 32) (v1714 : BitVec 32) : Fin 3 → Nat :=
  let c128_i32_921 : BitVec 32 := 128#32
  let v1666 : BitVec 32 := Scalar.muli v1645 c128_i32_921
  let v1715 : BitVec 32 := Scalar.addi v1666 v1714
  let v2071 : Index := Scalar.indexCast v1715
  let c0_1165 : Index := 0#32
  let c0_1166 : Index := 0#32
  ![v2071.toNat, 0, 0]

def k0_off79 (v1645 : BitVec 32) (v1714 : BitVec 32) : Fin 3 → Nat :=
  let c128_i32_921 : BitVec 32 := 128#32
  let v1666 : BitVec 32 := Scalar.muli v1645 c128_i32_921
  let c1_i32_948 : BitVec 32 := 1#32
  let v1716 : BitVec 32 := Scalar.addi v1714 c1_i32_948
  let c127_i32_949 : BitVec 32 := 127#32
  let v1717 : BitVec 32 := Scalar.minsi v1716 c127_i32_949
  let v1718 : BitVec 32 := Scalar.addi v1666 v1717
  let v2074 : Index := Scalar.indexCast v1718
  let c0_1167 : Index := 0#32
  let c0_1168 : Index := 0#32
  ![v2074.toNat, 0, 0]

def k0_chk32 (v1645 : BitVec 32) (v1714 : BitVec 32) : Prop :=
  (∀ a, (k0_off78 v1645 v1714) a + S1x128x256.size a ≤ S256x128x256.size a) ∧
  (∀ a, (k0_off79 v1645 v1714) a + S1x128x256.size a ≤ S256x128x256.size a)
theorem k0_off78_inb : ∀ (v1645 : BitVec 32) (v1714 : BitVec 32) (k0_hw32 : k0_chk32 v1645 v1714), ∀ a, (k0_off78 v1645 v1714) a + S1x128x256.size a ≤ S256x128x256.size a := fun v1645 v1714 k0_hw32 => k0_hw32.1
theorem k0_off79_inb : ∀ (v1645 : BitVec 32) (v1714 : BitVec 32) (k0_hw32 : k0_chk32 v1645 v1714), ∀ a, (k0_off79 v1645 v1714) a + S1x128x256.size a ≤ S256x128x256.size a := fun v1645 v1714 k0_hw32 => k0_hw32.2

def k0_off80 (v1645 : BitVec 32) (v1727 : BitVec 32) : Fin 3 → Nat :=
  let c128_i32_921 : BitVec 32 := 128#32
  let v1666 : BitVec 32 := Scalar.muli v1645 c128_i32_921
  let v1728 : BitVec 32 := Scalar.addi v1666 v1727
  let v2087 : Index := Scalar.indexCast v1728
  let c0_1174 : Index := 0#32
  let c0_1175 : Index := 0#32
  ![v2087.toNat, 0, 0]

def k0_off81 (v1645 : BitVec 32) (v1727 : BitVec 32) : Fin 3 → Nat :=
  let c128_i32_921 : BitVec 32 := 128#32
  let v1666 : BitVec 32 := Scalar.muli v1645 c128_i32_921
  let c1_i32_955 : BitVec 32 := 1#32
  let v1729 : BitVec 32 := Scalar.addi v1727 c1_i32_955
  let c127_i32_956 : BitVec 32 := 127#32
  let v1730 : BitVec 32 := Scalar.minsi v1729 c127_i32_956
  let v1731 : BitVec 32 := Scalar.addi v1666 v1730
  let v2090 : Index := Scalar.indexCast v1731
  let c0_1176 : Index := 0#32
  let c0_1177 : Index := 0#32
  ![v2090.toNat, 0, 0]

def k0_chk33 (v1645 : BitVec 32) (v1727 : BitVec 32) : Prop :=
  (∀ a, (k0_off80 v1645 v1727) a + S1x128x256.size a ≤ S256x128x256.size a) ∧
  (∀ a, (k0_off81 v1645 v1727) a + S1x128x256.size a ≤ S256x128x256.size a)
theorem k0_off80_inb : ∀ (v1645 : BitVec 32) (v1727 : BitVec 32) (k0_hw33 : k0_chk33 v1645 v1727), ∀ a, (k0_off80 v1645 v1727) a + S1x128x256.size a ≤ S256x128x256.size a := fun v1645 v1727 k0_hw33 => k0_hw33.1
theorem k0_off81_inb : ∀ (v1645 : BitVec 32) (v1727 : BitVec 32) (k0_hw33 : k0_chk33 v1645 v1727), ∀ a, (k0_off81 v1645 v1727) a + S1x128x256.size a ≤ S256x128x256.size a := fun v1645 v1727 k0_hw33 => k0_hw33.2

def k0_off82 (v1645 : BitVec 32) (v1740 : BitVec 32) : Fin 3 → Nat :=
  let c128_i32_921 : BitVec 32 := 128#32
  let v1666 : BitVec 32 := Scalar.muli v1645 c128_i32_921
  let v1741 : BitVec 32 := Scalar.addi v1666 v1740
  let v2099 : Index := Scalar.indexCast v1741
  let c0_1179 : Index := 0#32
  let c0_1180 : Index := 0#32
  ![v2099.toNat, 0, 0]

def k0_off83 (v1645 : BitVec 32) (v1740 : BitVec 32) : Fin 3 → Nat :=
  let c128_i32_921 : BitVec 32 := 128#32
  let v1666 : BitVec 32 := Scalar.muli v1645 c128_i32_921
  let c1_i32_962 : BitVec 32 := 1#32
  let v1742 : BitVec 32 := Scalar.addi v1740 c1_i32_962
  let c127_i32_963 : BitVec 32 := 127#32
  let v1743 : BitVec 32 := Scalar.minsi v1742 c127_i32_963
  let v1744 : BitVec 32 := Scalar.addi v1666 v1743
  let v2102 : Index := Scalar.indexCast v1744
  let c0_1181 : Index := 0#32
  let c0_1182 : Index := 0#32
  ![v2102.toNat, 0, 0]

def k0_chk34 (v1645 : BitVec 32) (v1740 : BitVec 32) : Prop :=
  (∀ a, (k0_off82 v1645 v1740) a + S1x128x256.size a ≤ S256x128x256.size a) ∧
  (∀ a, (k0_off83 v1645 v1740) a + S1x128x256.size a ≤ S256x128x256.size a)
theorem k0_off82_inb : ∀ (v1645 : BitVec 32) (v1740 : BitVec 32) (k0_hw34 : k0_chk34 v1645 v1740), ∀ a, (k0_off82 v1645 v1740) a + S1x128x256.size a ≤ S256x128x256.size a := fun v1645 v1740 k0_hw34 => k0_hw34.1
theorem k0_off83_inb : ∀ (v1645 : BitVec 32) (v1740 : BitVec 32) (k0_hw34 : k0_chk34 v1645 v1740), ∀ a, (k0_off83 v1645 v1740) a + S1x128x256.size a ≤ S256x128x256.size a := fun v1645 v1740 k0_hw34 => k0_hw34.2

def k0_off84 (v1645 : BitVec 32) (v1753 : BitVec 32) : Fin 3 → Nat :=
  let c128_i32_921 : BitVec 32 := 128#32
  let v1666 : BitVec 32 := Scalar.muli v1645 c128_i32_921
  let v1754 : BitVec 32 := Scalar.addi v1666 v1753
  let v2115 : Index := Scalar.indexCast v1754
  let c0_1188 : Index := 0#32
  let c0_1189 : Index := 0#32
  ![v2115.toNat, 0, 0]

def k0_off85 (v1645 : BitVec 32) (v1753 : BitVec 32) : Fin 3 → Nat :=
  let c128_i32_921 : BitVec 32 := 128#32
  let v1666 : BitVec 32 := Scalar.muli v1645 c128_i32_921
  let c1_i32_969 : BitVec 32 := 1#32
  let v1755 : BitVec 32 := Scalar.addi v1753 c1_i32_969
  let c127_i32_970 : BitVec 32 := 127#32
  let v1756 : BitVec 32 := Scalar.minsi v1755 c127_i32_970
  let v1757 : BitVec 32 := Scalar.addi v1666 v1756
  let v2118 : Index := Scalar.indexCast v1757
  let c0_1190 : Index := 0#32
  let c0_1191 : Index := 0#32
  ![v2118.toNat, 0, 0]

def k0_chk35 (v1645 : BitVec 32) (v1753 : BitVec 32) : Prop :=
  (∀ a, (k0_off84 v1645 v1753) a + S1x128x256.size a ≤ S256x128x256.size a) ∧
  (∀ a, (k0_off85 v1645 v1753) a + S1x128x256.size a ≤ S256x128x256.size a)
theorem k0_off84_inb : ∀ (v1645 : BitVec 32) (v1753 : BitVec 32) (k0_hw35 : k0_chk35 v1645 v1753), ∀ a, (k0_off84 v1645 v1753) a + S1x128x256.size a ≤ S256x128x256.size a := fun v1645 v1753 k0_hw35 => k0_hw35.1
theorem k0_off85_inb : ∀ (v1645 : BitVec 32) (v1753 : BitVec 32) (k0_hw35 : k0_chk35 v1645 v1753), ∀ a, (k0_off85 v1645 v1753) a + S1x128x256.size a ≤ S256x128x256.size a := fun v1645 v1753 k0_hw35 => k0_hw35.2

def k0_off86 (v1645 : BitVec 32) (v1766 : BitVec 32) : Fin 3 → Nat :=
  let c128_i32_921 : BitVec 32 := 128#32
  let v1666 : BitVec 32 := Scalar.muli v1645 c128_i32_921
  let v1767 : BitVec 32 := Scalar.addi v1666 v1766
  let v2127 : Index := Scalar.indexCast v1767
  let c0_1193 : Index := 0#32
  let c0_1194 : Index := 0#32
  ![v2127.toNat, 0, 0]

def k0_off87 (v1645 : BitVec 32) (v1766 : BitVec 32) : Fin 3 → Nat :=
  let c128_i32_921 : BitVec 32 := 128#32
  let v1666 : BitVec 32 := Scalar.muli v1645 c128_i32_921
  let c1_i32_976 : BitVec 32 := 1#32
  let v1768 : BitVec 32 := Scalar.addi v1766 c1_i32_976
  let c127_i32_977 : BitVec 32 := 127#32
  let v1769 : BitVec 32 := Scalar.minsi v1768 c127_i32_977
  let v1770 : BitVec 32 := Scalar.addi v1666 v1769
  let v2130 : Index := Scalar.indexCast v1770
  let c0_1195 : Index := 0#32
  let c0_1196 : Index := 0#32
  ![v2130.toNat, 0, 0]

def k0_chk36 (v1645 : BitVec 32) (v1766 : BitVec 32) : Prop :=
  (∀ a, (k0_off86 v1645 v1766) a + S1x128x256.size a ≤ S256x128x256.size a) ∧
  (∀ a, (k0_off87 v1645 v1766) a + S1x128x256.size a ≤ S256x128x256.size a)
theorem k0_off86_inb : ∀ (v1645 : BitVec 32) (v1766 : BitVec 32) (k0_hw36 : k0_chk36 v1645 v1766), ∀ a, (k0_off86 v1645 v1766) a + S1x128x256.size a ≤ S256x128x256.size a := fun v1645 v1766 k0_hw36 => k0_hw36.1
theorem k0_off87_inb : ∀ (v1645 : BitVec 32) (v1766 : BitVec 32) (k0_hw36 : k0_chk36 v1645 v1766), ∀ a, (k0_off87 v1645 v1766) a + S1x128x256.size a ≤ S256x128x256.size a := fun v1645 v1766 k0_hw36 => k0_hw36.2

def k0_off88 (v1645 : BitVec 32) (v1779 : BitVec 32) : Fin 3 → Nat :=
  let c128_i32_921 : BitVec 32 := 128#32
  let v1666 : BitVec 32 := Scalar.muli v1645 c128_i32_921
  let v1780 : BitVec 32 := Scalar.addi v1666 v1779
  let v2143 : Index := Scalar.indexCast v1780
  let c0_1202 : Index := 0#32
  let c0_1203 : Index := 0#32
  ![v2143.toNat, 0, 0]

def k0_off89 (v1645 : BitVec 32) (v1779 : BitVec 32) : Fin 3 → Nat :=
  let c128_i32_921 : BitVec 32 := 128#32
  let v1666 : BitVec 32 := Scalar.muli v1645 c128_i32_921
  let c1_i32_983 : BitVec 32 := 1#32
  let v1781 : BitVec 32 := Scalar.addi v1779 c1_i32_983
  let c127_i32_984 : BitVec 32 := 127#32
  let v1782 : BitVec 32 := Scalar.minsi v1781 c127_i32_984
  let v1783 : BitVec 32 := Scalar.addi v1666 v1782
  let v2146 : Index := Scalar.indexCast v1783
  let c0_1204 : Index := 0#32
  let c0_1205 : Index := 0#32
  ![v2146.toNat, 0, 0]

def k0_chk37 (v1645 : BitVec 32) (v1779 : BitVec 32) : Prop :=
  (∀ a, (k0_off88 v1645 v1779) a + S1x128x256.size a ≤ S256x128x256.size a) ∧
  (∀ a, (k0_off89 v1645 v1779) a + S1x128x256.size a ≤ S256x128x256.size a)
theorem k0_off88_inb : ∀ (v1645 : BitVec 32) (v1779 : BitVec 32) (k0_hw37 : k0_chk37 v1645 v1779), ∀ a, (k0_off88 v1645 v1779) a + S1x128x256.size a ≤ S256x128x256.size a := fun v1645 v1779 k0_hw37 => k0_hw37.1
theorem k0_off89_inb : ∀ (v1645 : BitVec 32) (v1779 : BitVec 32) (k0_hw37 : k0_chk37 v1645 v1779), ∀ a, (k0_off89 v1645 v1779) a + S1x128x256.size a ≤ S256x128x256.size a := fun v1645 v1779 k0_hw37 => k0_hw37.2

def k0_off90 (v1645 : BitVec 32) (v1792 : BitVec 32) : Fin 3 → Nat :=
  let c128_i32_921 : BitVec 32 := 128#32
  let v1666 : BitVec 32 := Scalar.muli v1645 c128_i32_921
  let v1793 : BitVec 32 := Scalar.addi v1666 v1792
  let v2155 : Index := Scalar.indexCast v1793
  let c0_1207 : Index := 0#32
  let c0_1208 : Index := 0#32
  ![v2155.toNat, 0, 0]

def k0_off91 (v1645 : BitVec 32) (v1792 : BitVec 32) : Fin 3 → Nat :=
  let c128_i32_921 : BitVec 32 := 128#32
  let v1666 : BitVec 32 := Scalar.muli v1645 c128_i32_921
  let c1_i32_990 : BitVec 32 := 1#32
  let v1794 : BitVec 32 := Scalar.addi v1792 c1_i32_990
  let c127_i32_991 : BitVec 32 := 127#32
  let v1795 : BitVec 32 := Scalar.minsi v1794 c127_i32_991
  let v1796 : BitVec 32 := Scalar.addi v1666 v1795
  let v2158 : Index := Scalar.indexCast v1796
  let c0_1209 : Index := 0#32
  let c0_1210 : Index := 0#32
  ![v2158.toNat, 0, 0]

def k0_chk38 (v1645 : BitVec 32) (v1792 : BitVec 32) : Prop :=
  (∀ a, (k0_off90 v1645 v1792) a + S1x128x256.size a ≤ S256x128x256.size a) ∧
  (∀ a, (k0_off91 v1645 v1792) a + S1x128x256.size a ≤ S256x128x256.size a)
theorem k0_off90_inb : ∀ (v1645 : BitVec 32) (v1792 : BitVec 32) (k0_hw38 : k0_chk38 v1645 v1792), ∀ a, (k0_off90 v1645 v1792) a + S1x128x256.size a ≤ S256x128x256.size a := fun v1645 v1792 k0_hw38 => k0_hw38.1
theorem k0_off91_inb : ∀ (v1645 : BitVec 32) (v1792 : BitVec 32) (k0_hw38 : k0_chk38 v1645 v1792), ∀ a, (k0_off91 v1645 v1792) a + S1x128x256.size a ≤ S256x128x256.size a := fun v1645 v1792 k0_hw38 => k0_hw38.2

def k0_off92 (v1645 : BitVec 32) (v1805 : BitVec 32) : Fin 3 → Nat :=
  let c128_i32_921 : BitVec 32 := 128#32
  let v1666 : BitVec 32 := Scalar.muli v1645 c128_i32_921
  let v1806 : BitVec 32 := Scalar.addi v1666 v1805
  let v2171 : Index := Scalar.indexCast v1806
  let c0_1216 : Index := 0#32
  let c0_1217 : Index := 0#32
  ![v2171.toNat, 0, 0]

def k0_off93 (v1645 : BitVec 32) (v1805 : BitVec 32) : Fin 3 → Nat :=
  let c128_i32_921 : BitVec 32 := 128#32
  let v1666 : BitVec 32 := Scalar.muli v1645 c128_i32_921
  let c1_i32_997 : BitVec 32 := 1#32
  let v1807 : BitVec 32 := Scalar.addi v1805 c1_i32_997
  let c127_i32_998 : BitVec 32 := 127#32
  let v1808 : BitVec 32 := Scalar.minsi v1807 c127_i32_998
  let v1809 : BitVec 32 := Scalar.addi v1666 v1808
  let v2174 : Index := Scalar.indexCast v1809
  let c0_1218 : Index := 0#32
  let c0_1219 : Index := 0#32
  ![v2174.toNat, 0, 0]

def k0_chk39 (v1645 : BitVec 32) (v1805 : BitVec 32) : Prop :=
  (∀ a, (k0_off92 v1645 v1805) a + S1x128x256.size a ≤ S256x128x256.size a) ∧
  (∀ a, (k0_off93 v1645 v1805) a + S1x128x256.size a ≤ S256x128x256.size a)
theorem k0_off92_inb : ∀ (v1645 : BitVec 32) (v1805 : BitVec 32) (k0_hw39 : k0_chk39 v1645 v1805), ∀ a, (k0_off92 v1645 v1805) a + S1x128x256.size a ≤ S256x128x256.size a := fun v1645 v1805 k0_hw39 => k0_hw39.1
theorem k0_off93_inb : ∀ (v1645 : BitVec 32) (v1805 : BitVec 32) (k0_hw39 : k0_chk39 v1645 v1805), ∀ a, (k0_off93 v1645 v1805) a + S1x128x256.size a ≤ S256x128x256.size a := fun v1645 v1805 k0_hw39 => k0_hw39.2

def k0_off94 (v1645 : BitVec 32) (v1818 : BitVec 32) : Fin 3 → Nat :=
  let c128_i32_921 : BitVec 32 := 128#32
  let v1666 : BitVec 32 := Scalar.muli v1645 c128_i32_921
  let v1819 : BitVec 32 := Scalar.addi v1666 v1818
  let v2183 : Index := Scalar.indexCast v1819
  let c0_1221 : Index := 0#32
  let c0_1222 : Index := 0#32
  ![v2183.toNat, 0, 0]

def k0_off95 (v1645 : BitVec 32) (v1818 : BitVec 32) : Fin 3 → Nat :=
  let c128_i32_921 : BitVec 32 := 128#32
  let v1666 : BitVec 32 := Scalar.muli v1645 c128_i32_921
  let c1_i32_1004 : BitVec 32 := 1#32
  let v1820 : BitVec 32 := Scalar.addi v1818 c1_i32_1004
  let c127_i32_1005 : BitVec 32 := 127#32
  let v1821 : BitVec 32 := Scalar.minsi v1820 c127_i32_1005
  let v1822 : BitVec 32 := Scalar.addi v1666 v1821
  let v2186 : Index := Scalar.indexCast v1822
  let c0_1223 : Index := 0#32
  let c0_1224 : Index := 0#32
  ![v2186.toNat, 0, 0]

def k0_chk40 (v1645 : BitVec 32) (v1818 : BitVec 32) : Prop :=
  (∀ a, (k0_off94 v1645 v1818) a + S1x128x256.size a ≤ S256x128x256.size a) ∧
  (∀ a, (k0_off95 v1645 v1818) a + S1x128x256.size a ≤ S256x128x256.size a)
theorem k0_off94_inb : ∀ (v1645 : BitVec 32) (v1818 : BitVec 32) (k0_hw40 : k0_chk40 v1645 v1818), ∀ a, (k0_off94 v1645 v1818) a + S1x128x256.size a ≤ S256x128x256.size a := fun v1645 v1818 k0_hw40 => k0_hw40.1
theorem k0_off95_inb : ∀ (v1645 : BitVec 32) (v1818 : BitVec 32) (k0_hw40 : k0_chk40 v1645 v1818), ∀ a, (k0_off95 v1645 v1818) a + S1x128x256.size a ≤ S256x128x256.size a := fun v1645 v1818 k0_hw40 => k0_hw40.2

def k0_off96 (v1645 : BitVec 32) (v1831 : BitVec 32) : Fin 3 → Nat :=
  let c128_i32_921 : BitVec 32 := 128#32
  let v1666 : BitVec 32 := Scalar.muli v1645 c128_i32_921
  let v1832 : BitVec 32 := Scalar.addi v1666 v1831
  let v2199 : Index := Scalar.indexCast v1832
  let c0_1230 : Index := 0#32
  let c0_1231 : Index := 0#32
  ![v2199.toNat, 0, 0]

def k0_off97 (v1645 : BitVec 32) (v1831 : BitVec 32) : Fin 3 → Nat :=
  let c128_i32_921 : BitVec 32 := 128#32
  let v1666 : BitVec 32 := Scalar.muli v1645 c128_i32_921
  let c1_i32_1011 : BitVec 32 := 1#32
  let v1833 : BitVec 32 := Scalar.addi v1831 c1_i32_1011
  let c127_i32_1012 : BitVec 32 := 127#32
  let v1834 : BitVec 32 := Scalar.minsi v1833 c127_i32_1012
  let v1835 : BitVec 32 := Scalar.addi v1666 v1834
  let v2202 : Index := Scalar.indexCast v1835
  let c0_1232 : Index := 0#32
  let c0_1233 : Index := 0#32
  ![v2202.toNat, 0, 0]

def k0_chk41 (v1645 : BitVec 32) (v1831 : BitVec 32) : Prop :=
  (∀ a, (k0_off96 v1645 v1831) a + S1x128x256.size a ≤ S256x128x256.size a) ∧
  (∀ a, (k0_off97 v1645 v1831) a + S1x128x256.size a ≤ S256x128x256.size a)
theorem k0_off96_inb : ∀ (v1645 : BitVec 32) (v1831 : BitVec 32) (k0_hw41 : k0_chk41 v1645 v1831), ∀ a, (k0_off96 v1645 v1831) a + S1x128x256.size a ≤ S256x128x256.size a := fun v1645 v1831 k0_hw41 => k0_hw41.1
theorem k0_off97_inb : ∀ (v1645 : BitVec 32) (v1831 : BitVec 32) (k0_hw41 : k0_chk41 v1645 v1831), ∀ a, (k0_off97 v1645 v1831) a + S1x128x256.size a ≤ S256x128x256.size a := fun v1645 v1831 k0_hw41 => k0_hw41.2

def k0_off98 (v1645 : BitVec 32) (v1844 : BitVec 32) : Fin 3 → Nat :=
  let c128_i32_921 : BitVec 32 := 128#32
  let v1666 : BitVec 32 := Scalar.muli v1645 c128_i32_921
  let v1845 : BitVec 32 := Scalar.addi v1666 v1844
  let v2211 : Index := Scalar.indexCast v1845
  let c0_1235 : Index := 0#32
  let c0_1236 : Index := 0#32
  ![v2211.toNat, 0, 0]

def k0_off99 (v1645 : BitVec 32) (v1844 : BitVec 32) : Fin 3 → Nat :=
  let c128_i32_921 : BitVec 32 := 128#32
  let v1666 : BitVec 32 := Scalar.muli v1645 c128_i32_921
  let c1_i32_1018 : BitVec 32 := 1#32
  let v1846 : BitVec 32 := Scalar.addi v1844 c1_i32_1018
  let c127_i32_1019 : BitVec 32 := 127#32
  let v1847 : BitVec 32 := Scalar.minsi v1846 c127_i32_1019
  let v1848 : BitVec 32 := Scalar.addi v1666 v1847
  let v2214 : Index := Scalar.indexCast v1848
  let c0_1237 : Index := 0#32
  let c0_1238 : Index := 0#32
  ![v2214.toNat, 0, 0]

def k0_chk42 (v1645 : BitVec 32) (v1844 : BitVec 32) : Prop :=
  (∀ a, (k0_off98 v1645 v1844) a + S1x128x256.size a ≤ S256x128x256.size a) ∧
  (∀ a, (k0_off99 v1645 v1844) a + S1x128x256.size a ≤ S256x128x256.size a)
theorem k0_off98_inb : ∀ (v1645 : BitVec 32) (v1844 : BitVec 32) (k0_hw42 : k0_chk42 v1645 v1844), ∀ a, (k0_off98 v1645 v1844) a + S1x128x256.size a ≤ S256x128x256.size a := fun v1645 v1844 k0_hw42 => k0_hw42.1
theorem k0_off99_inb : ∀ (v1645 : BitVec 32) (v1844 : BitVec 32) (k0_hw42 : k0_chk42 v1645 v1844), ∀ a, (k0_off99 v1645 v1844) a + S1x128x256.size a ≤ S256x128x256.size a := fun v1645 v1844 k0_hw42 => k0_hw42.2

def k0_off100 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c3_i32 : BitVec 32 := 3#32
  let v2460 : BitVec 32 := Scalar.addi v5 c3_i32
  let v2461 : Index := Scalar.indexCast v2460
  let c0_1363 : Index := 0#32
  ![v2461.toNat, 0]
def k0_off101 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c3_i32 : BitVec 32 := 3#32
  let v2460 : BitVec 32 := Scalar.addi v5 c3_i32
  let v2464 : Index := Scalar.indexCast v2460
  let c1_1364 : Index := 1#32
  ![v2464.toNat, 1]
def k0_off102 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c3_i32 : BitVec 32 := 3#32
  let v2460 : BitVec 32 := Scalar.addi v5 c3_i32
  let v2468 : Index := Scalar.indexCast v2460
  let c2_1367 : Index := 2#32
  ![v2468.toNat, 2]
def k0_off103 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c3_i32 : BitVec 32 := 3#32
  let v2460 : BitVec 32 := Scalar.addi v5 c3_i32
  let v2472 : Index := Scalar.indexCast v2460
  let c3_1370 : Index := 3#32
  ![v2472.toNat, 3]
def k0_off104 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c3_i32 : BitVec 32 := 3#32
  let v2460 : BitVec 32 := Scalar.addi v5 c3_i32
  let v2476 : Index := Scalar.indexCast v2460
  let c4_1373 : Index := 4#32
  ![v2476.toNat, 4]
def k0_off105 (v2463 : BitVec 32) (v2493 : BitVec 32) : Fin 3 → Nat :=
  let c128_i32_1378 : BitVec 32 := 128#32
  let v2484 : BitVec 32 := Scalar.muli v2463 c128_i32_1378
  let v2494 : BitVec 32 := Scalar.addi v2484 v2493
  let v2849 : Index := Scalar.indexCast v2494
  let c0_1603 : Index := 0#32
  let c0_1604 : Index := 0#32
  ![v2849.toNat, 0, 0]

def k0_off106 (v2463 : BitVec 32) (v2493 : BitVec 32) : Fin 3 → Nat :=
  let c128_i32_1378 : BitVec 32 := 128#32
  let v2484 : BitVec 32 := Scalar.muli v2463 c128_i32_1378
  let c1_i32_1384 : BitVec 32 := 1#32
  let v2495 : BitVec 32 := Scalar.addi v2493 c1_i32_1384
  let c127_i32_1385 : BitVec 32 := 127#32
  let v2496 : BitVec 32 := Scalar.minsi v2495 c127_i32_1385
  let v2497 : BitVec 32 := Scalar.addi v2484 v2496
  let v2852 : Index := Scalar.indexCast v2497
  let c0_1605 : Index := 0#32
  let c0_1606 : Index := 0#32
  ![v2852.toNat, 0, 0]

def k0_chk43 (v2463 : BitVec 32) (v2493 : BitVec 32) : Prop :=
  (∀ a, (k0_off105 v2463 v2493) a + S1x128x256.size a ≤ S256x128x256.size a) ∧
  (∀ a, (k0_off106 v2463 v2493) a + S1x128x256.size a ≤ S256x128x256.size a)
theorem k0_off105_inb : ∀ (v2463 : BitVec 32) (v2493 : BitVec 32) (k0_hw43 : k0_chk43 v2463 v2493), ∀ a, (k0_off105 v2463 v2493) a + S1x128x256.size a ≤ S256x128x256.size a := fun v2463 v2493 k0_hw43 => k0_hw43.1
theorem k0_off106_inb : ∀ (v2463 : BitVec 32) (v2493 : BitVec 32) (k0_hw43 : k0_chk43 v2463 v2493), ∀ a, (k0_off106 v2463 v2493) a + S1x128x256.size a ≤ S256x128x256.size a := fun v2463 v2493 k0_hw43 => k0_hw43.2

def k0_off107 (v2463 : BitVec 32) (v2506 : BitVec 32) : Fin 3 → Nat :=
  let c128_i32_1378 : BitVec 32 := 128#32
  let v2484 : BitVec 32 := Scalar.muli v2463 c128_i32_1378
  let v2507 : BitVec 32 := Scalar.addi v2484 v2506
  let v2861 : Index := Scalar.indexCast v2507
  let c0_1608 : Index := 0#32
  let c0_1609 : Index := 0#32
  ![v2861.toNat, 0, 0]

def k0_off108 (v2463 : BitVec 32) (v2506 : BitVec 32) : Fin 3 → Nat :=
  let c128_i32_1378 : BitVec 32 := 128#32
  let v2484 : BitVec 32 := Scalar.muli v2463 c128_i32_1378
  let c1_i32_1391 : BitVec 32 := 1#32
  let v2508 : BitVec 32 := Scalar.addi v2506 c1_i32_1391
  let c127_i32_1392 : BitVec 32 := 127#32
  let v2509 : BitVec 32 := Scalar.minsi v2508 c127_i32_1392
  let v2510 : BitVec 32 := Scalar.addi v2484 v2509
  let v2864 : Index := Scalar.indexCast v2510
  let c0_1610 : Index := 0#32
  let c0_1611 : Index := 0#32
  ![v2864.toNat, 0, 0]

def k0_chk44 (v2463 : BitVec 32) (v2506 : BitVec 32) : Prop :=
  (∀ a, (k0_off107 v2463 v2506) a + S1x128x256.size a ≤ S256x128x256.size a) ∧
  (∀ a, (k0_off108 v2463 v2506) a + S1x128x256.size a ≤ S256x128x256.size a)
theorem k0_off107_inb : ∀ (v2463 : BitVec 32) (v2506 : BitVec 32) (k0_hw44 : k0_chk44 v2463 v2506), ∀ a, (k0_off107 v2463 v2506) a + S1x128x256.size a ≤ S256x128x256.size a := fun v2463 v2506 k0_hw44 => k0_hw44.1
theorem k0_off108_inb : ∀ (v2463 : BitVec 32) (v2506 : BitVec 32) (k0_hw44 : k0_chk44 v2463 v2506), ∀ a, (k0_off108 v2463 v2506) a + S1x128x256.size a ≤ S256x128x256.size a := fun v2463 v2506 k0_hw44 => k0_hw44.2

def k0_off109 (v2463 : BitVec 32) (v2519 : BitVec 32) : Fin 3 → Nat :=
  let c128_i32_1378 : BitVec 32 := 128#32
  let v2484 : BitVec 32 := Scalar.muli v2463 c128_i32_1378
  let v2520 : BitVec 32 := Scalar.addi v2484 v2519
  let v2877 : Index := Scalar.indexCast v2520
  let c0_1617 : Index := 0#32
  let c0_1618 : Index := 0#32
  ![v2877.toNat, 0, 0]

def k0_off110 (v2463 : BitVec 32) (v2519 : BitVec 32) : Fin 3 → Nat :=
  let c128_i32_1378 : BitVec 32 := 128#32
  let v2484 : BitVec 32 := Scalar.muli v2463 c128_i32_1378
  let c1_i32_1398 : BitVec 32 := 1#32
  let v2521 : BitVec 32 := Scalar.addi v2519 c1_i32_1398
  let c127_i32_1399 : BitVec 32 := 127#32
  let v2522 : BitVec 32 := Scalar.minsi v2521 c127_i32_1399
  let v2523 : BitVec 32 := Scalar.addi v2484 v2522
  let v2880 : Index := Scalar.indexCast v2523
  let c0_1619 : Index := 0#32
  let c0_1620 : Index := 0#32
  ![v2880.toNat, 0, 0]

def k0_chk45 (v2463 : BitVec 32) (v2519 : BitVec 32) : Prop :=
  (∀ a, (k0_off109 v2463 v2519) a + S1x128x256.size a ≤ S256x128x256.size a) ∧
  (∀ a, (k0_off110 v2463 v2519) a + S1x128x256.size a ≤ S256x128x256.size a)
theorem k0_off109_inb : ∀ (v2463 : BitVec 32) (v2519 : BitVec 32) (k0_hw45 : k0_chk45 v2463 v2519), ∀ a, (k0_off109 v2463 v2519) a + S1x128x256.size a ≤ S256x128x256.size a := fun v2463 v2519 k0_hw45 => k0_hw45.1
theorem k0_off110_inb : ∀ (v2463 : BitVec 32) (v2519 : BitVec 32) (k0_hw45 : k0_chk45 v2463 v2519), ∀ a, (k0_off110 v2463 v2519) a + S1x128x256.size a ≤ S256x128x256.size a := fun v2463 v2519 k0_hw45 => k0_hw45.2

def k0_off111 (v2463 : BitVec 32) (v2532 : BitVec 32) : Fin 3 → Nat :=
  let c128_i32_1378 : BitVec 32 := 128#32
  let v2484 : BitVec 32 := Scalar.muli v2463 c128_i32_1378
  let v2533 : BitVec 32 := Scalar.addi v2484 v2532
  let v2889 : Index := Scalar.indexCast v2533
  let c0_1622 : Index := 0#32
  let c0_1623 : Index := 0#32
  ![v2889.toNat, 0, 0]

def k0_off112 (v2463 : BitVec 32) (v2532 : BitVec 32) : Fin 3 → Nat :=
  let c128_i32_1378 : BitVec 32 := 128#32
  let v2484 : BitVec 32 := Scalar.muli v2463 c128_i32_1378
  let c1_i32_1405 : BitVec 32 := 1#32
  let v2534 : BitVec 32 := Scalar.addi v2532 c1_i32_1405
  let c127_i32_1406 : BitVec 32 := 127#32
  let v2535 : BitVec 32 := Scalar.minsi v2534 c127_i32_1406
  let v2536 : BitVec 32 := Scalar.addi v2484 v2535
  let v2892 : Index := Scalar.indexCast v2536
  let c0_1624 : Index := 0#32
  let c0_1625 : Index := 0#32
  ![v2892.toNat, 0, 0]

def k0_chk46 (v2463 : BitVec 32) (v2532 : BitVec 32) : Prop :=
  (∀ a, (k0_off111 v2463 v2532) a + S1x128x256.size a ≤ S256x128x256.size a) ∧
  (∀ a, (k0_off112 v2463 v2532) a + S1x128x256.size a ≤ S256x128x256.size a)
theorem k0_off111_inb : ∀ (v2463 : BitVec 32) (v2532 : BitVec 32) (k0_hw46 : k0_chk46 v2463 v2532), ∀ a, (k0_off111 v2463 v2532) a + S1x128x256.size a ≤ S256x128x256.size a := fun v2463 v2532 k0_hw46 => k0_hw46.1
theorem k0_off112_inb : ∀ (v2463 : BitVec 32) (v2532 : BitVec 32) (k0_hw46 : k0_chk46 v2463 v2532), ∀ a, (k0_off112 v2463 v2532) a + S1x128x256.size a ≤ S256x128x256.size a := fun v2463 v2532 k0_hw46 => k0_hw46.2

def k0_off113 (v2463 : BitVec 32) (v2545 : BitVec 32) : Fin 3 → Nat :=
  let c128_i32_1378 : BitVec 32 := 128#32
  let v2484 : BitVec 32 := Scalar.muli v2463 c128_i32_1378
  let v2546 : BitVec 32 := Scalar.addi v2484 v2545
  let v2905 : Index := Scalar.indexCast v2546
  let c0_1631 : Index := 0#32
  let c0_1632 : Index := 0#32
  ![v2905.toNat, 0, 0]

def k0_off114 (v2463 : BitVec 32) (v2545 : BitVec 32) : Fin 3 → Nat :=
  let c128_i32_1378 : BitVec 32 := 128#32
  let v2484 : BitVec 32 := Scalar.muli v2463 c128_i32_1378
  let c1_i32_1412 : BitVec 32 := 1#32
  let v2547 : BitVec 32 := Scalar.addi v2545 c1_i32_1412
  let c127_i32_1413 : BitVec 32 := 127#32
  let v2548 : BitVec 32 := Scalar.minsi v2547 c127_i32_1413
  let v2549 : BitVec 32 := Scalar.addi v2484 v2548
  let v2908 : Index := Scalar.indexCast v2549
  let c0_1633 : Index := 0#32
  let c0_1634 : Index := 0#32
  ![v2908.toNat, 0, 0]

def k0_chk47 (v2463 : BitVec 32) (v2545 : BitVec 32) : Prop :=
  (∀ a, (k0_off113 v2463 v2545) a + S1x128x256.size a ≤ S256x128x256.size a) ∧
  (∀ a, (k0_off114 v2463 v2545) a + S1x128x256.size a ≤ S256x128x256.size a)
theorem k0_off113_inb : ∀ (v2463 : BitVec 32) (v2545 : BitVec 32) (k0_hw47 : k0_chk47 v2463 v2545), ∀ a, (k0_off113 v2463 v2545) a + S1x128x256.size a ≤ S256x128x256.size a := fun v2463 v2545 k0_hw47 => k0_hw47.1
theorem k0_off114_inb : ∀ (v2463 : BitVec 32) (v2545 : BitVec 32) (k0_hw47 : k0_chk47 v2463 v2545), ∀ a, (k0_off114 v2463 v2545) a + S1x128x256.size a ≤ S256x128x256.size a := fun v2463 v2545 k0_hw47 => k0_hw47.2

def k0_off115 (v2463 : BitVec 32) (v2558 : BitVec 32) : Fin 3 → Nat :=
  let c128_i32_1378 : BitVec 32 := 128#32
  let v2484 : BitVec 32 := Scalar.muli v2463 c128_i32_1378
  let v2559 : BitVec 32 := Scalar.addi v2484 v2558
  let v2917 : Index := Scalar.indexCast v2559
  let c0_1636 : Index := 0#32
  let c0_1637 : Index := 0#32
  ![v2917.toNat, 0, 0]

def k0_off116 (v2463 : BitVec 32) (v2558 : BitVec 32) : Fin 3 → Nat :=
  let c128_i32_1378 : BitVec 32 := 128#32
  let v2484 : BitVec 32 := Scalar.muli v2463 c128_i32_1378
  let c1_i32_1419 : BitVec 32 := 1#32
  let v2560 : BitVec 32 := Scalar.addi v2558 c1_i32_1419
  let c127_i32_1420 : BitVec 32 := 127#32
  let v2561 : BitVec 32 := Scalar.minsi v2560 c127_i32_1420
  let v2562 : BitVec 32 := Scalar.addi v2484 v2561
  let v2920 : Index := Scalar.indexCast v2562
  let c0_1638 : Index := 0#32
  let c0_1639 : Index := 0#32
  ![v2920.toNat, 0, 0]

def k0_chk48 (v2463 : BitVec 32) (v2558 : BitVec 32) : Prop :=
  (∀ a, (k0_off115 v2463 v2558) a + S1x128x256.size a ≤ S256x128x256.size a) ∧
  (∀ a, (k0_off116 v2463 v2558) a + S1x128x256.size a ≤ S256x128x256.size a)
theorem k0_off115_inb : ∀ (v2463 : BitVec 32) (v2558 : BitVec 32) (k0_hw48 : k0_chk48 v2463 v2558), ∀ a, (k0_off115 v2463 v2558) a + S1x128x256.size a ≤ S256x128x256.size a := fun v2463 v2558 k0_hw48 => k0_hw48.1
theorem k0_off116_inb : ∀ (v2463 : BitVec 32) (v2558 : BitVec 32) (k0_hw48 : k0_chk48 v2463 v2558), ∀ a, (k0_off116 v2463 v2558) a + S1x128x256.size a ≤ S256x128x256.size a := fun v2463 v2558 k0_hw48 => k0_hw48.2

def k0_off117 (v2463 : BitVec 32) (v2571 : BitVec 32) : Fin 3 → Nat :=
  let c128_i32_1378 : BitVec 32 := 128#32
  let v2484 : BitVec 32 := Scalar.muli v2463 c128_i32_1378
  let v2572 : BitVec 32 := Scalar.addi v2484 v2571
  let v2933 : Index := Scalar.indexCast v2572
  let c0_1645 : Index := 0#32
  let c0_1646 : Index := 0#32
  ![v2933.toNat, 0, 0]

def k0_off118 (v2463 : BitVec 32) (v2571 : BitVec 32) : Fin 3 → Nat :=
  let c128_i32_1378 : BitVec 32 := 128#32
  let v2484 : BitVec 32 := Scalar.muli v2463 c128_i32_1378
  let c1_i32_1426 : BitVec 32 := 1#32
  let v2573 : BitVec 32 := Scalar.addi v2571 c1_i32_1426
  let c127_i32_1427 : BitVec 32 := 127#32
  let v2574 : BitVec 32 := Scalar.minsi v2573 c127_i32_1427
  let v2575 : BitVec 32 := Scalar.addi v2484 v2574
  let v2936 : Index := Scalar.indexCast v2575
  let c0_1647 : Index := 0#32
  let c0_1648 : Index := 0#32
  ![v2936.toNat, 0, 0]

def k0_chk49 (v2463 : BitVec 32) (v2571 : BitVec 32) : Prop :=
  (∀ a, (k0_off117 v2463 v2571) a + S1x128x256.size a ≤ S256x128x256.size a) ∧
  (∀ a, (k0_off118 v2463 v2571) a + S1x128x256.size a ≤ S256x128x256.size a)
theorem k0_off117_inb : ∀ (v2463 : BitVec 32) (v2571 : BitVec 32) (k0_hw49 : k0_chk49 v2463 v2571), ∀ a, (k0_off117 v2463 v2571) a + S1x128x256.size a ≤ S256x128x256.size a := fun v2463 v2571 k0_hw49 => k0_hw49.1
theorem k0_off118_inb : ∀ (v2463 : BitVec 32) (v2571 : BitVec 32) (k0_hw49 : k0_chk49 v2463 v2571), ∀ a, (k0_off118 v2463 v2571) a + S1x128x256.size a ≤ S256x128x256.size a := fun v2463 v2571 k0_hw49 => k0_hw49.2

def k0_off119 (v2463 : BitVec 32) (v2584 : BitVec 32) : Fin 3 → Nat :=
  let c128_i32_1378 : BitVec 32 := 128#32
  let v2484 : BitVec 32 := Scalar.muli v2463 c128_i32_1378
  let v2585 : BitVec 32 := Scalar.addi v2484 v2584
  let v2945 : Index := Scalar.indexCast v2585
  let c0_1650 : Index := 0#32
  let c0_1651 : Index := 0#32
  ![v2945.toNat, 0, 0]

def k0_off120 (v2463 : BitVec 32) (v2584 : BitVec 32) : Fin 3 → Nat :=
  let c128_i32_1378 : BitVec 32 := 128#32
  let v2484 : BitVec 32 := Scalar.muli v2463 c128_i32_1378
  let c1_i32_1433 : BitVec 32 := 1#32
  let v2586 : BitVec 32 := Scalar.addi v2584 c1_i32_1433
  let c127_i32_1434 : BitVec 32 := 127#32
  let v2587 : BitVec 32 := Scalar.minsi v2586 c127_i32_1434
  let v2588 : BitVec 32 := Scalar.addi v2484 v2587
  let v2948 : Index := Scalar.indexCast v2588
  let c0_1652 : Index := 0#32
  let c0_1653 : Index := 0#32
  ![v2948.toNat, 0, 0]

def k0_chk50 (v2463 : BitVec 32) (v2584 : BitVec 32) : Prop :=
  (∀ a, (k0_off119 v2463 v2584) a + S1x128x256.size a ≤ S256x128x256.size a) ∧
  (∀ a, (k0_off120 v2463 v2584) a + S1x128x256.size a ≤ S256x128x256.size a)
theorem k0_off119_inb : ∀ (v2463 : BitVec 32) (v2584 : BitVec 32) (k0_hw50 : k0_chk50 v2463 v2584), ∀ a, (k0_off119 v2463 v2584) a + S1x128x256.size a ≤ S256x128x256.size a := fun v2463 v2584 k0_hw50 => k0_hw50.1
theorem k0_off120_inb : ∀ (v2463 : BitVec 32) (v2584 : BitVec 32) (k0_hw50 : k0_chk50 v2463 v2584), ∀ a, (k0_off120 v2463 v2584) a + S1x128x256.size a ≤ S256x128x256.size a := fun v2463 v2584 k0_hw50 => k0_hw50.2

def k0_off121 (v2463 : BitVec 32) (v2597 : BitVec 32) : Fin 3 → Nat :=
  let c128_i32_1378 : BitVec 32 := 128#32
  let v2484 : BitVec 32 := Scalar.muli v2463 c128_i32_1378
  let v2598 : BitVec 32 := Scalar.addi v2484 v2597
  let v2961 : Index := Scalar.indexCast v2598
  let c0_1659 : Index := 0#32
  let c0_1660 : Index := 0#32
  ![v2961.toNat, 0, 0]

def k0_off122 (v2463 : BitVec 32) (v2597 : BitVec 32) : Fin 3 → Nat :=
  let c128_i32_1378 : BitVec 32 := 128#32
  let v2484 : BitVec 32 := Scalar.muli v2463 c128_i32_1378
  let c1_i32_1440 : BitVec 32 := 1#32
  let v2599 : BitVec 32 := Scalar.addi v2597 c1_i32_1440
  let c127_i32_1441 : BitVec 32 := 127#32
  let v2600 : BitVec 32 := Scalar.minsi v2599 c127_i32_1441
  let v2601 : BitVec 32 := Scalar.addi v2484 v2600
  let v2964 : Index := Scalar.indexCast v2601
  let c0_1661 : Index := 0#32
  let c0_1662 : Index := 0#32
  ![v2964.toNat, 0, 0]

def k0_chk51 (v2463 : BitVec 32) (v2597 : BitVec 32) : Prop :=
  (∀ a, (k0_off121 v2463 v2597) a + S1x128x256.size a ≤ S256x128x256.size a) ∧
  (∀ a, (k0_off122 v2463 v2597) a + S1x128x256.size a ≤ S256x128x256.size a)
theorem k0_off121_inb : ∀ (v2463 : BitVec 32) (v2597 : BitVec 32) (k0_hw51 : k0_chk51 v2463 v2597), ∀ a, (k0_off121 v2463 v2597) a + S1x128x256.size a ≤ S256x128x256.size a := fun v2463 v2597 k0_hw51 => k0_hw51.1
theorem k0_off122_inb : ∀ (v2463 : BitVec 32) (v2597 : BitVec 32) (k0_hw51 : k0_chk51 v2463 v2597), ∀ a, (k0_off122 v2463 v2597) a + S1x128x256.size a ≤ S256x128x256.size a := fun v2463 v2597 k0_hw51 => k0_hw51.2

def k0_off123 (v2463 : BitVec 32) (v2610 : BitVec 32) : Fin 3 → Nat :=
  let c128_i32_1378 : BitVec 32 := 128#32
  let v2484 : BitVec 32 := Scalar.muli v2463 c128_i32_1378
  let v2611 : BitVec 32 := Scalar.addi v2484 v2610
  let v2973 : Index := Scalar.indexCast v2611
  let c0_1664 : Index := 0#32
  let c0_1665 : Index := 0#32
  ![v2973.toNat, 0, 0]

def k0_off124 (v2463 : BitVec 32) (v2610 : BitVec 32) : Fin 3 → Nat :=
  let c128_i32_1378 : BitVec 32 := 128#32
  let v2484 : BitVec 32 := Scalar.muli v2463 c128_i32_1378
  let c1_i32_1447 : BitVec 32 := 1#32
  let v2612 : BitVec 32 := Scalar.addi v2610 c1_i32_1447
  let c127_i32_1448 : BitVec 32 := 127#32
  let v2613 : BitVec 32 := Scalar.minsi v2612 c127_i32_1448
  let v2614 : BitVec 32 := Scalar.addi v2484 v2613
  let v2976 : Index := Scalar.indexCast v2614
  let c0_1666 : Index := 0#32
  let c0_1667 : Index := 0#32
  ![v2976.toNat, 0, 0]

def k0_chk52 (v2463 : BitVec 32) (v2610 : BitVec 32) : Prop :=
  (∀ a, (k0_off123 v2463 v2610) a + S1x128x256.size a ≤ S256x128x256.size a) ∧
  (∀ a, (k0_off124 v2463 v2610) a + S1x128x256.size a ≤ S256x128x256.size a)
theorem k0_off123_inb : ∀ (v2463 : BitVec 32) (v2610 : BitVec 32) (k0_hw52 : k0_chk52 v2463 v2610), ∀ a, (k0_off123 v2463 v2610) a + S1x128x256.size a ≤ S256x128x256.size a := fun v2463 v2610 k0_hw52 => k0_hw52.1
theorem k0_off124_inb : ∀ (v2463 : BitVec 32) (v2610 : BitVec 32) (k0_hw52 : k0_chk52 v2463 v2610), ∀ a, (k0_off124 v2463 v2610) a + S1x128x256.size a ≤ S256x128x256.size a := fun v2463 v2610 k0_hw52 => k0_hw52.2

def k0_off125 (v2463 : BitVec 32) (v2623 : BitVec 32) : Fin 3 → Nat :=
  let c128_i32_1378 : BitVec 32 := 128#32
  let v2484 : BitVec 32 := Scalar.muli v2463 c128_i32_1378
  let v2624 : BitVec 32 := Scalar.addi v2484 v2623
  let v2989 : Index := Scalar.indexCast v2624
  let c0_1673 : Index := 0#32
  let c0_1674 : Index := 0#32
  ![v2989.toNat, 0, 0]

def k0_off126 (v2463 : BitVec 32) (v2623 : BitVec 32) : Fin 3 → Nat :=
  let c128_i32_1378 : BitVec 32 := 128#32
  let v2484 : BitVec 32 := Scalar.muli v2463 c128_i32_1378
  let c1_i32_1454 : BitVec 32 := 1#32
  let v2625 : BitVec 32 := Scalar.addi v2623 c1_i32_1454
  let c127_i32_1455 : BitVec 32 := 127#32
  let v2626 : BitVec 32 := Scalar.minsi v2625 c127_i32_1455
  let v2627 : BitVec 32 := Scalar.addi v2484 v2626
  let v2992 : Index := Scalar.indexCast v2627
  let c0_1675 : Index := 0#32
  let c0_1676 : Index := 0#32
  ![v2992.toNat, 0, 0]

def k0_chk53 (v2463 : BitVec 32) (v2623 : BitVec 32) : Prop :=
  (∀ a, (k0_off125 v2463 v2623) a + S1x128x256.size a ≤ S256x128x256.size a) ∧
  (∀ a, (k0_off126 v2463 v2623) a + S1x128x256.size a ≤ S256x128x256.size a)
theorem k0_off125_inb : ∀ (v2463 : BitVec 32) (v2623 : BitVec 32) (k0_hw53 : k0_chk53 v2463 v2623), ∀ a, (k0_off125 v2463 v2623) a + S1x128x256.size a ≤ S256x128x256.size a := fun v2463 v2623 k0_hw53 => k0_hw53.1
theorem k0_off126_inb : ∀ (v2463 : BitVec 32) (v2623 : BitVec 32) (k0_hw53 : k0_chk53 v2463 v2623), ∀ a, (k0_off126 v2463 v2623) a + S1x128x256.size a ≤ S256x128x256.size a := fun v2463 v2623 k0_hw53 => k0_hw53.2

def k0_off127 (v2463 : BitVec 32) (v2636 : BitVec 32) : Fin 3 → Nat :=
  let c128_i32_1378 : BitVec 32 := 128#32
  let v2484 : BitVec 32 := Scalar.muli v2463 c128_i32_1378
  let v2637 : BitVec 32 := Scalar.addi v2484 v2636
  let v3001 : Index := Scalar.indexCast v2637
  let c0_1678 : Index := 0#32
  let c0_1679 : Index := 0#32
  ![v3001.toNat, 0, 0]

def k0_off128 (v2463 : BitVec 32) (v2636 : BitVec 32) : Fin 3 → Nat :=
  let c128_i32_1378 : BitVec 32 := 128#32
  let v2484 : BitVec 32 := Scalar.muli v2463 c128_i32_1378
  let c1_i32_1461 : BitVec 32 := 1#32
  let v2638 : BitVec 32 := Scalar.addi v2636 c1_i32_1461
  let c127_i32_1462 : BitVec 32 := 127#32
  let v2639 : BitVec 32 := Scalar.minsi v2638 c127_i32_1462
  let v2640 : BitVec 32 := Scalar.addi v2484 v2639
  let v3004 : Index := Scalar.indexCast v2640
  let c0_1680 : Index := 0#32
  let c0_1681 : Index := 0#32
  ![v3004.toNat, 0, 0]

def k0_chk54 (v2463 : BitVec 32) (v2636 : BitVec 32) : Prop :=
  (∀ a, (k0_off127 v2463 v2636) a + S1x128x256.size a ≤ S256x128x256.size a) ∧
  (∀ a, (k0_off128 v2463 v2636) a + S1x128x256.size a ≤ S256x128x256.size a)
theorem k0_off127_inb : ∀ (v2463 : BitVec 32) (v2636 : BitVec 32) (k0_hw54 : k0_chk54 v2463 v2636), ∀ a, (k0_off127 v2463 v2636) a + S1x128x256.size a ≤ S256x128x256.size a := fun v2463 v2636 k0_hw54 => k0_hw54.1
theorem k0_off128_inb : ∀ (v2463 : BitVec 32) (v2636 : BitVec 32) (k0_hw54 : k0_chk54 v2463 v2636), ∀ a, (k0_off128 v2463 v2636) a + S1x128x256.size a ≤ S256x128x256.size a := fun v2463 v2636 k0_hw54 => k0_hw54.2

def k0_off129 (v2463 : BitVec 32) (v2649 : BitVec 32) : Fin 3 → Nat :=
  let c128_i32_1378 : BitVec 32 := 128#32
  let v2484 : BitVec 32 := Scalar.muli v2463 c128_i32_1378
  let v2650 : BitVec 32 := Scalar.addi v2484 v2649
  let v3017 : Index := Scalar.indexCast v2650
  let c0_1687 : Index := 0#32
  let c0_1688 : Index := 0#32
  ![v3017.toNat, 0, 0]

def k0_off130 (v2463 : BitVec 32) (v2649 : BitVec 32) : Fin 3 → Nat :=
  let c128_i32_1378 : BitVec 32 := 128#32
  let v2484 : BitVec 32 := Scalar.muli v2463 c128_i32_1378
  let c1_i32_1468 : BitVec 32 := 1#32
  let v2651 : BitVec 32 := Scalar.addi v2649 c1_i32_1468
  let c127_i32_1469 : BitVec 32 := 127#32
  let v2652 : BitVec 32 := Scalar.minsi v2651 c127_i32_1469
  let v2653 : BitVec 32 := Scalar.addi v2484 v2652
  let v3020 : Index := Scalar.indexCast v2653
  let c0_1689 : Index := 0#32
  let c0_1690 : Index := 0#32
  ![v3020.toNat, 0, 0]

def k0_chk55 (v2463 : BitVec 32) (v2649 : BitVec 32) : Prop :=
  (∀ a, (k0_off129 v2463 v2649) a + S1x128x256.size a ≤ S256x128x256.size a) ∧
  (∀ a, (k0_off130 v2463 v2649) a + S1x128x256.size a ≤ S256x128x256.size a)
theorem k0_off129_inb : ∀ (v2463 : BitVec 32) (v2649 : BitVec 32) (k0_hw55 : k0_chk55 v2463 v2649), ∀ a, (k0_off129 v2463 v2649) a + S1x128x256.size a ≤ S256x128x256.size a := fun v2463 v2649 k0_hw55 => k0_hw55.1
theorem k0_off130_inb : ∀ (v2463 : BitVec 32) (v2649 : BitVec 32) (k0_hw55 : k0_chk55 v2463 v2649), ∀ a, (k0_off130 v2463 v2649) a + S1x128x256.size a ≤ S256x128x256.size a := fun v2463 v2649 k0_hw55 => k0_hw55.2

def k0_off131 (v2463 : BitVec 32) (v2662 : BitVec 32) : Fin 3 → Nat :=
  let c128_i32_1378 : BitVec 32 := 128#32
  let v2484 : BitVec 32 := Scalar.muli v2463 c128_i32_1378
  let v2663 : BitVec 32 := Scalar.addi v2484 v2662
  let v3029 : Index := Scalar.indexCast v2663
  let c0_1692 : Index := 0#32
  let c0_1693 : Index := 0#32
  ![v3029.toNat, 0, 0]

def k0_off132 (v2463 : BitVec 32) (v2662 : BitVec 32) : Fin 3 → Nat :=
  let c128_i32_1378 : BitVec 32 := 128#32
  let v2484 : BitVec 32 := Scalar.muli v2463 c128_i32_1378
  let c1_i32_1475 : BitVec 32 := 1#32
  let v2664 : BitVec 32 := Scalar.addi v2662 c1_i32_1475
  let c127_i32_1476 : BitVec 32 := 127#32
  let v2665 : BitVec 32 := Scalar.minsi v2664 c127_i32_1476
  let v2666 : BitVec 32 := Scalar.addi v2484 v2665
  let v3032 : Index := Scalar.indexCast v2666
  let c0_1694 : Index := 0#32
  let c0_1695 : Index := 0#32
  ![v3032.toNat, 0, 0]

def k0_chk56 (v2463 : BitVec 32) (v2662 : BitVec 32) : Prop :=
  (∀ a, (k0_off131 v2463 v2662) a + S1x128x256.size a ≤ S256x128x256.size a) ∧
  (∀ a, (k0_off132 v2463 v2662) a + S1x128x256.size a ≤ S256x128x256.size a)
theorem k0_off131_inb : ∀ (v2463 : BitVec 32) (v2662 : BitVec 32) (k0_hw56 : k0_chk56 v2463 v2662), ∀ a, (k0_off131 v2463 v2662) a + S1x128x256.size a ≤ S256x128x256.size a := fun v2463 v2662 k0_hw56 => k0_hw56.1
theorem k0_off132_inb : ∀ (v2463 : BitVec 32) (v2662 : BitVec 32) (k0_hw56 : k0_chk56 v2463 v2662), ∀ a, (k0_off132 v2463 v2662) a + S1x128x256.size a ≤ S256x128x256.size a := fun v2463 v2662 k0_hw56 => k0_hw56.2

def k0_off133 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c4_i32 : BitVec 32 := 4#32
  let v3278 : BitVec 32 := Scalar.addi v5 c4_i32
  let v3279 : Index := Scalar.indexCast v3278
  let c0_1820 : Index := 0#32
  ![v3279.toNat, 0]
def k0_off134 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c4_i32 : BitVec 32 := 4#32
  let v3278 : BitVec 32 := Scalar.addi v5 c4_i32
  let v3282 : Index := Scalar.indexCast v3278
  let c1_1821 : Index := 1#32
  ![v3282.toNat, 1]
def k0_off135 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c4_i32 : BitVec 32 := 4#32
  let v3278 : BitVec 32 := Scalar.addi v5 c4_i32
  let v3286 : Index := Scalar.indexCast v3278
  let c2_1824 : Index := 2#32
  ![v3286.toNat, 2]
def k0_off136 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c4_i32 : BitVec 32 := 4#32
  let v3278 : BitVec 32 := Scalar.addi v5 c4_i32
  let v3290 : Index := Scalar.indexCast v3278
  let c3_1827 : Index := 3#32
  ![v3290.toNat, 3]
def k0_off137 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c4_i32 : BitVec 32 := 4#32
  let v3278 : BitVec 32 := Scalar.addi v5 c4_i32
  let v3294 : Index := Scalar.indexCast v3278
  let c4_1830 : Index := 4#32
  ![v3294.toNat, 4]
def k0_off138 (v3281 : BitVec 32) (v3311 : BitVec 32) : Fin 3 → Nat :=
  let c128_i32_1835 : BitVec 32 := 128#32
  let v3302 : BitVec 32 := Scalar.muli v3281 c128_i32_1835
  let v3312 : BitVec 32 := Scalar.addi v3302 v3311
  let v3667 : Index := Scalar.indexCast v3312
  let c0_2060 : Index := 0#32
  let c0_2061 : Index := 0#32
  ![v3667.toNat, 0, 0]

def k0_off139 (v3281 : BitVec 32) (v3311 : BitVec 32) : Fin 3 → Nat :=
  let c128_i32_1835 : BitVec 32 := 128#32
  let v3302 : BitVec 32 := Scalar.muli v3281 c128_i32_1835
  let c1_i32_1841 : BitVec 32 := 1#32
  let v3313 : BitVec 32 := Scalar.addi v3311 c1_i32_1841
  let c127_i32_1842 : BitVec 32 := 127#32
  let v3314 : BitVec 32 := Scalar.minsi v3313 c127_i32_1842
  let v3315 : BitVec 32 := Scalar.addi v3302 v3314
  let v3670 : Index := Scalar.indexCast v3315
  let c0_2062 : Index := 0#32
  let c0_2063 : Index := 0#32
  ![v3670.toNat, 0, 0]

def k0_chk57 (v3281 : BitVec 32) (v3311 : BitVec 32) : Prop :=
  (∀ a, (k0_off138 v3281 v3311) a + S1x128x256.size a ≤ S256x128x256.size a) ∧
  (∀ a, (k0_off139 v3281 v3311) a + S1x128x256.size a ≤ S256x128x256.size a)
theorem k0_off138_inb : ∀ (v3281 : BitVec 32) (v3311 : BitVec 32) (k0_hw57 : k0_chk57 v3281 v3311), ∀ a, (k0_off138 v3281 v3311) a + S1x128x256.size a ≤ S256x128x256.size a := fun v3281 v3311 k0_hw57 => k0_hw57.1
theorem k0_off139_inb : ∀ (v3281 : BitVec 32) (v3311 : BitVec 32) (k0_hw57 : k0_chk57 v3281 v3311), ∀ a, (k0_off139 v3281 v3311) a + S1x128x256.size a ≤ S256x128x256.size a := fun v3281 v3311 k0_hw57 => k0_hw57.2

def k0_off140 (v3281 : BitVec 32) (v3324 : BitVec 32) : Fin 3 → Nat :=
  let c128_i32_1835 : BitVec 32 := 128#32
  let v3302 : BitVec 32 := Scalar.muli v3281 c128_i32_1835
  let v3325 : BitVec 32 := Scalar.addi v3302 v3324
  let v3679 : Index := Scalar.indexCast v3325
  let c0_2065 : Index := 0#32
  let c0_2066 : Index := 0#32
  ![v3679.toNat, 0, 0]

def k0_off141 (v3281 : BitVec 32) (v3324 : BitVec 32) : Fin 3 → Nat :=
  let c128_i32_1835 : BitVec 32 := 128#32
  let v3302 : BitVec 32 := Scalar.muli v3281 c128_i32_1835
  let c1_i32_1848 : BitVec 32 := 1#32
  let v3326 : BitVec 32 := Scalar.addi v3324 c1_i32_1848
  let c127_i32_1849 : BitVec 32 := 127#32
  let v3327 : BitVec 32 := Scalar.minsi v3326 c127_i32_1849
  let v3328 : BitVec 32 := Scalar.addi v3302 v3327
  let v3682 : Index := Scalar.indexCast v3328
  let c0_2067 : Index := 0#32
  let c0_2068 : Index := 0#32
  ![v3682.toNat, 0, 0]

def k0_chk58 (v3281 : BitVec 32) (v3324 : BitVec 32) : Prop :=
  (∀ a, (k0_off140 v3281 v3324) a + S1x128x256.size a ≤ S256x128x256.size a) ∧
  (∀ a, (k0_off141 v3281 v3324) a + S1x128x256.size a ≤ S256x128x256.size a)
theorem k0_off140_inb : ∀ (v3281 : BitVec 32) (v3324 : BitVec 32) (k0_hw58 : k0_chk58 v3281 v3324), ∀ a, (k0_off140 v3281 v3324) a + S1x128x256.size a ≤ S256x128x256.size a := fun v3281 v3324 k0_hw58 => k0_hw58.1
theorem k0_off141_inb : ∀ (v3281 : BitVec 32) (v3324 : BitVec 32) (k0_hw58 : k0_chk58 v3281 v3324), ∀ a, (k0_off141 v3281 v3324) a + S1x128x256.size a ≤ S256x128x256.size a := fun v3281 v3324 k0_hw58 => k0_hw58.2

def k0_off142 (v3281 : BitVec 32) (v3337 : BitVec 32) : Fin 3 → Nat :=
  let c128_i32_1835 : BitVec 32 := 128#32
  let v3302 : BitVec 32 := Scalar.muli v3281 c128_i32_1835
  let v3338 : BitVec 32 := Scalar.addi v3302 v3337
  let v3695 : Index := Scalar.indexCast v3338
  let c0_2074 : Index := 0#32
  let c0_2075 : Index := 0#32
  ![v3695.toNat, 0, 0]

def k0_off143 (v3281 : BitVec 32) (v3337 : BitVec 32) : Fin 3 → Nat :=
  let c128_i32_1835 : BitVec 32 := 128#32
  let v3302 : BitVec 32 := Scalar.muli v3281 c128_i32_1835
  let c1_i32_1855 : BitVec 32 := 1#32
  let v3339 : BitVec 32 := Scalar.addi v3337 c1_i32_1855
  let c127_i32_1856 : BitVec 32 := 127#32
  let v3340 : BitVec 32 := Scalar.minsi v3339 c127_i32_1856
  let v3341 : BitVec 32 := Scalar.addi v3302 v3340
  let v3698 : Index := Scalar.indexCast v3341
  let c0_2076 : Index := 0#32
  let c0_2077 : Index := 0#32
  ![v3698.toNat, 0, 0]

def k0_chk59 (v3281 : BitVec 32) (v3337 : BitVec 32) : Prop :=
  (∀ a, (k0_off142 v3281 v3337) a + S1x128x256.size a ≤ S256x128x256.size a) ∧
  (∀ a, (k0_off143 v3281 v3337) a + S1x128x256.size a ≤ S256x128x256.size a)
theorem k0_off142_inb : ∀ (v3281 : BitVec 32) (v3337 : BitVec 32) (k0_hw59 : k0_chk59 v3281 v3337), ∀ a, (k0_off142 v3281 v3337) a + S1x128x256.size a ≤ S256x128x256.size a := fun v3281 v3337 k0_hw59 => k0_hw59.1
theorem k0_off143_inb : ∀ (v3281 : BitVec 32) (v3337 : BitVec 32) (k0_hw59 : k0_chk59 v3281 v3337), ∀ a, (k0_off143 v3281 v3337) a + S1x128x256.size a ≤ S256x128x256.size a := fun v3281 v3337 k0_hw59 => k0_hw59.2

def k0_off144 (v3281 : BitVec 32) (v3350 : BitVec 32) : Fin 3 → Nat :=
  let c128_i32_1835 : BitVec 32 := 128#32
  let v3302 : BitVec 32 := Scalar.muli v3281 c128_i32_1835
  let v3351 : BitVec 32 := Scalar.addi v3302 v3350
  let v3707 : Index := Scalar.indexCast v3351
  let c0_2079 : Index := 0#32
  let c0_2080 : Index := 0#32
  ![v3707.toNat, 0, 0]

def k0_off145 (v3281 : BitVec 32) (v3350 : BitVec 32) : Fin 3 → Nat :=
  let c128_i32_1835 : BitVec 32 := 128#32
  let v3302 : BitVec 32 := Scalar.muli v3281 c128_i32_1835
  let c1_i32_1862 : BitVec 32 := 1#32
  let v3352 : BitVec 32 := Scalar.addi v3350 c1_i32_1862
  let c127_i32_1863 : BitVec 32 := 127#32
  let v3353 : BitVec 32 := Scalar.minsi v3352 c127_i32_1863
  let v3354 : BitVec 32 := Scalar.addi v3302 v3353
  let v3710 : Index := Scalar.indexCast v3354
  let c0_2081 : Index := 0#32
  let c0_2082 : Index := 0#32
  ![v3710.toNat, 0, 0]

def k0_chk60 (v3281 : BitVec 32) (v3350 : BitVec 32) : Prop :=
  (∀ a, (k0_off144 v3281 v3350) a + S1x128x256.size a ≤ S256x128x256.size a) ∧
  (∀ a, (k0_off145 v3281 v3350) a + S1x128x256.size a ≤ S256x128x256.size a)
theorem k0_off144_inb : ∀ (v3281 : BitVec 32) (v3350 : BitVec 32) (k0_hw60 : k0_chk60 v3281 v3350), ∀ a, (k0_off144 v3281 v3350) a + S1x128x256.size a ≤ S256x128x256.size a := fun v3281 v3350 k0_hw60 => k0_hw60.1
theorem k0_off145_inb : ∀ (v3281 : BitVec 32) (v3350 : BitVec 32) (k0_hw60 : k0_chk60 v3281 v3350), ∀ a, (k0_off145 v3281 v3350) a + S1x128x256.size a ≤ S256x128x256.size a := fun v3281 v3350 k0_hw60 => k0_hw60.2

def k0_off146 (v3281 : BitVec 32) (v3363 : BitVec 32) : Fin 3 → Nat :=
  let c128_i32_1835 : BitVec 32 := 128#32
  let v3302 : BitVec 32 := Scalar.muli v3281 c128_i32_1835
  let v3364 : BitVec 32 := Scalar.addi v3302 v3363
  let v3723 : Index := Scalar.indexCast v3364
  let c0_2088 : Index := 0#32
  let c0_2089 : Index := 0#32
  ![v3723.toNat, 0, 0]

def k0_off147 (v3281 : BitVec 32) (v3363 : BitVec 32) : Fin 3 → Nat :=
  let c128_i32_1835 : BitVec 32 := 128#32
  let v3302 : BitVec 32 := Scalar.muli v3281 c128_i32_1835
  let c1_i32_1869 : BitVec 32 := 1#32
  let v3365 : BitVec 32 := Scalar.addi v3363 c1_i32_1869
  let c127_i32_1870 : BitVec 32 := 127#32
  let v3366 : BitVec 32 := Scalar.minsi v3365 c127_i32_1870
  let v3367 : BitVec 32 := Scalar.addi v3302 v3366
  let v3726 : Index := Scalar.indexCast v3367
  let c0_2090 : Index := 0#32
  let c0_2091 : Index := 0#32
  ![v3726.toNat, 0, 0]

def k0_chk61 (v3281 : BitVec 32) (v3363 : BitVec 32) : Prop :=
  (∀ a, (k0_off146 v3281 v3363) a + S1x128x256.size a ≤ S256x128x256.size a) ∧
  (∀ a, (k0_off147 v3281 v3363) a + S1x128x256.size a ≤ S256x128x256.size a)
theorem k0_off146_inb : ∀ (v3281 : BitVec 32) (v3363 : BitVec 32) (k0_hw61 : k0_chk61 v3281 v3363), ∀ a, (k0_off146 v3281 v3363) a + S1x128x256.size a ≤ S256x128x256.size a := fun v3281 v3363 k0_hw61 => k0_hw61.1
theorem k0_off147_inb : ∀ (v3281 : BitVec 32) (v3363 : BitVec 32) (k0_hw61 : k0_chk61 v3281 v3363), ∀ a, (k0_off147 v3281 v3363) a + S1x128x256.size a ≤ S256x128x256.size a := fun v3281 v3363 k0_hw61 => k0_hw61.2

def k0_off148 (v3281 : BitVec 32) (v3376 : BitVec 32) : Fin 3 → Nat :=
  let c128_i32_1835 : BitVec 32 := 128#32
  let v3302 : BitVec 32 := Scalar.muli v3281 c128_i32_1835
  let v3377 : BitVec 32 := Scalar.addi v3302 v3376
  let v3735 : Index := Scalar.indexCast v3377
  let c0_2093 : Index := 0#32
  let c0_2094 : Index := 0#32
  ![v3735.toNat, 0, 0]

def k0_off149 (v3281 : BitVec 32) (v3376 : BitVec 32) : Fin 3 → Nat :=
  let c128_i32_1835 : BitVec 32 := 128#32
  let v3302 : BitVec 32 := Scalar.muli v3281 c128_i32_1835
  let c1_i32_1876 : BitVec 32 := 1#32
  let v3378 : BitVec 32 := Scalar.addi v3376 c1_i32_1876
  let c127_i32_1877 : BitVec 32 := 127#32
  let v3379 : BitVec 32 := Scalar.minsi v3378 c127_i32_1877
  let v3380 : BitVec 32 := Scalar.addi v3302 v3379
  let v3738 : Index := Scalar.indexCast v3380
  let c0_2095 : Index := 0#32
  let c0_2096 : Index := 0#32
  ![v3738.toNat, 0, 0]

def k0_chk62 (v3281 : BitVec 32) (v3376 : BitVec 32) : Prop :=
  (∀ a, (k0_off148 v3281 v3376) a + S1x128x256.size a ≤ S256x128x256.size a) ∧
  (∀ a, (k0_off149 v3281 v3376) a + S1x128x256.size a ≤ S256x128x256.size a)
theorem k0_off148_inb : ∀ (v3281 : BitVec 32) (v3376 : BitVec 32) (k0_hw62 : k0_chk62 v3281 v3376), ∀ a, (k0_off148 v3281 v3376) a + S1x128x256.size a ≤ S256x128x256.size a := fun v3281 v3376 k0_hw62 => k0_hw62.1
theorem k0_off149_inb : ∀ (v3281 : BitVec 32) (v3376 : BitVec 32) (k0_hw62 : k0_chk62 v3281 v3376), ∀ a, (k0_off149 v3281 v3376) a + S1x128x256.size a ≤ S256x128x256.size a := fun v3281 v3376 k0_hw62 => k0_hw62.2

def k0_off150 (v3281 : BitVec 32) (v3389 : BitVec 32) : Fin 3 → Nat :=
  let c128_i32_1835 : BitVec 32 := 128#32
  let v3302 : BitVec 32 := Scalar.muli v3281 c128_i32_1835
  let v3390 : BitVec 32 := Scalar.addi v3302 v3389
  let v3751 : Index := Scalar.indexCast v3390
  let c0_2102 : Index := 0#32
  let c0_2103 : Index := 0#32
  ![v3751.toNat, 0, 0]

def k0_off151 (v3281 : BitVec 32) (v3389 : BitVec 32) : Fin 3 → Nat :=
  let c128_i32_1835 : BitVec 32 := 128#32
  let v3302 : BitVec 32 := Scalar.muli v3281 c128_i32_1835
  let c1_i32_1883 : BitVec 32 := 1#32
  let v3391 : BitVec 32 := Scalar.addi v3389 c1_i32_1883
  let c127_i32_1884 : BitVec 32 := 127#32
  let v3392 : BitVec 32 := Scalar.minsi v3391 c127_i32_1884
  let v3393 : BitVec 32 := Scalar.addi v3302 v3392
  let v3754 : Index := Scalar.indexCast v3393
  let c0_2104 : Index := 0#32
  let c0_2105 : Index := 0#32
  ![v3754.toNat, 0, 0]

def k0_chk63 (v3281 : BitVec 32) (v3389 : BitVec 32) : Prop :=
  (∀ a, (k0_off150 v3281 v3389) a + S1x128x256.size a ≤ S256x128x256.size a) ∧
  (∀ a, (k0_off151 v3281 v3389) a + S1x128x256.size a ≤ S256x128x256.size a)
theorem k0_off150_inb : ∀ (v3281 : BitVec 32) (v3389 : BitVec 32) (k0_hw63 : k0_chk63 v3281 v3389), ∀ a, (k0_off150 v3281 v3389) a + S1x128x256.size a ≤ S256x128x256.size a := fun v3281 v3389 k0_hw63 => k0_hw63.1
theorem k0_off151_inb : ∀ (v3281 : BitVec 32) (v3389 : BitVec 32) (k0_hw63 : k0_chk63 v3281 v3389), ∀ a, (k0_off151 v3281 v3389) a + S1x128x256.size a ≤ S256x128x256.size a := fun v3281 v3389 k0_hw63 => k0_hw63.2

def k0_off152 (v3281 : BitVec 32) (v3402 : BitVec 32) : Fin 3 → Nat :=
  let c128_i32_1835 : BitVec 32 := 128#32
  let v3302 : BitVec 32 := Scalar.muli v3281 c128_i32_1835
  let v3403 : BitVec 32 := Scalar.addi v3302 v3402
  let v3763 : Index := Scalar.indexCast v3403
  let c0_2107 : Index := 0#32
  let c0_2108 : Index := 0#32
  ![v3763.toNat, 0, 0]

def k0_off153 (v3281 : BitVec 32) (v3402 : BitVec 32) : Fin 3 → Nat :=
  let c128_i32_1835 : BitVec 32 := 128#32
  let v3302 : BitVec 32 := Scalar.muli v3281 c128_i32_1835
  let c1_i32_1890 : BitVec 32 := 1#32
  let v3404 : BitVec 32 := Scalar.addi v3402 c1_i32_1890
  let c127_i32_1891 : BitVec 32 := 127#32
  let v3405 : BitVec 32 := Scalar.minsi v3404 c127_i32_1891
  let v3406 : BitVec 32 := Scalar.addi v3302 v3405
  let v3766 : Index := Scalar.indexCast v3406
  let c0_2109 : Index := 0#32
  let c0_2110 : Index := 0#32
  ![v3766.toNat, 0, 0]

def k0_chk64 (v3281 : BitVec 32) (v3402 : BitVec 32) : Prop :=
  (∀ a, (k0_off152 v3281 v3402) a + S1x128x256.size a ≤ S256x128x256.size a) ∧
  (∀ a, (k0_off153 v3281 v3402) a + S1x128x256.size a ≤ S256x128x256.size a)
theorem k0_off152_inb : ∀ (v3281 : BitVec 32) (v3402 : BitVec 32) (k0_hw64 : k0_chk64 v3281 v3402), ∀ a, (k0_off152 v3281 v3402) a + S1x128x256.size a ≤ S256x128x256.size a := fun v3281 v3402 k0_hw64 => k0_hw64.1
theorem k0_off153_inb : ∀ (v3281 : BitVec 32) (v3402 : BitVec 32) (k0_hw64 : k0_chk64 v3281 v3402), ∀ a, (k0_off153 v3281 v3402) a + S1x128x256.size a ≤ S256x128x256.size a := fun v3281 v3402 k0_hw64 => k0_hw64.2

def k0_off154 (v3281 : BitVec 32) (v3415 : BitVec 32) : Fin 3 → Nat :=
  let c128_i32_1835 : BitVec 32 := 128#32
  let v3302 : BitVec 32 := Scalar.muli v3281 c128_i32_1835
  let v3416 : BitVec 32 := Scalar.addi v3302 v3415
  let v3779 : Index := Scalar.indexCast v3416
  let c0_2116 : Index := 0#32
  let c0_2117 : Index := 0#32
  ![v3779.toNat, 0, 0]

def k0_off155 (v3281 : BitVec 32) (v3415 : BitVec 32) : Fin 3 → Nat :=
  let c128_i32_1835 : BitVec 32 := 128#32
  let v3302 : BitVec 32 := Scalar.muli v3281 c128_i32_1835
  let c1_i32_1897 : BitVec 32 := 1#32
  let v3417 : BitVec 32 := Scalar.addi v3415 c1_i32_1897
  let c127_i32_1898 : BitVec 32 := 127#32
  let v3418 : BitVec 32 := Scalar.minsi v3417 c127_i32_1898
  let v3419 : BitVec 32 := Scalar.addi v3302 v3418
  let v3782 : Index := Scalar.indexCast v3419
  let c0_2118 : Index := 0#32
  let c0_2119 : Index := 0#32
  ![v3782.toNat, 0, 0]

def k0_chk65 (v3281 : BitVec 32) (v3415 : BitVec 32) : Prop :=
  (∀ a, (k0_off154 v3281 v3415) a + S1x128x256.size a ≤ S256x128x256.size a) ∧
  (∀ a, (k0_off155 v3281 v3415) a + S1x128x256.size a ≤ S256x128x256.size a)
theorem k0_off154_inb : ∀ (v3281 : BitVec 32) (v3415 : BitVec 32) (k0_hw65 : k0_chk65 v3281 v3415), ∀ a, (k0_off154 v3281 v3415) a + S1x128x256.size a ≤ S256x128x256.size a := fun v3281 v3415 k0_hw65 => k0_hw65.1
theorem k0_off155_inb : ∀ (v3281 : BitVec 32) (v3415 : BitVec 32) (k0_hw65 : k0_chk65 v3281 v3415), ∀ a, (k0_off155 v3281 v3415) a + S1x128x256.size a ≤ S256x128x256.size a := fun v3281 v3415 k0_hw65 => k0_hw65.2

def k0_off156 (v3281 : BitVec 32) (v3428 : BitVec 32) : Fin 3 → Nat :=
  let c128_i32_1835 : BitVec 32 := 128#32
  let v3302 : BitVec 32 := Scalar.muli v3281 c128_i32_1835
  let v3429 : BitVec 32 := Scalar.addi v3302 v3428
  let v3791 : Index := Scalar.indexCast v3429
  let c0_2121 : Index := 0#32
  let c0_2122 : Index := 0#32
  ![v3791.toNat, 0, 0]

def k0_off157 (v3281 : BitVec 32) (v3428 : BitVec 32) : Fin 3 → Nat :=
  let c128_i32_1835 : BitVec 32 := 128#32
  let v3302 : BitVec 32 := Scalar.muli v3281 c128_i32_1835
  let c1_i32_1904 : BitVec 32 := 1#32
  let v3430 : BitVec 32 := Scalar.addi v3428 c1_i32_1904
  let c127_i32_1905 : BitVec 32 := 127#32
  let v3431 : BitVec 32 := Scalar.minsi v3430 c127_i32_1905
  let v3432 : BitVec 32 := Scalar.addi v3302 v3431
  let v3794 : Index := Scalar.indexCast v3432
  let c0_2123 : Index := 0#32
  let c0_2124 : Index := 0#32
  ![v3794.toNat, 0, 0]

def k0_chk66 (v3281 : BitVec 32) (v3428 : BitVec 32) : Prop :=
  (∀ a, (k0_off156 v3281 v3428) a + S1x128x256.size a ≤ S256x128x256.size a) ∧
  (∀ a, (k0_off157 v3281 v3428) a + S1x128x256.size a ≤ S256x128x256.size a)
theorem k0_off156_inb : ∀ (v3281 : BitVec 32) (v3428 : BitVec 32) (k0_hw66 : k0_chk66 v3281 v3428), ∀ a, (k0_off156 v3281 v3428) a + S1x128x256.size a ≤ S256x128x256.size a := fun v3281 v3428 k0_hw66 => k0_hw66.1
theorem k0_off157_inb : ∀ (v3281 : BitVec 32) (v3428 : BitVec 32) (k0_hw66 : k0_chk66 v3281 v3428), ∀ a, (k0_off157 v3281 v3428) a + S1x128x256.size a ≤ S256x128x256.size a := fun v3281 v3428 k0_hw66 => k0_hw66.2

def k0_off158 (v3281 : BitVec 32) (v3441 : BitVec 32) : Fin 3 → Nat :=
  let c128_i32_1835 : BitVec 32 := 128#32
  let v3302 : BitVec 32 := Scalar.muli v3281 c128_i32_1835
  let v3442 : BitVec 32 := Scalar.addi v3302 v3441
  let v3807 : Index := Scalar.indexCast v3442
  let c0_2130 : Index := 0#32
  let c0_2131 : Index := 0#32
  ![v3807.toNat, 0, 0]

def k0_off159 (v3281 : BitVec 32) (v3441 : BitVec 32) : Fin 3 → Nat :=
  let c128_i32_1835 : BitVec 32 := 128#32
  let v3302 : BitVec 32 := Scalar.muli v3281 c128_i32_1835
  let c1_i32_1911 : BitVec 32 := 1#32
  let v3443 : BitVec 32 := Scalar.addi v3441 c1_i32_1911
  let c127_i32_1912 : BitVec 32 := 127#32
  let v3444 : BitVec 32 := Scalar.minsi v3443 c127_i32_1912
  let v3445 : BitVec 32 := Scalar.addi v3302 v3444
  let v3810 : Index := Scalar.indexCast v3445
  let c0_2132 : Index := 0#32
  let c0_2133 : Index := 0#32
  ![v3810.toNat, 0, 0]

def k0_chk67 (v3281 : BitVec 32) (v3441 : BitVec 32) : Prop :=
  (∀ a, (k0_off158 v3281 v3441) a + S1x128x256.size a ≤ S256x128x256.size a) ∧
  (∀ a, (k0_off159 v3281 v3441) a + S1x128x256.size a ≤ S256x128x256.size a)
theorem k0_off158_inb : ∀ (v3281 : BitVec 32) (v3441 : BitVec 32) (k0_hw67 : k0_chk67 v3281 v3441), ∀ a, (k0_off158 v3281 v3441) a + S1x128x256.size a ≤ S256x128x256.size a := fun v3281 v3441 k0_hw67 => k0_hw67.1
theorem k0_off159_inb : ∀ (v3281 : BitVec 32) (v3441 : BitVec 32) (k0_hw67 : k0_chk67 v3281 v3441), ∀ a, (k0_off159 v3281 v3441) a + S1x128x256.size a ≤ S256x128x256.size a := fun v3281 v3441 k0_hw67 => k0_hw67.2

def k0_off160 (v3281 : BitVec 32) (v3454 : BitVec 32) : Fin 3 → Nat :=
  let c128_i32_1835 : BitVec 32 := 128#32
  let v3302 : BitVec 32 := Scalar.muli v3281 c128_i32_1835
  let v3455 : BitVec 32 := Scalar.addi v3302 v3454
  let v3819 : Index := Scalar.indexCast v3455
  let c0_2135 : Index := 0#32
  let c0_2136 : Index := 0#32
  ![v3819.toNat, 0, 0]

def k0_off161 (v3281 : BitVec 32) (v3454 : BitVec 32) : Fin 3 → Nat :=
  let c128_i32_1835 : BitVec 32 := 128#32
  let v3302 : BitVec 32 := Scalar.muli v3281 c128_i32_1835
  let c1_i32_1918 : BitVec 32 := 1#32
  let v3456 : BitVec 32 := Scalar.addi v3454 c1_i32_1918
  let c127_i32_1919 : BitVec 32 := 127#32
  let v3457 : BitVec 32 := Scalar.minsi v3456 c127_i32_1919
  let v3458 : BitVec 32 := Scalar.addi v3302 v3457
  let v3822 : Index := Scalar.indexCast v3458
  let c0_2137 : Index := 0#32
  let c0_2138 : Index := 0#32
  ![v3822.toNat, 0, 0]

def k0_chk68 (v3281 : BitVec 32) (v3454 : BitVec 32) : Prop :=
  (∀ a, (k0_off160 v3281 v3454) a + S1x128x256.size a ≤ S256x128x256.size a) ∧
  (∀ a, (k0_off161 v3281 v3454) a + S1x128x256.size a ≤ S256x128x256.size a)
theorem k0_off160_inb : ∀ (v3281 : BitVec 32) (v3454 : BitVec 32) (k0_hw68 : k0_chk68 v3281 v3454), ∀ a, (k0_off160 v3281 v3454) a + S1x128x256.size a ≤ S256x128x256.size a := fun v3281 v3454 k0_hw68 => k0_hw68.1
theorem k0_off161_inb : ∀ (v3281 : BitVec 32) (v3454 : BitVec 32) (k0_hw68 : k0_chk68 v3281 v3454), ∀ a, (k0_off161 v3281 v3454) a + S1x128x256.size a ≤ S256x128x256.size a := fun v3281 v3454 k0_hw68 => k0_hw68.2

def k0_off162 (v3281 : BitVec 32) (v3467 : BitVec 32) : Fin 3 → Nat :=
  let c128_i32_1835 : BitVec 32 := 128#32
  let v3302 : BitVec 32 := Scalar.muli v3281 c128_i32_1835
  let v3468 : BitVec 32 := Scalar.addi v3302 v3467
  let v3835 : Index := Scalar.indexCast v3468
  let c0_2144 : Index := 0#32
  let c0_2145 : Index := 0#32
  ![v3835.toNat, 0, 0]

def k0_off163 (v3281 : BitVec 32) (v3467 : BitVec 32) : Fin 3 → Nat :=
  let c128_i32_1835 : BitVec 32 := 128#32
  let v3302 : BitVec 32 := Scalar.muli v3281 c128_i32_1835
  let c1_i32_1925 : BitVec 32 := 1#32
  let v3469 : BitVec 32 := Scalar.addi v3467 c1_i32_1925
  let c127_i32_1926 : BitVec 32 := 127#32
  let v3470 : BitVec 32 := Scalar.minsi v3469 c127_i32_1926
  let v3471 : BitVec 32 := Scalar.addi v3302 v3470
  let v3838 : Index := Scalar.indexCast v3471
  let c0_2146 : Index := 0#32
  let c0_2147 : Index := 0#32
  ![v3838.toNat, 0, 0]

def k0_chk69 (v3281 : BitVec 32) (v3467 : BitVec 32) : Prop :=
  (∀ a, (k0_off162 v3281 v3467) a + S1x128x256.size a ≤ S256x128x256.size a) ∧
  (∀ a, (k0_off163 v3281 v3467) a + S1x128x256.size a ≤ S256x128x256.size a)
theorem k0_off162_inb : ∀ (v3281 : BitVec 32) (v3467 : BitVec 32) (k0_hw69 : k0_chk69 v3281 v3467), ∀ a, (k0_off162 v3281 v3467) a + S1x128x256.size a ≤ S256x128x256.size a := fun v3281 v3467 k0_hw69 => k0_hw69.1
theorem k0_off163_inb : ∀ (v3281 : BitVec 32) (v3467 : BitVec 32) (k0_hw69 : k0_chk69 v3281 v3467), ∀ a, (k0_off163 v3281 v3467) a + S1x128x256.size a ≤ S256x128x256.size a := fun v3281 v3467 k0_hw69 => k0_hw69.2

def k0_off164 (v3281 : BitVec 32) (v3480 : BitVec 32) : Fin 3 → Nat :=
  let c128_i32_1835 : BitVec 32 := 128#32
  let v3302 : BitVec 32 := Scalar.muli v3281 c128_i32_1835
  let v3481 : BitVec 32 := Scalar.addi v3302 v3480
  let v3847 : Index := Scalar.indexCast v3481
  let c0_2149 : Index := 0#32
  let c0_2150 : Index := 0#32
  ![v3847.toNat, 0, 0]

def k0_off165 (v3281 : BitVec 32) (v3480 : BitVec 32) : Fin 3 → Nat :=
  let c128_i32_1835 : BitVec 32 := 128#32
  let v3302 : BitVec 32 := Scalar.muli v3281 c128_i32_1835
  let c1_i32_1932 : BitVec 32 := 1#32
  let v3482 : BitVec 32 := Scalar.addi v3480 c1_i32_1932
  let c127_i32_1933 : BitVec 32 := 127#32
  let v3483 : BitVec 32 := Scalar.minsi v3482 c127_i32_1933
  let v3484 : BitVec 32 := Scalar.addi v3302 v3483
  let v3850 : Index := Scalar.indexCast v3484
  let c0_2151 : Index := 0#32
  let c0_2152 : Index := 0#32
  ![v3850.toNat, 0, 0]

def k0_chk70 (v3281 : BitVec 32) (v3480 : BitVec 32) : Prop :=
  (∀ a, (k0_off164 v3281 v3480) a + S1x128x256.size a ≤ S256x128x256.size a) ∧
  (∀ a, (k0_off165 v3281 v3480) a + S1x128x256.size a ≤ S256x128x256.size a)
theorem k0_off164_inb : ∀ (v3281 : BitVec 32) (v3480 : BitVec 32) (k0_hw70 : k0_chk70 v3281 v3480), ∀ a, (k0_off164 v3281 v3480) a + S1x128x256.size a ≤ S256x128x256.size a := fun v3281 v3480 k0_hw70 => k0_hw70.1
theorem k0_off165_inb : ∀ (v3281 : BitVec 32) (v3480 : BitVec 32) (k0_hw70 : k0_chk70 v3281 v3480), ∀ a, (k0_off165 v3281 v3480) a + S1x128x256.size a ≤ S256x128x256.size a := fun v3281 v3480 k0_hw70 => k0_hw70.2

def k0_off166 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c5_i32 : BitVec 32 := 5#32
  let v4096 : BitVec 32 := Scalar.addi v5 c5_i32
  let v4097 : Index := Scalar.indexCast v4096
  let c0_2277 : Index := 0#32
  ![v4097.toNat, 0]
def k0_off167 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c5_i32 : BitVec 32 := 5#32
  let v4096 : BitVec 32 := Scalar.addi v5 c5_i32
  let v4100 : Index := Scalar.indexCast v4096
  let c1_2278 : Index := 1#32
  ![v4100.toNat, 1]
def k0_off168 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c5_i32 : BitVec 32 := 5#32
  let v4096 : BitVec 32 := Scalar.addi v5 c5_i32
  let v4104 : Index := Scalar.indexCast v4096
  let c2_2281 : Index := 2#32
  ![v4104.toNat, 2]
def k0_off169 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c5_i32 : BitVec 32 := 5#32
  let v4096 : BitVec 32 := Scalar.addi v5 c5_i32
  let v4108 : Index := Scalar.indexCast v4096
  let c3_2284 : Index := 3#32
  ![v4108.toNat, 3]
def k0_off170 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c5_i32 : BitVec 32 := 5#32
  let v4096 : BitVec 32 := Scalar.addi v5 c5_i32
  let v4112 : Index := Scalar.indexCast v4096
  let c4_2287 : Index := 4#32
  ![v4112.toNat, 4]
def k0_off171 (v4099 : BitVec 32) (v4129 : BitVec 32) : Fin 3 → Nat :=
  let c128_i32_2292 : BitVec 32 := 128#32
  let v4120 : BitVec 32 := Scalar.muli v4099 c128_i32_2292
  let v4130 : BitVec 32 := Scalar.addi v4120 v4129
  let v4485 : Index := Scalar.indexCast v4130
  let c0_2517 : Index := 0#32
  let c0_2518 : Index := 0#32
  ![v4485.toNat, 0, 0]

def k0_off172 (v4099 : BitVec 32) (v4129 : BitVec 32) : Fin 3 → Nat :=
  let c128_i32_2292 : BitVec 32 := 128#32
  let v4120 : BitVec 32 := Scalar.muli v4099 c128_i32_2292
  let c1_i32_2298 : BitVec 32 := 1#32
  let v4131 : BitVec 32 := Scalar.addi v4129 c1_i32_2298
  let c127_i32_2299 : BitVec 32 := 127#32
  let v4132 : BitVec 32 := Scalar.minsi v4131 c127_i32_2299
  let v4133 : BitVec 32 := Scalar.addi v4120 v4132
  let v4488 : Index := Scalar.indexCast v4133
  let c0_2519 : Index := 0#32
  let c0_2520 : Index := 0#32
  ![v4488.toNat, 0, 0]

def k0_chk71 (v4099 : BitVec 32) (v4129 : BitVec 32) : Prop :=
  (∀ a, (k0_off171 v4099 v4129) a + S1x128x256.size a ≤ S256x128x256.size a) ∧
  (∀ a, (k0_off172 v4099 v4129) a + S1x128x256.size a ≤ S256x128x256.size a)
theorem k0_off171_inb : ∀ (v4099 : BitVec 32) (v4129 : BitVec 32) (k0_hw71 : k0_chk71 v4099 v4129), ∀ a, (k0_off171 v4099 v4129) a + S1x128x256.size a ≤ S256x128x256.size a := fun v4099 v4129 k0_hw71 => k0_hw71.1
theorem k0_off172_inb : ∀ (v4099 : BitVec 32) (v4129 : BitVec 32) (k0_hw71 : k0_chk71 v4099 v4129), ∀ a, (k0_off172 v4099 v4129) a + S1x128x256.size a ≤ S256x128x256.size a := fun v4099 v4129 k0_hw71 => k0_hw71.2

def k0_off173 (v4099 : BitVec 32) (v4142 : BitVec 32) : Fin 3 → Nat :=
  let c128_i32_2292 : BitVec 32 := 128#32
  let v4120 : BitVec 32 := Scalar.muli v4099 c128_i32_2292
  let v4143 : BitVec 32 := Scalar.addi v4120 v4142
  let v4497 : Index := Scalar.indexCast v4143
  let c0_2522 : Index := 0#32
  let c0_2523 : Index := 0#32
  ![v4497.toNat, 0, 0]

def k0_off174 (v4099 : BitVec 32) (v4142 : BitVec 32) : Fin 3 → Nat :=
  let c128_i32_2292 : BitVec 32 := 128#32
  let v4120 : BitVec 32 := Scalar.muli v4099 c128_i32_2292
  let c1_i32_2305 : BitVec 32 := 1#32
  let v4144 : BitVec 32 := Scalar.addi v4142 c1_i32_2305
  let c127_i32_2306 : BitVec 32 := 127#32
  let v4145 : BitVec 32 := Scalar.minsi v4144 c127_i32_2306
  let v4146 : BitVec 32 := Scalar.addi v4120 v4145
  let v4500 : Index := Scalar.indexCast v4146
  let c0_2524 : Index := 0#32
  let c0_2525 : Index := 0#32
  ![v4500.toNat, 0, 0]

def k0_chk72 (v4099 : BitVec 32) (v4142 : BitVec 32) : Prop :=
  (∀ a, (k0_off173 v4099 v4142) a + S1x128x256.size a ≤ S256x128x256.size a) ∧
  (∀ a, (k0_off174 v4099 v4142) a + S1x128x256.size a ≤ S256x128x256.size a)
theorem k0_off173_inb : ∀ (v4099 : BitVec 32) (v4142 : BitVec 32) (k0_hw72 : k0_chk72 v4099 v4142), ∀ a, (k0_off173 v4099 v4142) a + S1x128x256.size a ≤ S256x128x256.size a := fun v4099 v4142 k0_hw72 => k0_hw72.1
theorem k0_off174_inb : ∀ (v4099 : BitVec 32) (v4142 : BitVec 32) (k0_hw72 : k0_chk72 v4099 v4142), ∀ a, (k0_off174 v4099 v4142) a + S1x128x256.size a ≤ S256x128x256.size a := fun v4099 v4142 k0_hw72 => k0_hw72.2

def k0_off175 (v4099 : BitVec 32) (v4155 : BitVec 32) : Fin 3 → Nat :=
  let c128_i32_2292 : BitVec 32 := 128#32
  let v4120 : BitVec 32 := Scalar.muli v4099 c128_i32_2292
  let v4156 : BitVec 32 := Scalar.addi v4120 v4155
  let v4513 : Index := Scalar.indexCast v4156
  let c0_2531 : Index := 0#32
  let c0_2532 : Index := 0#32
  ![v4513.toNat, 0, 0]

def k0_off176 (v4099 : BitVec 32) (v4155 : BitVec 32) : Fin 3 → Nat :=
  let c128_i32_2292 : BitVec 32 := 128#32
  let v4120 : BitVec 32 := Scalar.muli v4099 c128_i32_2292
  let c1_i32_2312 : BitVec 32 := 1#32
  let v4157 : BitVec 32 := Scalar.addi v4155 c1_i32_2312
  let c127_i32_2313 : BitVec 32 := 127#32
  let v4158 : BitVec 32 := Scalar.minsi v4157 c127_i32_2313
  let v4159 : BitVec 32 := Scalar.addi v4120 v4158
  let v4516 : Index := Scalar.indexCast v4159
  let c0_2533 : Index := 0#32
  let c0_2534 : Index := 0#32
  ![v4516.toNat, 0, 0]

def k0_chk73 (v4099 : BitVec 32) (v4155 : BitVec 32) : Prop :=
  (∀ a, (k0_off175 v4099 v4155) a + S1x128x256.size a ≤ S256x128x256.size a) ∧
  (∀ a, (k0_off176 v4099 v4155) a + S1x128x256.size a ≤ S256x128x256.size a)
theorem k0_off175_inb : ∀ (v4099 : BitVec 32) (v4155 : BitVec 32) (k0_hw73 : k0_chk73 v4099 v4155), ∀ a, (k0_off175 v4099 v4155) a + S1x128x256.size a ≤ S256x128x256.size a := fun v4099 v4155 k0_hw73 => k0_hw73.1
theorem k0_off176_inb : ∀ (v4099 : BitVec 32) (v4155 : BitVec 32) (k0_hw73 : k0_chk73 v4099 v4155), ∀ a, (k0_off176 v4099 v4155) a + S1x128x256.size a ≤ S256x128x256.size a := fun v4099 v4155 k0_hw73 => k0_hw73.2

def k0_off177 (v4099 : BitVec 32) (v4168 : BitVec 32) : Fin 3 → Nat :=
  let c128_i32_2292 : BitVec 32 := 128#32
  let v4120 : BitVec 32 := Scalar.muli v4099 c128_i32_2292
  let v4169 : BitVec 32 := Scalar.addi v4120 v4168
  let v4525 : Index := Scalar.indexCast v4169
  let c0_2536 : Index := 0#32
  let c0_2537 : Index := 0#32
  ![v4525.toNat, 0, 0]

def k0_off178 (v4099 : BitVec 32) (v4168 : BitVec 32) : Fin 3 → Nat :=
  let c128_i32_2292 : BitVec 32 := 128#32
  let v4120 : BitVec 32 := Scalar.muli v4099 c128_i32_2292
  let c1_i32_2319 : BitVec 32 := 1#32
  let v4170 : BitVec 32 := Scalar.addi v4168 c1_i32_2319
  let c127_i32_2320 : BitVec 32 := 127#32
  let v4171 : BitVec 32 := Scalar.minsi v4170 c127_i32_2320
  let v4172 : BitVec 32 := Scalar.addi v4120 v4171
  let v4528 : Index := Scalar.indexCast v4172
  let c0_2538 : Index := 0#32
  let c0_2539 : Index := 0#32
  ![v4528.toNat, 0, 0]

def k0_chk74 (v4099 : BitVec 32) (v4168 : BitVec 32) : Prop :=
  (∀ a, (k0_off177 v4099 v4168) a + S1x128x256.size a ≤ S256x128x256.size a) ∧
  (∀ a, (k0_off178 v4099 v4168) a + S1x128x256.size a ≤ S256x128x256.size a)
theorem k0_off177_inb : ∀ (v4099 : BitVec 32) (v4168 : BitVec 32) (k0_hw74 : k0_chk74 v4099 v4168), ∀ a, (k0_off177 v4099 v4168) a + S1x128x256.size a ≤ S256x128x256.size a := fun v4099 v4168 k0_hw74 => k0_hw74.1
theorem k0_off178_inb : ∀ (v4099 : BitVec 32) (v4168 : BitVec 32) (k0_hw74 : k0_chk74 v4099 v4168), ∀ a, (k0_off178 v4099 v4168) a + S1x128x256.size a ≤ S256x128x256.size a := fun v4099 v4168 k0_hw74 => k0_hw74.2

def k0_off179 (v4099 : BitVec 32) (v4181 : BitVec 32) : Fin 3 → Nat :=
  let c128_i32_2292 : BitVec 32 := 128#32
  let v4120 : BitVec 32 := Scalar.muli v4099 c128_i32_2292
  let v4182 : BitVec 32 := Scalar.addi v4120 v4181
  let v4541 : Index := Scalar.indexCast v4182
  let c0_2545 : Index := 0#32
  let c0_2546 : Index := 0#32
  ![v4541.toNat, 0, 0]

def k0_off180 (v4099 : BitVec 32) (v4181 : BitVec 32) : Fin 3 → Nat :=
  let c128_i32_2292 : BitVec 32 := 128#32
  let v4120 : BitVec 32 := Scalar.muli v4099 c128_i32_2292
  let c1_i32_2326 : BitVec 32 := 1#32
  let v4183 : BitVec 32 := Scalar.addi v4181 c1_i32_2326
  let c127_i32_2327 : BitVec 32 := 127#32
  let v4184 : BitVec 32 := Scalar.minsi v4183 c127_i32_2327
  let v4185 : BitVec 32 := Scalar.addi v4120 v4184
  let v4544 : Index := Scalar.indexCast v4185
  let c0_2547 : Index := 0#32
  let c0_2548 : Index := 0#32
  ![v4544.toNat, 0, 0]

def k0_chk75 (v4099 : BitVec 32) (v4181 : BitVec 32) : Prop :=
  (∀ a, (k0_off179 v4099 v4181) a + S1x128x256.size a ≤ S256x128x256.size a) ∧
  (∀ a, (k0_off180 v4099 v4181) a + S1x128x256.size a ≤ S256x128x256.size a)
theorem k0_off179_inb : ∀ (v4099 : BitVec 32) (v4181 : BitVec 32) (k0_hw75 : k0_chk75 v4099 v4181), ∀ a, (k0_off179 v4099 v4181) a + S1x128x256.size a ≤ S256x128x256.size a := fun v4099 v4181 k0_hw75 => k0_hw75.1
theorem k0_off180_inb : ∀ (v4099 : BitVec 32) (v4181 : BitVec 32) (k0_hw75 : k0_chk75 v4099 v4181), ∀ a, (k0_off180 v4099 v4181) a + S1x128x256.size a ≤ S256x128x256.size a := fun v4099 v4181 k0_hw75 => k0_hw75.2

def k0_off181 (v4099 : BitVec 32) (v4194 : BitVec 32) : Fin 3 → Nat :=
  let c128_i32_2292 : BitVec 32 := 128#32
  let v4120 : BitVec 32 := Scalar.muli v4099 c128_i32_2292
  let v4195 : BitVec 32 := Scalar.addi v4120 v4194
  let v4553 : Index := Scalar.indexCast v4195
  let c0_2550 : Index := 0#32
  let c0_2551 : Index := 0#32
  ![v4553.toNat, 0, 0]

def k0_off182 (v4099 : BitVec 32) (v4194 : BitVec 32) : Fin 3 → Nat :=
  let c128_i32_2292 : BitVec 32 := 128#32
  let v4120 : BitVec 32 := Scalar.muli v4099 c128_i32_2292
  let c1_i32_2333 : BitVec 32 := 1#32
  let v4196 : BitVec 32 := Scalar.addi v4194 c1_i32_2333
  let c127_i32_2334 : BitVec 32 := 127#32
  let v4197 : BitVec 32 := Scalar.minsi v4196 c127_i32_2334
  let v4198 : BitVec 32 := Scalar.addi v4120 v4197
  let v4556 : Index := Scalar.indexCast v4198
  let c0_2552 : Index := 0#32
  let c0_2553 : Index := 0#32
  ![v4556.toNat, 0, 0]

def k0_chk76 (v4099 : BitVec 32) (v4194 : BitVec 32) : Prop :=
  (∀ a, (k0_off181 v4099 v4194) a + S1x128x256.size a ≤ S256x128x256.size a) ∧
  (∀ a, (k0_off182 v4099 v4194) a + S1x128x256.size a ≤ S256x128x256.size a)
theorem k0_off181_inb : ∀ (v4099 : BitVec 32) (v4194 : BitVec 32) (k0_hw76 : k0_chk76 v4099 v4194), ∀ a, (k0_off181 v4099 v4194) a + S1x128x256.size a ≤ S256x128x256.size a := fun v4099 v4194 k0_hw76 => k0_hw76.1
theorem k0_off182_inb : ∀ (v4099 : BitVec 32) (v4194 : BitVec 32) (k0_hw76 : k0_chk76 v4099 v4194), ∀ a, (k0_off182 v4099 v4194) a + S1x128x256.size a ≤ S256x128x256.size a := fun v4099 v4194 k0_hw76 => k0_hw76.2

def k0_off183 (v4099 : BitVec 32) (v4207 : BitVec 32) : Fin 3 → Nat :=
  let c128_i32_2292 : BitVec 32 := 128#32
  let v4120 : BitVec 32 := Scalar.muli v4099 c128_i32_2292
  let v4208 : BitVec 32 := Scalar.addi v4120 v4207
  let v4569 : Index := Scalar.indexCast v4208
  let c0_2559 : Index := 0#32
  let c0_2560 : Index := 0#32
  ![v4569.toNat, 0, 0]

def k0_off184 (v4099 : BitVec 32) (v4207 : BitVec 32) : Fin 3 → Nat :=
  let c128_i32_2292 : BitVec 32 := 128#32
  let v4120 : BitVec 32 := Scalar.muli v4099 c128_i32_2292
  let c1_i32_2340 : BitVec 32 := 1#32
  let v4209 : BitVec 32 := Scalar.addi v4207 c1_i32_2340
  let c127_i32_2341 : BitVec 32 := 127#32
  let v4210 : BitVec 32 := Scalar.minsi v4209 c127_i32_2341
  let v4211 : BitVec 32 := Scalar.addi v4120 v4210
  let v4572 : Index := Scalar.indexCast v4211
  let c0_2561 : Index := 0#32
  let c0_2562 : Index := 0#32
  ![v4572.toNat, 0, 0]

def k0_chk77 (v4099 : BitVec 32) (v4207 : BitVec 32) : Prop :=
  (∀ a, (k0_off183 v4099 v4207) a + S1x128x256.size a ≤ S256x128x256.size a) ∧
  (∀ a, (k0_off184 v4099 v4207) a + S1x128x256.size a ≤ S256x128x256.size a)
theorem k0_off183_inb : ∀ (v4099 : BitVec 32) (v4207 : BitVec 32) (k0_hw77 : k0_chk77 v4099 v4207), ∀ a, (k0_off183 v4099 v4207) a + S1x128x256.size a ≤ S256x128x256.size a := fun v4099 v4207 k0_hw77 => k0_hw77.1
theorem k0_off184_inb : ∀ (v4099 : BitVec 32) (v4207 : BitVec 32) (k0_hw77 : k0_chk77 v4099 v4207), ∀ a, (k0_off184 v4099 v4207) a + S1x128x256.size a ≤ S256x128x256.size a := fun v4099 v4207 k0_hw77 => k0_hw77.2

def k0_off185 (v4099 : BitVec 32) (v4220 : BitVec 32) : Fin 3 → Nat :=
  let c128_i32_2292 : BitVec 32 := 128#32
  let v4120 : BitVec 32 := Scalar.muli v4099 c128_i32_2292
  let v4221 : BitVec 32 := Scalar.addi v4120 v4220
  let v4581 : Index := Scalar.indexCast v4221
  let c0_2564 : Index := 0#32
  let c0_2565 : Index := 0#32
  ![v4581.toNat, 0, 0]

def k0_off186 (v4099 : BitVec 32) (v4220 : BitVec 32) : Fin 3 → Nat :=
  let c128_i32_2292 : BitVec 32 := 128#32
  let v4120 : BitVec 32 := Scalar.muli v4099 c128_i32_2292
  let c1_i32_2347 : BitVec 32 := 1#32
  let v4222 : BitVec 32 := Scalar.addi v4220 c1_i32_2347
  let c127_i32_2348 : BitVec 32 := 127#32
  let v4223 : BitVec 32 := Scalar.minsi v4222 c127_i32_2348
  let v4224 : BitVec 32 := Scalar.addi v4120 v4223
  let v4584 : Index := Scalar.indexCast v4224
  let c0_2566 : Index := 0#32
  let c0_2567 : Index := 0#32
  ![v4584.toNat, 0, 0]

def k0_chk78 (v4099 : BitVec 32) (v4220 : BitVec 32) : Prop :=
  (∀ a, (k0_off185 v4099 v4220) a + S1x128x256.size a ≤ S256x128x256.size a) ∧
  (∀ a, (k0_off186 v4099 v4220) a + S1x128x256.size a ≤ S256x128x256.size a)
theorem k0_off185_inb : ∀ (v4099 : BitVec 32) (v4220 : BitVec 32) (k0_hw78 : k0_chk78 v4099 v4220), ∀ a, (k0_off185 v4099 v4220) a + S1x128x256.size a ≤ S256x128x256.size a := fun v4099 v4220 k0_hw78 => k0_hw78.1
theorem k0_off186_inb : ∀ (v4099 : BitVec 32) (v4220 : BitVec 32) (k0_hw78 : k0_chk78 v4099 v4220), ∀ a, (k0_off186 v4099 v4220) a + S1x128x256.size a ≤ S256x128x256.size a := fun v4099 v4220 k0_hw78 => k0_hw78.2

def k0_off187 (v4099 : BitVec 32) (v4233 : BitVec 32) : Fin 3 → Nat :=
  let c128_i32_2292 : BitVec 32 := 128#32
  let v4120 : BitVec 32 := Scalar.muli v4099 c128_i32_2292
  let v4234 : BitVec 32 := Scalar.addi v4120 v4233
  let v4597 : Index := Scalar.indexCast v4234
  let c0_2573 : Index := 0#32
  let c0_2574 : Index := 0#32
  ![v4597.toNat, 0, 0]

def k0_off188 (v4099 : BitVec 32) (v4233 : BitVec 32) : Fin 3 → Nat :=
  let c128_i32_2292 : BitVec 32 := 128#32
  let v4120 : BitVec 32 := Scalar.muli v4099 c128_i32_2292
  let c1_i32_2354 : BitVec 32 := 1#32
  let v4235 : BitVec 32 := Scalar.addi v4233 c1_i32_2354
  let c127_i32_2355 : BitVec 32 := 127#32
  let v4236 : BitVec 32 := Scalar.minsi v4235 c127_i32_2355
  let v4237 : BitVec 32 := Scalar.addi v4120 v4236
  let v4600 : Index := Scalar.indexCast v4237
  let c0_2575 : Index := 0#32
  let c0_2576 : Index := 0#32
  ![v4600.toNat, 0, 0]

def k0_chk79 (v4099 : BitVec 32) (v4233 : BitVec 32) : Prop :=
  (∀ a, (k0_off187 v4099 v4233) a + S1x128x256.size a ≤ S256x128x256.size a) ∧
  (∀ a, (k0_off188 v4099 v4233) a + S1x128x256.size a ≤ S256x128x256.size a)
theorem k0_off187_inb : ∀ (v4099 : BitVec 32) (v4233 : BitVec 32) (k0_hw79 : k0_chk79 v4099 v4233), ∀ a, (k0_off187 v4099 v4233) a + S1x128x256.size a ≤ S256x128x256.size a := fun v4099 v4233 k0_hw79 => k0_hw79.1
theorem k0_off188_inb : ∀ (v4099 : BitVec 32) (v4233 : BitVec 32) (k0_hw79 : k0_chk79 v4099 v4233), ∀ a, (k0_off188 v4099 v4233) a + S1x128x256.size a ≤ S256x128x256.size a := fun v4099 v4233 k0_hw79 => k0_hw79.2

def k0_off189 (v4099 : BitVec 32) (v4246 : BitVec 32) : Fin 3 → Nat :=
  let c128_i32_2292 : BitVec 32 := 128#32
  let v4120 : BitVec 32 := Scalar.muli v4099 c128_i32_2292
  let v4247 : BitVec 32 := Scalar.addi v4120 v4246
  let v4609 : Index := Scalar.indexCast v4247
  let c0_2578 : Index := 0#32
  let c0_2579 : Index := 0#32
  ![v4609.toNat, 0, 0]

def k0_off190 (v4099 : BitVec 32) (v4246 : BitVec 32) : Fin 3 → Nat :=
  let c128_i32_2292 : BitVec 32 := 128#32
  let v4120 : BitVec 32 := Scalar.muli v4099 c128_i32_2292
  let c1_i32_2361 : BitVec 32 := 1#32
  let v4248 : BitVec 32 := Scalar.addi v4246 c1_i32_2361
  let c127_i32_2362 : BitVec 32 := 127#32
  let v4249 : BitVec 32 := Scalar.minsi v4248 c127_i32_2362
  let v4250 : BitVec 32 := Scalar.addi v4120 v4249
  let v4612 : Index := Scalar.indexCast v4250
  let c0_2580 : Index := 0#32
  let c0_2581 : Index := 0#32
  ![v4612.toNat, 0, 0]

def k0_chk80 (v4099 : BitVec 32) (v4246 : BitVec 32) : Prop :=
  (∀ a, (k0_off189 v4099 v4246) a + S1x128x256.size a ≤ S256x128x256.size a) ∧
  (∀ a, (k0_off190 v4099 v4246) a + S1x128x256.size a ≤ S256x128x256.size a)
theorem k0_off189_inb : ∀ (v4099 : BitVec 32) (v4246 : BitVec 32) (k0_hw80 : k0_chk80 v4099 v4246), ∀ a, (k0_off189 v4099 v4246) a + S1x128x256.size a ≤ S256x128x256.size a := fun v4099 v4246 k0_hw80 => k0_hw80.1
theorem k0_off190_inb : ∀ (v4099 : BitVec 32) (v4246 : BitVec 32) (k0_hw80 : k0_chk80 v4099 v4246), ∀ a, (k0_off190 v4099 v4246) a + S1x128x256.size a ≤ S256x128x256.size a := fun v4099 v4246 k0_hw80 => k0_hw80.2

def k0_off191 (v4099 : BitVec 32) (v4259 : BitVec 32) : Fin 3 → Nat :=
  let c128_i32_2292 : BitVec 32 := 128#32
  let v4120 : BitVec 32 := Scalar.muli v4099 c128_i32_2292
  let v4260 : BitVec 32 := Scalar.addi v4120 v4259
  let v4625 : Index := Scalar.indexCast v4260
  let c0_2587 : Index := 0#32
  let c0_2588 : Index := 0#32
  ![v4625.toNat, 0, 0]

def k0_off192 (v4099 : BitVec 32) (v4259 : BitVec 32) : Fin 3 → Nat :=
  let c128_i32_2292 : BitVec 32 := 128#32
  let v4120 : BitVec 32 := Scalar.muli v4099 c128_i32_2292
  let c1_i32_2368 : BitVec 32 := 1#32
  let v4261 : BitVec 32 := Scalar.addi v4259 c1_i32_2368
  let c127_i32_2369 : BitVec 32 := 127#32
  let v4262 : BitVec 32 := Scalar.minsi v4261 c127_i32_2369
  let v4263 : BitVec 32 := Scalar.addi v4120 v4262
  let v4628 : Index := Scalar.indexCast v4263
  let c0_2589 : Index := 0#32
  let c0_2590 : Index := 0#32
  ![v4628.toNat, 0, 0]

def k0_chk81 (v4099 : BitVec 32) (v4259 : BitVec 32) : Prop :=
  (∀ a, (k0_off191 v4099 v4259) a + S1x128x256.size a ≤ S256x128x256.size a) ∧
  (∀ a, (k0_off192 v4099 v4259) a + S1x128x256.size a ≤ S256x128x256.size a)
theorem k0_off191_inb : ∀ (v4099 : BitVec 32) (v4259 : BitVec 32) (k0_hw81 : k0_chk81 v4099 v4259), ∀ a, (k0_off191 v4099 v4259) a + S1x128x256.size a ≤ S256x128x256.size a := fun v4099 v4259 k0_hw81 => k0_hw81.1
theorem k0_off192_inb : ∀ (v4099 : BitVec 32) (v4259 : BitVec 32) (k0_hw81 : k0_chk81 v4099 v4259), ∀ a, (k0_off192 v4099 v4259) a + S1x128x256.size a ≤ S256x128x256.size a := fun v4099 v4259 k0_hw81 => k0_hw81.2

def k0_off193 (v4099 : BitVec 32) (v4272 : BitVec 32) : Fin 3 → Nat :=
  let c128_i32_2292 : BitVec 32 := 128#32
  let v4120 : BitVec 32 := Scalar.muli v4099 c128_i32_2292
  let v4273 : BitVec 32 := Scalar.addi v4120 v4272
  let v4637 : Index := Scalar.indexCast v4273
  let c0_2592 : Index := 0#32
  let c0_2593 : Index := 0#32
  ![v4637.toNat, 0, 0]

def k0_off194 (v4099 : BitVec 32) (v4272 : BitVec 32) : Fin 3 → Nat :=
  let c128_i32_2292 : BitVec 32 := 128#32
  let v4120 : BitVec 32 := Scalar.muli v4099 c128_i32_2292
  let c1_i32_2375 : BitVec 32 := 1#32
  let v4274 : BitVec 32 := Scalar.addi v4272 c1_i32_2375
  let c127_i32_2376 : BitVec 32 := 127#32
  let v4275 : BitVec 32 := Scalar.minsi v4274 c127_i32_2376
  let v4276 : BitVec 32 := Scalar.addi v4120 v4275
  let v4640 : Index := Scalar.indexCast v4276
  let c0_2594 : Index := 0#32
  let c0_2595 : Index := 0#32
  ![v4640.toNat, 0, 0]

def k0_chk82 (v4099 : BitVec 32) (v4272 : BitVec 32) : Prop :=
  (∀ a, (k0_off193 v4099 v4272) a + S1x128x256.size a ≤ S256x128x256.size a) ∧
  (∀ a, (k0_off194 v4099 v4272) a + S1x128x256.size a ≤ S256x128x256.size a)
theorem k0_off193_inb : ∀ (v4099 : BitVec 32) (v4272 : BitVec 32) (k0_hw82 : k0_chk82 v4099 v4272), ∀ a, (k0_off193 v4099 v4272) a + S1x128x256.size a ≤ S256x128x256.size a := fun v4099 v4272 k0_hw82 => k0_hw82.1
theorem k0_off194_inb : ∀ (v4099 : BitVec 32) (v4272 : BitVec 32) (k0_hw82 : k0_chk82 v4099 v4272), ∀ a, (k0_off194 v4099 v4272) a + S1x128x256.size a ≤ S256x128x256.size a := fun v4099 v4272 k0_hw82 => k0_hw82.2

def k0_off195 (v4099 : BitVec 32) (v4285 : BitVec 32) : Fin 3 → Nat :=
  let c128_i32_2292 : BitVec 32 := 128#32
  let v4120 : BitVec 32 := Scalar.muli v4099 c128_i32_2292
  let v4286 : BitVec 32 := Scalar.addi v4120 v4285
  let v4653 : Index := Scalar.indexCast v4286
  let c0_2601 : Index := 0#32
  let c0_2602 : Index := 0#32
  ![v4653.toNat, 0, 0]

def k0_off196 (v4099 : BitVec 32) (v4285 : BitVec 32) : Fin 3 → Nat :=
  let c128_i32_2292 : BitVec 32 := 128#32
  let v4120 : BitVec 32 := Scalar.muli v4099 c128_i32_2292
  let c1_i32_2382 : BitVec 32 := 1#32
  let v4287 : BitVec 32 := Scalar.addi v4285 c1_i32_2382
  let c127_i32_2383 : BitVec 32 := 127#32
  let v4288 : BitVec 32 := Scalar.minsi v4287 c127_i32_2383
  let v4289 : BitVec 32 := Scalar.addi v4120 v4288
  let v4656 : Index := Scalar.indexCast v4289
  let c0_2603 : Index := 0#32
  let c0_2604 : Index := 0#32
  ![v4656.toNat, 0, 0]

def k0_chk83 (v4099 : BitVec 32) (v4285 : BitVec 32) : Prop :=
  (∀ a, (k0_off195 v4099 v4285) a + S1x128x256.size a ≤ S256x128x256.size a) ∧
  (∀ a, (k0_off196 v4099 v4285) a + S1x128x256.size a ≤ S256x128x256.size a)
theorem k0_off195_inb : ∀ (v4099 : BitVec 32) (v4285 : BitVec 32) (k0_hw83 : k0_chk83 v4099 v4285), ∀ a, (k0_off195 v4099 v4285) a + S1x128x256.size a ≤ S256x128x256.size a := fun v4099 v4285 k0_hw83 => k0_hw83.1
theorem k0_off196_inb : ∀ (v4099 : BitVec 32) (v4285 : BitVec 32) (k0_hw83 : k0_chk83 v4099 v4285), ∀ a, (k0_off196 v4099 v4285) a + S1x128x256.size a ≤ S256x128x256.size a := fun v4099 v4285 k0_hw83 => k0_hw83.2

def k0_off197 (v4099 : BitVec 32) (v4298 : BitVec 32) : Fin 3 → Nat :=
  let c128_i32_2292 : BitVec 32 := 128#32
  let v4120 : BitVec 32 := Scalar.muli v4099 c128_i32_2292
  let v4299 : BitVec 32 := Scalar.addi v4120 v4298
  let v4665 : Index := Scalar.indexCast v4299
  let c0_2606 : Index := 0#32
  let c0_2607 : Index := 0#32
  ![v4665.toNat, 0, 0]

def k0_off198 (v4099 : BitVec 32) (v4298 : BitVec 32) : Fin 3 → Nat :=
  let c128_i32_2292 : BitVec 32 := 128#32
  let v4120 : BitVec 32 := Scalar.muli v4099 c128_i32_2292
  let c1_i32_2389 : BitVec 32 := 1#32
  let v4300 : BitVec 32 := Scalar.addi v4298 c1_i32_2389
  let c127_i32_2390 : BitVec 32 := 127#32
  let v4301 : BitVec 32 := Scalar.minsi v4300 c127_i32_2390
  let v4302 : BitVec 32 := Scalar.addi v4120 v4301
  let v4668 : Index := Scalar.indexCast v4302
  let c0_2608 : Index := 0#32
  let c0_2609 : Index := 0#32
  ![v4668.toNat, 0, 0]

def k0_chk84 (v4099 : BitVec 32) (v4298 : BitVec 32) : Prop :=
  (∀ a, (k0_off197 v4099 v4298) a + S1x128x256.size a ≤ S256x128x256.size a) ∧
  (∀ a, (k0_off198 v4099 v4298) a + S1x128x256.size a ≤ S256x128x256.size a)
theorem k0_off197_inb : ∀ (v4099 : BitVec 32) (v4298 : BitVec 32) (k0_hw84 : k0_chk84 v4099 v4298), ∀ a, (k0_off197 v4099 v4298) a + S1x128x256.size a ≤ S256x128x256.size a := fun v4099 v4298 k0_hw84 => k0_hw84.1
theorem k0_off198_inb : ∀ (v4099 : BitVec 32) (v4298 : BitVec 32) (k0_hw84 : k0_chk84 v4099 v4298), ∀ a, (k0_off198 v4099 v4298) a + S1x128x256.size a ≤ S256x128x256.size a := fun v4099 v4298 k0_hw84 => k0_hw84.2

def k0_off199 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c6_i32 : BitVec 32 := 6#32
  let v4914 : BitVec 32 := Scalar.addi v5 c6_i32
  let v4915 : Index := Scalar.indexCast v4914
  let c0_2734 : Index := 0#32
  ![v4915.toNat, 0]
def k0_off200 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c6_i32 : BitVec 32 := 6#32
  let v4914 : BitVec 32 := Scalar.addi v5 c6_i32
  let v4918 : Index := Scalar.indexCast v4914
  let c1_2735 : Index := 1#32
  ![v4918.toNat, 1]
def k0_off201 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c6_i32 : BitVec 32 := 6#32
  let v4914 : BitVec 32 := Scalar.addi v5 c6_i32
  let v4922 : Index := Scalar.indexCast v4914
  let c2_2738 : Index := 2#32
  ![v4922.toNat, 2]
def k0_off202 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c6_i32 : BitVec 32 := 6#32
  let v4914 : BitVec 32 := Scalar.addi v5 c6_i32
  let v4926 : Index := Scalar.indexCast v4914
  let c3_2741 : Index := 3#32
  ![v4926.toNat, 3]
def k0_off203 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c6_i32 : BitVec 32 := 6#32
  let v4914 : BitVec 32 := Scalar.addi v5 c6_i32
  let v4930 : Index := Scalar.indexCast v4914
  let c4_2744 : Index := 4#32
  ![v4930.toNat, 4]
def k0_off204 (v4917 : BitVec 32) (v4947 : BitVec 32) : Fin 3 → Nat :=
  let c128_i32_2749 : BitVec 32 := 128#32
  let v4938 : BitVec 32 := Scalar.muli v4917 c128_i32_2749
  let v4948 : BitVec 32 := Scalar.addi v4938 v4947
  let v5303 : Index := Scalar.indexCast v4948
  let c0_2974 : Index := 0#32
  let c0_2975 : Index := 0#32
  ![v5303.toNat, 0, 0]

def k0_off205 (v4917 : BitVec 32) (v4947 : BitVec 32) : Fin 3 → Nat :=
  let c128_i32_2749 : BitVec 32 := 128#32
  let v4938 : BitVec 32 := Scalar.muli v4917 c128_i32_2749
  let c1_i32_2755 : BitVec 32 := 1#32
  let v4949 : BitVec 32 := Scalar.addi v4947 c1_i32_2755
  let c127_i32_2756 : BitVec 32 := 127#32
  let v4950 : BitVec 32 := Scalar.minsi v4949 c127_i32_2756
  let v4951 : BitVec 32 := Scalar.addi v4938 v4950
  let v5306 : Index := Scalar.indexCast v4951
  let c0_2976 : Index := 0#32
  let c0_2977 : Index := 0#32
  ![v5306.toNat, 0, 0]

def k0_chk85 (v4917 : BitVec 32) (v4947 : BitVec 32) : Prop :=
  (∀ a, (k0_off204 v4917 v4947) a + S1x128x256.size a ≤ S256x128x256.size a) ∧
  (∀ a, (k0_off205 v4917 v4947) a + S1x128x256.size a ≤ S256x128x256.size a)
theorem k0_off204_inb : ∀ (v4917 : BitVec 32) (v4947 : BitVec 32) (k0_hw85 : k0_chk85 v4917 v4947), ∀ a, (k0_off204 v4917 v4947) a + S1x128x256.size a ≤ S256x128x256.size a := fun v4917 v4947 k0_hw85 => k0_hw85.1
theorem k0_off205_inb : ∀ (v4917 : BitVec 32) (v4947 : BitVec 32) (k0_hw85 : k0_chk85 v4917 v4947), ∀ a, (k0_off205 v4917 v4947) a + S1x128x256.size a ≤ S256x128x256.size a := fun v4917 v4947 k0_hw85 => k0_hw85.2

def k0_off206 (v4917 : BitVec 32) (v4960 : BitVec 32) : Fin 3 → Nat :=
  let c128_i32_2749 : BitVec 32 := 128#32
  let v4938 : BitVec 32 := Scalar.muli v4917 c128_i32_2749
  let v4961 : BitVec 32 := Scalar.addi v4938 v4960
  let v5315 : Index := Scalar.indexCast v4961
  let c0_2979 : Index := 0#32
  let c0_2980 : Index := 0#32
  ![v5315.toNat, 0, 0]

def k0_off207 (v4917 : BitVec 32) (v4960 : BitVec 32) : Fin 3 → Nat :=
  let c128_i32_2749 : BitVec 32 := 128#32
  let v4938 : BitVec 32 := Scalar.muli v4917 c128_i32_2749
  let c1_i32_2762 : BitVec 32 := 1#32
  let v4962 : BitVec 32 := Scalar.addi v4960 c1_i32_2762
  let c127_i32_2763 : BitVec 32 := 127#32
  let v4963 : BitVec 32 := Scalar.minsi v4962 c127_i32_2763
  let v4964 : BitVec 32 := Scalar.addi v4938 v4963
  let v5318 : Index := Scalar.indexCast v4964
  let c0_2981 : Index := 0#32
  let c0_2982 : Index := 0#32
  ![v5318.toNat, 0, 0]

def k0_chk86 (v4917 : BitVec 32) (v4960 : BitVec 32) : Prop :=
  (∀ a, (k0_off206 v4917 v4960) a + S1x128x256.size a ≤ S256x128x256.size a) ∧
  (∀ a, (k0_off207 v4917 v4960) a + S1x128x256.size a ≤ S256x128x256.size a)
theorem k0_off206_inb : ∀ (v4917 : BitVec 32) (v4960 : BitVec 32) (k0_hw86 : k0_chk86 v4917 v4960), ∀ a, (k0_off206 v4917 v4960) a + S1x128x256.size a ≤ S256x128x256.size a := fun v4917 v4960 k0_hw86 => k0_hw86.1
theorem k0_off207_inb : ∀ (v4917 : BitVec 32) (v4960 : BitVec 32) (k0_hw86 : k0_chk86 v4917 v4960), ∀ a, (k0_off207 v4917 v4960) a + S1x128x256.size a ≤ S256x128x256.size a := fun v4917 v4960 k0_hw86 => k0_hw86.2

def k0_off208 (v4917 : BitVec 32) (v4973 : BitVec 32) : Fin 3 → Nat :=
  let c128_i32_2749 : BitVec 32 := 128#32
  let v4938 : BitVec 32 := Scalar.muli v4917 c128_i32_2749
  let v4974 : BitVec 32 := Scalar.addi v4938 v4973
  let v5331 : Index := Scalar.indexCast v4974
  let c0_2988 : Index := 0#32
  let c0_2989 : Index := 0#32
  ![v5331.toNat, 0, 0]

def k0_off209 (v4917 : BitVec 32) (v4973 : BitVec 32) : Fin 3 → Nat :=
  let c128_i32_2749 : BitVec 32 := 128#32
  let v4938 : BitVec 32 := Scalar.muli v4917 c128_i32_2749
  let c1_i32_2769 : BitVec 32 := 1#32
  let v4975 : BitVec 32 := Scalar.addi v4973 c1_i32_2769
  let c127_i32_2770 : BitVec 32 := 127#32
  let v4976 : BitVec 32 := Scalar.minsi v4975 c127_i32_2770
  let v4977 : BitVec 32 := Scalar.addi v4938 v4976
  let v5334 : Index := Scalar.indexCast v4977
  let c0_2990 : Index := 0#32
  let c0_2991 : Index := 0#32
  ![v5334.toNat, 0, 0]

def k0_chk87 (v4917 : BitVec 32) (v4973 : BitVec 32) : Prop :=
  (∀ a, (k0_off208 v4917 v4973) a + S1x128x256.size a ≤ S256x128x256.size a) ∧
  (∀ a, (k0_off209 v4917 v4973) a + S1x128x256.size a ≤ S256x128x256.size a)
theorem k0_off208_inb : ∀ (v4917 : BitVec 32) (v4973 : BitVec 32) (k0_hw87 : k0_chk87 v4917 v4973), ∀ a, (k0_off208 v4917 v4973) a + S1x128x256.size a ≤ S256x128x256.size a := fun v4917 v4973 k0_hw87 => k0_hw87.1
theorem k0_off209_inb : ∀ (v4917 : BitVec 32) (v4973 : BitVec 32) (k0_hw87 : k0_chk87 v4917 v4973), ∀ a, (k0_off209 v4917 v4973) a + S1x128x256.size a ≤ S256x128x256.size a := fun v4917 v4973 k0_hw87 => k0_hw87.2

def k0_off210 (v4917 : BitVec 32) (v4986 : BitVec 32) : Fin 3 → Nat :=
  let c128_i32_2749 : BitVec 32 := 128#32
  let v4938 : BitVec 32 := Scalar.muli v4917 c128_i32_2749
  let v4987 : BitVec 32 := Scalar.addi v4938 v4986
  let v5343 : Index := Scalar.indexCast v4987
  let c0_2993 : Index := 0#32
  let c0_2994 : Index := 0#32
  ![v5343.toNat, 0, 0]

def k0_off211 (v4917 : BitVec 32) (v4986 : BitVec 32) : Fin 3 → Nat :=
  let c128_i32_2749 : BitVec 32 := 128#32
  let v4938 : BitVec 32 := Scalar.muli v4917 c128_i32_2749
  let c1_i32_2776 : BitVec 32 := 1#32
  let v4988 : BitVec 32 := Scalar.addi v4986 c1_i32_2776
  let c127_i32_2777 : BitVec 32 := 127#32
  let v4989 : BitVec 32 := Scalar.minsi v4988 c127_i32_2777
  let v4990 : BitVec 32 := Scalar.addi v4938 v4989
  let v5346 : Index := Scalar.indexCast v4990
  let c0_2995 : Index := 0#32
  let c0_2996 : Index := 0#32
  ![v5346.toNat, 0, 0]

def k0_chk88 (v4917 : BitVec 32) (v4986 : BitVec 32) : Prop :=
  (∀ a, (k0_off210 v4917 v4986) a + S1x128x256.size a ≤ S256x128x256.size a) ∧
  (∀ a, (k0_off211 v4917 v4986) a + S1x128x256.size a ≤ S256x128x256.size a)
theorem k0_off210_inb : ∀ (v4917 : BitVec 32) (v4986 : BitVec 32) (k0_hw88 : k0_chk88 v4917 v4986), ∀ a, (k0_off210 v4917 v4986) a + S1x128x256.size a ≤ S256x128x256.size a := fun v4917 v4986 k0_hw88 => k0_hw88.1
theorem k0_off211_inb : ∀ (v4917 : BitVec 32) (v4986 : BitVec 32) (k0_hw88 : k0_chk88 v4917 v4986), ∀ a, (k0_off211 v4917 v4986) a + S1x128x256.size a ≤ S256x128x256.size a := fun v4917 v4986 k0_hw88 => k0_hw88.2

def k0_off212 (v4917 : BitVec 32) (v4999 : BitVec 32) : Fin 3 → Nat :=
  let c128_i32_2749 : BitVec 32 := 128#32
  let v4938 : BitVec 32 := Scalar.muli v4917 c128_i32_2749
  let v5000 : BitVec 32 := Scalar.addi v4938 v4999
  let v5359 : Index := Scalar.indexCast v5000
  let c0_3002 : Index := 0#32
  let c0_3003 : Index := 0#32
  ![v5359.toNat, 0, 0]

def k0_off213 (v4917 : BitVec 32) (v4999 : BitVec 32) : Fin 3 → Nat :=
  let c128_i32_2749 : BitVec 32 := 128#32
  let v4938 : BitVec 32 := Scalar.muli v4917 c128_i32_2749
  let c1_i32_2783 : BitVec 32 := 1#32
  let v5001 : BitVec 32 := Scalar.addi v4999 c1_i32_2783
  let c127_i32_2784 : BitVec 32 := 127#32
  let v5002 : BitVec 32 := Scalar.minsi v5001 c127_i32_2784
  let v5003 : BitVec 32 := Scalar.addi v4938 v5002
  let v5362 : Index := Scalar.indexCast v5003
  let c0_3004 : Index := 0#32
  let c0_3005 : Index := 0#32
  ![v5362.toNat, 0, 0]

def k0_chk89 (v4917 : BitVec 32) (v4999 : BitVec 32) : Prop :=
  (∀ a, (k0_off212 v4917 v4999) a + S1x128x256.size a ≤ S256x128x256.size a) ∧
  (∀ a, (k0_off213 v4917 v4999) a + S1x128x256.size a ≤ S256x128x256.size a)
theorem k0_off212_inb : ∀ (v4917 : BitVec 32) (v4999 : BitVec 32) (k0_hw89 : k0_chk89 v4917 v4999), ∀ a, (k0_off212 v4917 v4999) a + S1x128x256.size a ≤ S256x128x256.size a := fun v4917 v4999 k0_hw89 => k0_hw89.1
theorem k0_off213_inb : ∀ (v4917 : BitVec 32) (v4999 : BitVec 32) (k0_hw89 : k0_chk89 v4917 v4999), ∀ a, (k0_off213 v4917 v4999) a + S1x128x256.size a ≤ S256x128x256.size a := fun v4917 v4999 k0_hw89 => k0_hw89.2

def k0_off214 (v4917 : BitVec 32) (v5012 : BitVec 32) : Fin 3 → Nat :=
  let c128_i32_2749 : BitVec 32 := 128#32
  let v4938 : BitVec 32 := Scalar.muli v4917 c128_i32_2749
  let v5013 : BitVec 32 := Scalar.addi v4938 v5012
  let v5371 : Index := Scalar.indexCast v5013
  let c0_3007 : Index := 0#32
  let c0_3008 : Index := 0#32
  ![v5371.toNat, 0, 0]

def k0_off215 (v4917 : BitVec 32) (v5012 : BitVec 32) : Fin 3 → Nat :=
  let c128_i32_2749 : BitVec 32 := 128#32
  let v4938 : BitVec 32 := Scalar.muli v4917 c128_i32_2749
  let c1_i32_2790 : BitVec 32 := 1#32
  let v5014 : BitVec 32 := Scalar.addi v5012 c1_i32_2790
  let c127_i32_2791 : BitVec 32 := 127#32
  let v5015 : BitVec 32 := Scalar.minsi v5014 c127_i32_2791
  let v5016 : BitVec 32 := Scalar.addi v4938 v5015
  let v5374 : Index := Scalar.indexCast v5016
  let c0_3009 : Index := 0#32
  let c0_3010 : Index := 0#32
  ![v5374.toNat, 0, 0]

def k0_chk90 (v4917 : BitVec 32) (v5012 : BitVec 32) : Prop :=
  (∀ a, (k0_off214 v4917 v5012) a + S1x128x256.size a ≤ S256x128x256.size a) ∧
  (∀ a, (k0_off215 v4917 v5012) a + S1x128x256.size a ≤ S256x128x256.size a)
theorem k0_off214_inb : ∀ (v4917 : BitVec 32) (v5012 : BitVec 32) (k0_hw90 : k0_chk90 v4917 v5012), ∀ a, (k0_off214 v4917 v5012) a + S1x128x256.size a ≤ S256x128x256.size a := fun v4917 v5012 k0_hw90 => k0_hw90.1
theorem k0_off215_inb : ∀ (v4917 : BitVec 32) (v5012 : BitVec 32) (k0_hw90 : k0_chk90 v4917 v5012), ∀ a, (k0_off215 v4917 v5012) a + S1x128x256.size a ≤ S256x128x256.size a := fun v4917 v5012 k0_hw90 => k0_hw90.2

def k0_off216 (v4917 : BitVec 32) (v5025 : BitVec 32) : Fin 3 → Nat :=
  let c128_i32_2749 : BitVec 32 := 128#32
  let v4938 : BitVec 32 := Scalar.muli v4917 c128_i32_2749
  let v5026 : BitVec 32 := Scalar.addi v4938 v5025
  let v5387 : Index := Scalar.indexCast v5026
  let c0_3016 : Index := 0#32
  let c0_3017 : Index := 0#32
  ![v5387.toNat, 0, 0]

def k0_off217 (v4917 : BitVec 32) (v5025 : BitVec 32) : Fin 3 → Nat :=
  let c128_i32_2749 : BitVec 32 := 128#32
  let v4938 : BitVec 32 := Scalar.muli v4917 c128_i32_2749
  let c1_i32_2797 : BitVec 32 := 1#32
  let v5027 : BitVec 32 := Scalar.addi v5025 c1_i32_2797
  let c127_i32_2798 : BitVec 32 := 127#32
  let v5028 : BitVec 32 := Scalar.minsi v5027 c127_i32_2798
  let v5029 : BitVec 32 := Scalar.addi v4938 v5028
  let v5390 : Index := Scalar.indexCast v5029
  let c0_3018 : Index := 0#32
  let c0_3019 : Index := 0#32
  ![v5390.toNat, 0, 0]

def k0_chk91 (v4917 : BitVec 32) (v5025 : BitVec 32) : Prop :=
  (∀ a, (k0_off216 v4917 v5025) a + S1x128x256.size a ≤ S256x128x256.size a) ∧
  (∀ a, (k0_off217 v4917 v5025) a + S1x128x256.size a ≤ S256x128x256.size a)
theorem k0_off216_inb : ∀ (v4917 : BitVec 32) (v5025 : BitVec 32) (k0_hw91 : k0_chk91 v4917 v5025), ∀ a, (k0_off216 v4917 v5025) a + S1x128x256.size a ≤ S256x128x256.size a := fun v4917 v5025 k0_hw91 => k0_hw91.1
theorem k0_off217_inb : ∀ (v4917 : BitVec 32) (v5025 : BitVec 32) (k0_hw91 : k0_chk91 v4917 v5025), ∀ a, (k0_off217 v4917 v5025) a + S1x128x256.size a ≤ S256x128x256.size a := fun v4917 v5025 k0_hw91 => k0_hw91.2

def k0_off218 (v4917 : BitVec 32) (v5038 : BitVec 32) : Fin 3 → Nat :=
  let c128_i32_2749 : BitVec 32 := 128#32
  let v4938 : BitVec 32 := Scalar.muli v4917 c128_i32_2749
  let v5039 : BitVec 32 := Scalar.addi v4938 v5038
  let v5399 : Index := Scalar.indexCast v5039
  let c0_3021 : Index := 0#32
  let c0_3022 : Index := 0#32
  ![v5399.toNat, 0, 0]

def k0_off219 (v4917 : BitVec 32) (v5038 : BitVec 32) : Fin 3 → Nat :=
  let c128_i32_2749 : BitVec 32 := 128#32
  let v4938 : BitVec 32 := Scalar.muli v4917 c128_i32_2749
  let c1_i32_2804 : BitVec 32 := 1#32
  let v5040 : BitVec 32 := Scalar.addi v5038 c1_i32_2804
  let c127_i32_2805 : BitVec 32 := 127#32
  let v5041 : BitVec 32 := Scalar.minsi v5040 c127_i32_2805
  let v5042 : BitVec 32 := Scalar.addi v4938 v5041
  let v5402 : Index := Scalar.indexCast v5042
  let c0_3023 : Index := 0#32
  let c0_3024 : Index := 0#32
  ![v5402.toNat, 0, 0]

def k0_chk92 (v4917 : BitVec 32) (v5038 : BitVec 32) : Prop :=
  (∀ a, (k0_off218 v4917 v5038) a + S1x128x256.size a ≤ S256x128x256.size a) ∧
  (∀ a, (k0_off219 v4917 v5038) a + S1x128x256.size a ≤ S256x128x256.size a)
theorem k0_off218_inb : ∀ (v4917 : BitVec 32) (v5038 : BitVec 32) (k0_hw92 : k0_chk92 v4917 v5038), ∀ a, (k0_off218 v4917 v5038) a + S1x128x256.size a ≤ S256x128x256.size a := fun v4917 v5038 k0_hw92 => k0_hw92.1
theorem k0_off219_inb : ∀ (v4917 : BitVec 32) (v5038 : BitVec 32) (k0_hw92 : k0_chk92 v4917 v5038), ∀ a, (k0_off219 v4917 v5038) a + S1x128x256.size a ≤ S256x128x256.size a := fun v4917 v5038 k0_hw92 => k0_hw92.2

def k0_off220 (v4917 : BitVec 32) (v5051 : BitVec 32) : Fin 3 → Nat :=
  let c128_i32_2749 : BitVec 32 := 128#32
  let v4938 : BitVec 32 := Scalar.muli v4917 c128_i32_2749
  let v5052 : BitVec 32 := Scalar.addi v4938 v5051
  let v5415 : Index := Scalar.indexCast v5052
  let c0_3030 : Index := 0#32
  let c0_3031 : Index := 0#32
  ![v5415.toNat, 0, 0]

def k0_off221 (v4917 : BitVec 32) (v5051 : BitVec 32) : Fin 3 → Nat :=
  let c128_i32_2749 : BitVec 32 := 128#32
  let v4938 : BitVec 32 := Scalar.muli v4917 c128_i32_2749
  let c1_i32_2811 : BitVec 32 := 1#32
  let v5053 : BitVec 32 := Scalar.addi v5051 c1_i32_2811
  let c127_i32_2812 : BitVec 32 := 127#32
  let v5054 : BitVec 32 := Scalar.minsi v5053 c127_i32_2812
  let v5055 : BitVec 32 := Scalar.addi v4938 v5054
  let v5418 : Index := Scalar.indexCast v5055
  let c0_3032 : Index := 0#32
  let c0_3033 : Index := 0#32
  ![v5418.toNat, 0, 0]

def k0_chk93 (v4917 : BitVec 32) (v5051 : BitVec 32) : Prop :=
  (∀ a, (k0_off220 v4917 v5051) a + S1x128x256.size a ≤ S256x128x256.size a) ∧
  (∀ a, (k0_off221 v4917 v5051) a + S1x128x256.size a ≤ S256x128x256.size a)
theorem k0_off220_inb : ∀ (v4917 : BitVec 32) (v5051 : BitVec 32) (k0_hw93 : k0_chk93 v4917 v5051), ∀ a, (k0_off220 v4917 v5051) a + S1x128x256.size a ≤ S256x128x256.size a := fun v4917 v5051 k0_hw93 => k0_hw93.1
theorem k0_off221_inb : ∀ (v4917 : BitVec 32) (v5051 : BitVec 32) (k0_hw93 : k0_chk93 v4917 v5051), ∀ a, (k0_off221 v4917 v5051) a + S1x128x256.size a ≤ S256x128x256.size a := fun v4917 v5051 k0_hw93 => k0_hw93.2

def k0_off222 (v4917 : BitVec 32) (v5064 : BitVec 32) : Fin 3 → Nat :=
  let c128_i32_2749 : BitVec 32 := 128#32
  let v4938 : BitVec 32 := Scalar.muli v4917 c128_i32_2749
  let v5065 : BitVec 32 := Scalar.addi v4938 v5064
  let v5427 : Index := Scalar.indexCast v5065
  let c0_3035 : Index := 0#32
  let c0_3036 : Index := 0#32
  ![v5427.toNat, 0, 0]

def k0_off223 (v4917 : BitVec 32) (v5064 : BitVec 32) : Fin 3 → Nat :=
  let c128_i32_2749 : BitVec 32 := 128#32
  let v4938 : BitVec 32 := Scalar.muli v4917 c128_i32_2749
  let c1_i32_2818 : BitVec 32 := 1#32
  let v5066 : BitVec 32 := Scalar.addi v5064 c1_i32_2818
  let c127_i32_2819 : BitVec 32 := 127#32
  let v5067 : BitVec 32 := Scalar.minsi v5066 c127_i32_2819
  let v5068 : BitVec 32 := Scalar.addi v4938 v5067
  let v5430 : Index := Scalar.indexCast v5068
  let c0_3037 : Index := 0#32
  let c0_3038 : Index := 0#32
  ![v5430.toNat, 0, 0]

def k0_chk94 (v4917 : BitVec 32) (v5064 : BitVec 32) : Prop :=
  (∀ a, (k0_off222 v4917 v5064) a + S1x128x256.size a ≤ S256x128x256.size a) ∧
  (∀ a, (k0_off223 v4917 v5064) a + S1x128x256.size a ≤ S256x128x256.size a)
theorem k0_off222_inb : ∀ (v4917 : BitVec 32) (v5064 : BitVec 32) (k0_hw94 : k0_chk94 v4917 v5064), ∀ a, (k0_off222 v4917 v5064) a + S1x128x256.size a ≤ S256x128x256.size a := fun v4917 v5064 k0_hw94 => k0_hw94.1
theorem k0_off223_inb : ∀ (v4917 : BitVec 32) (v5064 : BitVec 32) (k0_hw94 : k0_chk94 v4917 v5064), ∀ a, (k0_off223 v4917 v5064) a + S1x128x256.size a ≤ S256x128x256.size a := fun v4917 v5064 k0_hw94 => k0_hw94.2

def k0_off224 (v4917 : BitVec 32) (v5077 : BitVec 32) : Fin 3 → Nat :=
  let c128_i32_2749 : BitVec 32 := 128#32
  let v4938 : BitVec 32 := Scalar.muli v4917 c128_i32_2749
  let v5078 : BitVec 32 := Scalar.addi v4938 v5077
  let v5443 : Index := Scalar.indexCast v5078
  let c0_3044 : Index := 0#32
  let c0_3045 : Index := 0#32
  ![v5443.toNat, 0, 0]

def k0_off225 (v4917 : BitVec 32) (v5077 : BitVec 32) : Fin 3 → Nat :=
  let c128_i32_2749 : BitVec 32 := 128#32
  let v4938 : BitVec 32 := Scalar.muli v4917 c128_i32_2749
  let c1_i32_2825 : BitVec 32 := 1#32
  let v5079 : BitVec 32 := Scalar.addi v5077 c1_i32_2825
  let c127_i32_2826 : BitVec 32 := 127#32
  let v5080 : BitVec 32 := Scalar.minsi v5079 c127_i32_2826
  let v5081 : BitVec 32 := Scalar.addi v4938 v5080
  let v5446 : Index := Scalar.indexCast v5081
  let c0_3046 : Index := 0#32
  let c0_3047 : Index := 0#32
  ![v5446.toNat, 0, 0]

def k0_chk95 (v4917 : BitVec 32) (v5077 : BitVec 32) : Prop :=
  (∀ a, (k0_off224 v4917 v5077) a + S1x128x256.size a ≤ S256x128x256.size a) ∧
  (∀ a, (k0_off225 v4917 v5077) a + S1x128x256.size a ≤ S256x128x256.size a)
theorem k0_off224_inb : ∀ (v4917 : BitVec 32) (v5077 : BitVec 32) (k0_hw95 : k0_chk95 v4917 v5077), ∀ a, (k0_off224 v4917 v5077) a + S1x128x256.size a ≤ S256x128x256.size a := fun v4917 v5077 k0_hw95 => k0_hw95.1
theorem k0_off225_inb : ∀ (v4917 : BitVec 32) (v5077 : BitVec 32) (k0_hw95 : k0_chk95 v4917 v5077), ∀ a, (k0_off225 v4917 v5077) a + S1x128x256.size a ≤ S256x128x256.size a := fun v4917 v5077 k0_hw95 => k0_hw95.2

def k0_off226 (v4917 : BitVec 32) (v5090 : BitVec 32) : Fin 3 → Nat :=
  let c128_i32_2749 : BitVec 32 := 128#32
  let v4938 : BitVec 32 := Scalar.muli v4917 c128_i32_2749
  let v5091 : BitVec 32 := Scalar.addi v4938 v5090
  let v5455 : Index := Scalar.indexCast v5091
  let c0_3049 : Index := 0#32
  let c0_3050 : Index := 0#32
  ![v5455.toNat, 0, 0]

def k0_off227 (v4917 : BitVec 32) (v5090 : BitVec 32) : Fin 3 → Nat :=
  let c128_i32_2749 : BitVec 32 := 128#32
  let v4938 : BitVec 32 := Scalar.muli v4917 c128_i32_2749
  let c1_i32_2832 : BitVec 32 := 1#32
  let v5092 : BitVec 32 := Scalar.addi v5090 c1_i32_2832
  let c127_i32_2833 : BitVec 32 := 127#32
  let v5093 : BitVec 32 := Scalar.minsi v5092 c127_i32_2833
  let v5094 : BitVec 32 := Scalar.addi v4938 v5093
  let v5458 : Index := Scalar.indexCast v5094
  let c0_3051 : Index := 0#32
  let c0_3052 : Index := 0#32
  ![v5458.toNat, 0, 0]

def k0_chk96 (v4917 : BitVec 32) (v5090 : BitVec 32) : Prop :=
  (∀ a, (k0_off226 v4917 v5090) a + S1x128x256.size a ≤ S256x128x256.size a) ∧
  (∀ a, (k0_off227 v4917 v5090) a + S1x128x256.size a ≤ S256x128x256.size a)
theorem k0_off226_inb : ∀ (v4917 : BitVec 32) (v5090 : BitVec 32) (k0_hw96 : k0_chk96 v4917 v5090), ∀ a, (k0_off226 v4917 v5090) a + S1x128x256.size a ≤ S256x128x256.size a := fun v4917 v5090 k0_hw96 => k0_hw96.1
theorem k0_off227_inb : ∀ (v4917 : BitVec 32) (v5090 : BitVec 32) (k0_hw96 : k0_chk96 v4917 v5090), ∀ a, (k0_off227 v4917 v5090) a + S1x128x256.size a ≤ S256x128x256.size a := fun v4917 v5090 k0_hw96 => k0_hw96.2

def k0_off228 (v4917 : BitVec 32) (v5103 : BitVec 32) : Fin 3 → Nat :=
  let c128_i32_2749 : BitVec 32 := 128#32
  let v4938 : BitVec 32 := Scalar.muli v4917 c128_i32_2749
  let v5104 : BitVec 32 := Scalar.addi v4938 v5103
  let v5471 : Index := Scalar.indexCast v5104
  let c0_3058 : Index := 0#32
  let c0_3059 : Index := 0#32
  ![v5471.toNat, 0, 0]

def k0_off229 (v4917 : BitVec 32) (v5103 : BitVec 32) : Fin 3 → Nat :=
  let c128_i32_2749 : BitVec 32 := 128#32
  let v4938 : BitVec 32 := Scalar.muli v4917 c128_i32_2749
  let c1_i32_2839 : BitVec 32 := 1#32
  let v5105 : BitVec 32 := Scalar.addi v5103 c1_i32_2839
  let c127_i32_2840 : BitVec 32 := 127#32
  let v5106 : BitVec 32 := Scalar.minsi v5105 c127_i32_2840
  let v5107 : BitVec 32 := Scalar.addi v4938 v5106
  let v5474 : Index := Scalar.indexCast v5107
  let c0_3060 : Index := 0#32
  let c0_3061 : Index := 0#32
  ![v5474.toNat, 0, 0]

def k0_chk97 (v4917 : BitVec 32) (v5103 : BitVec 32) : Prop :=
  (∀ a, (k0_off228 v4917 v5103) a + S1x128x256.size a ≤ S256x128x256.size a) ∧
  (∀ a, (k0_off229 v4917 v5103) a + S1x128x256.size a ≤ S256x128x256.size a)
theorem k0_off228_inb : ∀ (v4917 : BitVec 32) (v5103 : BitVec 32) (k0_hw97 : k0_chk97 v4917 v5103), ∀ a, (k0_off228 v4917 v5103) a + S1x128x256.size a ≤ S256x128x256.size a := fun v4917 v5103 k0_hw97 => k0_hw97.1
theorem k0_off229_inb : ∀ (v4917 : BitVec 32) (v5103 : BitVec 32) (k0_hw97 : k0_chk97 v4917 v5103), ∀ a, (k0_off229 v4917 v5103) a + S1x128x256.size a ≤ S256x128x256.size a := fun v4917 v5103 k0_hw97 => k0_hw97.2

def k0_off230 (v4917 : BitVec 32) (v5116 : BitVec 32) : Fin 3 → Nat :=
  let c128_i32_2749 : BitVec 32 := 128#32
  let v4938 : BitVec 32 := Scalar.muli v4917 c128_i32_2749
  let v5117 : BitVec 32 := Scalar.addi v4938 v5116
  let v5483 : Index := Scalar.indexCast v5117
  let c0_3063 : Index := 0#32
  let c0_3064 : Index := 0#32
  ![v5483.toNat, 0, 0]

def k0_off231 (v4917 : BitVec 32) (v5116 : BitVec 32) : Fin 3 → Nat :=
  let c128_i32_2749 : BitVec 32 := 128#32
  let v4938 : BitVec 32 := Scalar.muli v4917 c128_i32_2749
  let c1_i32_2846 : BitVec 32 := 1#32
  let v5118 : BitVec 32 := Scalar.addi v5116 c1_i32_2846
  let c127_i32_2847 : BitVec 32 := 127#32
  let v5119 : BitVec 32 := Scalar.minsi v5118 c127_i32_2847
  let v5120 : BitVec 32 := Scalar.addi v4938 v5119
  let v5486 : Index := Scalar.indexCast v5120
  let c0_3065 : Index := 0#32
  let c0_3066 : Index := 0#32
  ![v5486.toNat, 0, 0]

def k0_chk98 (v4917 : BitVec 32) (v5116 : BitVec 32) : Prop :=
  (∀ a, (k0_off230 v4917 v5116) a + S1x128x256.size a ≤ S256x128x256.size a) ∧
  (∀ a, (k0_off231 v4917 v5116) a + S1x128x256.size a ≤ S256x128x256.size a)
theorem k0_off230_inb : ∀ (v4917 : BitVec 32) (v5116 : BitVec 32) (k0_hw98 : k0_chk98 v4917 v5116), ∀ a, (k0_off230 v4917 v5116) a + S1x128x256.size a ≤ S256x128x256.size a := fun v4917 v5116 k0_hw98 => k0_hw98.1
theorem k0_off231_inb : ∀ (v4917 : BitVec 32) (v5116 : BitVec 32) (k0_hw98 : k0_chk98 v4917 v5116), ∀ a, (k0_off231 v4917 v5116) a + S1x128x256.size a ≤ S256x128x256.size a := fun v4917 v5116 k0_hw98 => k0_hw98.2

def k0_off232 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c7_i32 : BitVec 32 := 7#32
  let v5732 : BitVec 32 := Scalar.addi v5 c7_i32
  let v5733 : Index := Scalar.indexCast v5732
  let c0_3191 : Index := 0#32
  ![v5733.toNat, 0]
def k0_off233 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c7_i32 : BitVec 32 := 7#32
  let v5732 : BitVec 32 := Scalar.addi v5 c7_i32
  let v5736 : Index := Scalar.indexCast v5732
  let c1_3192 : Index := 1#32
  ![v5736.toNat, 1]
def k0_off234 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c7_i32 : BitVec 32 := 7#32
  let v5732 : BitVec 32 := Scalar.addi v5 c7_i32
  let v5740 : Index := Scalar.indexCast v5732
  let c2_3195 : Index := 2#32
  ![v5740.toNat, 2]
def k0_off235 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c7_i32 : BitVec 32 := 7#32
  let v5732 : BitVec 32 := Scalar.addi v5 c7_i32
  let v5744 : Index := Scalar.indexCast v5732
  let c3_3198 : Index := 3#32
  ![v5744.toNat, 3]
def k0_off236 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c7_i32 : BitVec 32 := 7#32
  let v5732 : BitVec 32 := Scalar.addi v5 c7_i32
  let v5748 : Index := Scalar.indexCast v5732
  let c4_3201 : Index := 4#32
  ![v5748.toNat, 4]
def k0_off237 (v5735 : BitVec 32) (v5765 : BitVec 32) : Fin 3 → Nat :=
  let c128_i32_3206 : BitVec 32 := 128#32
  let v5756 : BitVec 32 := Scalar.muli v5735 c128_i32_3206
  let v5766 : BitVec 32 := Scalar.addi v5756 v5765
  let v6121 : Index := Scalar.indexCast v5766
  let c0_3431 : Index := 0#32
  let c0_3432 : Index := 0#32
  ![v6121.toNat, 0, 0]

def k0_off238 (v5735 : BitVec 32) (v5765 : BitVec 32) : Fin 3 → Nat :=
  let c128_i32_3206 : BitVec 32 := 128#32
  let v5756 : BitVec 32 := Scalar.muli v5735 c128_i32_3206
  let c1_i32_3212 : BitVec 32 := 1#32
  let v5767 : BitVec 32 := Scalar.addi v5765 c1_i32_3212
  let c127_i32_3213 : BitVec 32 := 127#32
  let v5768 : BitVec 32 := Scalar.minsi v5767 c127_i32_3213
  let v5769 : BitVec 32 := Scalar.addi v5756 v5768
  let v6124 : Index := Scalar.indexCast v5769
  let c0_3433 : Index := 0#32
  let c0_3434 : Index := 0#32
  ![v6124.toNat, 0, 0]

def k0_chk99 (v5735 : BitVec 32) (v5765 : BitVec 32) : Prop :=
  (∀ a, (k0_off237 v5735 v5765) a + S1x128x256.size a ≤ S256x128x256.size a) ∧
  (∀ a, (k0_off238 v5735 v5765) a + S1x128x256.size a ≤ S256x128x256.size a)
theorem k0_off237_inb : ∀ (v5735 : BitVec 32) (v5765 : BitVec 32) (k0_hw99 : k0_chk99 v5735 v5765), ∀ a, (k0_off237 v5735 v5765) a + S1x128x256.size a ≤ S256x128x256.size a := fun v5735 v5765 k0_hw99 => k0_hw99.1
theorem k0_off238_inb : ∀ (v5735 : BitVec 32) (v5765 : BitVec 32) (k0_hw99 : k0_chk99 v5735 v5765), ∀ a, (k0_off238 v5735 v5765) a + S1x128x256.size a ≤ S256x128x256.size a := fun v5735 v5765 k0_hw99 => k0_hw99.2

def k0_off239 (v5735 : BitVec 32) (v5778 : BitVec 32) : Fin 3 → Nat :=
  let c128_i32_3206 : BitVec 32 := 128#32
  let v5756 : BitVec 32 := Scalar.muli v5735 c128_i32_3206
  let v5779 : BitVec 32 := Scalar.addi v5756 v5778
  let v6133 : Index := Scalar.indexCast v5779
  let c0_3436 : Index := 0#32
  let c0_3437 : Index := 0#32
  ![v6133.toNat, 0, 0]

def k0_off240 (v5735 : BitVec 32) (v5778 : BitVec 32) : Fin 3 → Nat :=
  let c128_i32_3206 : BitVec 32 := 128#32
  let v5756 : BitVec 32 := Scalar.muli v5735 c128_i32_3206
  let c1_i32_3219 : BitVec 32 := 1#32
  let v5780 : BitVec 32 := Scalar.addi v5778 c1_i32_3219
  let c127_i32_3220 : BitVec 32 := 127#32
  let v5781 : BitVec 32 := Scalar.minsi v5780 c127_i32_3220
  let v5782 : BitVec 32 := Scalar.addi v5756 v5781
  let v6136 : Index := Scalar.indexCast v5782
  let c0_3438 : Index := 0#32
  let c0_3439 : Index := 0#32
  ![v6136.toNat, 0, 0]

def k0_chk100 (v5735 : BitVec 32) (v5778 : BitVec 32) : Prop :=
  (∀ a, (k0_off239 v5735 v5778) a + S1x128x256.size a ≤ S256x128x256.size a) ∧
  (∀ a, (k0_off240 v5735 v5778) a + S1x128x256.size a ≤ S256x128x256.size a)
theorem k0_off239_inb : ∀ (v5735 : BitVec 32) (v5778 : BitVec 32) (k0_hw100 : k0_chk100 v5735 v5778), ∀ a, (k0_off239 v5735 v5778) a + S1x128x256.size a ≤ S256x128x256.size a := fun v5735 v5778 k0_hw100 => k0_hw100.1
theorem k0_off240_inb : ∀ (v5735 : BitVec 32) (v5778 : BitVec 32) (k0_hw100 : k0_chk100 v5735 v5778), ∀ a, (k0_off240 v5735 v5778) a + S1x128x256.size a ≤ S256x128x256.size a := fun v5735 v5778 k0_hw100 => k0_hw100.2

def k0_off241 (v5735 : BitVec 32) (v5791 : BitVec 32) : Fin 3 → Nat :=
  let c128_i32_3206 : BitVec 32 := 128#32
  let v5756 : BitVec 32 := Scalar.muli v5735 c128_i32_3206
  let v5792 : BitVec 32 := Scalar.addi v5756 v5791
  let v6149 : Index := Scalar.indexCast v5792
  let c0_3444 : Index := 0#32
  let c0_3445 : Index := 0#32
  ![v6149.toNat, 0, 0]

def k0_off242 (v5735 : BitVec 32) (v5791 : BitVec 32) : Fin 3 → Nat :=
  let c128_i32_3206 : BitVec 32 := 128#32
  let v5756 : BitVec 32 := Scalar.muli v5735 c128_i32_3206
  let c1_i32_3226 : BitVec 32 := 1#32
  let v5793 : BitVec 32 := Scalar.addi v5791 c1_i32_3226
  let c127_i32_3227 : BitVec 32 := 127#32
  let v5794 : BitVec 32 := Scalar.minsi v5793 c127_i32_3227
  let v5795 : BitVec 32 := Scalar.addi v5756 v5794
  let v6152 : Index := Scalar.indexCast v5795
  let c0_3446 : Index := 0#32
  let c0_3447 : Index := 0#32
  ![v6152.toNat, 0, 0]

def k0_chk101 (v5735 : BitVec 32) (v5791 : BitVec 32) : Prop :=
  (∀ a, (k0_off241 v5735 v5791) a + S1x128x256.size a ≤ S256x128x256.size a) ∧
  (∀ a, (k0_off242 v5735 v5791) a + S1x128x256.size a ≤ S256x128x256.size a)
theorem k0_off241_inb : ∀ (v5735 : BitVec 32) (v5791 : BitVec 32) (k0_hw101 : k0_chk101 v5735 v5791), ∀ a, (k0_off241 v5735 v5791) a + S1x128x256.size a ≤ S256x128x256.size a := fun v5735 v5791 k0_hw101 => k0_hw101.1
theorem k0_off242_inb : ∀ (v5735 : BitVec 32) (v5791 : BitVec 32) (k0_hw101 : k0_chk101 v5735 v5791), ∀ a, (k0_off242 v5735 v5791) a + S1x128x256.size a ≤ S256x128x256.size a := fun v5735 v5791 k0_hw101 => k0_hw101.2

def k0_off243 (v5735 : BitVec 32) (v5804 : BitVec 32) : Fin 3 → Nat :=
  let c128_i32_3206 : BitVec 32 := 128#32
  let v5756 : BitVec 32 := Scalar.muli v5735 c128_i32_3206
  let v5805 : BitVec 32 := Scalar.addi v5756 v5804
  let v6161 : Index := Scalar.indexCast v5805
  let c0_3449 : Index := 0#32
  let c0_3450 : Index := 0#32
  ![v6161.toNat, 0, 0]

def k0_off244 (v5735 : BitVec 32) (v5804 : BitVec 32) : Fin 3 → Nat :=
  let c128_i32_3206 : BitVec 32 := 128#32
  let v5756 : BitVec 32 := Scalar.muli v5735 c128_i32_3206
  let c1_i32_3233 : BitVec 32 := 1#32
  let v5806 : BitVec 32 := Scalar.addi v5804 c1_i32_3233
  let c127_i32_3234 : BitVec 32 := 127#32
  let v5807 : BitVec 32 := Scalar.minsi v5806 c127_i32_3234
  let v5808 : BitVec 32 := Scalar.addi v5756 v5807
  let v6164 : Index := Scalar.indexCast v5808
  let c0_3451 : Index := 0#32
  let c0_3452 : Index := 0#32
  ![v6164.toNat, 0, 0]

def k0_chk102 (v5735 : BitVec 32) (v5804 : BitVec 32) : Prop :=
  (∀ a, (k0_off243 v5735 v5804) a + S1x128x256.size a ≤ S256x128x256.size a) ∧
  (∀ a, (k0_off244 v5735 v5804) a + S1x128x256.size a ≤ S256x128x256.size a)
theorem k0_off243_inb : ∀ (v5735 : BitVec 32) (v5804 : BitVec 32) (k0_hw102 : k0_chk102 v5735 v5804), ∀ a, (k0_off243 v5735 v5804) a + S1x128x256.size a ≤ S256x128x256.size a := fun v5735 v5804 k0_hw102 => k0_hw102.1
theorem k0_off244_inb : ∀ (v5735 : BitVec 32) (v5804 : BitVec 32) (k0_hw102 : k0_chk102 v5735 v5804), ∀ a, (k0_off244 v5735 v5804) a + S1x128x256.size a ≤ S256x128x256.size a := fun v5735 v5804 k0_hw102 => k0_hw102.2

def k0_off245 (v5735 : BitVec 32) (v5817 : BitVec 32) : Fin 3 → Nat :=
  let c128_i32_3206 : BitVec 32 := 128#32
  let v5756 : BitVec 32 := Scalar.muli v5735 c128_i32_3206
  let v5818 : BitVec 32 := Scalar.addi v5756 v5817
  let v6177 : Index := Scalar.indexCast v5818
  let c0_3458 : Index := 0#32
  let c0_3459 : Index := 0#32
  ![v6177.toNat, 0, 0]

def k0_off246 (v5735 : BitVec 32) (v5817 : BitVec 32) : Fin 3 → Nat :=
  let c128_i32_3206 : BitVec 32 := 128#32
  let v5756 : BitVec 32 := Scalar.muli v5735 c128_i32_3206
  let c1_i32_3240 : BitVec 32 := 1#32
  let v5819 : BitVec 32 := Scalar.addi v5817 c1_i32_3240
  let c127_i32_3241 : BitVec 32 := 127#32
  let v5820 : BitVec 32 := Scalar.minsi v5819 c127_i32_3241
  let v5821 : BitVec 32 := Scalar.addi v5756 v5820
  let v6180 : Index := Scalar.indexCast v5821
  let c0_3460 : Index := 0#32
  let c0_3461 : Index := 0#32
  ![v6180.toNat, 0, 0]

def k0_chk103 (v5735 : BitVec 32) (v5817 : BitVec 32) : Prop :=
  (∀ a, (k0_off245 v5735 v5817) a + S1x128x256.size a ≤ S256x128x256.size a) ∧
  (∀ a, (k0_off246 v5735 v5817) a + S1x128x256.size a ≤ S256x128x256.size a)
theorem k0_off245_inb : ∀ (v5735 : BitVec 32) (v5817 : BitVec 32) (k0_hw103 : k0_chk103 v5735 v5817), ∀ a, (k0_off245 v5735 v5817) a + S1x128x256.size a ≤ S256x128x256.size a := fun v5735 v5817 k0_hw103 => k0_hw103.1
theorem k0_off246_inb : ∀ (v5735 : BitVec 32) (v5817 : BitVec 32) (k0_hw103 : k0_chk103 v5735 v5817), ∀ a, (k0_off246 v5735 v5817) a + S1x128x256.size a ≤ S256x128x256.size a := fun v5735 v5817 k0_hw103 => k0_hw103.2

def k0_off247 (v5735 : BitVec 32) (v5830 : BitVec 32) : Fin 3 → Nat :=
  let c128_i32_3206 : BitVec 32 := 128#32
  let v5756 : BitVec 32 := Scalar.muli v5735 c128_i32_3206
  let v5831 : BitVec 32 := Scalar.addi v5756 v5830
  let v6189 : Index := Scalar.indexCast v5831
  let c0_3463 : Index := 0#32
  let c0_3464 : Index := 0#32
  ![v6189.toNat, 0, 0]

def k0_off248 (v5735 : BitVec 32) (v5830 : BitVec 32) : Fin 3 → Nat :=
  let c128_i32_3206 : BitVec 32 := 128#32
  let v5756 : BitVec 32 := Scalar.muli v5735 c128_i32_3206
  let c1_i32_3247 : BitVec 32 := 1#32
  let v5832 : BitVec 32 := Scalar.addi v5830 c1_i32_3247
  let c127_i32_3248 : BitVec 32 := 127#32
  let v5833 : BitVec 32 := Scalar.minsi v5832 c127_i32_3248
  let v5834 : BitVec 32 := Scalar.addi v5756 v5833
  let v6192 : Index := Scalar.indexCast v5834
  let c0_3465 : Index := 0#32
  let c0_3466 : Index := 0#32
  ![v6192.toNat, 0, 0]

def k0_chk104 (v5735 : BitVec 32) (v5830 : BitVec 32) : Prop :=
  (∀ a, (k0_off247 v5735 v5830) a + S1x128x256.size a ≤ S256x128x256.size a) ∧
  (∀ a, (k0_off248 v5735 v5830) a + S1x128x256.size a ≤ S256x128x256.size a)
theorem k0_off247_inb : ∀ (v5735 : BitVec 32) (v5830 : BitVec 32) (k0_hw104 : k0_chk104 v5735 v5830), ∀ a, (k0_off247 v5735 v5830) a + S1x128x256.size a ≤ S256x128x256.size a := fun v5735 v5830 k0_hw104 => k0_hw104.1
theorem k0_off248_inb : ∀ (v5735 : BitVec 32) (v5830 : BitVec 32) (k0_hw104 : k0_chk104 v5735 v5830), ∀ a, (k0_off248 v5735 v5830) a + S1x128x256.size a ≤ S256x128x256.size a := fun v5735 v5830 k0_hw104 => k0_hw104.2

def k0_off249 (v5735 : BitVec 32) (v5843 : BitVec 32) : Fin 3 → Nat :=
  let c128_i32_3206 : BitVec 32 := 128#32
  let v5756 : BitVec 32 := Scalar.muli v5735 c128_i32_3206
  let v5844 : BitVec 32 := Scalar.addi v5756 v5843
  let v6205 : Index := Scalar.indexCast v5844
  let c0_3472 : Index := 0#32
  let c0_3473 : Index := 0#32
  ![v6205.toNat, 0, 0]

def k0_off250 (v5735 : BitVec 32) (v5843 : BitVec 32) : Fin 3 → Nat :=
  let c128_i32_3206 : BitVec 32 := 128#32
  let v5756 : BitVec 32 := Scalar.muli v5735 c128_i32_3206
  let c1_i32_3254 : BitVec 32 := 1#32
  let v5845 : BitVec 32 := Scalar.addi v5843 c1_i32_3254
  let c127_i32_3255 : BitVec 32 := 127#32
  let v5846 : BitVec 32 := Scalar.minsi v5845 c127_i32_3255
  let v5847 : BitVec 32 := Scalar.addi v5756 v5846
  let v6208 : Index := Scalar.indexCast v5847
  let c0_3474 : Index := 0#32
  let c0_3475 : Index := 0#32
  ![v6208.toNat, 0, 0]

def k0_chk105 (v5735 : BitVec 32) (v5843 : BitVec 32) : Prop :=
  (∀ a, (k0_off249 v5735 v5843) a + S1x128x256.size a ≤ S256x128x256.size a) ∧
  (∀ a, (k0_off250 v5735 v5843) a + S1x128x256.size a ≤ S256x128x256.size a)
theorem k0_off249_inb : ∀ (v5735 : BitVec 32) (v5843 : BitVec 32) (k0_hw105 : k0_chk105 v5735 v5843), ∀ a, (k0_off249 v5735 v5843) a + S1x128x256.size a ≤ S256x128x256.size a := fun v5735 v5843 k0_hw105 => k0_hw105.1
theorem k0_off250_inb : ∀ (v5735 : BitVec 32) (v5843 : BitVec 32) (k0_hw105 : k0_chk105 v5735 v5843), ∀ a, (k0_off250 v5735 v5843) a + S1x128x256.size a ≤ S256x128x256.size a := fun v5735 v5843 k0_hw105 => k0_hw105.2

def k0_off251 (v5735 : BitVec 32) (v5856 : BitVec 32) : Fin 3 → Nat :=
  let c128_i32_3206 : BitVec 32 := 128#32
  let v5756 : BitVec 32 := Scalar.muli v5735 c128_i32_3206
  let v5857 : BitVec 32 := Scalar.addi v5756 v5856
  let v6217 : Index := Scalar.indexCast v5857
  let c0_3477 : Index := 0#32
  let c0_3478 : Index := 0#32
  ![v6217.toNat, 0, 0]

def k0_off252 (v5735 : BitVec 32) (v5856 : BitVec 32) : Fin 3 → Nat :=
  let c128_i32_3206 : BitVec 32 := 128#32
  let v5756 : BitVec 32 := Scalar.muli v5735 c128_i32_3206
  let c1_i32_3261 : BitVec 32 := 1#32
  let v5858 : BitVec 32 := Scalar.addi v5856 c1_i32_3261
  let c127_i32_3262 : BitVec 32 := 127#32
  let v5859 : BitVec 32 := Scalar.minsi v5858 c127_i32_3262
  let v5860 : BitVec 32 := Scalar.addi v5756 v5859
  let v6220 : Index := Scalar.indexCast v5860
  let c0_3479 : Index := 0#32
  let c0_3480 : Index := 0#32
  ![v6220.toNat, 0, 0]

def k0_chk106 (v5735 : BitVec 32) (v5856 : BitVec 32) : Prop :=
  (∀ a, (k0_off251 v5735 v5856) a + S1x128x256.size a ≤ S256x128x256.size a) ∧
  (∀ a, (k0_off252 v5735 v5856) a + S1x128x256.size a ≤ S256x128x256.size a)
theorem k0_off251_inb : ∀ (v5735 : BitVec 32) (v5856 : BitVec 32) (k0_hw106 : k0_chk106 v5735 v5856), ∀ a, (k0_off251 v5735 v5856) a + S1x128x256.size a ≤ S256x128x256.size a := fun v5735 v5856 k0_hw106 => k0_hw106.1
theorem k0_off252_inb : ∀ (v5735 : BitVec 32) (v5856 : BitVec 32) (k0_hw106 : k0_chk106 v5735 v5856), ∀ a, (k0_off252 v5735 v5856) a + S1x128x256.size a ≤ S256x128x256.size a := fun v5735 v5856 k0_hw106 => k0_hw106.2

def k0_off253 (v5735 : BitVec 32) (v5869 : BitVec 32) : Fin 3 → Nat :=
  let c128_i32_3206 : BitVec 32 := 128#32
  let v5756 : BitVec 32 := Scalar.muli v5735 c128_i32_3206
  let v5870 : BitVec 32 := Scalar.addi v5756 v5869
  let v6233 : Index := Scalar.indexCast v5870
  let c0_3486 : Index := 0#32
  let c0_3487 : Index := 0#32
  ![v6233.toNat, 0, 0]

def k0_off254 (v5735 : BitVec 32) (v5869 : BitVec 32) : Fin 3 → Nat :=
  let c128_i32_3206 : BitVec 32 := 128#32
  let v5756 : BitVec 32 := Scalar.muli v5735 c128_i32_3206
  let c1_i32_3268 : BitVec 32 := 1#32
  let v5871 : BitVec 32 := Scalar.addi v5869 c1_i32_3268
  let c127_i32_3269 : BitVec 32 := 127#32
  let v5872 : BitVec 32 := Scalar.minsi v5871 c127_i32_3269
  let v5873 : BitVec 32 := Scalar.addi v5756 v5872
  let v6236 : Index := Scalar.indexCast v5873
  let c0_3488 : Index := 0#32
  let c0_3489 : Index := 0#32
  ![v6236.toNat, 0, 0]

def k0_chk107 (v5735 : BitVec 32) (v5869 : BitVec 32) : Prop :=
  (∀ a, (k0_off253 v5735 v5869) a + S1x128x256.size a ≤ S256x128x256.size a) ∧
  (∀ a, (k0_off254 v5735 v5869) a + S1x128x256.size a ≤ S256x128x256.size a)
theorem k0_off253_inb : ∀ (v5735 : BitVec 32) (v5869 : BitVec 32) (k0_hw107 : k0_chk107 v5735 v5869), ∀ a, (k0_off253 v5735 v5869) a + S1x128x256.size a ≤ S256x128x256.size a := fun v5735 v5869 k0_hw107 => k0_hw107.1
theorem k0_off254_inb : ∀ (v5735 : BitVec 32) (v5869 : BitVec 32) (k0_hw107 : k0_chk107 v5735 v5869), ∀ a, (k0_off254 v5735 v5869) a + S1x128x256.size a ≤ S256x128x256.size a := fun v5735 v5869 k0_hw107 => k0_hw107.2

def k0_off255 (v5735 : BitVec 32) (v5882 : BitVec 32) : Fin 3 → Nat :=
  let c128_i32_3206 : BitVec 32 := 128#32
  let v5756 : BitVec 32 := Scalar.muli v5735 c128_i32_3206
  let v5883 : BitVec 32 := Scalar.addi v5756 v5882
  let v6245 : Index := Scalar.indexCast v5883
  let c0_3491 : Index := 0#32
  let c0_3492 : Index := 0#32
  ![v6245.toNat, 0, 0]

def k0_off256 (v5735 : BitVec 32) (v5882 : BitVec 32) : Fin 3 → Nat :=
  let c128_i32_3206 : BitVec 32 := 128#32
  let v5756 : BitVec 32 := Scalar.muli v5735 c128_i32_3206
  let c1_i32_3275 : BitVec 32 := 1#32
  let v5884 : BitVec 32 := Scalar.addi v5882 c1_i32_3275
  let c127_i32_3276 : BitVec 32 := 127#32
  let v5885 : BitVec 32 := Scalar.minsi v5884 c127_i32_3276
  let v5886 : BitVec 32 := Scalar.addi v5756 v5885
  let v6248 : Index := Scalar.indexCast v5886
  let c0_3493 : Index := 0#32
  let c0_3494 : Index := 0#32
  ![v6248.toNat, 0, 0]

def k0_chk108 (v5735 : BitVec 32) (v5882 : BitVec 32) : Prop :=
  (∀ a, (k0_off255 v5735 v5882) a + S1x128x256.size a ≤ S256x128x256.size a) ∧
  (∀ a, (k0_off256 v5735 v5882) a + S1x128x256.size a ≤ S256x128x256.size a)
theorem k0_off255_inb : ∀ (v5735 : BitVec 32) (v5882 : BitVec 32) (k0_hw108 : k0_chk108 v5735 v5882), ∀ a, (k0_off255 v5735 v5882) a + S1x128x256.size a ≤ S256x128x256.size a := fun v5735 v5882 k0_hw108 => k0_hw108.1
theorem k0_off256_inb : ∀ (v5735 : BitVec 32) (v5882 : BitVec 32) (k0_hw108 : k0_chk108 v5735 v5882), ∀ a, (k0_off256 v5735 v5882) a + S1x128x256.size a ≤ S256x128x256.size a := fun v5735 v5882 k0_hw108 => k0_hw108.2

def k0_off257 (v5735 : BitVec 32) (v5895 : BitVec 32) : Fin 3 → Nat :=
  let c128_i32_3206 : BitVec 32 := 128#32
  let v5756 : BitVec 32 := Scalar.muli v5735 c128_i32_3206
  let v5896 : BitVec 32 := Scalar.addi v5756 v5895
  let v6261 : Index := Scalar.indexCast v5896
  let c0_3500 : Index := 0#32
  let c0_3501 : Index := 0#32
  ![v6261.toNat, 0, 0]

def k0_off258 (v5735 : BitVec 32) (v5895 : BitVec 32) : Fin 3 → Nat :=
  let c128_i32_3206 : BitVec 32 := 128#32
  let v5756 : BitVec 32 := Scalar.muli v5735 c128_i32_3206
  let c1_i32_3282 : BitVec 32 := 1#32
  let v5897 : BitVec 32 := Scalar.addi v5895 c1_i32_3282
  let c127_i32_3283 : BitVec 32 := 127#32
  let v5898 : BitVec 32 := Scalar.minsi v5897 c127_i32_3283
  let v5899 : BitVec 32 := Scalar.addi v5756 v5898
  let v6264 : Index := Scalar.indexCast v5899
  let c0_3502 : Index := 0#32
  let c0_3503 : Index := 0#32
  ![v6264.toNat, 0, 0]

def k0_chk109 (v5735 : BitVec 32) (v5895 : BitVec 32) : Prop :=
  (∀ a, (k0_off257 v5735 v5895) a + S1x128x256.size a ≤ S256x128x256.size a) ∧
  (∀ a, (k0_off258 v5735 v5895) a + S1x128x256.size a ≤ S256x128x256.size a)
theorem k0_off257_inb : ∀ (v5735 : BitVec 32) (v5895 : BitVec 32) (k0_hw109 : k0_chk109 v5735 v5895), ∀ a, (k0_off257 v5735 v5895) a + S1x128x256.size a ≤ S256x128x256.size a := fun v5735 v5895 k0_hw109 => k0_hw109.1
theorem k0_off258_inb : ∀ (v5735 : BitVec 32) (v5895 : BitVec 32) (k0_hw109 : k0_chk109 v5735 v5895), ∀ a, (k0_off258 v5735 v5895) a + S1x128x256.size a ≤ S256x128x256.size a := fun v5735 v5895 k0_hw109 => k0_hw109.2

def k0_off259 (v5735 : BitVec 32) (v5908 : BitVec 32) : Fin 3 → Nat :=
  let c128_i32_3206 : BitVec 32 := 128#32
  let v5756 : BitVec 32 := Scalar.muli v5735 c128_i32_3206
  let v5909 : BitVec 32 := Scalar.addi v5756 v5908
  let v6273 : Index := Scalar.indexCast v5909
  let c0_3505 : Index := 0#32
  let c0_3506 : Index := 0#32
  ![v6273.toNat, 0, 0]

def k0_off260 (v5735 : BitVec 32) (v5908 : BitVec 32) : Fin 3 → Nat :=
  let c128_i32_3206 : BitVec 32 := 128#32
  let v5756 : BitVec 32 := Scalar.muli v5735 c128_i32_3206
  let c1_i32_3289 : BitVec 32 := 1#32
  let v5910 : BitVec 32 := Scalar.addi v5908 c1_i32_3289
  let c127_i32_3290 : BitVec 32 := 127#32
  let v5911 : BitVec 32 := Scalar.minsi v5910 c127_i32_3290
  let v5912 : BitVec 32 := Scalar.addi v5756 v5911
  let v6276 : Index := Scalar.indexCast v5912
  let c0_3507 : Index := 0#32
  let c0_3508 : Index := 0#32
  ![v6276.toNat, 0, 0]

def k0_chk110 (v5735 : BitVec 32) (v5908 : BitVec 32) : Prop :=
  (∀ a, (k0_off259 v5735 v5908) a + S1x128x256.size a ≤ S256x128x256.size a) ∧
  (∀ a, (k0_off260 v5735 v5908) a + S1x128x256.size a ≤ S256x128x256.size a)
theorem k0_off259_inb : ∀ (v5735 : BitVec 32) (v5908 : BitVec 32) (k0_hw110 : k0_chk110 v5735 v5908), ∀ a, (k0_off259 v5735 v5908) a + S1x128x256.size a ≤ S256x128x256.size a := fun v5735 v5908 k0_hw110 => k0_hw110.1
theorem k0_off260_inb : ∀ (v5735 : BitVec 32) (v5908 : BitVec 32) (k0_hw110 : k0_chk110 v5735 v5908), ∀ a, (k0_off260 v5735 v5908) a + S1x128x256.size a ≤ S256x128x256.size a := fun v5735 v5908 k0_hw110 => k0_hw110.2

def k0_off261 (v5735 : BitVec 32) (v5921 : BitVec 32) : Fin 3 → Nat :=
  let c128_i32_3206 : BitVec 32 := 128#32
  let v5756 : BitVec 32 := Scalar.muli v5735 c128_i32_3206
  let v5922 : BitVec 32 := Scalar.addi v5756 v5921
  let v6289 : Index := Scalar.indexCast v5922
  let c0_3514 : Index := 0#32
  let c0_3515 : Index := 0#32
  ![v6289.toNat, 0, 0]

def k0_off262 (v5735 : BitVec 32) (v5921 : BitVec 32) : Fin 3 → Nat :=
  let c128_i32_3206 : BitVec 32 := 128#32
  let v5756 : BitVec 32 := Scalar.muli v5735 c128_i32_3206
  let c1_i32_3296 : BitVec 32 := 1#32
  let v5923 : BitVec 32 := Scalar.addi v5921 c1_i32_3296
  let c127_i32_3297 : BitVec 32 := 127#32
  let v5924 : BitVec 32 := Scalar.minsi v5923 c127_i32_3297
  let v5925 : BitVec 32 := Scalar.addi v5756 v5924
  let v6292 : Index := Scalar.indexCast v5925
  let c0_3516 : Index := 0#32
  let c0_3517 : Index := 0#32
  ![v6292.toNat, 0, 0]

def k0_chk111 (v5735 : BitVec 32) (v5921 : BitVec 32) : Prop :=
  (∀ a, (k0_off261 v5735 v5921) a + S1x128x256.size a ≤ S256x128x256.size a) ∧
  (∀ a, (k0_off262 v5735 v5921) a + S1x128x256.size a ≤ S256x128x256.size a)
theorem k0_off261_inb : ∀ (v5735 : BitVec 32) (v5921 : BitVec 32) (k0_hw111 : k0_chk111 v5735 v5921), ∀ a, (k0_off261 v5735 v5921) a + S1x128x256.size a ≤ S256x128x256.size a := fun v5735 v5921 k0_hw111 => k0_hw111.1
theorem k0_off262_inb : ∀ (v5735 : BitVec 32) (v5921 : BitVec 32) (k0_hw111 : k0_chk111 v5735 v5921), ∀ a, (k0_off262 v5735 v5921) a + S1x128x256.size a ≤ S256x128x256.size a := fun v5735 v5921 k0_hw111 => k0_hw111.2

def k0_off263 (v5735 : BitVec 32) (v5934 : BitVec 32) : Fin 3 → Nat :=
  let c128_i32_3206 : BitVec 32 := 128#32
  let v5756 : BitVec 32 := Scalar.muli v5735 c128_i32_3206
  let v5935 : BitVec 32 := Scalar.addi v5756 v5934
  let v6301 : Index := Scalar.indexCast v5935
  let c0_3519 : Index := 0#32
  let c0_3520 : Index := 0#32
  ![v6301.toNat, 0, 0]

def k0_off264 (v5735 : BitVec 32) (v5934 : BitVec 32) : Fin 3 → Nat :=
  let c128_i32_3206 : BitVec 32 := 128#32
  let v5756 : BitVec 32 := Scalar.muli v5735 c128_i32_3206
  let c1_i32_3303 : BitVec 32 := 1#32
  let v5936 : BitVec 32 := Scalar.addi v5934 c1_i32_3303
  let c127_i32_3304 : BitVec 32 := 127#32
  let v5937 : BitVec 32 := Scalar.minsi v5936 c127_i32_3304
  let v5938 : BitVec 32 := Scalar.addi v5756 v5937
  let v6304 : Index := Scalar.indexCast v5938
  let c0_3521 : Index := 0#32
  let c0_3522 : Index := 0#32
  ![v6304.toNat, 0, 0]

def k0_chk112 (v5735 : BitVec 32) (v5934 : BitVec 32) : Prop :=
  (∀ a, (k0_off263 v5735 v5934) a + S1x128x256.size a ≤ S256x128x256.size a) ∧
  (∀ a, (k0_off264 v5735 v5934) a + S1x128x256.size a ≤ S256x128x256.size a)
theorem k0_off263_inb : ∀ (v5735 : BitVec 32) (v5934 : BitVec 32) (k0_hw112 : k0_chk112 v5735 v5934), ∀ a, (k0_off263 v5735 v5934) a + S1x128x256.size a ≤ S256x128x256.size a := fun v5735 v5934 k0_hw112 => k0_hw112.1
theorem k0_off264_inb : ∀ (v5735 : BitVec 32) (v5934 : BitVec 32) (k0_hw112 : k0_chk112 v5735 v5934), ∀ a, (k0_off264 v5735 v5934) a + S1x128x256.size a ≤ S256x128x256.size a := fun v5735 v5934 k0_hw112 => k0_hw112.2

def k0_off265 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c8_i32 : BitVec 32 := 8#32
  let v6550 : BitVec 32 := Scalar.addi v5 c8_i32
  let v6551 : Index := Scalar.indexCast v6550
  let c0_3647 : Index := 0#32
  ![v6551.toNat, 0]
def k0_off266 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c8_i32 : BitVec 32 := 8#32
  let v6550 : BitVec 32 := Scalar.addi v5 c8_i32
  let v6554 : Index := Scalar.indexCast v6550
  let c1_3648 : Index := 1#32
  ![v6554.toNat, 1]
def k0_off267 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c8_i32 : BitVec 32 := 8#32
  let v6550 : BitVec 32 := Scalar.addi v5 c8_i32
  let v6558 : Index := Scalar.indexCast v6550
  let c2_3651 : Index := 2#32
  ![v6558.toNat, 2]
def k0_off268 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c8_i32 : BitVec 32 := 8#32
  let v6550 : BitVec 32 := Scalar.addi v5 c8_i32
  let v6562 : Index := Scalar.indexCast v6550
  let c3_3654 : Index := 3#32
  ![v6562.toNat, 3]
def k0_off269 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c8_i32 : BitVec 32 := 8#32
  let v6550 : BitVec 32 := Scalar.addi v5 c8_i32
  let v6566 : Index := Scalar.indexCast v6550
  let c4_3657 : Index := 4#32
  ![v6566.toNat, 4]
def k0_off270 (v6553 : BitVec 32) (v6583 : BitVec 32) : Fin 3 → Nat :=
  let c128_i32_3662 : BitVec 32 := 128#32
  let v6574 : BitVec 32 := Scalar.muli v6553 c128_i32_3662
  let v6584 : BitVec 32 := Scalar.addi v6574 v6583
  let v6939 : Index := Scalar.indexCast v6584
  let c0_3887 : Index := 0#32
  let c0_3888 : Index := 0#32
  ![v6939.toNat, 0, 0]

def k0_off271 (v6553 : BitVec 32) (v6583 : BitVec 32) : Fin 3 → Nat :=
  let c128_i32_3662 : BitVec 32 := 128#32
  let v6574 : BitVec 32 := Scalar.muli v6553 c128_i32_3662
  let c1_i32_3668 : BitVec 32 := 1#32
  let v6585 : BitVec 32 := Scalar.addi v6583 c1_i32_3668
  let c127_i32_3669 : BitVec 32 := 127#32
  let v6586 : BitVec 32 := Scalar.minsi v6585 c127_i32_3669
  let v6587 : BitVec 32 := Scalar.addi v6574 v6586
  let v6942 : Index := Scalar.indexCast v6587
  let c0_3889 : Index := 0#32
  let c0_3890 : Index := 0#32
  ![v6942.toNat, 0, 0]

def k0_chk113 (v6553 : BitVec 32) (v6583 : BitVec 32) : Prop :=
  (∀ a, (k0_off270 v6553 v6583) a + S1x128x256.size a ≤ S256x128x256.size a) ∧
  (∀ a, (k0_off271 v6553 v6583) a + S1x128x256.size a ≤ S256x128x256.size a)
theorem k0_off270_inb : ∀ (v6553 : BitVec 32) (v6583 : BitVec 32) (k0_hw113 : k0_chk113 v6553 v6583), ∀ a, (k0_off270 v6553 v6583) a + S1x128x256.size a ≤ S256x128x256.size a := fun v6553 v6583 k0_hw113 => k0_hw113.1
theorem k0_off271_inb : ∀ (v6553 : BitVec 32) (v6583 : BitVec 32) (k0_hw113 : k0_chk113 v6553 v6583), ∀ a, (k0_off271 v6553 v6583) a + S1x128x256.size a ≤ S256x128x256.size a := fun v6553 v6583 k0_hw113 => k0_hw113.2

def k0_off272 (v6553 : BitVec 32) (v6596 : BitVec 32) : Fin 3 → Nat :=
  let c128_i32_3662 : BitVec 32 := 128#32
  let v6574 : BitVec 32 := Scalar.muli v6553 c128_i32_3662
  let v6597 : BitVec 32 := Scalar.addi v6574 v6596
  let v6951 : Index := Scalar.indexCast v6597
  let c0_3892 : Index := 0#32
  let c0_3893 : Index := 0#32
  ![v6951.toNat, 0, 0]

def k0_off273 (v6553 : BitVec 32) (v6596 : BitVec 32) : Fin 3 → Nat :=
  let c128_i32_3662 : BitVec 32 := 128#32
  let v6574 : BitVec 32 := Scalar.muli v6553 c128_i32_3662
  let c1_i32_3675 : BitVec 32 := 1#32
  let v6598 : BitVec 32 := Scalar.addi v6596 c1_i32_3675
  let c127_i32_3676 : BitVec 32 := 127#32
  let v6599 : BitVec 32 := Scalar.minsi v6598 c127_i32_3676
  let v6600 : BitVec 32 := Scalar.addi v6574 v6599
  let v6954 : Index := Scalar.indexCast v6600
  let c0_3894 : Index := 0#32
  let c0_3895 : Index := 0#32
  ![v6954.toNat, 0, 0]

def k0_chk114 (v6553 : BitVec 32) (v6596 : BitVec 32) : Prop :=
  (∀ a, (k0_off272 v6553 v6596) a + S1x128x256.size a ≤ S256x128x256.size a) ∧
  (∀ a, (k0_off273 v6553 v6596) a + S1x128x256.size a ≤ S256x128x256.size a)
theorem k0_off272_inb : ∀ (v6553 : BitVec 32) (v6596 : BitVec 32) (k0_hw114 : k0_chk114 v6553 v6596), ∀ a, (k0_off272 v6553 v6596) a + S1x128x256.size a ≤ S256x128x256.size a := fun v6553 v6596 k0_hw114 => k0_hw114.1
theorem k0_off273_inb : ∀ (v6553 : BitVec 32) (v6596 : BitVec 32) (k0_hw114 : k0_chk114 v6553 v6596), ∀ a, (k0_off273 v6553 v6596) a + S1x128x256.size a ≤ S256x128x256.size a := fun v6553 v6596 k0_hw114 => k0_hw114.2

def k0_off274 (v6553 : BitVec 32) (v6609 : BitVec 32) : Fin 3 → Nat :=
  let c128_i32_3662 : BitVec 32 := 128#32
  let v6574 : BitVec 32 := Scalar.muli v6553 c128_i32_3662
  let v6610 : BitVec 32 := Scalar.addi v6574 v6609
  let v6967 : Index := Scalar.indexCast v6610
  let c0_3900 : Index := 0#32
  let c0_3901 : Index := 0#32
  ![v6967.toNat, 0, 0]

def k0_off275 (v6553 : BitVec 32) (v6609 : BitVec 32) : Fin 3 → Nat :=
  let c128_i32_3662 : BitVec 32 := 128#32
  let v6574 : BitVec 32 := Scalar.muli v6553 c128_i32_3662
  let c1_i32_3682 : BitVec 32 := 1#32
  let v6611 : BitVec 32 := Scalar.addi v6609 c1_i32_3682
  let c127_i32_3683 : BitVec 32 := 127#32
  let v6612 : BitVec 32 := Scalar.minsi v6611 c127_i32_3683
  let v6613 : BitVec 32 := Scalar.addi v6574 v6612
  let v6970 : Index := Scalar.indexCast v6613
  let c0_3902 : Index := 0#32
  let c0_3903 : Index := 0#32
  ![v6970.toNat, 0, 0]

def k0_chk115 (v6553 : BitVec 32) (v6609 : BitVec 32) : Prop :=
  (∀ a, (k0_off274 v6553 v6609) a + S1x128x256.size a ≤ S256x128x256.size a) ∧
  (∀ a, (k0_off275 v6553 v6609) a + S1x128x256.size a ≤ S256x128x256.size a)
theorem k0_off274_inb : ∀ (v6553 : BitVec 32) (v6609 : BitVec 32) (k0_hw115 : k0_chk115 v6553 v6609), ∀ a, (k0_off274 v6553 v6609) a + S1x128x256.size a ≤ S256x128x256.size a := fun v6553 v6609 k0_hw115 => k0_hw115.1
theorem k0_off275_inb : ∀ (v6553 : BitVec 32) (v6609 : BitVec 32) (k0_hw115 : k0_chk115 v6553 v6609), ∀ a, (k0_off275 v6553 v6609) a + S1x128x256.size a ≤ S256x128x256.size a := fun v6553 v6609 k0_hw115 => k0_hw115.2

def k0_off276 (v6553 : BitVec 32) (v6622 : BitVec 32) : Fin 3 → Nat :=
  let c128_i32_3662 : BitVec 32 := 128#32
  let v6574 : BitVec 32 := Scalar.muli v6553 c128_i32_3662
  let v6623 : BitVec 32 := Scalar.addi v6574 v6622
  let v6979 : Index := Scalar.indexCast v6623
  let c0_3905 : Index := 0#32
  let c0_3906 : Index := 0#32
  ![v6979.toNat, 0, 0]

def k0_off277 (v6553 : BitVec 32) (v6622 : BitVec 32) : Fin 3 → Nat :=
  let c128_i32_3662 : BitVec 32 := 128#32
  let v6574 : BitVec 32 := Scalar.muli v6553 c128_i32_3662
  let c1_i32_3689 : BitVec 32 := 1#32
  let v6624 : BitVec 32 := Scalar.addi v6622 c1_i32_3689
  let c127_i32_3690 : BitVec 32 := 127#32
  let v6625 : BitVec 32 := Scalar.minsi v6624 c127_i32_3690
  let v6626 : BitVec 32 := Scalar.addi v6574 v6625
  let v6982 : Index := Scalar.indexCast v6626
  let c0_3907 : Index := 0#32
  let c0_3908 : Index := 0#32
  ![v6982.toNat, 0, 0]

def k0_chk116 (v6553 : BitVec 32) (v6622 : BitVec 32) : Prop :=
  (∀ a, (k0_off276 v6553 v6622) a + S1x128x256.size a ≤ S256x128x256.size a) ∧
  (∀ a, (k0_off277 v6553 v6622) a + S1x128x256.size a ≤ S256x128x256.size a)
theorem k0_off276_inb : ∀ (v6553 : BitVec 32) (v6622 : BitVec 32) (k0_hw116 : k0_chk116 v6553 v6622), ∀ a, (k0_off276 v6553 v6622) a + S1x128x256.size a ≤ S256x128x256.size a := fun v6553 v6622 k0_hw116 => k0_hw116.1
theorem k0_off277_inb : ∀ (v6553 : BitVec 32) (v6622 : BitVec 32) (k0_hw116 : k0_chk116 v6553 v6622), ∀ a, (k0_off277 v6553 v6622) a + S1x128x256.size a ≤ S256x128x256.size a := fun v6553 v6622 k0_hw116 => k0_hw116.2

def k0_off278 (v6553 : BitVec 32) (v6635 : BitVec 32) : Fin 3 → Nat :=
  let c128_i32_3662 : BitVec 32 := 128#32
  let v6574 : BitVec 32 := Scalar.muli v6553 c128_i32_3662
  let v6636 : BitVec 32 := Scalar.addi v6574 v6635
  let v6995 : Index := Scalar.indexCast v6636
  let c0_3914 : Index := 0#32
  let c0_3915 : Index := 0#32
  ![v6995.toNat, 0, 0]

def k0_off279 (v6553 : BitVec 32) (v6635 : BitVec 32) : Fin 3 → Nat :=
  let c128_i32_3662 : BitVec 32 := 128#32
  let v6574 : BitVec 32 := Scalar.muli v6553 c128_i32_3662
  let c1_i32_3696 : BitVec 32 := 1#32
  let v6637 : BitVec 32 := Scalar.addi v6635 c1_i32_3696
  let c127_i32_3697 : BitVec 32 := 127#32
  let v6638 : BitVec 32 := Scalar.minsi v6637 c127_i32_3697
  let v6639 : BitVec 32 := Scalar.addi v6574 v6638
  let v6998 : Index := Scalar.indexCast v6639
  let c0_3916 : Index := 0#32
  let c0_3917 : Index := 0#32
  ![v6998.toNat, 0, 0]

def k0_chk117 (v6553 : BitVec 32) (v6635 : BitVec 32) : Prop :=
  (∀ a, (k0_off278 v6553 v6635) a + S1x128x256.size a ≤ S256x128x256.size a) ∧
  (∀ a, (k0_off279 v6553 v6635) a + S1x128x256.size a ≤ S256x128x256.size a)
theorem k0_off278_inb : ∀ (v6553 : BitVec 32) (v6635 : BitVec 32) (k0_hw117 : k0_chk117 v6553 v6635), ∀ a, (k0_off278 v6553 v6635) a + S1x128x256.size a ≤ S256x128x256.size a := fun v6553 v6635 k0_hw117 => k0_hw117.1
theorem k0_off279_inb : ∀ (v6553 : BitVec 32) (v6635 : BitVec 32) (k0_hw117 : k0_chk117 v6553 v6635), ∀ a, (k0_off279 v6553 v6635) a + S1x128x256.size a ≤ S256x128x256.size a := fun v6553 v6635 k0_hw117 => k0_hw117.2

def k0_off280 (v6553 : BitVec 32) (v6648 : BitVec 32) : Fin 3 → Nat :=
  let c128_i32_3662 : BitVec 32 := 128#32
  let v6574 : BitVec 32 := Scalar.muli v6553 c128_i32_3662
  let v6649 : BitVec 32 := Scalar.addi v6574 v6648
  let v7007 : Index := Scalar.indexCast v6649
  let c0_3919 : Index := 0#32
  let c0_3920 : Index := 0#32
  ![v7007.toNat, 0, 0]

def k0_off281 (v6553 : BitVec 32) (v6648 : BitVec 32) : Fin 3 → Nat :=
  let c128_i32_3662 : BitVec 32 := 128#32
  let v6574 : BitVec 32 := Scalar.muli v6553 c128_i32_3662
  let c1_i32_3703 : BitVec 32 := 1#32
  let v6650 : BitVec 32 := Scalar.addi v6648 c1_i32_3703
  let c127_i32_3704 : BitVec 32 := 127#32
  let v6651 : BitVec 32 := Scalar.minsi v6650 c127_i32_3704
  let v6652 : BitVec 32 := Scalar.addi v6574 v6651
  let v7010 : Index := Scalar.indexCast v6652
  let c0_3921 : Index := 0#32
  let c0_3922 : Index := 0#32
  ![v7010.toNat, 0, 0]

def k0_chk118 (v6553 : BitVec 32) (v6648 : BitVec 32) : Prop :=
  (∀ a, (k0_off280 v6553 v6648) a + S1x128x256.size a ≤ S256x128x256.size a) ∧
  (∀ a, (k0_off281 v6553 v6648) a + S1x128x256.size a ≤ S256x128x256.size a)
theorem k0_off280_inb : ∀ (v6553 : BitVec 32) (v6648 : BitVec 32) (k0_hw118 : k0_chk118 v6553 v6648), ∀ a, (k0_off280 v6553 v6648) a + S1x128x256.size a ≤ S256x128x256.size a := fun v6553 v6648 k0_hw118 => k0_hw118.1
theorem k0_off281_inb : ∀ (v6553 : BitVec 32) (v6648 : BitVec 32) (k0_hw118 : k0_chk118 v6553 v6648), ∀ a, (k0_off281 v6553 v6648) a + S1x128x256.size a ≤ S256x128x256.size a := fun v6553 v6648 k0_hw118 => k0_hw118.2

def k0_off282 (v6553 : BitVec 32) (v6661 : BitVec 32) : Fin 3 → Nat :=
  let c128_i32_3662 : BitVec 32 := 128#32
  let v6574 : BitVec 32 := Scalar.muli v6553 c128_i32_3662
  let v6662 : BitVec 32 := Scalar.addi v6574 v6661
  let v7023 : Index := Scalar.indexCast v6662
  let c0_3928 : Index := 0#32
  let c0_3929 : Index := 0#32
  ![v7023.toNat, 0, 0]

def k0_off283 (v6553 : BitVec 32) (v6661 : BitVec 32) : Fin 3 → Nat :=
  let c128_i32_3662 : BitVec 32 := 128#32
  let v6574 : BitVec 32 := Scalar.muli v6553 c128_i32_3662
  let c1_i32_3710 : BitVec 32 := 1#32
  let v6663 : BitVec 32 := Scalar.addi v6661 c1_i32_3710
  let c127_i32_3711 : BitVec 32 := 127#32
  let v6664 : BitVec 32 := Scalar.minsi v6663 c127_i32_3711
  let v6665 : BitVec 32 := Scalar.addi v6574 v6664
  let v7026 : Index := Scalar.indexCast v6665
  let c0_3930 : Index := 0#32
  let c0_3931 : Index := 0#32
  ![v7026.toNat, 0, 0]

def k0_chk119 (v6553 : BitVec 32) (v6661 : BitVec 32) : Prop :=
  (∀ a, (k0_off282 v6553 v6661) a + S1x128x256.size a ≤ S256x128x256.size a) ∧
  (∀ a, (k0_off283 v6553 v6661) a + S1x128x256.size a ≤ S256x128x256.size a)
theorem k0_off282_inb : ∀ (v6553 : BitVec 32) (v6661 : BitVec 32) (k0_hw119 : k0_chk119 v6553 v6661), ∀ a, (k0_off282 v6553 v6661) a + S1x128x256.size a ≤ S256x128x256.size a := fun v6553 v6661 k0_hw119 => k0_hw119.1
theorem k0_off283_inb : ∀ (v6553 : BitVec 32) (v6661 : BitVec 32) (k0_hw119 : k0_chk119 v6553 v6661), ∀ a, (k0_off283 v6553 v6661) a + S1x128x256.size a ≤ S256x128x256.size a := fun v6553 v6661 k0_hw119 => k0_hw119.2

def k0_off284 (v6553 : BitVec 32) (v6674 : BitVec 32) : Fin 3 → Nat :=
  let c128_i32_3662 : BitVec 32 := 128#32
  let v6574 : BitVec 32 := Scalar.muli v6553 c128_i32_3662
  let v6675 : BitVec 32 := Scalar.addi v6574 v6674
  let v7035 : Index := Scalar.indexCast v6675
  let c0_3933 : Index := 0#32
  let c0_3934 : Index := 0#32
  ![v7035.toNat, 0, 0]

def k0_off285 (v6553 : BitVec 32) (v6674 : BitVec 32) : Fin 3 → Nat :=
  let c128_i32_3662 : BitVec 32 := 128#32
  let v6574 : BitVec 32 := Scalar.muli v6553 c128_i32_3662
  let c1_i32_3717 : BitVec 32 := 1#32
  let v6676 : BitVec 32 := Scalar.addi v6674 c1_i32_3717
  let c127_i32_3718 : BitVec 32 := 127#32
  let v6677 : BitVec 32 := Scalar.minsi v6676 c127_i32_3718
  let v6678 : BitVec 32 := Scalar.addi v6574 v6677
  let v7038 : Index := Scalar.indexCast v6678
  let c0_3935 : Index := 0#32
  let c0_3936 : Index := 0#32
  ![v7038.toNat, 0, 0]

def k0_chk120 (v6553 : BitVec 32) (v6674 : BitVec 32) : Prop :=
  (∀ a, (k0_off284 v6553 v6674) a + S1x128x256.size a ≤ S256x128x256.size a) ∧
  (∀ a, (k0_off285 v6553 v6674) a + S1x128x256.size a ≤ S256x128x256.size a)
theorem k0_off284_inb : ∀ (v6553 : BitVec 32) (v6674 : BitVec 32) (k0_hw120 : k0_chk120 v6553 v6674), ∀ a, (k0_off284 v6553 v6674) a + S1x128x256.size a ≤ S256x128x256.size a := fun v6553 v6674 k0_hw120 => k0_hw120.1
theorem k0_off285_inb : ∀ (v6553 : BitVec 32) (v6674 : BitVec 32) (k0_hw120 : k0_chk120 v6553 v6674), ∀ a, (k0_off285 v6553 v6674) a + S1x128x256.size a ≤ S256x128x256.size a := fun v6553 v6674 k0_hw120 => k0_hw120.2

def k0_off286 (v6553 : BitVec 32) (v6687 : BitVec 32) : Fin 3 → Nat :=
  let c128_i32_3662 : BitVec 32 := 128#32
  let v6574 : BitVec 32 := Scalar.muli v6553 c128_i32_3662
  let v6688 : BitVec 32 := Scalar.addi v6574 v6687
  let v7051 : Index := Scalar.indexCast v6688
  let c0_3942 : Index := 0#32
  let c0_3943 : Index := 0#32
  ![v7051.toNat, 0, 0]

def k0_off287 (v6553 : BitVec 32) (v6687 : BitVec 32) : Fin 3 → Nat :=
  let c128_i32_3662 : BitVec 32 := 128#32
  let v6574 : BitVec 32 := Scalar.muli v6553 c128_i32_3662
  let c1_i32_3724 : BitVec 32 := 1#32
  let v6689 : BitVec 32 := Scalar.addi v6687 c1_i32_3724
  let c127_i32_3725 : BitVec 32 := 127#32
  let v6690 : BitVec 32 := Scalar.minsi v6689 c127_i32_3725
  let v6691 : BitVec 32 := Scalar.addi v6574 v6690
  let v7054 : Index := Scalar.indexCast v6691
  let c0_3944 : Index := 0#32
  let c0_3945 : Index := 0#32
  ![v7054.toNat, 0, 0]

def k0_chk121 (v6553 : BitVec 32) (v6687 : BitVec 32) : Prop :=
  (∀ a, (k0_off286 v6553 v6687) a + S1x128x256.size a ≤ S256x128x256.size a) ∧
  (∀ a, (k0_off287 v6553 v6687) a + S1x128x256.size a ≤ S256x128x256.size a)
theorem k0_off286_inb : ∀ (v6553 : BitVec 32) (v6687 : BitVec 32) (k0_hw121 : k0_chk121 v6553 v6687), ∀ a, (k0_off286 v6553 v6687) a + S1x128x256.size a ≤ S256x128x256.size a := fun v6553 v6687 k0_hw121 => k0_hw121.1
theorem k0_off287_inb : ∀ (v6553 : BitVec 32) (v6687 : BitVec 32) (k0_hw121 : k0_chk121 v6553 v6687), ∀ a, (k0_off287 v6553 v6687) a + S1x128x256.size a ≤ S256x128x256.size a := fun v6553 v6687 k0_hw121 => k0_hw121.2

def k0_off288 (v6553 : BitVec 32) (v6700 : BitVec 32) : Fin 3 → Nat :=
  let c128_i32_3662 : BitVec 32 := 128#32
  let v6574 : BitVec 32 := Scalar.muli v6553 c128_i32_3662
  let v6701 : BitVec 32 := Scalar.addi v6574 v6700
  let v7063 : Index := Scalar.indexCast v6701
  let c0_3947 : Index := 0#32
  let c0_3948 : Index := 0#32
  ![v7063.toNat, 0, 0]

def k0_off289 (v6553 : BitVec 32) (v6700 : BitVec 32) : Fin 3 → Nat :=
  let c128_i32_3662 : BitVec 32 := 128#32
  let v6574 : BitVec 32 := Scalar.muli v6553 c128_i32_3662
  let c1_i32_3731 : BitVec 32 := 1#32
  let v6702 : BitVec 32 := Scalar.addi v6700 c1_i32_3731
  let c127_i32_3732 : BitVec 32 := 127#32
  let v6703 : BitVec 32 := Scalar.minsi v6702 c127_i32_3732
  let v6704 : BitVec 32 := Scalar.addi v6574 v6703
  let v7066 : Index := Scalar.indexCast v6704
  let c0_3949 : Index := 0#32
  let c0_3950 : Index := 0#32
  ![v7066.toNat, 0, 0]

def k0_chk122 (v6553 : BitVec 32) (v6700 : BitVec 32) : Prop :=
  (∀ a, (k0_off288 v6553 v6700) a + S1x128x256.size a ≤ S256x128x256.size a) ∧
  (∀ a, (k0_off289 v6553 v6700) a + S1x128x256.size a ≤ S256x128x256.size a)
theorem k0_off288_inb : ∀ (v6553 : BitVec 32) (v6700 : BitVec 32) (k0_hw122 : k0_chk122 v6553 v6700), ∀ a, (k0_off288 v6553 v6700) a + S1x128x256.size a ≤ S256x128x256.size a := fun v6553 v6700 k0_hw122 => k0_hw122.1
theorem k0_off289_inb : ∀ (v6553 : BitVec 32) (v6700 : BitVec 32) (k0_hw122 : k0_chk122 v6553 v6700), ∀ a, (k0_off289 v6553 v6700) a + S1x128x256.size a ≤ S256x128x256.size a := fun v6553 v6700 k0_hw122 => k0_hw122.2

def k0_off290 (v6553 : BitVec 32) (v6713 : BitVec 32) : Fin 3 → Nat :=
  let c128_i32_3662 : BitVec 32 := 128#32
  let v6574 : BitVec 32 := Scalar.muli v6553 c128_i32_3662
  let v6714 : BitVec 32 := Scalar.addi v6574 v6713
  let v7079 : Index := Scalar.indexCast v6714
  let c0_3956 : Index := 0#32
  let c0_3957 : Index := 0#32
  ![v7079.toNat, 0, 0]

def k0_off291 (v6553 : BitVec 32) (v6713 : BitVec 32) : Fin 3 → Nat :=
  let c128_i32_3662 : BitVec 32 := 128#32
  let v6574 : BitVec 32 := Scalar.muli v6553 c128_i32_3662
  let c1_i32_3738 : BitVec 32 := 1#32
  let v6715 : BitVec 32 := Scalar.addi v6713 c1_i32_3738
  let c127_i32_3739 : BitVec 32 := 127#32
  let v6716 : BitVec 32 := Scalar.minsi v6715 c127_i32_3739
  let v6717 : BitVec 32 := Scalar.addi v6574 v6716
  let v7082 : Index := Scalar.indexCast v6717
  let c0_3958 : Index := 0#32
  let c0_3959 : Index := 0#32
  ![v7082.toNat, 0, 0]

def k0_chk123 (v6553 : BitVec 32) (v6713 : BitVec 32) : Prop :=
  (∀ a, (k0_off290 v6553 v6713) a + S1x128x256.size a ≤ S256x128x256.size a) ∧
  (∀ a, (k0_off291 v6553 v6713) a + S1x128x256.size a ≤ S256x128x256.size a)
theorem k0_off290_inb : ∀ (v6553 : BitVec 32) (v6713 : BitVec 32) (k0_hw123 : k0_chk123 v6553 v6713), ∀ a, (k0_off290 v6553 v6713) a + S1x128x256.size a ≤ S256x128x256.size a := fun v6553 v6713 k0_hw123 => k0_hw123.1
theorem k0_off291_inb : ∀ (v6553 : BitVec 32) (v6713 : BitVec 32) (k0_hw123 : k0_chk123 v6553 v6713), ∀ a, (k0_off291 v6553 v6713) a + S1x128x256.size a ≤ S256x128x256.size a := fun v6553 v6713 k0_hw123 => k0_hw123.2

def k0_off292 (v6553 : BitVec 32) (v6726 : BitVec 32) : Fin 3 → Nat :=
  let c128_i32_3662 : BitVec 32 := 128#32
  let v6574 : BitVec 32 := Scalar.muli v6553 c128_i32_3662
  let v6727 : BitVec 32 := Scalar.addi v6574 v6726
  let v7091 : Index := Scalar.indexCast v6727
  let c0_3961 : Index := 0#32
  let c0_3962 : Index := 0#32
  ![v7091.toNat, 0, 0]

def k0_off293 (v6553 : BitVec 32) (v6726 : BitVec 32) : Fin 3 → Nat :=
  let c128_i32_3662 : BitVec 32 := 128#32
  let v6574 : BitVec 32 := Scalar.muli v6553 c128_i32_3662
  let c1_i32_3745 : BitVec 32 := 1#32
  let v6728 : BitVec 32 := Scalar.addi v6726 c1_i32_3745
  let c127_i32_3746 : BitVec 32 := 127#32
  let v6729 : BitVec 32 := Scalar.minsi v6728 c127_i32_3746
  let v6730 : BitVec 32 := Scalar.addi v6574 v6729
  let v7094 : Index := Scalar.indexCast v6730
  let c0_3963 : Index := 0#32
  let c0_3964 : Index := 0#32
  ![v7094.toNat, 0, 0]

def k0_chk124 (v6553 : BitVec 32) (v6726 : BitVec 32) : Prop :=
  (∀ a, (k0_off292 v6553 v6726) a + S1x128x256.size a ≤ S256x128x256.size a) ∧
  (∀ a, (k0_off293 v6553 v6726) a + S1x128x256.size a ≤ S256x128x256.size a)
theorem k0_off292_inb : ∀ (v6553 : BitVec 32) (v6726 : BitVec 32) (k0_hw124 : k0_chk124 v6553 v6726), ∀ a, (k0_off292 v6553 v6726) a + S1x128x256.size a ≤ S256x128x256.size a := fun v6553 v6726 k0_hw124 => k0_hw124.1
theorem k0_off293_inb : ∀ (v6553 : BitVec 32) (v6726 : BitVec 32) (k0_hw124 : k0_chk124 v6553 v6726), ∀ a, (k0_off293 v6553 v6726) a + S1x128x256.size a ≤ S256x128x256.size a := fun v6553 v6726 k0_hw124 => k0_hw124.2

def k0_off294 (v6553 : BitVec 32) (v6739 : BitVec 32) : Fin 3 → Nat :=
  let c128_i32_3662 : BitVec 32 := 128#32
  let v6574 : BitVec 32 := Scalar.muli v6553 c128_i32_3662
  let v6740 : BitVec 32 := Scalar.addi v6574 v6739
  let v7107 : Index := Scalar.indexCast v6740
  let c0_3970 : Index := 0#32
  let c0_3971 : Index := 0#32
  ![v7107.toNat, 0, 0]

def k0_off295 (v6553 : BitVec 32) (v6739 : BitVec 32) : Fin 3 → Nat :=
  let c128_i32_3662 : BitVec 32 := 128#32
  let v6574 : BitVec 32 := Scalar.muli v6553 c128_i32_3662
  let c1_i32_3752 : BitVec 32 := 1#32
  let v6741 : BitVec 32 := Scalar.addi v6739 c1_i32_3752
  let c127_i32_3753 : BitVec 32 := 127#32
  let v6742 : BitVec 32 := Scalar.minsi v6741 c127_i32_3753
  let v6743 : BitVec 32 := Scalar.addi v6574 v6742
  let v7110 : Index := Scalar.indexCast v6743
  let c0_3972 : Index := 0#32
  let c0_3973 : Index := 0#32
  ![v7110.toNat, 0, 0]

def k0_chk125 (v6553 : BitVec 32) (v6739 : BitVec 32) : Prop :=
  (∀ a, (k0_off294 v6553 v6739) a + S1x128x256.size a ≤ S256x128x256.size a) ∧
  (∀ a, (k0_off295 v6553 v6739) a + S1x128x256.size a ≤ S256x128x256.size a)
theorem k0_off294_inb : ∀ (v6553 : BitVec 32) (v6739 : BitVec 32) (k0_hw125 : k0_chk125 v6553 v6739), ∀ a, (k0_off294 v6553 v6739) a + S1x128x256.size a ≤ S256x128x256.size a := fun v6553 v6739 k0_hw125 => k0_hw125.1
theorem k0_off295_inb : ∀ (v6553 : BitVec 32) (v6739 : BitVec 32) (k0_hw125 : k0_chk125 v6553 v6739), ∀ a, (k0_off295 v6553 v6739) a + S1x128x256.size a ≤ S256x128x256.size a := fun v6553 v6739 k0_hw125 => k0_hw125.2

def k0_off296 (v6553 : BitVec 32) (v6752 : BitVec 32) : Fin 3 → Nat :=
  let c128_i32_3662 : BitVec 32 := 128#32
  let v6574 : BitVec 32 := Scalar.muli v6553 c128_i32_3662
  let v6753 : BitVec 32 := Scalar.addi v6574 v6752
  let v7119 : Index := Scalar.indexCast v6753
  let c0_3975 : Index := 0#32
  let c0_3976 : Index := 0#32
  ![v7119.toNat, 0, 0]

def k0_off297 (v6553 : BitVec 32) (v6752 : BitVec 32) : Fin 3 → Nat :=
  let c128_i32_3662 : BitVec 32 := 128#32
  let v6574 : BitVec 32 := Scalar.muli v6553 c128_i32_3662
  let c1_i32_3759 : BitVec 32 := 1#32
  let v6754 : BitVec 32 := Scalar.addi v6752 c1_i32_3759
  let c127_i32_3760 : BitVec 32 := 127#32
  let v6755 : BitVec 32 := Scalar.minsi v6754 c127_i32_3760
  let v6756 : BitVec 32 := Scalar.addi v6574 v6755
  let v7122 : Index := Scalar.indexCast v6756
  let c0_3977 : Index := 0#32
  let c0_3978 : Index := 0#32
  ![v7122.toNat, 0, 0]

def k0_chk126 (v6553 : BitVec 32) (v6752 : BitVec 32) : Prop :=
  (∀ a, (k0_off296 v6553 v6752) a + S1x128x256.size a ≤ S256x128x256.size a) ∧
  (∀ a, (k0_off297 v6553 v6752) a + S1x128x256.size a ≤ S256x128x256.size a)
theorem k0_off296_inb : ∀ (v6553 : BitVec 32) (v6752 : BitVec 32) (k0_hw126 : k0_chk126 v6553 v6752), ∀ a, (k0_off296 v6553 v6752) a + S1x128x256.size a ≤ S256x128x256.size a := fun v6553 v6752 k0_hw126 => k0_hw126.1
theorem k0_off297_inb : ∀ (v6553 : BitVec 32) (v6752 : BitVec 32) (k0_hw126 : k0_chk126 v6553 v6752), ∀ a, (k0_off297 v6553 v6752) a + S1x128x256.size a ≤ S256x128x256.size a := fun v6553 v6752 k0_hw126 => k0_hw126.2

def k0_off298 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c9_i32 : BitVec 32 := 9#32
  let v7368 : BitVec 32 := Scalar.addi v5 c9_i32
  let v7369 : Index := Scalar.indexCast v7368
  let c0_4103 : Index := 0#32
  ![v7369.toNat, 0]
def k0_off299 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c9_i32 : BitVec 32 := 9#32
  let v7368 : BitVec 32 := Scalar.addi v5 c9_i32
  let v7372 : Index := Scalar.indexCast v7368
  let c1_4104 : Index := 1#32
  ![v7372.toNat, 1]
def k0_off300 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c9_i32 : BitVec 32 := 9#32
  let v7368 : BitVec 32 := Scalar.addi v5 c9_i32
  let v7376 : Index := Scalar.indexCast v7368
  let c2_4107 : Index := 2#32
  ![v7376.toNat, 2]
def k0_off301 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c9_i32 : BitVec 32 := 9#32
  let v7368 : BitVec 32 := Scalar.addi v5 c9_i32
  let v7380 : Index := Scalar.indexCast v7368
  let c3_4110 : Index := 3#32
  ![v7380.toNat, 3]
def k0_off302 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c9_i32 : BitVec 32 := 9#32
  let v7368 : BitVec 32 := Scalar.addi v5 c9_i32
  let v7384 : Index := Scalar.indexCast v7368
  let c4_4113 : Index := 4#32
  ![v7384.toNat, 4]
def k0_off303 (v7371 : BitVec 32) (v7401 : BitVec 32) : Fin 3 → Nat :=
  let c128_i32_4118 : BitVec 32 := 128#32
  let v7392 : BitVec 32 := Scalar.muli v7371 c128_i32_4118
  let v7402 : BitVec 32 := Scalar.addi v7392 v7401
  let v7757 : Index := Scalar.indexCast v7402
  let c0_4343 : Index := 0#32
  let c0_4344 : Index := 0#32
  ![v7757.toNat, 0, 0]

def k0_off304 (v7371 : BitVec 32) (v7401 : BitVec 32) : Fin 3 → Nat :=
  let c128_i32_4118 : BitVec 32 := 128#32
  let v7392 : BitVec 32 := Scalar.muli v7371 c128_i32_4118
  let c1_i32_4124 : BitVec 32 := 1#32
  let v7403 : BitVec 32 := Scalar.addi v7401 c1_i32_4124
  let c127_i32_4125 : BitVec 32 := 127#32
  let v7404 : BitVec 32 := Scalar.minsi v7403 c127_i32_4125
  let v7405 : BitVec 32 := Scalar.addi v7392 v7404
  let v7760 : Index := Scalar.indexCast v7405
  let c0_4345 : Index := 0#32
  let c0_4346 : Index := 0#32
  ![v7760.toNat, 0, 0]

def k0_chk127 (v7371 : BitVec 32) (v7401 : BitVec 32) : Prop :=
  (∀ a, (k0_off303 v7371 v7401) a + S1x128x256.size a ≤ S256x128x256.size a) ∧
  (∀ a, (k0_off304 v7371 v7401) a + S1x128x256.size a ≤ S256x128x256.size a)
theorem k0_off303_inb : ∀ (v7371 : BitVec 32) (v7401 : BitVec 32) (k0_hw127 : k0_chk127 v7371 v7401), ∀ a, (k0_off303 v7371 v7401) a + S1x128x256.size a ≤ S256x128x256.size a := fun v7371 v7401 k0_hw127 => k0_hw127.1
theorem k0_off304_inb : ∀ (v7371 : BitVec 32) (v7401 : BitVec 32) (k0_hw127 : k0_chk127 v7371 v7401), ∀ a, (k0_off304 v7371 v7401) a + S1x128x256.size a ≤ S256x128x256.size a := fun v7371 v7401 k0_hw127 => k0_hw127.2

def k0_off305 (v7371 : BitVec 32) (v7414 : BitVec 32) : Fin 3 → Nat :=
  let c128_i32_4118 : BitVec 32 := 128#32
  let v7392 : BitVec 32 := Scalar.muli v7371 c128_i32_4118
  let v7415 : BitVec 32 := Scalar.addi v7392 v7414
  let v7769 : Index := Scalar.indexCast v7415
  let c0_4348 : Index := 0#32
  let c0_4349 : Index := 0#32
  ![v7769.toNat, 0, 0]

def k0_off306 (v7371 : BitVec 32) (v7414 : BitVec 32) : Fin 3 → Nat :=
  let c128_i32_4118 : BitVec 32 := 128#32
  let v7392 : BitVec 32 := Scalar.muli v7371 c128_i32_4118
  let c1_i32_4131 : BitVec 32 := 1#32
  let v7416 : BitVec 32 := Scalar.addi v7414 c1_i32_4131
  let c127_i32_4132 : BitVec 32 := 127#32
  let v7417 : BitVec 32 := Scalar.minsi v7416 c127_i32_4132
  let v7418 : BitVec 32 := Scalar.addi v7392 v7417
  let v7772 : Index := Scalar.indexCast v7418
  let c0_4350 : Index := 0#32
  let c0_4351 : Index := 0#32
  ![v7772.toNat, 0, 0]

def k0_chk128 (v7371 : BitVec 32) (v7414 : BitVec 32) : Prop :=
  (∀ a, (k0_off305 v7371 v7414) a + S1x128x256.size a ≤ S256x128x256.size a) ∧
  (∀ a, (k0_off306 v7371 v7414) a + S1x128x256.size a ≤ S256x128x256.size a)
theorem k0_off305_inb : ∀ (v7371 : BitVec 32) (v7414 : BitVec 32) (k0_hw128 : k0_chk128 v7371 v7414), ∀ a, (k0_off305 v7371 v7414) a + S1x128x256.size a ≤ S256x128x256.size a := fun v7371 v7414 k0_hw128 => k0_hw128.1
theorem k0_off306_inb : ∀ (v7371 : BitVec 32) (v7414 : BitVec 32) (k0_hw128 : k0_chk128 v7371 v7414), ∀ a, (k0_off306 v7371 v7414) a + S1x128x256.size a ≤ S256x128x256.size a := fun v7371 v7414 k0_hw128 => k0_hw128.2

def k0_off307 (v7371 : BitVec 32) (v7427 : BitVec 32) : Fin 3 → Nat :=
  let c128_i32_4118 : BitVec 32 := 128#32
  let v7392 : BitVec 32 := Scalar.muli v7371 c128_i32_4118
  let v7428 : BitVec 32 := Scalar.addi v7392 v7427
  let v7785 : Index := Scalar.indexCast v7428
  let c0_4356 : Index := 0#32
  let c0_4357 : Index := 0#32
  ![v7785.toNat, 0, 0]

def k0_off308 (v7371 : BitVec 32) (v7427 : BitVec 32) : Fin 3 → Nat :=
  let c128_i32_4118 : BitVec 32 := 128#32
  let v7392 : BitVec 32 := Scalar.muli v7371 c128_i32_4118
  let c1_i32_4138 : BitVec 32 := 1#32
  let v7429 : BitVec 32 := Scalar.addi v7427 c1_i32_4138
  let c127_i32_4139 : BitVec 32 := 127#32
  let v7430 : BitVec 32 := Scalar.minsi v7429 c127_i32_4139
  let v7431 : BitVec 32 := Scalar.addi v7392 v7430
  let v7788 : Index := Scalar.indexCast v7431
  let c0_4358 : Index := 0#32
  let c0_4359 : Index := 0#32
  ![v7788.toNat, 0, 0]

def k0_chk129 (v7371 : BitVec 32) (v7427 : BitVec 32) : Prop :=
  (∀ a, (k0_off307 v7371 v7427) a + S1x128x256.size a ≤ S256x128x256.size a) ∧
  (∀ a, (k0_off308 v7371 v7427) a + S1x128x256.size a ≤ S256x128x256.size a)
theorem k0_off307_inb : ∀ (v7371 : BitVec 32) (v7427 : BitVec 32) (k0_hw129 : k0_chk129 v7371 v7427), ∀ a, (k0_off307 v7371 v7427) a + S1x128x256.size a ≤ S256x128x256.size a := fun v7371 v7427 k0_hw129 => k0_hw129.1
theorem k0_off308_inb : ∀ (v7371 : BitVec 32) (v7427 : BitVec 32) (k0_hw129 : k0_chk129 v7371 v7427), ∀ a, (k0_off308 v7371 v7427) a + S1x128x256.size a ≤ S256x128x256.size a := fun v7371 v7427 k0_hw129 => k0_hw129.2

def k0_off309 (v7371 : BitVec 32) (v7440 : BitVec 32) : Fin 3 → Nat :=
  let c128_i32_4118 : BitVec 32 := 128#32
  let v7392 : BitVec 32 := Scalar.muli v7371 c128_i32_4118
  let v7441 : BitVec 32 := Scalar.addi v7392 v7440
  let v7797 : Index := Scalar.indexCast v7441
  let c0_4361 : Index := 0#32
  let c0_4362 : Index := 0#32
  ![v7797.toNat, 0, 0]

def k0_off310 (v7371 : BitVec 32) (v7440 : BitVec 32) : Fin 3 → Nat :=
  let c128_i32_4118 : BitVec 32 := 128#32
  let v7392 : BitVec 32 := Scalar.muli v7371 c128_i32_4118
  let c1_i32_4145 : BitVec 32 := 1#32
  let v7442 : BitVec 32 := Scalar.addi v7440 c1_i32_4145
  let c127_i32_4146 : BitVec 32 := 127#32
  let v7443 : BitVec 32 := Scalar.minsi v7442 c127_i32_4146
  let v7444 : BitVec 32 := Scalar.addi v7392 v7443
  let v7800 : Index := Scalar.indexCast v7444
  let c0_4363 : Index := 0#32
  let c0_4364 : Index := 0#32
  ![v7800.toNat, 0, 0]

def k0_chk130 (v7371 : BitVec 32) (v7440 : BitVec 32) : Prop :=
  (∀ a, (k0_off309 v7371 v7440) a + S1x128x256.size a ≤ S256x128x256.size a) ∧
  (∀ a, (k0_off310 v7371 v7440) a + S1x128x256.size a ≤ S256x128x256.size a)
theorem k0_off309_inb : ∀ (v7371 : BitVec 32) (v7440 : BitVec 32) (k0_hw130 : k0_chk130 v7371 v7440), ∀ a, (k0_off309 v7371 v7440) a + S1x128x256.size a ≤ S256x128x256.size a := fun v7371 v7440 k0_hw130 => k0_hw130.1
theorem k0_off310_inb : ∀ (v7371 : BitVec 32) (v7440 : BitVec 32) (k0_hw130 : k0_chk130 v7371 v7440), ∀ a, (k0_off310 v7371 v7440) a + S1x128x256.size a ≤ S256x128x256.size a := fun v7371 v7440 k0_hw130 => k0_hw130.2

def k0_off311 (v7371 : BitVec 32) (v7453 : BitVec 32) : Fin 3 → Nat :=
  let c128_i32_4118 : BitVec 32 := 128#32
  let v7392 : BitVec 32 := Scalar.muli v7371 c128_i32_4118
  let v7454 : BitVec 32 := Scalar.addi v7392 v7453
  let v7813 : Index := Scalar.indexCast v7454
  let c0_4370 : Index := 0#32
  let c0_4371 : Index := 0#32
  ![v7813.toNat, 0, 0]

def k0_off312 (v7371 : BitVec 32) (v7453 : BitVec 32) : Fin 3 → Nat :=
  let c128_i32_4118 : BitVec 32 := 128#32
  let v7392 : BitVec 32 := Scalar.muli v7371 c128_i32_4118
  let c1_i32_4152 : BitVec 32 := 1#32
  let v7455 : BitVec 32 := Scalar.addi v7453 c1_i32_4152
  let c127_i32_4153 : BitVec 32 := 127#32
  let v7456 : BitVec 32 := Scalar.minsi v7455 c127_i32_4153
  let v7457 : BitVec 32 := Scalar.addi v7392 v7456
  let v7816 : Index := Scalar.indexCast v7457
  let c0_4372 : Index := 0#32
  let c0_4373 : Index := 0#32
  ![v7816.toNat, 0, 0]

def k0_chk131 (v7371 : BitVec 32) (v7453 : BitVec 32) : Prop :=
  (∀ a, (k0_off311 v7371 v7453) a + S1x128x256.size a ≤ S256x128x256.size a) ∧
  (∀ a, (k0_off312 v7371 v7453) a + S1x128x256.size a ≤ S256x128x256.size a)
theorem k0_off311_inb : ∀ (v7371 : BitVec 32) (v7453 : BitVec 32) (k0_hw131 : k0_chk131 v7371 v7453), ∀ a, (k0_off311 v7371 v7453) a + S1x128x256.size a ≤ S256x128x256.size a := fun v7371 v7453 k0_hw131 => k0_hw131.1
theorem k0_off312_inb : ∀ (v7371 : BitVec 32) (v7453 : BitVec 32) (k0_hw131 : k0_chk131 v7371 v7453), ∀ a, (k0_off312 v7371 v7453) a + S1x128x256.size a ≤ S256x128x256.size a := fun v7371 v7453 k0_hw131 => k0_hw131.2

def k0_off313 (v7371 : BitVec 32) (v7466 : BitVec 32) : Fin 3 → Nat :=
  let c128_i32_4118 : BitVec 32 := 128#32
  let v7392 : BitVec 32 := Scalar.muli v7371 c128_i32_4118
  let v7467 : BitVec 32 := Scalar.addi v7392 v7466
  let v7825 : Index := Scalar.indexCast v7467
  let c0_4375 : Index := 0#32
  let c0_4376 : Index := 0#32
  ![v7825.toNat, 0, 0]

def k0_off314 (v7371 : BitVec 32) (v7466 : BitVec 32) : Fin 3 → Nat :=
  let c128_i32_4118 : BitVec 32 := 128#32
  let v7392 : BitVec 32 := Scalar.muli v7371 c128_i32_4118
  let c1_i32_4159 : BitVec 32 := 1#32
  let v7468 : BitVec 32 := Scalar.addi v7466 c1_i32_4159
  let c127_i32_4160 : BitVec 32 := 127#32
  let v7469 : BitVec 32 := Scalar.minsi v7468 c127_i32_4160
  let v7470 : BitVec 32 := Scalar.addi v7392 v7469
  let v7828 : Index := Scalar.indexCast v7470
  let c0_4377 : Index := 0#32
  let c0_4378 : Index := 0#32
  ![v7828.toNat, 0, 0]

def k0_chk132 (v7371 : BitVec 32) (v7466 : BitVec 32) : Prop :=
  (∀ a, (k0_off313 v7371 v7466) a + S1x128x256.size a ≤ S256x128x256.size a) ∧
  (∀ a, (k0_off314 v7371 v7466) a + S1x128x256.size a ≤ S256x128x256.size a)
theorem k0_off313_inb : ∀ (v7371 : BitVec 32) (v7466 : BitVec 32) (k0_hw132 : k0_chk132 v7371 v7466), ∀ a, (k0_off313 v7371 v7466) a + S1x128x256.size a ≤ S256x128x256.size a := fun v7371 v7466 k0_hw132 => k0_hw132.1
theorem k0_off314_inb : ∀ (v7371 : BitVec 32) (v7466 : BitVec 32) (k0_hw132 : k0_chk132 v7371 v7466), ∀ a, (k0_off314 v7371 v7466) a + S1x128x256.size a ≤ S256x128x256.size a := fun v7371 v7466 k0_hw132 => k0_hw132.2

def k0_off315 (v7371 : BitVec 32) (v7479 : BitVec 32) : Fin 3 → Nat :=
  let c128_i32_4118 : BitVec 32 := 128#32
  let v7392 : BitVec 32 := Scalar.muli v7371 c128_i32_4118
  let v7480 : BitVec 32 := Scalar.addi v7392 v7479
  let v7841 : Index := Scalar.indexCast v7480
  let c0_4384 : Index := 0#32
  let c0_4385 : Index := 0#32
  ![v7841.toNat, 0, 0]

def k0_off316 (v7371 : BitVec 32) (v7479 : BitVec 32) : Fin 3 → Nat :=
  let c128_i32_4118 : BitVec 32 := 128#32
  let v7392 : BitVec 32 := Scalar.muli v7371 c128_i32_4118
  let c1_i32_4166 : BitVec 32 := 1#32
  let v7481 : BitVec 32 := Scalar.addi v7479 c1_i32_4166
  let c127_i32_4167 : BitVec 32 := 127#32
  let v7482 : BitVec 32 := Scalar.minsi v7481 c127_i32_4167
  let v7483 : BitVec 32 := Scalar.addi v7392 v7482
  let v7844 : Index := Scalar.indexCast v7483
  let c0_4386 : Index := 0#32
  let c0_4387 : Index := 0#32
  ![v7844.toNat, 0, 0]

def k0_chk133 (v7371 : BitVec 32) (v7479 : BitVec 32) : Prop :=
  (∀ a, (k0_off315 v7371 v7479) a + S1x128x256.size a ≤ S256x128x256.size a) ∧
  (∀ a, (k0_off316 v7371 v7479) a + S1x128x256.size a ≤ S256x128x256.size a)
theorem k0_off315_inb : ∀ (v7371 : BitVec 32) (v7479 : BitVec 32) (k0_hw133 : k0_chk133 v7371 v7479), ∀ a, (k0_off315 v7371 v7479) a + S1x128x256.size a ≤ S256x128x256.size a := fun v7371 v7479 k0_hw133 => k0_hw133.1
theorem k0_off316_inb : ∀ (v7371 : BitVec 32) (v7479 : BitVec 32) (k0_hw133 : k0_chk133 v7371 v7479), ∀ a, (k0_off316 v7371 v7479) a + S1x128x256.size a ≤ S256x128x256.size a := fun v7371 v7479 k0_hw133 => k0_hw133.2

def k0_off317 (v7371 : BitVec 32) (v7492 : BitVec 32) : Fin 3 → Nat :=
  let c128_i32_4118 : BitVec 32 := 128#32
  let v7392 : BitVec 32 := Scalar.muli v7371 c128_i32_4118
  let v7493 : BitVec 32 := Scalar.addi v7392 v7492
  let v7853 : Index := Scalar.indexCast v7493
  let c0_4389 : Index := 0#32
  let c0_4390 : Index := 0#32
  ![v7853.toNat, 0, 0]

def k0_off318 (v7371 : BitVec 32) (v7492 : BitVec 32) : Fin 3 → Nat :=
  let c128_i32_4118 : BitVec 32 := 128#32
  let v7392 : BitVec 32 := Scalar.muli v7371 c128_i32_4118
  let c1_i32_4173 : BitVec 32 := 1#32
  let v7494 : BitVec 32 := Scalar.addi v7492 c1_i32_4173
  let c127_i32_4174 : BitVec 32 := 127#32
  let v7495 : BitVec 32 := Scalar.minsi v7494 c127_i32_4174
  let v7496 : BitVec 32 := Scalar.addi v7392 v7495
  let v7856 : Index := Scalar.indexCast v7496
  let c0_4391 : Index := 0#32
  let c0_4392 : Index := 0#32
  ![v7856.toNat, 0, 0]

def k0_chk134 (v7371 : BitVec 32) (v7492 : BitVec 32) : Prop :=
  (∀ a, (k0_off317 v7371 v7492) a + S1x128x256.size a ≤ S256x128x256.size a) ∧
  (∀ a, (k0_off318 v7371 v7492) a + S1x128x256.size a ≤ S256x128x256.size a)
theorem k0_off317_inb : ∀ (v7371 : BitVec 32) (v7492 : BitVec 32) (k0_hw134 : k0_chk134 v7371 v7492), ∀ a, (k0_off317 v7371 v7492) a + S1x128x256.size a ≤ S256x128x256.size a := fun v7371 v7492 k0_hw134 => k0_hw134.1
theorem k0_off318_inb : ∀ (v7371 : BitVec 32) (v7492 : BitVec 32) (k0_hw134 : k0_chk134 v7371 v7492), ∀ a, (k0_off318 v7371 v7492) a + S1x128x256.size a ≤ S256x128x256.size a := fun v7371 v7492 k0_hw134 => k0_hw134.2

def k0_off319 (v7371 : BitVec 32) (v7505 : BitVec 32) : Fin 3 → Nat :=
  let c128_i32_4118 : BitVec 32 := 128#32
  let v7392 : BitVec 32 := Scalar.muli v7371 c128_i32_4118
  let v7506 : BitVec 32 := Scalar.addi v7392 v7505
  let v7869 : Index := Scalar.indexCast v7506
  let c0_4398 : Index := 0#32
  let c0_4399 : Index := 0#32
  ![v7869.toNat, 0, 0]

def k0_off320 (v7371 : BitVec 32) (v7505 : BitVec 32) : Fin 3 → Nat :=
  let c128_i32_4118 : BitVec 32 := 128#32
  let v7392 : BitVec 32 := Scalar.muli v7371 c128_i32_4118
  let c1_i32_4180 : BitVec 32 := 1#32
  let v7507 : BitVec 32 := Scalar.addi v7505 c1_i32_4180
  let c127_i32_4181 : BitVec 32 := 127#32
  let v7508 : BitVec 32 := Scalar.minsi v7507 c127_i32_4181
  let v7509 : BitVec 32 := Scalar.addi v7392 v7508
  let v7872 : Index := Scalar.indexCast v7509
  let c0_4400 : Index := 0#32
  let c0_4401 : Index := 0#32
  ![v7872.toNat, 0, 0]

def k0_chk135 (v7371 : BitVec 32) (v7505 : BitVec 32) : Prop :=
  (∀ a, (k0_off319 v7371 v7505) a + S1x128x256.size a ≤ S256x128x256.size a) ∧
  (∀ a, (k0_off320 v7371 v7505) a + S1x128x256.size a ≤ S256x128x256.size a)
theorem k0_off319_inb : ∀ (v7371 : BitVec 32) (v7505 : BitVec 32) (k0_hw135 : k0_chk135 v7371 v7505), ∀ a, (k0_off319 v7371 v7505) a + S1x128x256.size a ≤ S256x128x256.size a := fun v7371 v7505 k0_hw135 => k0_hw135.1
theorem k0_off320_inb : ∀ (v7371 : BitVec 32) (v7505 : BitVec 32) (k0_hw135 : k0_chk135 v7371 v7505), ∀ a, (k0_off320 v7371 v7505) a + S1x128x256.size a ≤ S256x128x256.size a := fun v7371 v7505 k0_hw135 => k0_hw135.2

def k0_off321 (v7371 : BitVec 32) (v7518 : BitVec 32) : Fin 3 → Nat :=
  let c128_i32_4118 : BitVec 32 := 128#32
  let v7392 : BitVec 32 := Scalar.muli v7371 c128_i32_4118
  let v7519 : BitVec 32 := Scalar.addi v7392 v7518
  let v7881 : Index := Scalar.indexCast v7519
  let c0_4403 : Index := 0#32
  let c0_4404 : Index := 0#32
  ![v7881.toNat, 0, 0]

def k0_off322 (v7371 : BitVec 32) (v7518 : BitVec 32) : Fin 3 → Nat :=
  let c128_i32_4118 : BitVec 32 := 128#32
  let v7392 : BitVec 32 := Scalar.muli v7371 c128_i32_4118
  let c1_i32_4187 : BitVec 32 := 1#32
  let v7520 : BitVec 32 := Scalar.addi v7518 c1_i32_4187
  let c127_i32_4188 : BitVec 32 := 127#32
  let v7521 : BitVec 32 := Scalar.minsi v7520 c127_i32_4188
  let v7522 : BitVec 32 := Scalar.addi v7392 v7521
  let v7884 : Index := Scalar.indexCast v7522
  let c0_4405 : Index := 0#32
  let c0_4406 : Index := 0#32
  ![v7884.toNat, 0, 0]

def k0_chk136 (v7371 : BitVec 32) (v7518 : BitVec 32) : Prop :=
  (∀ a, (k0_off321 v7371 v7518) a + S1x128x256.size a ≤ S256x128x256.size a) ∧
  (∀ a, (k0_off322 v7371 v7518) a + S1x128x256.size a ≤ S256x128x256.size a)
theorem k0_off321_inb : ∀ (v7371 : BitVec 32) (v7518 : BitVec 32) (k0_hw136 : k0_chk136 v7371 v7518), ∀ a, (k0_off321 v7371 v7518) a + S1x128x256.size a ≤ S256x128x256.size a := fun v7371 v7518 k0_hw136 => k0_hw136.1
theorem k0_off322_inb : ∀ (v7371 : BitVec 32) (v7518 : BitVec 32) (k0_hw136 : k0_chk136 v7371 v7518), ∀ a, (k0_off322 v7371 v7518) a + S1x128x256.size a ≤ S256x128x256.size a := fun v7371 v7518 k0_hw136 => k0_hw136.2

def k0_off323 (v7371 : BitVec 32) (v7531 : BitVec 32) : Fin 3 → Nat :=
  let c128_i32_4118 : BitVec 32 := 128#32
  let v7392 : BitVec 32 := Scalar.muli v7371 c128_i32_4118
  let v7532 : BitVec 32 := Scalar.addi v7392 v7531
  let v7897 : Index := Scalar.indexCast v7532
  let c0_4412 : Index := 0#32
  let c0_4413 : Index := 0#32
  ![v7897.toNat, 0, 0]

def k0_off324 (v7371 : BitVec 32) (v7531 : BitVec 32) : Fin 3 → Nat :=
  let c128_i32_4118 : BitVec 32 := 128#32
  let v7392 : BitVec 32 := Scalar.muli v7371 c128_i32_4118
  let c1_i32_4194 : BitVec 32 := 1#32
  let v7533 : BitVec 32 := Scalar.addi v7531 c1_i32_4194
  let c127_i32_4195 : BitVec 32 := 127#32
  let v7534 : BitVec 32 := Scalar.minsi v7533 c127_i32_4195
  let v7535 : BitVec 32 := Scalar.addi v7392 v7534
  let v7900 : Index := Scalar.indexCast v7535
  let c0_4414 : Index := 0#32
  let c0_4415 : Index := 0#32
  ![v7900.toNat, 0, 0]

def k0_chk137 (v7371 : BitVec 32) (v7531 : BitVec 32) : Prop :=
  (∀ a, (k0_off323 v7371 v7531) a + S1x128x256.size a ≤ S256x128x256.size a) ∧
  (∀ a, (k0_off324 v7371 v7531) a + S1x128x256.size a ≤ S256x128x256.size a)
theorem k0_off323_inb : ∀ (v7371 : BitVec 32) (v7531 : BitVec 32) (k0_hw137 : k0_chk137 v7371 v7531), ∀ a, (k0_off323 v7371 v7531) a + S1x128x256.size a ≤ S256x128x256.size a := fun v7371 v7531 k0_hw137 => k0_hw137.1
theorem k0_off324_inb : ∀ (v7371 : BitVec 32) (v7531 : BitVec 32) (k0_hw137 : k0_chk137 v7371 v7531), ∀ a, (k0_off324 v7371 v7531) a + S1x128x256.size a ≤ S256x128x256.size a := fun v7371 v7531 k0_hw137 => k0_hw137.2

def k0_off325 (v7371 : BitVec 32) (v7544 : BitVec 32) : Fin 3 → Nat :=
  let c128_i32_4118 : BitVec 32 := 128#32
  let v7392 : BitVec 32 := Scalar.muli v7371 c128_i32_4118
  let v7545 : BitVec 32 := Scalar.addi v7392 v7544
  let v7909 : Index := Scalar.indexCast v7545
  let c0_4417 : Index := 0#32
  let c0_4418 : Index := 0#32
  ![v7909.toNat, 0, 0]

def k0_off326 (v7371 : BitVec 32) (v7544 : BitVec 32) : Fin 3 → Nat :=
  let c128_i32_4118 : BitVec 32 := 128#32
  let v7392 : BitVec 32 := Scalar.muli v7371 c128_i32_4118
  let c1_i32_4201 : BitVec 32 := 1#32
  let v7546 : BitVec 32 := Scalar.addi v7544 c1_i32_4201
  let c127_i32_4202 : BitVec 32 := 127#32
  let v7547 : BitVec 32 := Scalar.minsi v7546 c127_i32_4202
  let v7548 : BitVec 32 := Scalar.addi v7392 v7547
  let v7912 : Index := Scalar.indexCast v7548
  let c0_4419 : Index := 0#32
  let c0_4420 : Index := 0#32
  ![v7912.toNat, 0, 0]

def k0_chk138 (v7371 : BitVec 32) (v7544 : BitVec 32) : Prop :=
  (∀ a, (k0_off325 v7371 v7544) a + S1x128x256.size a ≤ S256x128x256.size a) ∧
  (∀ a, (k0_off326 v7371 v7544) a + S1x128x256.size a ≤ S256x128x256.size a)
theorem k0_off325_inb : ∀ (v7371 : BitVec 32) (v7544 : BitVec 32) (k0_hw138 : k0_chk138 v7371 v7544), ∀ a, (k0_off325 v7371 v7544) a + S1x128x256.size a ≤ S256x128x256.size a := fun v7371 v7544 k0_hw138 => k0_hw138.1
theorem k0_off326_inb : ∀ (v7371 : BitVec 32) (v7544 : BitVec 32) (k0_hw138 : k0_chk138 v7371 v7544), ∀ a, (k0_off326 v7371 v7544) a + S1x128x256.size a ≤ S256x128x256.size a := fun v7371 v7544 k0_hw138 => k0_hw138.2

def k0_off327 (v7371 : BitVec 32) (v7557 : BitVec 32) : Fin 3 → Nat :=
  let c128_i32_4118 : BitVec 32 := 128#32
  let v7392 : BitVec 32 := Scalar.muli v7371 c128_i32_4118
  let v7558 : BitVec 32 := Scalar.addi v7392 v7557
  let v7925 : Index := Scalar.indexCast v7558
  let c0_4426 : Index := 0#32
  let c0_4427 : Index := 0#32
  ![v7925.toNat, 0, 0]

def k0_off328 (v7371 : BitVec 32) (v7557 : BitVec 32) : Fin 3 → Nat :=
  let c128_i32_4118 : BitVec 32 := 128#32
  let v7392 : BitVec 32 := Scalar.muli v7371 c128_i32_4118
  let c1_i32_4208 : BitVec 32 := 1#32
  let v7559 : BitVec 32 := Scalar.addi v7557 c1_i32_4208
  let c127_i32_4209 : BitVec 32 := 127#32
  let v7560 : BitVec 32 := Scalar.minsi v7559 c127_i32_4209
  let v7561 : BitVec 32 := Scalar.addi v7392 v7560
  let v7928 : Index := Scalar.indexCast v7561
  let c0_4428 : Index := 0#32
  let c0_4429 : Index := 0#32
  ![v7928.toNat, 0, 0]

def k0_chk139 (v7371 : BitVec 32) (v7557 : BitVec 32) : Prop :=
  (∀ a, (k0_off327 v7371 v7557) a + S1x128x256.size a ≤ S256x128x256.size a) ∧
  (∀ a, (k0_off328 v7371 v7557) a + S1x128x256.size a ≤ S256x128x256.size a)
theorem k0_off327_inb : ∀ (v7371 : BitVec 32) (v7557 : BitVec 32) (k0_hw139 : k0_chk139 v7371 v7557), ∀ a, (k0_off327 v7371 v7557) a + S1x128x256.size a ≤ S256x128x256.size a := fun v7371 v7557 k0_hw139 => k0_hw139.1
theorem k0_off328_inb : ∀ (v7371 : BitVec 32) (v7557 : BitVec 32) (k0_hw139 : k0_chk139 v7371 v7557), ∀ a, (k0_off328 v7371 v7557) a + S1x128x256.size a ≤ S256x128x256.size a := fun v7371 v7557 k0_hw139 => k0_hw139.2

def k0_off329 (v7371 : BitVec 32) (v7570 : BitVec 32) : Fin 3 → Nat :=
  let c128_i32_4118 : BitVec 32 := 128#32
  let v7392 : BitVec 32 := Scalar.muli v7371 c128_i32_4118
  let v7571 : BitVec 32 := Scalar.addi v7392 v7570
  let v7937 : Index := Scalar.indexCast v7571
  let c0_4431 : Index := 0#32
  let c0_4432 : Index := 0#32
  ![v7937.toNat, 0, 0]

def k0_off330 (v7371 : BitVec 32) (v7570 : BitVec 32) : Fin 3 → Nat :=
  let c128_i32_4118 : BitVec 32 := 128#32
  let v7392 : BitVec 32 := Scalar.muli v7371 c128_i32_4118
  let c1_i32_4215 : BitVec 32 := 1#32
  let v7572 : BitVec 32 := Scalar.addi v7570 c1_i32_4215
  let c127_i32_4216 : BitVec 32 := 127#32
  let v7573 : BitVec 32 := Scalar.minsi v7572 c127_i32_4216
  let v7574 : BitVec 32 := Scalar.addi v7392 v7573
  let v7940 : Index := Scalar.indexCast v7574
  let c0_4433 : Index := 0#32
  let c0_4434 : Index := 0#32
  ![v7940.toNat, 0, 0]

def k0_chk140 (v7371 : BitVec 32) (v7570 : BitVec 32) : Prop :=
  (∀ a, (k0_off329 v7371 v7570) a + S1x128x256.size a ≤ S256x128x256.size a) ∧
  (∀ a, (k0_off330 v7371 v7570) a + S1x128x256.size a ≤ S256x128x256.size a)
theorem k0_off329_inb : ∀ (v7371 : BitVec 32) (v7570 : BitVec 32) (k0_hw140 : k0_chk140 v7371 v7570), ∀ a, (k0_off329 v7371 v7570) a + S1x128x256.size a ≤ S256x128x256.size a := fun v7371 v7570 k0_hw140 => k0_hw140.1
theorem k0_off330_inb : ∀ (v7371 : BitVec 32) (v7570 : BitVec 32) (k0_hw140 : k0_chk140 v7371 v7570), ∀ a, (k0_off330 v7371 v7570) a + S1x128x256.size a ≤ S256x128x256.size a := fun v7371 v7570 k0_hw140 => k0_hw140.2

def k0_off331 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c10_i32 : BitVec 32 := 10#32
  let v8186 : BitVec 32 := Scalar.addi v5 c10_i32
  let v8187 : Index := Scalar.indexCast v8186
  let c0_4559 : Index := 0#32
  ![v8187.toNat, 0]
def k0_off332 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c10_i32 : BitVec 32 := 10#32
  let v8186 : BitVec 32 := Scalar.addi v5 c10_i32
  let v8190 : Index := Scalar.indexCast v8186
  let c1_4560 : Index := 1#32
  ![v8190.toNat, 1]
def k0_off333 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c10_i32 : BitVec 32 := 10#32
  let v8186 : BitVec 32 := Scalar.addi v5 c10_i32
  let v8194 : Index := Scalar.indexCast v8186
  let c2_4563 : Index := 2#32
  ![v8194.toNat, 2]
def k0_off334 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c10_i32 : BitVec 32 := 10#32
  let v8186 : BitVec 32 := Scalar.addi v5 c10_i32
  let v8198 : Index := Scalar.indexCast v8186
  let c3_4566 : Index := 3#32
  ![v8198.toNat, 3]
def k0_off335 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c10_i32 : BitVec 32 := 10#32
  let v8186 : BitVec 32 := Scalar.addi v5 c10_i32
  let v8202 : Index := Scalar.indexCast v8186
  let c4_4569 : Index := 4#32
  ![v8202.toNat, 4]
def k0_off336 (v8189 : BitVec 32) (v8219 : BitVec 32) : Fin 3 → Nat :=
  let c128_i32_4574 : BitVec 32 := 128#32
  let v8210 : BitVec 32 := Scalar.muli v8189 c128_i32_4574
  let v8220 : BitVec 32 := Scalar.addi v8210 v8219
  let v8575 : Index := Scalar.indexCast v8220
  let c0_4799 : Index := 0#32
  let c0_4800 : Index := 0#32
  ![v8575.toNat, 0, 0]

def k0_off337 (v8189 : BitVec 32) (v8219 : BitVec 32) : Fin 3 → Nat :=
  let c128_i32_4574 : BitVec 32 := 128#32
  let v8210 : BitVec 32 := Scalar.muli v8189 c128_i32_4574
  let c1_i32_4580 : BitVec 32 := 1#32
  let v8221 : BitVec 32 := Scalar.addi v8219 c1_i32_4580
  let c127_i32_4581 : BitVec 32 := 127#32
  let v8222 : BitVec 32 := Scalar.minsi v8221 c127_i32_4581
  let v8223 : BitVec 32 := Scalar.addi v8210 v8222
  let v8578 : Index := Scalar.indexCast v8223
  let c0_4801 : Index := 0#32
  let c0_4802 : Index := 0#32
  ![v8578.toNat, 0, 0]

def k0_chk141 (v8189 : BitVec 32) (v8219 : BitVec 32) : Prop :=
  (∀ a, (k0_off336 v8189 v8219) a + S1x128x256.size a ≤ S256x128x256.size a) ∧
  (∀ a, (k0_off337 v8189 v8219) a + S1x128x256.size a ≤ S256x128x256.size a)
theorem k0_off336_inb : ∀ (v8189 : BitVec 32) (v8219 : BitVec 32) (k0_hw141 : k0_chk141 v8189 v8219), ∀ a, (k0_off336 v8189 v8219) a + S1x128x256.size a ≤ S256x128x256.size a := fun v8189 v8219 k0_hw141 => k0_hw141.1
theorem k0_off337_inb : ∀ (v8189 : BitVec 32) (v8219 : BitVec 32) (k0_hw141 : k0_chk141 v8189 v8219), ∀ a, (k0_off337 v8189 v8219) a + S1x128x256.size a ≤ S256x128x256.size a := fun v8189 v8219 k0_hw141 => k0_hw141.2

def k0_off338 (v8189 : BitVec 32) (v8232 : BitVec 32) : Fin 3 → Nat :=
  let c128_i32_4574 : BitVec 32 := 128#32
  let v8210 : BitVec 32 := Scalar.muli v8189 c128_i32_4574
  let v8233 : BitVec 32 := Scalar.addi v8210 v8232
  let v8587 : Index := Scalar.indexCast v8233
  let c0_4804 : Index := 0#32
  let c0_4805 : Index := 0#32
  ![v8587.toNat, 0, 0]

def k0_off339 (v8189 : BitVec 32) (v8232 : BitVec 32) : Fin 3 → Nat :=
  let c128_i32_4574 : BitVec 32 := 128#32
  let v8210 : BitVec 32 := Scalar.muli v8189 c128_i32_4574
  let c1_i32_4587 : BitVec 32 := 1#32
  let v8234 : BitVec 32 := Scalar.addi v8232 c1_i32_4587
  let c127_i32_4588 : BitVec 32 := 127#32
  let v8235 : BitVec 32 := Scalar.minsi v8234 c127_i32_4588
  let v8236 : BitVec 32 := Scalar.addi v8210 v8235
  let v8590 : Index := Scalar.indexCast v8236
  let c0_4806 : Index := 0#32
  let c0_4807 : Index := 0#32
  ![v8590.toNat, 0, 0]

def k0_chk142 (v8189 : BitVec 32) (v8232 : BitVec 32) : Prop :=
  (∀ a, (k0_off338 v8189 v8232) a + S1x128x256.size a ≤ S256x128x256.size a) ∧
  (∀ a, (k0_off339 v8189 v8232) a + S1x128x256.size a ≤ S256x128x256.size a)
theorem k0_off338_inb : ∀ (v8189 : BitVec 32) (v8232 : BitVec 32) (k0_hw142 : k0_chk142 v8189 v8232), ∀ a, (k0_off338 v8189 v8232) a + S1x128x256.size a ≤ S256x128x256.size a := fun v8189 v8232 k0_hw142 => k0_hw142.1
theorem k0_off339_inb : ∀ (v8189 : BitVec 32) (v8232 : BitVec 32) (k0_hw142 : k0_chk142 v8189 v8232), ∀ a, (k0_off339 v8189 v8232) a + S1x128x256.size a ≤ S256x128x256.size a := fun v8189 v8232 k0_hw142 => k0_hw142.2

def k0_off340 (v8189 : BitVec 32) (v8245 : BitVec 32) : Fin 3 → Nat :=
  let c128_i32_4574 : BitVec 32 := 128#32
  let v8210 : BitVec 32 := Scalar.muli v8189 c128_i32_4574
  let v8246 : BitVec 32 := Scalar.addi v8210 v8245
  let v8603 : Index := Scalar.indexCast v8246
  let c0_4812 : Index := 0#32
  let c0_4813 : Index := 0#32
  ![v8603.toNat, 0, 0]

def k0_off341 (v8189 : BitVec 32) (v8245 : BitVec 32) : Fin 3 → Nat :=
  let c128_i32_4574 : BitVec 32 := 128#32
  let v8210 : BitVec 32 := Scalar.muli v8189 c128_i32_4574
  let c1_i32_4594 : BitVec 32 := 1#32
  let v8247 : BitVec 32 := Scalar.addi v8245 c1_i32_4594
  let c127_i32_4595 : BitVec 32 := 127#32
  let v8248 : BitVec 32 := Scalar.minsi v8247 c127_i32_4595
  let v8249 : BitVec 32 := Scalar.addi v8210 v8248
  let v8606 : Index := Scalar.indexCast v8249
  let c0_4814 : Index := 0#32
  let c0_4815 : Index := 0#32
  ![v8606.toNat, 0, 0]

def k0_chk143 (v8189 : BitVec 32) (v8245 : BitVec 32) : Prop :=
  (∀ a, (k0_off340 v8189 v8245) a + S1x128x256.size a ≤ S256x128x256.size a) ∧
  (∀ a, (k0_off341 v8189 v8245) a + S1x128x256.size a ≤ S256x128x256.size a)
theorem k0_off340_inb : ∀ (v8189 : BitVec 32) (v8245 : BitVec 32) (k0_hw143 : k0_chk143 v8189 v8245), ∀ a, (k0_off340 v8189 v8245) a + S1x128x256.size a ≤ S256x128x256.size a := fun v8189 v8245 k0_hw143 => k0_hw143.1
theorem k0_off341_inb : ∀ (v8189 : BitVec 32) (v8245 : BitVec 32) (k0_hw143 : k0_chk143 v8189 v8245), ∀ a, (k0_off341 v8189 v8245) a + S1x128x256.size a ≤ S256x128x256.size a := fun v8189 v8245 k0_hw143 => k0_hw143.2

def k0_off342 (v8189 : BitVec 32) (v8258 : BitVec 32) : Fin 3 → Nat :=
  let c128_i32_4574 : BitVec 32 := 128#32
  let v8210 : BitVec 32 := Scalar.muli v8189 c128_i32_4574
  let v8259 : BitVec 32 := Scalar.addi v8210 v8258
  let v8615 : Index := Scalar.indexCast v8259
  let c0_4817 : Index := 0#32
  let c0_4818 : Index := 0#32
  ![v8615.toNat, 0, 0]

def k0_off343 (v8189 : BitVec 32) (v8258 : BitVec 32) : Fin 3 → Nat :=
  let c128_i32_4574 : BitVec 32 := 128#32
  let v8210 : BitVec 32 := Scalar.muli v8189 c128_i32_4574
  let c1_i32_4601 : BitVec 32 := 1#32
  let v8260 : BitVec 32 := Scalar.addi v8258 c1_i32_4601
  let c127_i32_4602 : BitVec 32 := 127#32
  let v8261 : BitVec 32 := Scalar.minsi v8260 c127_i32_4602
  let v8262 : BitVec 32 := Scalar.addi v8210 v8261
  let v8618 : Index := Scalar.indexCast v8262
  let c0_4819 : Index := 0#32
  let c0_4820 : Index := 0#32
  ![v8618.toNat, 0, 0]

def k0_chk144 (v8189 : BitVec 32) (v8258 : BitVec 32) : Prop :=
  (∀ a, (k0_off342 v8189 v8258) a + S1x128x256.size a ≤ S256x128x256.size a) ∧
  (∀ a, (k0_off343 v8189 v8258) a + S1x128x256.size a ≤ S256x128x256.size a)
theorem k0_off342_inb : ∀ (v8189 : BitVec 32) (v8258 : BitVec 32) (k0_hw144 : k0_chk144 v8189 v8258), ∀ a, (k0_off342 v8189 v8258) a + S1x128x256.size a ≤ S256x128x256.size a := fun v8189 v8258 k0_hw144 => k0_hw144.1
theorem k0_off343_inb : ∀ (v8189 : BitVec 32) (v8258 : BitVec 32) (k0_hw144 : k0_chk144 v8189 v8258), ∀ a, (k0_off343 v8189 v8258) a + S1x128x256.size a ≤ S256x128x256.size a := fun v8189 v8258 k0_hw144 => k0_hw144.2

def k0_off344 (v8189 : BitVec 32) (v8271 : BitVec 32) : Fin 3 → Nat :=
  let c128_i32_4574 : BitVec 32 := 128#32
  let v8210 : BitVec 32 := Scalar.muli v8189 c128_i32_4574
  let v8272 : BitVec 32 := Scalar.addi v8210 v8271
  let v8631 : Index := Scalar.indexCast v8272
  let c0_4826 : Index := 0#32
  let c0_4827 : Index := 0#32
  ![v8631.toNat, 0, 0]

def k0_off345 (v8189 : BitVec 32) (v8271 : BitVec 32) : Fin 3 → Nat :=
  let c128_i32_4574 : BitVec 32 := 128#32
  let v8210 : BitVec 32 := Scalar.muli v8189 c128_i32_4574
  let c1_i32_4608 : BitVec 32 := 1#32
  let v8273 : BitVec 32 := Scalar.addi v8271 c1_i32_4608
  let c127_i32_4609 : BitVec 32 := 127#32
  let v8274 : BitVec 32 := Scalar.minsi v8273 c127_i32_4609
  let v8275 : BitVec 32 := Scalar.addi v8210 v8274
  let v8634 : Index := Scalar.indexCast v8275
  let c0_4828 : Index := 0#32
  let c0_4829 : Index := 0#32
  ![v8634.toNat, 0, 0]

def k0_chk145 (v8189 : BitVec 32) (v8271 : BitVec 32) : Prop :=
  (∀ a, (k0_off344 v8189 v8271) a + S1x128x256.size a ≤ S256x128x256.size a) ∧
  (∀ a, (k0_off345 v8189 v8271) a + S1x128x256.size a ≤ S256x128x256.size a)
theorem k0_off344_inb : ∀ (v8189 : BitVec 32) (v8271 : BitVec 32) (k0_hw145 : k0_chk145 v8189 v8271), ∀ a, (k0_off344 v8189 v8271) a + S1x128x256.size a ≤ S256x128x256.size a := fun v8189 v8271 k0_hw145 => k0_hw145.1
theorem k0_off345_inb : ∀ (v8189 : BitVec 32) (v8271 : BitVec 32) (k0_hw145 : k0_chk145 v8189 v8271), ∀ a, (k0_off345 v8189 v8271) a + S1x128x256.size a ≤ S256x128x256.size a := fun v8189 v8271 k0_hw145 => k0_hw145.2

def k0_off346 (v8189 : BitVec 32) (v8284 : BitVec 32) : Fin 3 → Nat :=
  let c128_i32_4574 : BitVec 32 := 128#32
  let v8210 : BitVec 32 := Scalar.muli v8189 c128_i32_4574
  let v8285 : BitVec 32 := Scalar.addi v8210 v8284
  let v8643 : Index := Scalar.indexCast v8285
  let c0_4831 : Index := 0#32
  let c0_4832 : Index := 0#32
  ![v8643.toNat, 0, 0]

def k0_off347 (v8189 : BitVec 32) (v8284 : BitVec 32) : Fin 3 → Nat :=
  let c128_i32_4574 : BitVec 32 := 128#32
  let v8210 : BitVec 32 := Scalar.muli v8189 c128_i32_4574
  let c1_i32_4615 : BitVec 32 := 1#32
  let v8286 : BitVec 32 := Scalar.addi v8284 c1_i32_4615
  let c127_i32_4616 : BitVec 32 := 127#32
  let v8287 : BitVec 32 := Scalar.minsi v8286 c127_i32_4616
  let v8288 : BitVec 32 := Scalar.addi v8210 v8287
  let v8646 : Index := Scalar.indexCast v8288
  let c0_4833 : Index := 0#32
  let c0_4834 : Index := 0#32
  ![v8646.toNat, 0, 0]

def k0_chk146 (v8189 : BitVec 32) (v8284 : BitVec 32) : Prop :=
  (∀ a, (k0_off346 v8189 v8284) a + S1x128x256.size a ≤ S256x128x256.size a) ∧
  (∀ a, (k0_off347 v8189 v8284) a + S1x128x256.size a ≤ S256x128x256.size a)
theorem k0_off346_inb : ∀ (v8189 : BitVec 32) (v8284 : BitVec 32) (k0_hw146 : k0_chk146 v8189 v8284), ∀ a, (k0_off346 v8189 v8284) a + S1x128x256.size a ≤ S256x128x256.size a := fun v8189 v8284 k0_hw146 => k0_hw146.1
theorem k0_off347_inb : ∀ (v8189 : BitVec 32) (v8284 : BitVec 32) (k0_hw146 : k0_chk146 v8189 v8284), ∀ a, (k0_off347 v8189 v8284) a + S1x128x256.size a ≤ S256x128x256.size a := fun v8189 v8284 k0_hw146 => k0_hw146.2

def k0_off348 (v8189 : BitVec 32) (v8297 : BitVec 32) : Fin 3 → Nat :=
  let c128_i32_4574 : BitVec 32 := 128#32
  let v8210 : BitVec 32 := Scalar.muli v8189 c128_i32_4574
  let v8298 : BitVec 32 := Scalar.addi v8210 v8297
  let v8659 : Index := Scalar.indexCast v8298
  let c0_4840 : Index := 0#32
  let c0_4841 : Index := 0#32
  ![v8659.toNat, 0, 0]

def k0_off349 (v8189 : BitVec 32) (v8297 : BitVec 32) : Fin 3 → Nat :=
  let c128_i32_4574 : BitVec 32 := 128#32
  let v8210 : BitVec 32 := Scalar.muli v8189 c128_i32_4574
  let c1_i32_4622 : BitVec 32 := 1#32
  let v8299 : BitVec 32 := Scalar.addi v8297 c1_i32_4622
  let c127_i32_4623 : BitVec 32 := 127#32
  let v8300 : BitVec 32 := Scalar.minsi v8299 c127_i32_4623
  let v8301 : BitVec 32 := Scalar.addi v8210 v8300
  let v8662 : Index := Scalar.indexCast v8301
  let c0_4842 : Index := 0#32
  let c0_4843 : Index := 0#32
  ![v8662.toNat, 0, 0]

def k0_chk147 (v8189 : BitVec 32) (v8297 : BitVec 32) : Prop :=
  (∀ a, (k0_off348 v8189 v8297) a + S1x128x256.size a ≤ S256x128x256.size a) ∧
  (∀ a, (k0_off349 v8189 v8297) a + S1x128x256.size a ≤ S256x128x256.size a)
theorem k0_off348_inb : ∀ (v8189 : BitVec 32) (v8297 : BitVec 32) (k0_hw147 : k0_chk147 v8189 v8297), ∀ a, (k0_off348 v8189 v8297) a + S1x128x256.size a ≤ S256x128x256.size a := fun v8189 v8297 k0_hw147 => k0_hw147.1
theorem k0_off349_inb : ∀ (v8189 : BitVec 32) (v8297 : BitVec 32) (k0_hw147 : k0_chk147 v8189 v8297), ∀ a, (k0_off349 v8189 v8297) a + S1x128x256.size a ≤ S256x128x256.size a := fun v8189 v8297 k0_hw147 => k0_hw147.2

def k0_off350 (v8189 : BitVec 32) (v8310 : BitVec 32) : Fin 3 → Nat :=
  let c128_i32_4574 : BitVec 32 := 128#32
  let v8210 : BitVec 32 := Scalar.muli v8189 c128_i32_4574
  let v8311 : BitVec 32 := Scalar.addi v8210 v8310
  let v8671 : Index := Scalar.indexCast v8311
  let c0_4845 : Index := 0#32
  let c0_4846 : Index := 0#32
  ![v8671.toNat, 0, 0]

def k0_off351 (v8189 : BitVec 32) (v8310 : BitVec 32) : Fin 3 → Nat :=
  let c128_i32_4574 : BitVec 32 := 128#32
  let v8210 : BitVec 32 := Scalar.muli v8189 c128_i32_4574
  let c1_i32_4629 : BitVec 32 := 1#32
  let v8312 : BitVec 32 := Scalar.addi v8310 c1_i32_4629
  let c127_i32_4630 : BitVec 32 := 127#32
  let v8313 : BitVec 32 := Scalar.minsi v8312 c127_i32_4630
  let v8314 : BitVec 32 := Scalar.addi v8210 v8313
  let v8674 : Index := Scalar.indexCast v8314
  let c0_4847 : Index := 0#32
  let c0_4848 : Index := 0#32
  ![v8674.toNat, 0, 0]

def k0_chk148 (v8189 : BitVec 32) (v8310 : BitVec 32) : Prop :=
  (∀ a, (k0_off350 v8189 v8310) a + S1x128x256.size a ≤ S256x128x256.size a) ∧
  (∀ a, (k0_off351 v8189 v8310) a + S1x128x256.size a ≤ S256x128x256.size a)
theorem k0_off350_inb : ∀ (v8189 : BitVec 32) (v8310 : BitVec 32) (k0_hw148 : k0_chk148 v8189 v8310), ∀ a, (k0_off350 v8189 v8310) a + S1x128x256.size a ≤ S256x128x256.size a := fun v8189 v8310 k0_hw148 => k0_hw148.1
theorem k0_off351_inb : ∀ (v8189 : BitVec 32) (v8310 : BitVec 32) (k0_hw148 : k0_chk148 v8189 v8310), ∀ a, (k0_off351 v8189 v8310) a + S1x128x256.size a ≤ S256x128x256.size a := fun v8189 v8310 k0_hw148 => k0_hw148.2

def k0_off352 (v8189 : BitVec 32) (v8323 : BitVec 32) : Fin 3 → Nat :=
  let c128_i32_4574 : BitVec 32 := 128#32
  let v8210 : BitVec 32 := Scalar.muli v8189 c128_i32_4574
  let v8324 : BitVec 32 := Scalar.addi v8210 v8323
  let v8687 : Index := Scalar.indexCast v8324
  let c0_4854 : Index := 0#32
  let c0_4855 : Index := 0#32
  ![v8687.toNat, 0, 0]

def k0_off353 (v8189 : BitVec 32) (v8323 : BitVec 32) : Fin 3 → Nat :=
  let c128_i32_4574 : BitVec 32 := 128#32
  let v8210 : BitVec 32 := Scalar.muli v8189 c128_i32_4574
  let c1_i32_4636 : BitVec 32 := 1#32
  let v8325 : BitVec 32 := Scalar.addi v8323 c1_i32_4636
  let c127_i32_4637 : BitVec 32 := 127#32
  let v8326 : BitVec 32 := Scalar.minsi v8325 c127_i32_4637
  let v8327 : BitVec 32 := Scalar.addi v8210 v8326
  let v8690 : Index := Scalar.indexCast v8327
  let c0_4856 : Index := 0#32
  let c0_4857 : Index := 0#32
  ![v8690.toNat, 0, 0]

def k0_chk149 (v8189 : BitVec 32) (v8323 : BitVec 32) : Prop :=
  (∀ a, (k0_off352 v8189 v8323) a + S1x128x256.size a ≤ S256x128x256.size a) ∧
  (∀ a, (k0_off353 v8189 v8323) a + S1x128x256.size a ≤ S256x128x256.size a)
theorem k0_off352_inb : ∀ (v8189 : BitVec 32) (v8323 : BitVec 32) (k0_hw149 : k0_chk149 v8189 v8323), ∀ a, (k0_off352 v8189 v8323) a + S1x128x256.size a ≤ S256x128x256.size a := fun v8189 v8323 k0_hw149 => k0_hw149.1
theorem k0_off353_inb : ∀ (v8189 : BitVec 32) (v8323 : BitVec 32) (k0_hw149 : k0_chk149 v8189 v8323), ∀ a, (k0_off353 v8189 v8323) a + S1x128x256.size a ≤ S256x128x256.size a := fun v8189 v8323 k0_hw149 => k0_hw149.2

def k0_off354 (v8189 : BitVec 32) (v8336 : BitVec 32) : Fin 3 → Nat :=
  let c128_i32_4574 : BitVec 32 := 128#32
  let v8210 : BitVec 32 := Scalar.muli v8189 c128_i32_4574
  let v8337 : BitVec 32 := Scalar.addi v8210 v8336
  let v8699 : Index := Scalar.indexCast v8337
  let c0_4859 : Index := 0#32
  let c0_4860 : Index := 0#32
  ![v8699.toNat, 0, 0]

def k0_off355 (v8189 : BitVec 32) (v8336 : BitVec 32) : Fin 3 → Nat :=
  let c128_i32_4574 : BitVec 32 := 128#32
  let v8210 : BitVec 32 := Scalar.muli v8189 c128_i32_4574
  let c1_i32_4643 : BitVec 32 := 1#32
  let v8338 : BitVec 32 := Scalar.addi v8336 c1_i32_4643
  let c127_i32_4644 : BitVec 32 := 127#32
  let v8339 : BitVec 32 := Scalar.minsi v8338 c127_i32_4644
  let v8340 : BitVec 32 := Scalar.addi v8210 v8339
  let v8702 : Index := Scalar.indexCast v8340
  let c0_4861 : Index := 0#32
  let c0_4862 : Index := 0#32
  ![v8702.toNat, 0, 0]

def k0_chk150 (v8189 : BitVec 32) (v8336 : BitVec 32) : Prop :=
  (∀ a, (k0_off354 v8189 v8336) a + S1x128x256.size a ≤ S256x128x256.size a) ∧
  (∀ a, (k0_off355 v8189 v8336) a + S1x128x256.size a ≤ S256x128x256.size a)
theorem k0_off354_inb : ∀ (v8189 : BitVec 32) (v8336 : BitVec 32) (k0_hw150 : k0_chk150 v8189 v8336), ∀ a, (k0_off354 v8189 v8336) a + S1x128x256.size a ≤ S256x128x256.size a := fun v8189 v8336 k0_hw150 => k0_hw150.1
theorem k0_off355_inb : ∀ (v8189 : BitVec 32) (v8336 : BitVec 32) (k0_hw150 : k0_chk150 v8189 v8336), ∀ a, (k0_off355 v8189 v8336) a + S1x128x256.size a ≤ S256x128x256.size a := fun v8189 v8336 k0_hw150 => k0_hw150.2

def k0_off356 (v8189 : BitVec 32) (v8349 : BitVec 32) : Fin 3 → Nat :=
  let c128_i32_4574 : BitVec 32 := 128#32
  let v8210 : BitVec 32 := Scalar.muli v8189 c128_i32_4574
  let v8350 : BitVec 32 := Scalar.addi v8210 v8349
  let v8715 : Index := Scalar.indexCast v8350
  let c0_4868 : Index := 0#32
  let c0_4869 : Index := 0#32
  ![v8715.toNat, 0, 0]

def k0_off357 (v8189 : BitVec 32) (v8349 : BitVec 32) : Fin 3 → Nat :=
  let c128_i32_4574 : BitVec 32 := 128#32
  let v8210 : BitVec 32 := Scalar.muli v8189 c128_i32_4574
  let c1_i32_4650 : BitVec 32 := 1#32
  let v8351 : BitVec 32 := Scalar.addi v8349 c1_i32_4650
  let c127_i32_4651 : BitVec 32 := 127#32
  let v8352 : BitVec 32 := Scalar.minsi v8351 c127_i32_4651
  let v8353 : BitVec 32 := Scalar.addi v8210 v8352
  let v8718 : Index := Scalar.indexCast v8353
  let c0_4870 : Index := 0#32
  let c0_4871 : Index := 0#32
  ![v8718.toNat, 0, 0]

def k0_chk151 (v8189 : BitVec 32) (v8349 : BitVec 32) : Prop :=
  (∀ a, (k0_off356 v8189 v8349) a + S1x128x256.size a ≤ S256x128x256.size a) ∧
  (∀ a, (k0_off357 v8189 v8349) a + S1x128x256.size a ≤ S256x128x256.size a)
theorem k0_off356_inb : ∀ (v8189 : BitVec 32) (v8349 : BitVec 32) (k0_hw151 : k0_chk151 v8189 v8349), ∀ a, (k0_off356 v8189 v8349) a + S1x128x256.size a ≤ S256x128x256.size a := fun v8189 v8349 k0_hw151 => k0_hw151.1
theorem k0_off357_inb : ∀ (v8189 : BitVec 32) (v8349 : BitVec 32) (k0_hw151 : k0_chk151 v8189 v8349), ∀ a, (k0_off357 v8189 v8349) a + S1x128x256.size a ≤ S256x128x256.size a := fun v8189 v8349 k0_hw151 => k0_hw151.2

def k0_off358 (v8189 : BitVec 32) (v8362 : BitVec 32) : Fin 3 → Nat :=
  let c128_i32_4574 : BitVec 32 := 128#32
  let v8210 : BitVec 32 := Scalar.muli v8189 c128_i32_4574
  let v8363 : BitVec 32 := Scalar.addi v8210 v8362
  let v8727 : Index := Scalar.indexCast v8363
  let c0_4873 : Index := 0#32
  let c0_4874 : Index := 0#32
  ![v8727.toNat, 0, 0]

def k0_off359 (v8189 : BitVec 32) (v8362 : BitVec 32) : Fin 3 → Nat :=
  let c128_i32_4574 : BitVec 32 := 128#32
  let v8210 : BitVec 32 := Scalar.muli v8189 c128_i32_4574
  let c1_i32_4657 : BitVec 32 := 1#32
  let v8364 : BitVec 32 := Scalar.addi v8362 c1_i32_4657
  let c127_i32_4658 : BitVec 32 := 127#32
  let v8365 : BitVec 32 := Scalar.minsi v8364 c127_i32_4658
  let v8366 : BitVec 32 := Scalar.addi v8210 v8365
  let v8730 : Index := Scalar.indexCast v8366
  let c0_4875 : Index := 0#32
  let c0_4876 : Index := 0#32
  ![v8730.toNat, 0, 0]

def k0_chk152 (v8189 : BitVec 32) (v8362 : BitVec 32) : Prop :=
  (∀ a, (k0_off358 v8189 v8362) a + S1x128x256.size a ≤ S256x128x256.size a) ∧
  (∀ a, (k0_off359 v8189 v8362) a + S1x128x256.size a ≤ S256x128x256.size a)
theorem k0_off358_inb : ∀ (v8189 : BitVec 32) (v8362 : BitVec 32) (k0_hw152 : k0_chk152 v8189 v8362), ∀ a, (k0_off358 v8189 v8362) a + S1x128x256.size a ≤ S256x128x256.size a := fun v8189 v8362 k0_hw152 => k0_hw152.1
theorem k0_off359_inb : ∀ (v8189 : BitVec 32) (v8362 : BitVec 32) (k0_hw152 : k0_chk152 v8189 v8362), ∀ a, (k0_off359 v8189 v8362) a + S1x128x256.size a ≤ S256x128x256.size a := fun v8189 v8362 k0_hw152 => k0_hw152.2

def k0_off360 (v8189 : BitVec 32) (v8375 : BitVec 32) : Fin 3 → Nat :=
  let c128_i32_4574 : BitVec 32 := 128#32
  let v8210 : BitVec 32 := Scalar.muli v8189 c128_i32_4574
  let v8376 : BitVec 32 := Scalar.addi v8210 v8375
  let v8743 : Index := Scalar.indexCast v8376
  let c0_4882 : Index := 0#32
  let c0_4883 : Index := 0#32
  ![v8743.toNat, 0, 0]

def k0_off361 (v8189 : BitVec 32) (v8375 : BitVec 32) : Fin 3 → Nat :=
  let c128_i32_4574 : BitVec 32 := 128#32
  let v8210 : BitVec 32 := Scalar.muli v8189 c128_i32_4574
  let c1_i32_4664 : BitVec 32 := 1#32
  let v8377 : BitVec 32 := Scalar.addi v8375 c1_i32_4664
  let c127_i32_4665 : BitVec 32 := 127#32
  let v8378 : BitVec 32 := Scalar.minsi v8377 c127_i32_4665
  let v8379 : BitVec 32 := Scalar.addi v8210 v8378
  let v8746 : Index := Scalar.indexCast v8379
  let c0_4884 : Index := 0#32
  let c0_4885 : Index := 0#32
  ![v8746.toNat, 0, 0]

def k0_chk153 (v8189 : BitVec 32) (v8375 : BitVec 32) : Prop :=
  (∀ a, (k0_off360 v8189 v8375) a + S1x128x256.size a ≤ S256x128x256.size a) ∧
  (∀ a, (k0_off361 v8189 v8375) a + S1x128x256.size a ≤ S256x128x256.size a)
theorem k0_off360_inb : ∀ (v8189 : BitVec 32) (v8375 : BitVec 32) (k0_hw153 : k0_chk153 v8189 v8375), ∀ a, (k0_off360 v8189 v8375) a + S1x128x256.size a ≤ S256x128x256.size a := fun v8189 v8375 k0_hw153 => k0_hw153.1
theorem k0_off361_inb : ∀ (v8189 : BitVec 32) (v8375 : BitVec 32) (k0_hw153 : k0_chk153 v8189 v8375), ∀ a, (k0_off361 v8189 v8375) a + S1x128x256.size a ≤ S256x128x256.size a := fun v8189 v8375 k0_hw153 => k0_hw153.2

def k0_off362 (v8189 : BitVec 32) (v8388 : BitVec 32) : Fin 3 → Nat :=
  let c128_i32_4574 : BitVec 32 := 128#32
  let v8210 : BitVec 32 := Scalar.muli v8189 c128_i32_4574
  let v8389 : BitVec 32 := Scalar.addi v8210 v8388
  let v8755 : Index := Scalar.indexCast v8389
  let c0_4887 : Index := 0#32
  let c0_4888 : Index := 0#32
  ![v8755.toNat, 0, 0]

def k0_off363 (v8189 : BitVec 32) (v8388 : BitVec 32) : Fin 3 → Nat :=
  let c128_i32_4574 : BitVec 32 := 128#32
  let v8210 : BitVec 32 := Scalar.muli v8189 c128_i32_4574
  let c1_i32_4671 : BitVec 32 := 1#32
  let v8390 : BitVec 32 := Scalar.addi v8388 c1_i32_4671
  let c127_i32_4672 : BitVec 32 := 127#32
  let v8391 : BitVec 32 := Scalar.minsi v8390 c127_i32_4672
  let v8392 : BitVec 32 := Scalar.addi v8210 v8391
  let v8758 : Index := Scalar.indexCast v8392
  let c0_4889 : Index := 0#32
  let c0_4890 : Index := 0#32
  ![v8758.toNat, 0, 0]

def k0_chk154 (v8189 : BitVec 32) (v8388 : BitVec 32) : Prop :=
  (∀ a, (k0_off362 v8189 v8388) a + S1x128x256.size a ≤ S256x128x256.size a) ∧
  (∀ a, (k0_off363 v8189 v8388) a + S1x128x256.size a ≤ S256x128x256.size a)
theorem k0_off362_inb : ∀ (v8189 : BitVec 32) (v8388 : BitVec 32) (k0_hw154 : k0_chk154 v8189 v8388), ∀ a, (k0_off362 v8189 v8388) a + S1x128x256.size a ≤ S256x128x256.size a := fun v8189 v8388 k0_hw154 => k0_hw154.1
theorem k0_off363_inb : ∀ (v8189 : BitVec 32) (v8388 : BitVec 32) (k0_hw154 : k0_chk154 v8189 v8388), ∀ a, (k0_off363 v8189 v8388) a + S1x128x256.size a ≤ S256x128x256.size a := fun v8189 v8388 k0_hw154 => k0_hw154.2

def k0_off364 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c11_i32 : BitVec 32 := 11#32
  let v9004 : BitVec 32 := Scalar.addi v5 c11_i32
  let v9005 : Index := Scalar.indexCast v9004
  let c0_5015 : Index := 0#32
  ![v9005.toNat, 0]
def k0_off365 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c11_i32 : BitVec 32 := 11#32
  let v9004 : BitVec 32 := Scalar.addi v5 c11_i32
  let v9008 : Index := Scalar.indexCast v9004
  let c1_5016 : Index := 1#32
  ![v9008.toNat, 1]
def k0_off366 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c11_i32 : BitVec 32 := 11#32
  let v9004 : BitVec 32 := Scalar.addi v5 c11_i32
  let v9012 : Index := Scalar.indexCast v9004
  let c2_5019 : Index := 2#32
  ![v9012.toNat, 2]
def k0_off367 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c11_i32 : BitVec 32 := 11#32
  let v9004 : BitVec 32 := Scalar.addi v5 c11_i32
  let v9016 : Index := Scalar.indexCast v9004
  let c3_5022 : Index := 3#32
  ![v9016.toNat, 3]
def k0_off368 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c11_i32 : BitVec 32 := 11#32
  let v9004 : BitVec 32 := Scalar.addi v5 c11_i32
  let v9020 : Index := Scalar.indexCast v9004
  let c4_5025 : Index := 4#32
  ![v9020.toNat, 4]
def k0_off369 (v9007 : BitVec 32) (v9037 : BitVec 32) : Fin 3 → Nat :=
  let c128_i32_5030 : BitVec 32 := 128#32
  let v9028 : BitVec 32 := Scalar.muli v9007 c128_i32_5030
  let v9038 : BitVec 32 := Scalar.addi v9028 v9037
  let v9393 : Index := Scalar.indexCast v9038
  let c0_5255 : Index := 0#32
  let c0_5256 : Index := 0#32
  ![v9393.toNat, 0, 0]

def k0_off370 (v9007 : BitVec 32) (v9037 : BitVec 32) : Fin 3 → Nat :=
  let c128_i32_5030 : BitVec 32 := 128#32
  let v9028 : BitVec 32 := Scalar.muli v9007 c128_i32_5030
  let c1_i32_5036 : BitVec 32 := 1#32
  let v9039 : BitVec 32 := Scalar.addi v9037 c1_i32_5036
  let c127_i32_5037 : BitVec 32 := 127#32
  let v9040 : BitVec 32 := Scalar.minsi v9039 c127_i32_5037
  let v9041 : BitVec 32 := Scalar.addi v9028 v9040
  let v9396 : Index := Scalar.indexCast v9041
  let c0_5257 : Index := 0#32
  let c0_5258 : Index := 0#32
  ![v9396.toNat, 0, 0]

def k0_chk155 (v9007 : BitVec 32) (v9037 : BitVec 32) : Prop :=
  (∀ a, (k0_off369 v9007 v9037) a + S1x128x256.size a ≤ S256x128x256.size a) ∧
  (∀ a, (k0_off370 v9007 v9037) a + S1x128x256.size a ≤ S256x128x256.size a)
theorem k0_off369_inb : ∀ (v9007 : BitVec 32) (v9037 : BitVec 32) (k0_hw155 : k0_chk155 v9007 v9037), ∀ a, (k0_off369 v9007 v9037) a + S1x128x256.size a ≤ S256x128x256.size a := fun v9007 v9037 k0_hw155 => k0_hw155.1
theorem k0_off370_inb : ∀ (v9007 : BitVec 32) (v9037 : BitVec 32) (k0_hw155 : k0_chk155 v9007 v9037), ∀ a, (k0_off370 v9007 v9037) a + S1x128x256.size a ≤ S256x128x256.size a := fun v9007 v9037 k0_hw155 => k0_hw155.2

def k0_off371 (v9007 : BitVec 32) (v9050 : BitVec 32) : Fin 3 → Nat :=
  let c128_i32_5030 : BitVec 32 := 128#32
  let v9028 : BitVec 32 := Scalar.muli v9007 c128_i32_5030
  let v9051 : BitVec 32 := Scalar.addi v9028 v9050
  let v9405 : Index := Scalar.indexCast v9051
  let c0_5260 : Index := 0#32
  let c0_5261 : Index := 0#32
  ![v9405.toNat, 0, 0]

def k0_off372 (v9007 : BitVec 32) (v9050 : BitVec 32) : Fin 3 → Nat :=
  let c128_i32_5030 : BitVec 32 := 128#32
  let v9028 : BitVec 32 := Scalar.muli v9007 c128_i32_5030
  let c1_i32_5043 : BitVec 32 := 1#32
  let v9052 : BitVec 32 := Scalar.addi v9050 c1_i32_5043
  let c127_i32_5044 : BitVec 32 := 127#32
  let v9053 : BitVec 32 := Scalar.minsi v9052 c127_i32_5044
  let v9054 : BitVec 32 := Scalar.addi v9028 v9053
  let v9408 : Index := Scalar.indexCast v9054
  let c0_5262 : Index := 0#32
  let c0_5263 : Index := 0#32
  ![v9408.toNat, 0, 0]

def k0_chk156 (v9007 : BitVec 32) (v9050 : BitVec 32) : Prop :=
  (∀ a, (k0_off371 v9007 v9050) a + S1x128x256.size a ≤ S256x128x256.size a) ∧
  (∀ a, (k0_off372 v9007 v9050) a + S1x128x256.size a ≤ S256x128x256.size a)
theorem k0_off371_inb : ∀ (v9007 : BitVec 32) (v9050 : BitVec 32) (k0_hw156 : k0_chk156 v9007 v9050), ∀ a, (k0_off371 v9007 v9050) a + S1x128x256.size a ≤ S256x128x256.size a := fun v9007 v9050 k0_hw156 => k0_hw156.1
theorem k0_off372_inb : ∀ (v9007 : BitVec 32) (v9050 : BitVec 32) (k0_hw156 : k0_chk156 v9007 v9050), ∀ a, (k0_off372 v9007 v9050) a + S1x128x256.size a ≤ S256x128x256.size a := fun v9007 v9050 k0_hw156 => k0_hw156.2

def k0_off373 (v9007 : BitVec 32) (v9063 : BitVec 32) : Fin 3 → Nat :=
  let c128_i32_5030 : BitVec 32 := 128#32
  let v9028 : BitVec 32 := Scalar.muli v9007 c128_i32_5030
  let v9064 : BitVec 32 := Scalar.addi v9028 v9063
  let v9421 : Index := Scalar.indexCast v9064
  let c0_5268 : Index := 0#32
  let c0_5269 : Index := 0#32
  ![v9421.toNat, 0, 0]

def k0_off374 (v9007 : BitVec 32) (v9063 : BitVec 32) : Fin 3 → Nat :=
  let c128_i32_5030 : BitVec 32 := 128#32
  let v9028 : BitVec 32 := Scalar.muli v9007 c128_i32_5030
  let c1_i32_5050 : BitVec 32 := 1#32
  let v9065 : BitVec 32 := Scalar.addi v9063 c1_i32_5050
  let c127_i32_5051 : BitVec 32 := 127#32
  let v9066 : BitVec 32 := Scalar.minsi v9065 c127_i32_5051
  let v9067 : BitVec 32 := Scalar.addi v9028 v9066
  let v9424 : Index := Scalar.indexCast v9067
  let c0_5270 : Index := 0#32
  let c0_5271 : Index := 0#32
  ![v9424.toNat, 0, 0]

def k0_chk157 (v9007 : BitVec 32) (v9063 : BitVec 32) : Prop :=
  (∀ a, (k0_off373 v9007 v9063) a + S1x128x256.size a ≤ S256x128x256.size a) ∧
  (∀ a, (k0_off374 v9007 v9063) a + S1x128x256.size a ≤ S256x128x256.size a)
theorem k0_off373_inb : ∀ (v9007 : BitVec 32) (v9063 : BitVec 32) (k0_hw157 : k0_chk157 v9007 v9063), ∀ a, (k0_off373 v9007 v9063) a + S1x128x256.size a ≤ S256x128x256.size a := fun v9007 v9063 k0_hw157 => k0_hw157.1
theorem k0_off374_inb : ∀ (v9007 : BitVec 32) (v9063 : BitVec 32) (k0_hw157 : k0_chk157 v9007 v9063), ∀ a, (k0_off374 v9007 v9063) a + S1x128x256.size a ≤ S256x128x256.size a := fun v9007 v9063 k0_hw157 => k0_hw157.2

def k0_off375 (v9007 : BitVec 32) (v9076 : BitVec 32) : Fin 3 → Nat :=
  let c128_i32_5030 : BitVec 32 := 128#32
  let v9028 : BitVec 32 := Scalar.muli v9007 c128_i32_5030
  let v9077 : BitVec 32 := Scalar.addi v9028 v9076
  let v9433 : Index := Scalar.indexCast v9077
  let c0_5273 : Index := 0#32
  let c0_5274 : Index := 0#32
  ![v9433.toNat, 0, 0]

def k0_off376 (v9007 : BitVec 32) (v9076 : BitVec 32) : Fin 3 → Nat :=
  let c128_i32_5030 : BitVec 32 := 128#32
  let v9028 : BitVec 32 := Scalar.muli v9007 c128_i32_5030
  let c1_i32_5057 : BitVec 32 := 1#32
  let v9078 : BitVec 32 := Scalar.addi v9076 c1_i32_5057
  let c127_i32_5058 : BitVec 32 := 127#32
  let v9079 : BitVec 32 := Scalar.minsi v9078 c127_i32_5058
  let v9080 : BitVec 32 := Scalar.addi v9028 v9079
  let v9436 : Index := Scalar.indexCast v9080
  let c0_5275 : Index := 0#32
  let c0_5276 : Index := 0#32
  ![v9436.toNat, 0, 0]

def k0_chk158 (v9007 : BitVec 32) (v9076 : BitVec 32) : Prop :=
  (∀ a, (k0_off375 v9007 v9076) a + S1x128x256.size a ≤ S256x128x256.size a) ∧
  (∀ a, (k0_off376 v9007 v9076) a + S1x128x256.size a ≤ S256x128x256.size a)
theorem k0_off375_inb : ∀ (v9007 : BitVec 32) (v9076 : BitVec 32) (k0_hw158 : k0_chk158 v9007 v9076), ∀ a, (k0_off375 v9007 v9076) a + S1x128x256.size a ≤ S256x128x256.size a := fun v9007 v9076 k0_hw158 => k0_hw158.1
theorem k0_off376_inb : ∀ (v9007 : BitVec 32) (v9076 : BitVec 32) (k0_hw158 : k0_chk158 v9007 v9076), ∀ a, (k0_off376 v9007 v9076) a + S1x128x256.size a ≤ S256x128x256.size a := fun v9007 v9076 k0_hw158 => k0_hw158.2

def k0_off377 (v9007 : BitVec 32) (v9089 : BitVec 32) : Fin 3 → Nat :=
  let c128_i32_5030 : BitVec 32 := 128#32
  let v9028 : BitVec 32 := Scalar.muli v9007 c128_i32_5030
  let v9090 : BitVec 32 := Scalar.addi v9028 v9089
  let v9449 : Index := Scalar.indexCast v9090
  let c0_5282 : Index := 0#32
  let c0_5283 : Index := 0#32
  ![v9449.toNat, 0, 0]

def k0_off378 (v9007 : BitVec 32) (v9089 : BitVec 32) : Fin 3 → Nat :=
  let c128_i32_5030 : BitVec 32 := 128#32
  let v9028 : BitVec 32 := Scalar.muli v9007 c128_i32_5030
  let c1_i32_5064 : BitVec 32 := 1#32
  let v9091 : BitVec 32 := Scalar.addi v9089 c1_i32_5064
  let c127_i32_5065 : BitVec 32 := 127#32
  let v9092 : BitVec 32 := Scalar.minsi v9091 c127_i32_5065
  let v9093 : BitVec 32 := Scalar.addi v9028 v9092
  let v9452 : Index := Scalar.indexCast v9093
  let c0_5284 : Index := 0#32
  let c0_5285 : Index := 0#32
  ![v9452.toNat, 0, 0]

def k0_chk159 (v9007 : BitVec 32) (v9089 : BitVec 32) : Prop :=
  (∀ a, (k0_off377 v9007 v9089) a + S1x128x256.size a ≤ S256x128x256.size a) ∧
  (∀ a, (k0_off378 v9007 v9089) a + S1x128x256.size a ≤ S256x128x256.size a)
theorem k0_off377_inb : ∀ (v9007 : BitVec 32) (v9089 : BitVec 32) (k0_hw159 : k0_chk159 v9007 v9089), ∀ a, (k0_off377 v9007 v9089) a + S1x128x256.size a ≤ S256x128x256.size a := fun v9007 v9089 k0_hw159 => k0_hw159.1
theorem k0_off378_inb : ∀ (v9007 : BitVec 32) (v9089 : BitVec 32) (k0_hw159 : k0_chk159 v9007 v9089), ∀ a, (k0_off378 v9007 v9089) a + S1x128x256.size a ≤ S256x128x256.size a := fun v9007 v9089 k0_hw159 => k0_hw159.2

def k0_off379 (v9007 : BitVec 32) (v9102 : BitVec 32) : Fin 3 → Nat :=
  let c128_i32_5030 : BitVec 32 := 128#32
  let v9028 : BitVec 32 := Scalar.muli v9007 c128_i32_5030
  let v9103 : BitVec 32 := Scalar.addi v9028 v9102
  let v9461 : Index := Scalar.indexCast v9103
  let c0_5287 : Index := 0#32
  let c0_5288 : Index := 0#32
  ![v9461.toNat, 0, 0]

def k0_off380 (v9007 : BitVec 32) (v9102 : BitVec 32) : Fin 3 → Nat :=
  let c128_i32_5030 : BitVec 32 := 128#32
  let v9028 : BitVec 32 := Scalar.muli v9007 c128_i32_5030
  let c1_i32_5071 : BitVec 32 := 1#32
  let v9104 : BitVec 32 := Scalar.addi v9102 c1_i32_5071
  let c127_i32_5072 : BitVec 32 := 127#32
  let v9105 : BitVec 32 := Scalar.minsi v9104 c127_i32_5072
  let v9106 : BitVec 32 := Scalar.addi v9028 v9105
  let v9464 : Index := Scalar.indexCast v9106
  let c0_5289 : Index := 0#32
  let c0_5290 : Index := 0#32
  ![v9464.toNat, 0, 0]

def k0_chk160 (v9007 : BitVec 32) (v9102 : BitVec 32) : Prop :=
  (∀ a, (k0_off379 v9007 v9102) a + S1x128x256.size a ≤ S256x128x256.size a) ∧
  (∀ a, (k0_off380 v9007 v9102) a + S1x128x256.size a ≤ S256x128x256.size a)
theorem k0_off379_inb : ∀ (v9007 : BitVec 32) (v9102 : BitVec 32) (k0_hw160 : k0_chk160 v9007 v9102), ∀ a, (k0_off379 v9007 v9102) a + S1x128x256.size a ≤ S256x128x256.size a := fun v9007 v9102 k0_hw160 => k0_hw160.1
theorem k0_off380_inb : ∀ (v9007 : BitVec 32) (v9102 : BitVec 32) (k0_hw160 : k0_chk160 v9007 v9102), ∀ a, (k0_off380 v9007 v9102) a + S1x128x256.size a ≤ S256x128x256.size a := fun v9007 v9102 k0_hw160 => k0_hw160.2

def k0_off381 (v9007 : BitVec 32) (v9115 : BitVec 32) : Fin 3 → Nat :=
  let c128_i32_5030 : BitVec 32 := 128#32
  let v9028 : BitVec 32 := Scalar.muli v9007 c128_i32_5030
  let v9116 : BitVec 32 := Scalar.addi v9028 v9115
  let v9477 : Index := Scalar.indexCast v9116
  let c0_5296 : Index := 0#32
  let c0_5297 : Index := 0#32
  ![v9477.toNat, 0, 0]

def k0_off382 (v9007 : BitVec 32) (v9115 : BitVec 32) : Fin 3 → Nat :=
  let c128_i32_5030 : BitVec 32 := 128#32
  let v9028 : BitVec 32 := Scalar.muli v9007 c128_i32_5030
  let c1_i32_5078 : BitVec 32 := 1#32
  let v9117 : BitVec 32 := Scalar.addi v9115 c1_i32_5078
  let c127_i32_5079 : BitVec 32 := 127#32
  let v9118 : BitVec 32 := Scalar.minsi v9117 c127_i32_5079
  let v9119 : BitVec 32 := Scalar.addi v9028 v9118
  let v9480 : Index := Scalar.indexCast v9119
  let c0_5298 : Index := 0#32
  let c0_5299 : Index := 0#32
  ![v9480.toNat, 0, 0]

def k0_chk161 (v9007 : BitVec 32) (v9115 : BitVec 32) : Prop :=
  (∀ a, (k0_off381 v9007 v9115) a + S1x128x256.size a ≤ S256x128x256.size a) ∧
  (∀ a, (k0_off382 v9007 v9115) a + S1x128x256.size a ≤ S256x128x256.size a)
theorem k0_off381_inb : ∀ (v9007 : BitVec 32) (v9115 : BitVec 32) (k0_hw161 : k0_chk161 v9007 v9115), ∀ a, (k0_off381 v9007 v9115) a + S1x128x256.size a ≤ S256x128x256.size a := fun v9007 v9115 k0_hw161 => k0_hw161.1
theorem k0_off382_inb : ∀ (v9007 : BitVec 32) (v9115 : BitVec 32) (k0_hw161 : k0_chk161 v9007 v9115), ∀ a, (k0_off382 v9007 v9115) a + S1x128x256.size a ≤ S256x128x256.size a := fun v9007 v9115 k0_hw161 => k0_hw161.2

def k0_off383 (v9007 : BitVec 32) (v9128 : BitVec 32) : Fin 3 → Nat :=
  let c128_i32_5030 : BitVec 32 := 128#32
  let v9028 : BitVec 32 := Scalar.muli v9007 c128_i32_5030
  let v9129 : BitVec 32 := Scalar.addi v9028 v9128
  let v9489 : Index := Scalar.indexCast v9129
  let c0_5301 : Index := 0#32
  let c0_5302 : Index := 0#32
  ![v9489.toNat, 0, 0]

def k0_off384 (v9007 : BitVec 32) (v9128 : BitVec 32) : Fin 3 → Nat :=
  let c128_i32_5030 : BitVec 32 := 128#32
  let v9028 : BitVec 32 := Scalar.muli v9007 c128_i32_5030
  let c1_i32_5085 : BitVec 32 := 1#32
  let v9130 : BitVec 32 := Scalar.addi v9128 c1_i32_5085
  let c127_i32_5086 : BitVec 32 := 127#32
  let v9131 : BitVec 32 := Scalar.minsi v9130 c127_i32_5086
  let v9132 : BitVec 32 := Scalar.addi v9028 v9131
  let v9492 : Index := Scalar.indexCast v9132
  let c0_5303 : Index := 0#32
  let c0_5304 : Index := 0#32
  ![v9492.toNat, 0, 0]

def k0_chk162 (v9007 : BitVec 32) (v9128 : BitVec 32) : Prop :=
  (∀ a, (k0_off383 v9007 v9128) a + S1x128x256.size a ≤ S256x128x256.size a) ∧
  (∀ a, (k0_off384 v9007 v9128) a + S1x128x256.size a ≤ S256x128x256.size a)
theorem k0_off383_inb : ∀ (v9007 : BitVec 32) (v9128 : BitVec 32) (k0_hw162 : k0_chk162 v9007 v9128), ∀ a, (k0_off383 v9007 v9128) a + S1x128x256.size a ≤ S256x128x256.size a := fun v9007 v9128 k0_hw162 => k0_hw162.1
theorem k0_off384_inb : ∀ (v9007 : BitVec 32) (v9128 : BitVec 32) (k0_hw162 : k0_chk162 v9007 v9128), ∀ a, (k0_off384 v9007 v9128) a + S1x128x256.size a ≤ S256x128x256.size a := fun v9007 v9128 k0_hw162 => k0_hw162.2

def k0_off385 (v9007 : BitVec 32) (v9141 : BitVec 32) : Fin 3 → Nat :=
  let c128_i32_5030 : BitVec 32 := 128#32
  let v9028 : BitVec 32 := Scalar.muli v9007 c128_i32_5030
  let v9142 : BitVec 32 := Scalar.addi v9028 v9141
  let v9505 : Index := Scalar.indexCast v9142
  let c0_5310 : Index := 0#32
  let c0_5311 : Index := 0#32
  ![v9505.toNat, 0, 0]

def k0_off386 (v9007 : BitVec 32) (v9141 : BitVec 32) : Fin 3 → Nat :=
  let c128_i32_5030 : BitVec 32 := 128#32
  let v9028 : BitVec 32 := Scalar.muli v9007 c128_i32_5030
  let c1_i32_5092 : BitVec 32 := 1#32
  let v9143 : BitVec 32 := Scalar.addi v9141 c1_i32_5092
  let c127_i32_5093 : BitVec 32 := 127#32
  let v9144 : BitVec 32 := Scalar.minsi v9143 c127_i32_5093
  let v9145 : BitVec 32 := Scalar.addi v9028 v9144
  let v9508 : Index := Scalar.indexCast v9145
  let c0_5312 : Index := 0#32
  let c0_5313 : Index := 0#32
  ![v9508.toNat, 0, 0]

def k0_chk163 (v9007 : BitVec 32) (v9141 : BitVec 32) : Prop :=
  (∀ a, (k0_off385 v9007 v9141) a + S1x128x256.size a ≤ S256x128x256.size a) ∧
  (∀ a, (k0_off386 v9007 v9141) a + S1x128x256.size a ≤ S256x128x256.size a)
theorem k0_off385_inb : ∀ (v9007 : BitVec 32) (v9141 : BitVec 32) (k0_hw163 : k0_chk163 v9007 v9141), ∀ a, (k0_off385 v9007 v9141) a + S1x128x256.size a ≤ S256x128x256.size a := fun v9007 v9141 k0_hw163 => k0_hw163.1
theorem k0_off386_inb : ∀ (v9007 : BitVec 32) (v9141 : BitVec 32) (k0_hw163 : k0_chk163 v9007 v9141), ∀ a, (k0_off386 v9007 v9141) a + S1x128x256.size a ≤ S256x128x256.size a := fun v9007 v9141 k0_hw163 => k0_hw163.2

def k0_off387 (v9007 : BitVec 32) (v9154 : BitVec 32) : Fin 3 → Nat :=
  let c128_i32_5030 : BitVec 32 := 128#32
  let v9028 : BitVec 32 := Scalar.muli v9007 c128_i32_5030
  let v9155 : BitVec 32 := Scalar.addi v9028 v9154
  let v9517 : Index := Scalar.indexCast v9155
  let c0_5315 : Index := 0#32
  let c0_5316 : Index := 0#32
  ![v9517.toNat, 0, 0]

def k0_off388 (v9007 : BitVec 32) (v9154 : BitVec 32) : Fin 3 → Nat :=
  let c128_i32_5030 : BitVec 32 := 128#32
  let v9028 : BitVec 32 := Scalar.muli v9007 c128_i32_5030
  let c1_i32_5099 : BitVec 32 := 1#32
  let v9156 : BitVec 32 := Scalar.addi v9154 c1_i32_5099
  let c127_i32_5100 : BitVec 32 := 127#32
  let v9157 : BitVec 32 := Scalar.minsi v9156 c127_i32_5100
  let v9158 : BitVec 32 := Scalar.addi v9028 v9157
  let v9520 : Index := Scalar.indexCast v9158
  let c0_5317 : Index := 0#32
  let c0_5318 : Index := 0#32
  ![v9520.toNat, 0, 0]

def k0_chk164 (v9007 : BitVec 32) (v9154 : BitVec 32) : Prop :=
  (∀ a, (k0_off387 v9007 v9154) a + S1x128x256.size a ≤ S256x128x256.size a) ∧
  (∀ a, (k0_off388 v9007 v9154) a + S1x128x256.size a ≤ S256x128x256.size a)
theorem k0_off387_inb : ∀ (v9007 : BitVec 32) (v9154 : BitVec 32) (k0_hw164 : k0_chk164 v9007 v9154), ∀ a, (k0_off387 v9007 v9154) a + S1x128x256.size a ≤ S256x128x256.size a := fun v9007 v9154 k0_hw164 => k0_hw164.1
theorem k0_off388_inb : ∀ (v9007 : BitVec 32) (v9154 : BitVec 32) (k0_hw164 : k0_chk164 v9007 v9154), ∀ a, (k0_off388 v9007 v9154) a + S1x128x256.size a ≤ S256x128x256.size a := fun v9007 v9154 k0_hw164 => k0_hw164.2

def k0_off389 (v9007 : BitVec 32) (v9167 : BitVec 32) : Fin 3 → Nat :=
  let c128_i32_5030 : BitVec 32 := 128#32
  let v9028 : BitVec 32 := Scalar.muli v9007 c128_i32_5030
  let v9168 : BitVec 32 := Scalar.addi v9028 v9167
  let v9533 : Index := Scalar.indexCast v9168
  let c0_5324 : Index := 0#32
  let c0_5325 : Index := 0#32
  ![v9533.toNat, 0, 0]

def k0_off390 (v9007 : BitVec 32) (v9167 : BitVec 32) : Fin 3 → Nat :=
  let c128_i32_5030 : BitVec 32 := 128#32
  let v9028 : BitVec 32 := Scalar.muli v9007 c128_i32_5030
  let c1_i32_5106 : BitVec 32 := 1#32
  let v9169 : BitVec 32 := Scalar.addi v9167 c1_i32_5106
  let c127_i32_5107 : BitVec 32 := 127#32
  let v9170 : BitVec 32 := Scalar.minsi v9169 c127_i32_5107
  let v9171 : BitVec 32 := Scalar.addi v9028 v9170
  let v9536 : Index := Scalar.indexCast v9171
  let c0_5326 : Index := 0#32
  let c0_5327 : Index := 0#32
  ![v9536.toNat, 0, 0]

def k0_chk165 (v9007 : BitVec 32) (v9167 : BitVec 32) : Prop :=
  (∀ a, (k0_off389 v9007 v9167) a + S1x128x256.size a ≤ S256x128x256.size a) ∧
  (∀ a, (k0_off390 v9007 v9167) a + S1x128x256.size a ≤ S256x128x256.size a)
theorem k0_off389_inb : ∀ (v9007 : BitVec 32) (v9167 : BitVec 32) (k0_hw165 : k0_chk165 v9007 v9167), ∀ a, (k0_off389 v9007 v9167) a + S1x128x256.size a ≤ S256x128x256.size a := fun v9007 v9167 k0_hw165 => k0_hw165.1
theorem k0_off390_inb : ∀ (v9007 : BitVec 32) (v9167 : BitVec 32) (k0_hw165 : k0_chk165 v9007 v9167), ∀ a, (k0_off390 v9007 v9167) a + S1x128x256.size a ≤ S256x128x256.size a := fun v9007 v9167 k0_hw165 => k0_hw165.2

def k0_off391 (v9007 : BitVec 32) (v9180 : BitVec 32) : Fin 3 → Nat :=
  let c128_i32_5030 : BitVec 32 := 128#32
  let v9028 : BitVec 32 := Scalar.muli v9007 c128_i32_5030
  let v9181 : BitVec 32 := Scalar.addi v9028 v9180
  let v9545 : Index := Scalar.indexCast v9181
  let c0_5329 : Index := 0#32
  let c0_5330 : Index := 0#32
  ![v9545.toNat, 0, 0]

def k0_off392 (v9007 : BitVec 32) (v9180 : BitVec 32) : Fin 3 → Nat :=
  let c128_i32_5030 : BitVec 32 := 128#32
  let v9028 : BitVec 32 := Scalar.muli v9007 c128_i32_5030
  let c1_i32_5113 : BitVec 32 := 1#32
  let v9182 : BitVec 32 := Scalar.addi v9180 c1_i32_5113
  let c127_i32_5114 : BitVec 32 := 127#32
  let v9183 : BitVec 32 := Scalar.minsi v9182 c127_i32_5114
  let v9184 : BitVec 32 := Scalar.addi v9028 v9183
  let v9548 : Index := Scalar.indexCast v9184
  let c0_5331 : Index := 0#32
  let c0_5332 : Index := 0#32
  ![v9548.toNat, 0, 0]

def k0_chk166 (v9007 : BitVec 32) (v9180 : BitVec 32) : Prop :=
  (∀ a, (k0_off391 v9007 v9180) a + S1x128x256.size a ≤ S256x128x256.size a) ∧
  (∀ a, (k0_off392 v9007 v9180) a + S1x128x256.size a ≤ S256x128x256.size a)
theorem k0_off391_inb : ∀ (v9007 : BitVec 32) (v9180 : BitVec 32) (k0_hw166 : k0_chk166 v9007 v9180), ∀ a, (k0_off391 v9007 v9180) a + S1x128x256.size a ≤ S256x128x256.size a := fun v9007 v9180 k0_hw166 => k0_hw166.1
theorem k0_off392_inb : ∀ (v9007 : BitVec 32) (v9180 : BitVec 32) (k0_hw166 : k0_chk166 v9007 v9180), ∀ a, (k0_off392 v9007 v9180) a + S1x128x256.size a ≤ S256x128x256.size a := fun v9007 v9180 k0_hw166 => k0_hw166.2

def k0_off393 (v9007 : BitVec 32) (v9193 : BitVec 32) : Fin 3 → Nat :=
  let c128_i32_5030 : BitVec 32 := 128#32
  let v9028 : BitVec 32 := Scalar.muli v9007 c128_i32_5030
  let v9194 : BitVec 32 := Scalar.addi v9028 v9193
  let v9561 : Index := Scalar.indexCast v9194
  let c0_5338 : Index := 0#32
  let c0_5339 : Index := 0#32
  ![v9561.toNat, 0, 0]

def k0_off394 (v9007 : BitVec 32) (v9193 : BitVec 32) : Fin 3 → Nat :=
  let c128_i32_5030 : BitVec 32 := 128#32
  let v9028 : BitVec 32 := Scalar.muli v9007 c128_i32_5030
  let c1_i32_5120 : BitVec 32 := 1#32
  let v9195 : BitVec 32 := Scalar.addi v9193 c1_i32_5120
  let c127_i32_5121 : BitVec 32 := 127#32
  let v9196 : BitVec 32 := Scalar.minsi v9195 c127_i32_5121
  let v9197 : BitVec 32 := Scalar.addi v9028 v9196
  let v9564 : Index := Scalar.indexCast v9197
  let c0_5340 : Index := 0#32
  let c0_5341 : Index := 0#32
  ![v9564.toNat, 0, 0]

def k0_chk167 (v9007 : BitVec 32) (v9193 : BitVec 32) : Prop :=
  (∀ a, (k0_off393 v9007 v9193) a + S1x128x256.size a ≤ S256x128x256.size a) ∧
  (∀ a, (k0_off394 v9007 v9193) a + S1x128x256.size a ≤ S256x128x256.size a)
theorem k0_off393_inb : ∀ (v9007 : BitVec 32) (v9193 : BitVec 32) (k0_hw167 : k0_chk167 v9007 v9193), ∀ a, (k0_off393 v9007 v9193) a + S1x128x256.size a ≤ S256x128x256.size a := fun v9007 v9193 k0_hw167 => k0_hw167.1
theorem k0_off394_inb : ∀ (v9007 : BitVec 32) (v9193 : BitVec 32) (k0_hw167 : k0_chk167 v9007 v9193), ∀ a, (k0_off394 v9007 v9193) a + S1x128x256.size a ≤ S256x128x256.size a := fun v9007 v9193 k0_hw167 => k0_hw167.2

def k0_off395 (v9007 : BitVec 32) (v9206 : BitVec 32) : Fin 3 → Nat :=
  let c128_i32_5030 : BitVec 32 := 128#32
  let v9028 : BitVec 32 := Scalar.muli v9007 c128_i32_5030
  let v9207 : BitVec 32 := Scalar.addi v9028 v9206
  let v9573 : Index := Scalar.indexCast v9207
  let c0_5343 : Index := 0#32
  let c0_5344 : Index := 0#32
  ![v9573.toNat, 0, 0]

def k0_off396 (v9007 : BitVec 32) (v9206 : BitVec 32) : Fin 3 → Nat :=
  let c128_i32_5030 : BitVec 32 := 128#32
  let v9028 : BitVec 32 := Scalar.muli v9007 c128_i32_5030
  let c1_i32_5127 : BitVec 32 := 1#32
  let v9208 : BitVec 32 := Scalar.addi v9206 c1_i32_5127
  let c127_i32_5128 : BitVec 32 := 127#32
  let v9209 : BitVec 32 := Scalar.minsi v9208 c127_i32_5128
  let v9210 : BitVec 32 := Scalar.addi v9028 v9209
  let v9576 : Index := Scalar.indexCast v9210
  let c0_5345 : Index := 0#32
  let c0_5346 : Index := 0#32
  ![v9576.toNat, 0, 0]

def k0_chk168 (v9007 : BitVec 32) (v9206 : BitVec 32) : Prop :=
  (∀ a, (k0_off395 v9007 v9206) a + S1x128x256.size a ≤ S256x128x256.size a) ∧
  (∀ a, (k0_off396 v9007 v9206) a + S1x128x256.size a ≤ S256x128x256.size a)
theorem k0_off395_inb : ∀ (v9007 : BitVec 32) (v9206 : BitVec 32) (k0_hw168 : k0_chk168 v9007 v9206), ∀ a, (k0_off395 v9007 v9206) a + S1x128x256.size a ≤ S256x128x256.size a := fun v9007 v9206 k0_hw168 => k0_hw168.1
theorem k0_off396_inb : ∀ (v9007 : BitVec 32) (v9206 : BitVec 32) (k0_hw168 : k0_chk168 v9007 v9206), ∀ a, (k0_off396 v9007 v9206) a + S1x128x256.size a ≤ S256x128x256.size a := fun v9007 v9206 k0_hw168 => k0_hw168.2

def k0_off397 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c12_i32 : BitVec 32 := 12#32
  let v9822 : BitVec 32 := Scalar.addi v5 c12_i32
  let v9823 : Index := Scalar.indexCast v9822
  let c0_5471 : Index := 0#32
  ![v9823.toNat, 0]
def k0_off398 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c12_i32 : BitVec 32 := 12#32
  let v9822 : BitVec 32 := Scalar.addi v5 c12_i32
  let v9826 : Index := Scalar.indexCast v9822
  let c1_5472 : Index := 1#32
  ![v9826.toNat, 1]
def k0_off399 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c12_i32 : BitVec 32 := 12#32
  let v9822 : BitVec 32 := Scalar.addi v5 c12_i32
  let v9830 : Index := Scalar.indexCast v9822
  let c2_5475 : Index := 2#32
  ![v9830.toNat, 2]
def k0_off400 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c12_i32 : BitVec 32 := 12#32
  let v9822 : BitVec 32 := Scalar.addi v5 c12_i32
  let v9834 : Index := Scalar.indexCast v9822
  let c3_5478 : Index := 3#32
  ![v9834.toNat, 3]
def k0_off401 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c12_i32 : BitVec 32 := 12#32
  let v9822 : BitVec 32 := Scalar.addi v5 c12_i32
  let v9838 : Index := Scalar.indexCast v9822
  let c4_5481 : Index := 4#32
  ![v9838.toNat, 4]
def k0_off402 (v9825 : BitVec 32) (v9855 : BitVec 32) : Fin 3 → Nat :=
  let c128_i32_5486 : BitVec 32 := 128#32
  let v9846 : BitVec 32 := Scalar.muli v9825 c128_i32_5486
  let v9856 : BitVec 32 := Scalar.addi v9846 v9855
  let v10211 : Index := Scalar.indexCast v9856
  let c0_5711 : Index := 0#32
  let c0_5712 : Index := 0#32
  ![v10211.toNat, 0, 0]

def k0_off403 (v9825 : BitVec 32) (v9855 : BitVec 32) : Fin 3 → Nat :=
  let c128_i32_5486 : BitVec 32 := 128#32
  let v9846 : BitVec 32 := Scalar.muli v9825 c128_i32_5486
  let c1_i32_5492 : BitVec 32 := 1#32
  let v9857 : BitVec 32 := Scalar.addi v9855 c1_i32_5492
  let c127_i32_5493 : BitVec 32 := 127#32
  let v9858 : BitVec 32 := Scalar.minsi v9857 c127_i32_5493
  let v9859 : BitVec 32 := Scalar.addi v9846 v9858
  let v10214 : Index := Scalar.indexCast v9859
  let c0_5713 : Index := 0#32
  let c0_5714 : Index := 0#32
  ![v10214.toNat, 0, 0]

def k0_chk169 (v9825 : BitVec 32) (v9855 : BitVec 32) : Prop :=
  (∀ a, (k0_off402 v9825 v9855) a + S1x128x256.size a ≤ S256x128x256.size a) ∧
  (∀ a, (k0_off403 v9825 v9855) a + S1x128x256.size a ≤ S256x128x256.size a)
theorem k0_off402_inb : ∀ (v9825 : BitVec 32) (v9855 : BitVec 32) (k0_hw169 : k0_chk169 v9825 v9855), ∀ a, (k0_off402 v9825 v9855) a + S1x128x256.size a ≤ S256x128x256.size a := fun v9825 v9855 k0_hw169 => k0_hw169.1
theorem k0_off403_inb : ∀ (v9825 : BitVec 32) (v9855 : BitVec 32) (k0_hw169 : k0_chk169 v9825 v9855), ∀ a, (k0_off403 v9825 v9855) a + S1x128x256.size a ≤ S256x128x256.size a := fun v9825 v9855 k0_hw169 => k0_hw169.2

def k0_off404 (v9825 : BitVec 32) (v9868 : BitVec 32) : Fin 3 → Nat :=
  let c128_i32_5486 : BitVec 32 := 128#32
  let v9846 : BitVec 32 := Scalar.muli v9825 c128_i32_5486
  let v9869 : BitVec 32 := Scalar.addi v9846 v9868
  let v10223 : Index := Scalar.indexCast v9869
  let c0_5716 : Index := 0#32
  let c0_5717 : Index := 0#32
  ![v10223.toNat, 0, 0]

def k0_off405 (v9825 : BitVec 32) (v9868 : BitVec 32) : Fin 3 → Nat :=
  let c128_i32_5486 : BitVec 32 := 128#32
  let v9846 : BitVec 32 := Scalar.muli v9825 c128_i32_5486
  let c1_i32_5499 : BitVec 32 := 1#32
  let v9870 : BitVec 32 := Scalar.addi v9868 c1_i32_5499
  let c127_i32_5500 : BitVec 32 := 127#32
  let v9871 : BitVec 32 := Scalar.minsi v9870 c127_i32_5500
  let v9872 : BitVec 32 := Scalar.addi v9846 v9871
  let v10226 : Index := Scalar.indexCast v9872
  let c0_5718 : Index := 0#32
  let c0_5719 : Index := 0#32
  ![v10226.toNat, 0, 0]

def k0_chk170 (v9825 : BitVec 32) (v9868 : BitVec 32) : Prop :=
  (∀ a, (k0_off404 v9825 v9868) a + S1x128x256.size a ≤ S256x128x256.size a) ∧
  (∀ a, (k0_off405 v9825 v9868) a + S1x128x256.size a ≤ S256x128x256.size a)
theorem k0_off404_inb : ∀ (v9825 : BitVec 32) (v9868 : BitVec 32) (k0_hw170 : k0_chk170 v9825 v9868), ∀ a, (k0_off404 v9825 v9868) a + S1x128x256.size a ≤ S256x128x256.size a := fun v9825 v9868 k0_hw170 => k0_hw170.1
theorem k0_off405_inb : ∀ (v9825 : BitVec 32) (v9868 : BitVec 32) (k0_hw170 : k0_chk170 v9825 v9868), ∀ a, (k0_off405 v9825 v9868) a + S1x128x256.size a ≤ S256x128x256.size a := fun v9825 v9868 k0_hw170 => k0_hw170.2

def k0_off406 (v9825 : BitVec 32) (v9881 : BitVec 32) : Fin 3 → Nat :=
  let c128_i32_5486 : BitVec 32 := 128#32
  let v9846 : BitVec 32 := Scalar.muli v9825 c128_i32_5486
  let v9882 : BitVec 32 := Scalar.addi v9846 v9881
  let v10239 : Index := Scalar.indexCast v9882
  let c0_5724 : Index := 0#32
  let c0_5725 : Index := 0#32
  ![v10239.toNat, 0, 0]

def k0_off407 (v9825 : BitVec 32) (v9881 : BitVec 32) : Fin 3 → Nat :=
  let c128_i32_5486 : BitVec 32 := 128#32
  let v9846 : BitVec 32 := Scalar.muli v9825 c128_i32_5486
  let c1_i32_5506 : BitVec 32 := 1#32
  let v9883 : BitVec 32 := Scalar.addi v9881 c1_i32_5506
  let c127_i32_5507 : BitVec 32 := 127#32
  let v9884 : BitVec 32 := Scalar.minsi v9883 c127_i32_5507
  let v9885 : BitVec 32 := Scalar.addi v9846 v9884
  let v10242 : Index := Scalar.indexCast v9885
  let c0_5726 : Index := 0#32
  let c0_5727 : Index := 0#32
  ![v10242.toNat, 0, 0]

def k0_chk171 (v9825 : BitVec 32) (v9881 : BitVec 32) : Prop :=
  (∀ a, (k0_off406 v9825 v9881) a + S1x128x256.size a ≤ S256x128x256.size a) ∧
  (∀ a, (k0_off407 v9825 v9881) a + S1x128x256.size a ≤ S256x128x256.size a)
theorem k0_off406_inb : ∀ (v9825 : BitVec 32) (v9881 : BitVec 32) (k0_hw171 : k0_chk171 v9825 v9881), ∀ a, (k0_off406 v9825 v9881) a + S1x128x256.size a ≤ S256x128x256.size a := fun v9825 v9881 k0_hw171 => k0_hw171.1
theorem k0_off407_inb : ∀ (v9825 : BitVec 32) (v9881 : BitVec 32) (k0_hw171 : k0_chk171 v9825 v9881), ∀ a, (k0_off407 v9825 v9881) a + S1x128x256.size a ≤ S256x128x256.size a := fun v9825 v9881 k0_hw171 => k0_hw171.2

def k0_off408 (v9825 : BitVec 32) (v9894 : BitVec 32) : Fin 3 → Nat :=
  let c128_i32_5486 : BitVec 32 := 128#32
  let v9846 : BitVec 32 := Scalar.muli v9825 c128_i32_5486
  let v9895 : BitVec 32 := Scalar.addi v9846 v9894
  let v10251 : Index := Scalar.indexCast v9895
  let c0_5729 : Index := 0#32
  let c0_5730 : Index := 0#32
  ![v10251.toNat, 0, 0]

def k0_off409 (v9825 : BitVec 32) (v9894 : BitVec 32) : Fin 3 → Nat :=
  let c128_i32_5486 : BitVec 32 := 128#32
  let v9846 : BitVec 32 := Scalar.muli v9825 c128_i32_5486
  let c1_i32_5513 : BitVec 32 := 1#32
  let v9896 : BitVec 32 := Scalar.addi v9894 c1_i32_5513
  let c127_i32_5514 : BitVec 32 := 127#32
  let v9897 : BitVec 32 := Scalar.minsi v9896 c127_i32_5514
  let v9898 : BitVec 32 := Scalar.addi v9846 v9897
  let v10254 : Index := Scalar.indexCast v9898
  let c0_5731 : Index := 0#32
  let c0_5732 : Index := 0#32
  ![v10254.toNat, 0, 0]

def k0_chk172 (v9825 : BitVec 32) (v9894 : BitVec 32) : Prop :=
  (∀ a, (k0_off408 v9825 v9894) a + S1x128x256.size a ≤ S256x128x256.size a) ∧
  (∀ a, (k0_off409 v9825 v9894) a + S1x128x256.size a ≤ S256x128x256.size a)
theorem k0_off408_inb : ∀ (v9825 : BitVec 32) (v9894 : BitVec 32) (k0_hw172 : k0_chk172 v9825 v9894), ∀ a, (k0_off408 v9825 v9894) a + S1x128x256.size a ≤ S256x128x256.size a := fun v9825 v9894 k0_hw172 => k0_hw172.1
theorem k0_off409_inb : ∀ (v9825 : BitVec 32) (v9894 : BitVec 32) (k0_hw172 : k0_chk172 v9825 v9894), ∀ a, (k0_off409 v9825 v9894) a + S1x128x256.size a ≤ S256x128x256.size a := fun v9825 v9894 k0_hw172 => k0_hw172.2

def k0_off410 (v9825 : BitVec 32) (v9907 : BitVec 32) : Fin 3 → Nat :=
  let c128_i32_5486 : BitVec 32 := 128#32
  let v9846 : BitVec 32 := Scalar.muli v9825 c128_i32_5486
  let v9908 : BitVec 32 := Scalar.addi v9846 v9907
  let v10267 : Index := Scalar.indexCast v9908
  let c0_5738 : Index := 0#32
  let c0_5739 : Index := 0#32
  ![v10267.toNat, 0, 0]

def k0_off411 (v9825 : BitVec 32) (v9907 : BitVec 32) : Fin 3 → Nat :=
  let c128_i32_5486 : BitVec 32 := 128#32
  let v9846 : BitVec 32 := Scalar.muli v9825 c128_i32_5486
  let c1_i32_5520 : BitVec 32 := 1#32
  let v9909 : BitVec 32 := Scalar.addi v9907 c1_i32_5520
  let c127_i32_5521 : BitVec 32 := 127#32
  let v9910 : BitVec 32 := Scalar.minsi v9909 c127_i32_5521
  let v9911 : BitVec 32 := Scalar.addi v9846 v9910
  let v10270 : Index := Scalar.indexCast v9911
  let c0_5740 : Index := 0#32
  let c0_5741 : Index := 0#32
  ![v10270.toNat, 0, 0]

def k0_chk173 (v9825 : BitVec 32) (v9907 : BitVec 32) : Prop :=
  (∀ a, (k0_off410 v9825 v9907) a + S1x128x256.size a ≤ S256x128x256.size a) ∧
  (∀ a, (k0_off411 v9825 v9907) a + S1x128x256.size a ≤ S256x128x256.size a)
theorem k0_off410_inb : ∀ (v9825 : BitVec 32) (v9907 : BitVec 32) (k0_hw173 : k0_chk173 v9825 v9907), ∀ a, (k0_off410 v9825 v9907) a + S1x128x256.size a ≤ S256x128x256.size a := fun v9825 v9907 k0_hw173 => k0_hw173.1
theorem k0_off411_inb : ∀ (v9825 : BitVec 32) (v9907 : BitVec 32) (k0_hw173 : k0_chk173 v9825 v9907), ∀ a, (k0_off411 v9825 v9907) a + S1x128x256.size a ≤ S256x128x256.size a := fun v9825 v9907 k0_hw173 => k0_hw173.2

def k0_off412 (v9825 : BitVec 32) (v9920 : BitVec 32) : Fin 3 → Nat :=
  let c128_i32_5486 : BitVec 32 := 128#32
  let v9846 : BitVec 32 := Scalar.muli v9825 c128_i32_5486
  let v9921 : BitVec 32 := Scalar.addi v9846 v9920
  let v10279 : Index := Scalar.indexCast v9921
  let c0_5743 : Index := 0#32
  let c0_5744 : Index := 0#32
  ![v10279.toNat, 0, 0]

def k0_off413 (v9825 : BitVec 32) (v9920 : BitVec 32) : Fin 3 → Nat :=
  let c128_i32_5486 : BitVec 32 := 128#32
  let v9846 : BitVec 32 := Scalar.muli v9825 c128_i32_5486
  let c1_i32_5527 : BitVec 32 := 1#32
  let v9922 : BitVec 32 := Scalar.addi v9920 c1_i32_5527
  let c127_i32_5528 : BitVec 32 := 127#32
  let v9923 : BitVec 32 := Scalar.minsi v9922 c127_i32_5528
  let v9924 : BitVec 32 := Scalar.addi v9846 v9923
  let v10282 : Index := Scalar.indexCast v9924
  let c0_5745 : Index := 0#32
  let c0_5746 : Index := 0#32
  ![v10282.toNat, 0, 0]

def k0_chk174 (v9825 : BitVec 32) (v9920 : BitVec 32) : Prop :=
  (∀ a, (k0_off412 v9825 v9920) a + S1x128x256.size a ≤ S256x128x256.size a) ∧
  (∀ a, (k0_off413 v9825 v9920) a + S1x128x256.size a ≤ S256x128x256.size a)
theorem k0_off412_inb : ∀ (v9825 : BitVec 32) (v9920 : BitVec 32) (k0_hw174 : k0_chk174 v9825 v9920), ∀ a, (k0_off412 v9825 v9920) a + S1x128x256.size a ≤ S256x128x256.size a := fun v9825 v9920 k0_hw174 => k0_hw174.1
theorem k0_off413_inb : ∀ (v9825 : BitVec 32) (v9920 : BitVec 32) (k0_hw174 : k0_chk174 v9825 v9920), ∀ a, (k0_off413 v9825 v9920) a + S1x128x256.size a ≤ S256x128x256.size a := fun v9825 v9920 k0_hw174 => k0_hw174.2

def k0_off414 (v9825 : BitVec 32) (v9933 : BitVec 32) : Fin 3 → Nat :=
  let c128_i32_5486 : BitVec 32 := 128#32
  let v9846 : BitVec 32 := Scalar.muli v9825 c128_i32_5486
  let v9934 : BitVec 32 := Scalar.addi v9846 v9933
  let v10295 : Index := Scalar.indexCast v9934
  let c0_5752 : Index := 0#32
  let c0_5753 : Index := 0#32
  ![v10295.toNat, 0, 0]

def k0_off415 (v9825 : BitVec 32) (v9933 : BitVec 32) : Fin 3 → Nat :=
  let c128_i32_5486 : BitVec 32 := 128#32
  let v9846 : BitVec 32 := Scalar.muli v9825 c128_i32_5486
  let c1_i32_5534 : BitVec 32 := 1#32
  let v9935 : BitVec 32 := Scalar.addi v9933 c1_i32_5534
  let c127_i32_5535 : BitVec 32 := 127#32
  let v9936 : BitVec 32 := Scalar.minsi v9935 c127_i32_5535
  let v9937 : BitVec 32 := Scalar.addi v9846 v9936
  let v10298 : Index := Scalar.indexCast v9937
  let c0_5754 : Index := 0#32
  let c0_5755 : Index := 0#32
  ![v10298.toNat, 0, 0]

def k0_chk175 (v9825 : BitVec 32) (v9933 : BitVec 32) : Prop :=
  (∀ a, (k0_off414 v9825 v9933) a + S1x128x256.size a ≤ S256x128x256.size a) ∧
  (∀ a, (k0_off415 v9825 v9933) a + S1x128x256.size a ≤ S256x128x256.size a)
theorem k0_off414_inb : ∀ (v9825 : BitVec 32) (v9933 : BitVec 32) (k0_hw175 : k0_chk175 v9825 v9933), ∀ a, (k0_off414 v9825 v9933) a + S1x128x256.size a ≤ S256x128x256.size a := fun v9825 v9933 k0_hw175 => k0_hw175.1
theorem k0_off415_inb : ∀ (v9825 : BitVec 32) (v9933 : BitVec 32) (k0_hw175 : k0_chk175 v9825 v9933), ∀ a, (k0_off415 v9825 v9933) a + S1x128x256.size a ≤ S256x128x256.size a := fun v9825 v9933 k0_hw175 => k0_hw175.2

def k0_off416 (v9825 : BitVec 32) (v9946 : BitVec 32) : Fin 3 → Nat :=
  let c128_i32_5486 : BitVec 32 := 128#32
  let v9846 : BitVec 32 := Scalar.muli v9825 c128_i32_5486
  let v9947 : BitVec 32 := Scalar.addi v9846 v9946
  let v10307 : Index := Scalar.indexCast v9947
  let c0_5757 : Index := 0#32
  let c0_5758 : Index := 0#32
  ![v10307.toNat, 0, 0]

def k0_off417 (v9825 : BitVec 32) (v9946 : BitVec 32) : Fin 3 → Nat :=
  let c128_i32_5486 : BitVec 32 := 128#32
  let v9846 : BitVec 32 := Scalar.muli v9825 c128_i32_5486
  let c1_i32_5541 : BitVec 32 := 1#32
  let v9948 : BitVec 32 := Scalar.addi v9946 c1_i32_5541
  let c127_i32_5542 : BitVec 32 := 127#32
  let v9949 : BitVec 32 := Scalar.minsi v9948 c127_i32_5542
  let v9950 : BitVec 32 := Scalar.addi v9846 v9949
  let v10310 : Index := Scalar.indexCast v9950
  let c0_5759 : Index := 0#32
  let c0_5760 : Index := 0#32
  ![v10310.toNat, 0, 0]

def k0_chk176 (v9825 : BitVec 32) (v9946 : BitVec 32) : Prop :=
  (∀ a, (k0_off416 v9825 v9946) a + S1x128x256.size a ≤ S256x128x256.size a) ∧
  (∀ a, (k0_off417 v9825 v9946) a + S1x128x256.size a ≤ S256x128x256.size a)
theorem k0_off416_inb : ∀ (v9825 : BitVec 32) (v9946 : BitVec 32) (k0_hw176 : k0_chk176 v9825 v9946), ∀ a, (k0_off416 v9825 v9946) a + S1x128x256.size a ≤ S256x128x256.size a := fun v9825 v9946 k0_hw176 => k0_hw176.1
theorem k0_off417_inb : ∀ (v9825 : BitVec 32) (v9946 : BitVec 32) (k0_hw176 : k0_chk176 v9825 v9946), ∀ a, (k0_off417 v9825 v9946) a + S1x128x256.size a ≤ S256x128x256.size a := fun v9825 v9946 k0_hw176 => k0_hw176.2

def k0_off418 (v9825 : BitVec 32) (v9959 : BitVec 32) : Fin 3 → Nat :=
  let c128_i32_5486 : BitVec 32 := 128#32
  let v9846 : BitVec 32 := Scalar.muli v9825 c128_i32_5486
  let v9960 : BitVec 32 := Scalar.addi v9846 v9959
  let v10323 : Index := Scalar.indexCast v9960
  let c0_5766 : Index := 0#32
  let c0_5767 : Index := 0#32
  ![v10323.toNat, 0, 0]

def k0_off419 (v9825 : BitVec 32) (v9959 : BitVec 32) : Fin 3 → Nat :=
  let c128_i32_5486 : BitVec 32 := 128#32
  let v9846 : BitVec 32 := Scalar.muli v9825 c128_i32_5486
  let c1_i32_5548 : BitVec 32 := 1#32
  let v9961 : BitVec 32 := Scalar.addi v9959 c1_i32_5548
  let c127_i32_5549 : BitVec 32 := 127#32
  let v9962 : BitVec 32 := Scalar.minsi v9961 c127_i32_5549
  let v9963 : BitVec 32 := Scalar.addi v9846 v9962
  let v10326 : Index := Scalar.indexCast v9963
  let c0_5768 : Index := 0#32
  let c0_5769 : Index := 0#32
  ![v10326.toNat, 0, 0]

def k0_chk177 (v9825 : BitVec 32) (v9959 : BitVec 32) : Prop :=
  (∀ a, (k0_off418 v9825 v9959) a + S1x128x256.size a ≤ S256x128x256.size a) ∧
  (∀ a, (k0_off419 v9825 v9959) a + S1x128x256.size a ≤ S256x128x256.size a)
theorem k0_off418_inb : ∀ (v9825 : BitVec 32) (v9959 : BitVec 32) (k0_hw177 : k0_chk177 v9825 v9959), ∀ a, (k0_off418 v9825 v9959) a + S1x128x256.size a ≤ S256x128x256.size a := fun v9825 v9959 k0_hw177 => k0_hw177.1
theorem k0_off419_inb : ∀ (v9825 : BitVec 32) (v9959 : BitVec 32) (k0_hw177 : k0_chk177 v9825 v9959), ∀ a, (k0_off419 v9825 v9959) a + S1x128x256.size a ≤ S256x128x256.size a := fun v9825 v9959 k0_hw177 => k0_hw177.2

def k0_off420 (v9825 : BitVec 32) (v9972 : BitVec 32) : Fin 3 → Nat :=
  let c128_i32_5486 : BitVec 32 := 128#32
  let v9846 : BitVec 32 := Scalar.muli v9825 c128_i32_5486
  let v9973 : BitVec 32 := Scalar.addi v9846 v9972
  let v10335 : Index := Scalar.indexCast v9973
  let c0_5771 : Index := 0#32
  let c0_5772 : Index := 0#32
  ![v10335.toNat, 0, 0]

def k0_off421 (v9825 : BitVec 32) (v9972 : BitVec 32) : Fin 3 → Nat :=
  let c128_i32_5486 : BitVec 32 := 128#32
  let v9846 : BitVec 32 := Scalar.muli v9825 c128_i32_5486
  let c1_i32_5555 : BitVec 32 := 1#32
  let v9974 : BitVec 32 := Scalar.addi v9972 c1_i32_5555
  let c127_i32_5556 : BitVec 32 := 127#32
  let v9975 : BitVec 32 := Scalar.minsi v9974 c127_i32_5556
  let v9976 : BitVec 32 := Scalar.addi v9846 v9975
  let v10338 : Index := Scalar.indexCast v9976
  let c0_5773 : Index := 0#32
  let c0_5774 : Index := 0#32
  ![v10338.toNat, 0, 0]

def k0_chk178 (v9825 : BitVec 32) (v9972 : BitVec 32) : Prop :=
  (∀ a, (k0_off420 v9825 v9972) a + S1x128x256.size a ≤ S256x128x256.size a) ∧
  (∀ a, (k0_off421 v9825 v9972) a + S1x128x256.size a ≤ S256x128x256.size a)
theorem k0_off420_inb : ∀ (v9825 : BitVec 32) (v9972 : BitVec 32) (k0_hw178 : k0_chk178 v9825 v9972), ∀ a, (k0_off420 v9825 v9972) a + S1x128x256.size a ≤ S256x128x256.size a := fun v9825 v9972 k0_hw178 => k0_hw178.1
theorem k0_off421_inb : ∀ (v9825 : BitVec 32) (v9972 : BitVec 32) (k0_hw178 : k0_chk178 v9825 v9972), ∀ a, (k0_off421 v9825 v9972) a + S1x128x256.size a ≤ S256x128x256.size a := fun v9825 v9972 k0_hw178 => k0_hw178.2

def k0_off422 (v9825 : BitVec 32) (v9985 : BitVec 32) : Fin 3 → Nat :=
  let c128_i32_5486 : BitVec 32 := 128#32
  let v9846 : BitVec 32 := Scalar.muli v9825 c128_i32_5486
  let v9986 : BitVec 32 := Scalar.addi v9846 v9985
  let v10351 : Index := Scalar.indexCast v9986
  let c0_5780 : Index := 0#32
  let c0_5781 : Index := 0#32
  ![v10351.toNat, 0, 0]

def k0_off423 (v9825 : BitVec 32) (v9985 : BitVec 32) : Fin 3 → Nat :=
  let c128_i32_5486 : BitVec 32 := 128#32
  let v9846 : BitVec 32 := Scalar.muli v9825 c128_i32_5486
  let c1_i32_5562 : BitVec 32 := 1#32
  let v9987 : BitVec 32 := Scalar.addi v9985 c1_i32_5562
  let c127_i32_5563 : BitVec 32 := 127#32
  let v9988 : BitVec 32 := Scalar.minsi v9987 c127_i32_5563
  let v9989 : BitVec 32 := Scalar.addi v9846 v9988
  let v10354 : Index := Scalar.indexCast v9989
  let c0_5782 : Index := 0#32
  let c0_5783 : Index := 0#32
  ![v10354.toNat, 0, 0]

def k0_chk179 (v9825 : BitVec 32) (v9985 : BitVec 32) : Prop :=
  (∀ a, (k0_off422 v9825 v9985) a + S1x128x256.size a ≤ S256x128x256.size a) ∧
  (∀ a, (k0_off423 v9825 v9985) a + S1x128x256.size a ≤ S256x128x256.size a)
theorem k0_off422_inb : ∀ (v9825 : BitVec 32) (v9985 : BitVec 32) (k0_hw179 : k0_chk179 v9825 v9985), ∀ a, (k0_off422 v9825 v9985) a + S1x128x256.size a ≤ S256x128x256.size a := fun v9825 v9985 k0_hw179 => k0_hw179.1
theorem k0_off423_inb : ∀ (v9825 : BitVec 32) (v9985 : BitVec 32) (k0_hw179 : k0_chk179 v9825 v9985), ∀ a, (k0_off423 v9825 v9985) a + S1x128x256.size a ≤ S256x128x256.size a := fun v9825 v9985 k0_hw179 => k0_hw179.2

def k0_off424 (v9825 : BitVec 32) (v9998 : BitVec 32) : Fin 3 → Nat :=
  let c128_i32_5486 : BitVec 32 := 128#32
  let v9846 : BitVec 32 := Scalar.muli v9825 c128_i32_5486
  let v9999 : BitVec 32 := Scalar.addi v9846 v9998
  let v10363 : Index := Scalar.indexCast v9999
  let c0_5785 : Index := 0#32
  let c0_5786 : Index := 0#32
  ![v10363.toNat, 0, 0]

def k0_off425 (v9825 : BitVec 32) (v9998 : BitVec 32) : Fin 3 → Nat :=
  let c128_i32_5486 : BitVec 32 := 128#32
  let v9846 : BitVec 32 := Scalar.muli v9825 c128_i32_5486
  let c1_i32_5569 : BitVec 32 := 1#32
  let v10000 : BitVec 32 := Scalar.addi v9998 c1_i32_5569
  let c127_i32_5570 : BitVec 32 := 127#32
  let v10001 : BitVec 32 := Scalar.minsi v10000 c127_i32_5570
  let v10002 : BitVec 32 := Scalar.addi v9846 v10001
  let v10366 : Index := Scalar.indexCast v10002
  let c0_5787 : Index := 0#32
  let c0_5788 : Index := 0#32
  ![v10366.toNat, 0, 0]

def k0_chk180 (v9825 : BitVec 32) (v9998 : BitVec 32) : Prop :=
  (∀ a, (k0_off424 v9825 v9998) a + S1x128x256.size a ≤ S256x128x256.size a) ∧
  (∀ a, (k0_off425 v9825 v9998) a + S1x128x256.size a ≤ S256x128x256.size a)
theorem k0_off424_inb : ∀ (v9825 : BitVec 32) (v9998 : BitVec 32) (k0_hw180 : k0_chk180 v9825 v9998), ∀ a, (k0_off424 v9825 v9998) a + S1x128x256.size a ≤ S256x128x256.size a := fun v9825 v9998 k0_hw180 => k0_hw180.1
theorem k0_off425_inb : ∀ (v9825 : BitVec 32) (v9998 : BitVec 32) (k0_hw180 : k0_chk180 v9825 v9998), ∀ a, (k0_off425 v9825 v9998) a + S1x128x256.size a ≤ S256x128x256.size a := fun v9825 v9998 k0_hw180 => k0_hw180.2

def k0_off426 (v9825 : BitVec 32) (v10011 : BitVec 32) : Fin 3 → Nat :=
  let c128_i32_5486 : BitVec 32 := 128#32
  let v9846 : BitVec 32 := Scalar.muli v9825 c128_i32_5486
  let v10012 : BitVec 32 := Scalar.addi v9846 v10011
  let v10379 : Index := Scalar.indexCast v10012
  let c0_5794 : Index := 0#32
  let c0_5795 : Index := 0#32
  ![v10379.toNat, 0, 0]

def k0_off427 (v9825 : BitVec 32) (v10011 : BitVec 32) : Fin 3 → Nat :=
  let c128_i32_5486 : BitVec 32 := 128#32
  let v9846 : BitVec 32 := Scalar.muli v9825 c128_i32_5486
  let c1_i32_5576 : BitVec 32 := 1#32
  let v10013 : BitVec 32 := Scalar.addi v10011 c1_i32_5576
  let c127_i32_5577 : BitVec 32 := 127#32
  let v10014 : BitVec 32 := Scalar.minsi v10013 c127_i32_5577
  let v10015 : BitVec 32 := Scalar.addi v9846 v10014
  let v10382 : Index := Scalar.indexCast v10015
  let c0_5796 : Index := 0#32
  let c0_5797 : Index := 0#32
  ![v10382.toNat, 0, 0]

def k0_chk181 (v9825 : BitVec 32) (v10011 : BitVec 32) : Prop :=
  (∀ a, (k0_off426 v9825 v10011) a + S1x128x256.size a ≤ S256x128x256.size a) ∧
  (∀ a, (k0_off427 v9825 v10011) a + S1x128x256.size a ≤ S256x128x256.size a)
theorem k0_off426_inb : ∀ (v9825 : BitVec 32) (v10011 : BitVec 32) (k0_hw181 : k0_chk181 v9825 v10011), ∀ a, (k0_off426 v9825 v10011) a + S1x128x256.size a ≤ S256x128x256.size a := fun v9825 v10011 k0_hw181 => k0_hw181.1
theorem k0_off427_inb : ∀ (v9825 : BitVec 32) (v10011 : BitVec 32) (k0_hw181 : k0_chk181 v9825 v10011), ∀ a, (k0_off427 v9825 v10011) a + S1x128x256.size a ≤ S256x128x256.size a := fun v9825 v10011 k0_hw181 => k0_hw181.2

def k0_off428 (v9825 : BitVec 32) (v10024 : BitVec 32) : Fin 3 → Nat :=
  let c128_i32_5486 : BitVec 32 := 128#32
  let v9846 : BitVec 32 := Scalar.muli v9825 c128_i32_5486
  let v10025 : BitVec 32 := Scalar.addi v9846 v10024
  let v10391 : Index := Scalar.indexCast v10025
  let c0_5799 : Index := 0#32
  let c0_5800 : Index := 0#32
  ![v10391.toNat, 0, 0]

def k0_off429 (v9825 : BitVec 32) (v10024 : BitVec 32) : Fin 3 → Nat :=
  let c128_i32_5486 : BitVec 32 := 128#32
  let v9846 : BitVec 32 := Scalar.muli v9825 c128_i32_5486
  let c1_i32_5583 : BitVec 32 := 1#32
  let v10026 : BitVec 32 := Scalar.addi v10024 c1_i32_5583
  let c127_i32_5584 : BitVec 32 := 127#32
  let v10027 : BitVec 32 := Scalar.minsi v10026 c127_i32_5584
  let v10028 : BitVec 32 := Scalar.addi v9846 v10027
  let v10394 : Index := Scalar.indexCast v10028
  let c0_5801 : Index := 0#32
  let c0_5802 : Index := 0#32
  ![v10394.toNat, 0, 0]

def k0_chk182 (v9825 : BitVec 32) (v10024 : BitVec 32) : Prop :=
  (∀ a, (k0_off428 v9825 v10024) a + S1x128x256.size a ≤ S256x128x256.size a) ∧
  (∀ a, (k0_off429 v9825 v10024) a + S1x128x256.size a ≤ S256x128x256.size a)
theorem k0_off428_inb : ∀ (v9825 : BitVec 32) (v10024 : BitVec 32) (k0_hw182 : k0_chk182 v9825 v10024), ∀ a, (k0_off428 v9825 v10024) a + S1x128x256.size a ≤ S256x128x256.size a := fun v9825 v10024 k0_hw182 => k0_hw182.1
theorem k0_off429_inb : ∀ (v9825 : BitVec 32) (v10024 : BitVec 32) (k0_hw182 : k0_chk182 v9825 v10024), ∀ a, (k0_off429 v9825 v10024) a + S1x128x256.size a ≤ S256x128x256.size a := fun v9825 v10024 k0_hw182 => k0_hw182.2

def k0_off430 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c13_i32 : BitVec 32 := 13#32
  let v10640 : BitVec 32 := Scalar.addi v5 c13_i32
  let v10641 : Index := Scalar.indexCast v10640
  let c0_5927 : Index := 0#32
  ![v10641.toNat, 0]
def k0_off431 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c13_i32 : BitVec 32 := 13#32
  let v10640 : BitVec 32 := Scalar.addi v5 c13_i32
  let v10644 : Index := Scalar.indexCast v10640
  let c1_5928 : Index := 1#32
  ![v10644.toNat, 1]
def k0_off432 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c13_i32 : BitVec 32 := 13#32
  let v10640 : BitVec 32 := Scalar.addi v5 c13_i32
  let v10648 : Index := Scalar.indexCast v10640
  let c2_5931 : Index := 2#32
  ![v10648.toNat, 2]
def k0_off433 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c13_i32 : BitVec 32 := 13#32
  let v10640 : BitVec 32 := Scalar.addi v5 c13_i32
  let v10652 : Index := Scalar.indexCast v10640
  let c3_5934 : Index := 3#32
  ![v10652.toNat, 3]
def k0_off434 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c13_i32 : BitVec 32 := 13#32
  let v10640 : BitVec 32 := Scalar.addi v5 c13_i32
  let v10656 : Index := Scalar.indexCast v10640
  let c4_5937 : Index := 4#32
  ![v10656.toNat, 4]
def k0_off435 (v10643 : BitVec 32) (v10673 : BitVec 32) : Fin 3 → Nat :=
  let c128_i32_5942 : BitVec 32 := 128#32
  let v10664 : BitVec 32 := Scalar.muli v10643 c128_i32_5942
  let v10674 : BitVec 32 := Scalar.addi v10664 v10673
  let v11029 : Index := Scalar.indexCast v10674
  let c0_6167 : Index := 0#32
  let c0_6168 : Index := 0#32
  ![v11029.toNat, 0, 0]

def k0_off436 (v10643 : BitVec 32) (v10673 : BitVec 32) : Fin 3 → Nat :=
  let c128_i32_5942 : BitVec 32 := 128#32
  let v10664 : BitVec 32 := Scalar.muli v10643 c128_i32_5942
  let c1_i32_5948 : BitVec 32 := 1#32
  let v10675 : BitVec 32 := Scalar.addi v10673 c1_i32_5948
  let c127_i32_5949 : BitVec 32 := 127#32
  let v10676 : BitVec 32 := Scalar.minsi v10675 c127_i32_5949
  let v10677 : BitVec 32 := Scalar.addi v10664 v10676
  let v11032 : Index := Scalar.indexCast v10677
  let c0_6169 : Index := 0#32
  let c0_6170 : Index := 0#32
  ![v11032.toNat, 0, 0]

def k0_chk183 (v10643 : BitVec 32) (v10673 : BitVec 32) : Prop :=
  (∀ a, (k0_off435 v10643 v10673) a + S1x128x256.size a ≤ S256x128x256.size a) ∧
  (∀ a, (k0_off436 v10643 v10673) a + S1x128x256.size a ≤ S256x128x256.size a)
theorem k0_off435_inb : ∀ (v10643 : BitVec 32) (v10673 : BitVec 32) (k0_hw183 : k0_chk183 v10643 v10673), ∀ a, (k0_off435 v10643 v10673) a + S1x128x256.size a ≤ S256x128x256.size a := fun v10643 v10673 k0_hw183 => k0_hw183.1
theorem k0_off436_inb : ∀ (v10643 : BitVec 32) (v10673 : BitVec 32) (k0_hw183 : k0_chk183 v10643 v10673), ∀ a, (k0_off436 v10643 v10673) a + S1x128x256.size a ≤ S256x128x256.size a := fun v10643 v10673 k0_hw183 => k0_hw183.2

def k0_off437 (v10643 : BitVec 32) (v10686 : BitVec 32) : Fin 3 → Nat :=
  let c128_i32_5942 : BitVec 32 := 128#32
  let v10664 : BitVec 32 := Scalar.muli v10643 c128_i32_5942
  let v10687 : BitVec 32 := Scalar.addi v10664 v10686
  let v11041 : Index := Scalar.indexCast v10687
  let c0_6172 : Index := 0#32
  let c0_6173 : Index := 0#32
  ![v11041.toNat, 0, 0]

def k0_off438 (v10643 : BitVec 32) (v10686 : BitVec 32) : Fin 3 → Nat :=
  let c128_i32_5942 : BitVec 32 := 128#32
  let v10664 : BitVec 32 := Scalar.muli v10643 c128_i32_5942
  let c1_i32_5955 : BitVec 32 := 1#32
  let v10688 : BitVec 32 := Scalar.addi v10686 c1_i32_5955
  let c127_i32_5956 : BitVec 32 := 127#32
  let v10689 : BitVec 32 := Scalar.minsi v10688 c127_i32_5956
  let v10690 : BitVec 32 := Scalar.addi v10664 v10689
  let v11044 : Index := Scalar.indexCast v10690
  let c0_6174 : Index := 0#32
  let c0_6175 : Index := 0#32
  ![v11044.toNat, 0, 0]

def k0_chk184 (v10643 : BitVec 32) (v10686 : BitVec 32) : Prop :=
  (∀ a, (k0_off437 v10643 v10686) a + S1x128x256.size a ≤ S256x128x256.size a) ∧
  (∀ a, (k0_off438 v10643 v10686) a + S1x128x256.size a ≤ S256x128x256.size a)
theorem k0_off437_inb : ∀ (v10643 : BitVec 32) (v10686 : BitVec 32) (k0_hw184 : k0_chk184 v10643 v10686), ∀ a, (k0_off437 v10643 v10686) a + S1x128x256.size a ≤ S256x128x256.size a := fun v10643 v10686 k0_hw184 => k0_hw184.1
theorem k0_off438_inb : ∀ (v10643 : BitVec 32) (v10686 : BitVec 32) (k0_hw184 : k0_chk184 v10643 v10686), ∀ a, (k0_off438 v10643 v10686) a + S1x128x256.size a ≤ S256x128x256.size a := fun v10643 v10686 k0_hw184 => k0_hw184.2

def k0_off439 (v10643 : BitVec 32) (v10699 : BitVec 32) : Fin 3 → Nat :=
  let c128_i32_5942 : BitVec 32 := 128#32
  let v10664 : BitVec 32 := Scalar.muli v10643 c128_i32_5942
  let v10700 : BitVec 32 := Scalar.addi v10664 v10699
  let v11057 : Index := Scalar.indexCast v10700
  let c0_6180 : Index := 0#32
  let c0_6181 : Index := 0#32
  ![v11057.toNat, 0, 0]

def k0_off440 (v10643 : BitVec 32) (v10699 : BitVec 32) : Fin 3 → Nat :=
  let c128_i32_5942 : BitVec 32 := 128#32
  let v10664 : BitVec 32 := Scalar.muli v10643 c128_i32_5942
  let c1_i32_5962 : BitVec 32 := 1#32
  let v10701 : BitVec 32 := Scalar.addi v10699 c1_i32_5962
  let c127_i32_5963 : BitVec 32 := 127#32
  let v10702 : BitVec 32 := Scalar.minsi v10701 c127_i32_5963
  let v10703 : BitVec 32 := Scalar.addi v10664 v10702
  let v11060 : Index := Scalar.indexCast v10703
  let c0_6182 : Index := 0#32
  let c0_6183 : Index := 0#32
  ![v11060.toNat, 0, 0]

def k0_chk185 (v10643 : BitVec 32) (v10699 : BitVec 32) : Prop :=
  (∀ a, (k0_off439 v10643 v10699) a + S1x128x256.size a ≤ S256x128x256.size a) ∧
  (∀ a, (k0_off440 v10643 v10699) a + S1x128x256.size a ≤ S256x128x256.size a)
theorem k0_off439_inb : ∀ (v10643 : BitVec 32) (v10699 : BitVec 32) (k0_hw185 : k0_chk185 v10643 v10699), ∀ a, (k0_off439 v10643 v10699) a + S1x128x256.size a ≤ S256x128x256.size a := fun v10643 v10699 k0_hw185 => k0_hw185.1
theorem k0_off440_inb : ∀ (v10643 : BitVec 32) (v10699 : BitVec 32) (k0_hw185 : k0_chk185 v10643 v10699), ∀ a, (k0_off440 v10643 v10699) a + S1x128x256.size a ≤ S256x128x256.size a := fun v10643 v10699 k0_hw185 => k0_hw185.2

def k0_off441 (v10643 : BitVec 32) (v10712 : BitVec 32) : Fin 3 → Nat :=
  let c128_i32_5942 : BitVec 32 := 128#32
  let v10664 : BitVec 32 := Scalar.muli v10643 c128_i32_5942
  let v10713 : BitVec 32 := Scalar.addi v10664 v10712
  let v11069 : Index := Scalar.indexCast v10713
  let c0_6185 : Index := 0#32
  let c0_6186 : Index := 0#32
  ![v11069.toNat, 0, 0]

def k0_off442 (v10643 : BitVec 32) (v10712 : BitVec 32) : Fin 3 → Nat :=
  let c128_i32_5942 : BitVec 32 := 128#32
  let v10664 : BitVec 32 := Scalar.muli v10643 c128_i32_5942
  let c1_i32_5969 : BitVec 32 := 1#32
  let v10714 : BitVec 32 := Scalar.addi v10712 c1_i32_5969
  let c127_i32_5970 : BitVec 32 := 127#32
  let v10715 : BitVec 32 := Scalar.minsi v10714 c127_i32_5970
  let v10716 : BitVec 32 := Scalar.addi v10664 v10715
  let v11072 : Index := Scalar.indexCast v10716
  let c0_6187 : Index := 0#32
  let c0_6188 : Index := 0#32
  ![v11072.toNat, 0, 0]

def k0_chk186 (v10643 : BitVec 32) (v10712 : BitVec 32) : Prop :=
  (∀ a, (k0_off441 v10643 v10712) a + S1x128x256.size a ≤ S256x128x256.size a) ∧
  (∀ a, (k0_off442 v10643 v10712) a + S1x128x256.size a ≤ S256x128x256.size a)
theorem k0_off441_inb : ∀ (v10643 : BitVec 32) (v10712 : BitVec 32) (k0_hw186 : k0_chk186 v10643 v10712), ∀ a, (k0_off441 v10643 v10712) a + S1x128x256.size a ≤ S256x128x256.size a := fun v10643 v10712 k0_hw186 => k0_hw186.1
theorem k0_off442_inb : ∀ (v10643 : BitVec 32) (v10712 : BitVec 32) (k0_hw186 : k0_chk186 v10643 v10712), ∀ a, (k0_off442 v10643 v10712) a + S1x128x256.size a ≤ S256x128x256.size a := fun v10643 v10712 k0_hw186 => k0_hw186.2

def k0_off443 (v10643 : BitVec 32) (v10725 : BitVec 32) : Fin 3 → Nat :=
  let c128_i32_5942 : BitVec 32 := 128#32
  let v10664 : BitVec 32 := Scalar.muli v10643 c128_i32_5942
  let v10726 : BitVec 32 := Scalar.addi v10664 v10725
  let v11085 : Index := Scalar.indexCast v10726
  let c0_6194 : Index := 0#32
  let c0_6195 : Index := 0#32
  ![v11085.toNat, 0, 0]

def k0_off444 (v10643 : BitVec 32) (v10725 : BitVec 32) : Fin 3 → Nat :=
  let c128_i32_5942 : BitVec 32 := 128#32
  let v10664 : BitVec 32 := Scalar.muli v10643 c128_i32_5942
  let c1_i32_5976 : BitVec 32 := 1#32
  let v10727 : BitVec 32 := Scalar.addi v10725 c1_i32_5976
  let c127_i32_5977 : BitVec 32 := 127#32
  let v10728 : BitVec 32 := Scalar.minsi v10727 c127_i32_5977
  let v10729 : BitVec 32 := Scalar.addi v10664 v10728
  let v11088 : Index := Scalar.indexCast v10729
  let c0_6196 : Index := 0#32
  let c0_6197 : Index := 0#32
  ![v11088.toNat, 0, 0]

def k0_chk187 (v10643 : BitVec 32) (v10725 : BitVec 32) : Prop :=
  (∀ a, (k0_off443 v10643 v10725) a + S1x128x256.size a ≤ S256x128x256.size a) ∧
  (∀ a, (k0_off444 v10643 v10725) a + S1x128x256.size a ≤ S256x128x256.size a)
theorem k0_off443_inb : ∀ (v10643 : BitVec 32) (v10725 : BitVec 32) (k0_hw187 : k0_chk187 v10643 v10725), ∀ a, (k0_off443 v10643 v10725) a + S1x128x256.size a ≤ S256x128x256.size a := fun v10643 v10725 k0_hw187 => k0_hw187.1
theorem k0_off444_inb : ∀ (v10643 : BitVec 32) (v10725 : BitVec 32) (k0_hw187 : k0_chk187 v10643 v10725), ∀ a, (k0_off444 v10643 v10725) a + S1x128x256.size a ≤ S256x128x256.size a := fun v10643 v10725 k0_hw187 => k0_hw187.2

def k0_off445 (v10643 : BitVec 32) (v10738 : BitVec 32) : Fin 3 → Nat :=
  let c128_i32_5942 : BitVec 32 := 128#32
  let v10664 : BitVec 32 := Scalar.muli v10643 c128_i32_5942
  let v10739 : BitVec 32 := Scalar.addi v10664 v10738
  let v11097 : Index := Scalar.indexCast v10739
  let c0_6199 : Index := 0#32
  let c0_6200 : Index := 0#32
  ![v11097.toNat, 0, 0]

def k0_off446 (v10643 : BitVec 32) (v10738 : BitVec 32) : Fin 3 → Nat :=
  let c128_i32_5942 : BitVec 32 := 128#32
  let v10664 : BitVec 32 := Scalar.muli v10643 c128_i32_5942
  let c1_i32_5983 : BitVec 32 := 1#32
  let v10740 : BitVec 32 := Scalar.addi v10738 c1_i32_5983
  let c127_i32_5984 : BitVec 32 := 127#32
  let v10741 : BitVec 32 := Scalar.minsi v10740 c127_i32_5984
  let v10742 : BitVec 32 := Scalar.addi v10664 v10741
  let v11100 : Index := Scalar.indexCast v10742
  let c0_6201 : Index := 0#32
  let c0_6202 : Index := 0#32
  ![v11100.toNat, 0, 0]

def k0_chk188 (v10643 : BitVec 32) (v10738 : BitVec 32) : Prop :=
  (∀ a, (k0_off445 v10643 v10738) a + S1x128x256.size a ≤ S256x128x256.size a) ∧
  (∀ a, (k0_off446 v10643 v10738) a + S1x128x256.size a ≤ S256x128x256.size a)
theorem k0_off445_inb : ∀ (v10643 : BitVec 32) (v10738 : BitVec 32) (k0_hw188 : k0_chk188 v10643 v10738), ∀ a, (k0_off445 v10643 v10738) a + S1x128x256.size a ≤ S256x128x256.size a := fun v10643 v10738 k0_hw188 => k0_hw188.1
theorem k0_off446_inb : ∀ (v10643 : BitVec 32) (v10738 : BitVec 32) (k0_hw188 : k0_chk188 v10643 v10738), ∀ a, (k0_off446 v10643 v10738) a + S1x128x256.size a ≤ S256x128x256.size a := fun v10643 v10738 k0_hw188 => k0_hw188.2

def k0_off447 (v10643 : BitVec 32) (v10751 : BitVec 32) : Fin 3 → Nat :=
  let c128_i32_5942 : BitVec 32 := 128#32
  let v10664 : BitVec 32 := Scalar.muli v10643 c128_i32_5942
  let v10752 : BitVec 32 := Scalar.addi v10664 v10751
  let v11113 : Index := Scalar.indexCast v10752
  let c0_6208 : Index := 0#32
  let c0_6209 : Index := 0#32
  ![v11113.toNat, 0, 0]

def k0_off448 (v10643 : BitVec 32) (v10751 : BitVec 32) : Fin 3 → Nat :=
  let c128_i32_5942 : BitVec 32 := 128#32
  let v10664 : BitVec 32 := Scalar.muli v10643 c128_i32_5942
  let c1_i32_5990 : BitVec 32 := 1#32
  let v10753 : BitVec 32 := Scalar.addi v10751 c1_i32_5990
  let c127_i32_5991 : BitVec 32 := 127#32
  let v10754 : BitVec 32 := Scalar.minsi v10753 c127_i32_5991
  let v10755 : BitVec 32 := Scalar.addi v10664 v10754
  let v11116 : Index := Scalar.indexCast v10755
  let c0_6210 : Index := 0#32
  let c0_6211 : Index := 0#32
  ![v11116.toNat, 0, 0]

def k0_chk189 (v10643 : BitVec 32) (v10751 : BitVec 32) : Prop :=
  (∀ a, (k0_off447 v10643 v10751) a + S1x128x256.size a ≤ S256x128x256.size a) ∧
  (∀ a, (k0_off448 v10643 v10751) a + S1x128x256.size a ≤ S256x128x256.size a)
theorem k0_off447_inb : ∀ (v10643 : BitVec 32) (v10751 : BitVec 32) (k0_hw189 : k0_chk189 v10643 v10751), ∀ a, (k0_off447 v10643 v10751) a + S1x128x256.size a ≤ S256x128x256.size a := fun v10643 v10751 k0_hw189 => k0_hw189.1
theorem k0_off448_inb : ∀ (v10643 : BitVec 32) (v10751 : BitVec 32) (k0_hw189 : k0_chk189 v10643 v10751), ∀ a, (k0_off448 v10643 v10751) a + S1x128x256.size a ≤ S256x128x256.size a := fun v10643 v10751 k0_hw189 => k0_hw189.2

def k0_off449 (v10643 : BitVec 32) (v10764 : BitVec 32) : Fin 3 → Nat :=
  let c128_i32_5942 : BitVec 32 := 128#32
  let v10664 : BitVec 32 := Scalar.muli v10643 c128_i32_5942
  let v10765 : BitVec 32 := Scalar.addi v10664 v10764
  let v11125 : Index := Scalar.indexCast v10765
  let c0_6213 : Index := 0#32
  let c0_6214 : Index := 0#32
  ![v11125.toNat, 0, 0]

def k0_off450 (v10643 : BitVec 32) (v10764 : BitVec 32) : Fin 3 → Nat :=
  let c128_i32_5942 : BitVec 32 := 128#32
  let v10664 : BitVec 32 := Scalar.muli v10643 c128_i32_5942
  let c1_i32_5997 : BitVec 32 := 1#32
  let v10766 : BitVec 32 := Scalar.addi v10764 c1_i32_5997
  let c127_i32_5998 : BitVec 32 := 127#32
  let v10767 : BitVec 32 := Scalar.minsi v10766 c127_i32_5998
  let v10768 : BitVec 32 := Scalar.addi v10664 v10767
  let v11128 : Index := Scalar.indexCast v10768
  let c0_6215 : Index := 0#32
  let c0_6216 : Index := 0#32
  ![v11128.toNat, 0, 0]

def k0_chk190 (v10643 : BitVec 32) (v10764 : BitVec 32) : Prop :=
  (∀ a, (k0_off449 v10643 v10764) a + S1x128x256.size a ≤ S256x128x256.size a) ∧
  (∀ a, (k0_off450 v10643 v10764) a + S1x128x256.size a ≤ S256x128x256.size a)
theorem k0_off449_inb : ∀ (v10643 : BitVec 32) (v10764 : BitVec 32) (k0_hw190 : k0_chk190 v10643 v10764), ∀ a, (k0_off449 v10643 v10764) a + S1x128x256.size a ≤ S256x128x256.size a := fun v10643 v10764 k0_hw190 => k0_hw190.1
theorem k0_off450_inb : ∀ (v10643 : BitVec 32) (v10764 : BitVec 32) (k0_hw190 : k0_chk190 v10643 v10764), ∀ a, (k0_off450 v10643 v10764) a + S1x128x256.size a ≤ S256x128x256.size a := fun v10643 v10764 k0_hw190 => k0_hw190.2

def k0_off451 (v10643 : BitVec 32) (v10777 : BitVec 32) : Fin 3 → Nat :=
  let c128_i32_5942 : BitVec 32 := 128#32
  let v10664 : BitVec 32 := Scalar.muli v10643 c128_i32_5942
  let v10778 : BitVec 32 := Scalar.addi v10664 v10777
  let v11141 : Index := Scalar.indexCast v10778
  let c0_6222 : Index := 0#32
  let c0_6223 : Index := 0#32
  ![v11141.toNat, 0, 0]

def k0_off452 (v10643 : BitVec 32) (v10777 : BitVec 32) : Fin 3 → Nat :=
  let c128_i32_5942 : BitVec 32 := 128#32
  let v10664 : BitVec 32 := Scalar.muli v10643 c128_i32_5942
  let c1_i32_6004 : BitVec 32 := 1#32
  let v10779 : BitVec 32 := Scalar.addi v10777 c1_i32_6004
  let c127_i32_6005 : BitVec 32 := 127#32
  let v10780 : BitVec 32 := Scalar.minsi v10779 c127_i32_6005
  let v10781 : BitVec 32 := Scalar.addi v10664 v10780
  let v11144 : Index := Scalar.indexCast v10781
  let c0_6224 : Index := 0#32
  let c0_6225 : Index := 0#32
  ![v11144.toNat, 0, 0]

def k0_chk191 (v10643 : BitVec 32) (v10777 : BitVec 32) : Prop :=
  (∀ a, (k0_off451 v10643 v10777) a + S1x128x256.size a ≤ S256x128x256.size a) ∧
  (∀ a, (k0_off452 v10643 v10777) a + S1x128x256.size a ≤ S256x128x256.size a)
theorem k0_off451_inb : ∀ (v10643 : BitVec 32) (v10777 : BitVec 32) (k0_hw191 : k0_chk191 v10643 v10777), ∀ a, (k0_off451 v10643 v10777) a + S1x128x256.size a ≤ S256x128x256.size a := fun v10643 v10777 k0_hw191 => k0_hw191.1
theorem k0_off452_inb : ∀ (v10643 : BitVec 32) (v10777 : BitVec 32) (k0_hw191 : k0_chk191 v10643 v10777), ∀ a, (k0_off452 v10643 v10777) a + S1x128x256.size a ≤ S256x128x256.size a := fun v10643 v10777 k0_hw191 => k0_hw191.2

def k0_off453 (v10643 : BitVec 32) (v10790 : BitVec 32) : Fin 3 → Nat :=
  let c128_i32_5942 : BitVec 32 := 128#32
  let v10664 : BitVec 32 := Scalar.muli v10643 c128_i32_5942
  let v10791 : BitVec 32 := Scalar.addi v10664 v10790
  let v11153 : Index := Scalar.indexCast v10791
  let c0_6227 : Index := 0#32
  let c0_6228 : Index := 0#32
  ![v11153.toNat, 0, 0]

def k0_off454 (v10643 : BitVec 32) (v10790 : BitVec 32) : Fin 3 → Nat :=
  let c128_i32_5942 : BitVec 32 := 128#32
  let v10664 : BitVec 32 := Scalar.muli v10643 c128_i32_5942
  let c1_i32_6011 : BitVec 32 := 1#32
  let v10792 : BitVec 32 := Scalar.addi v10790 c1_i32_6011
  let c127_i32_6012 : BitVec 32 := 127#32
  let v10793 : BitVec 32 := Scalar.minsi v10792 c127_i32_6012
  let v10794 : BitVec 32 := Scalar.addi v10664 v10793
  let v11156 : Index := Scalar.indexCast v10794
  let c0_6229 : Index := 0#32
  let c0_6230 : Index := 0#32
  ![v11156.toNat, 0, 0]

def k0_chk192 (v10643 : BitVec 32) (v10790 : BitVec 32) : Prop :=
  (∀ a, (k0_off453 v10643 v10790) a + S1x128x256.size a ≤ S256x128x256.size a) ∧
  (∀ a, (k0_off454 v10643 v10790) a + S1x128x256.size a ≤ S256x128x256.size a)
theorem k0_off453_inb : ∀ (v10643 : BitVec 32) (v10790 : BitVec 32) (k0_hw192 : k0_chk192 v10643 v10790), ∀ a, (k0_off453 v10643 v10790) a + S1x128x256.size a ≤ S256x128x256.size a := fun v10643 v10790 k0_hw192 => k0_hw192.1
theorem k0_off454_inb : ∀ (v10643 : BitVec 32) (v10790 : BitVec 32) (k0_hw192 : k0_chk192 v10643 v10790), ∀ a, (k0_off454 v10643 v10790) a + S1x128x256.size a ≤ S256x128x256.size a := fun v10643 v10790 k0_hw192 => k0_hw192.2

def k0_off455 (v10643 : BitVec 32) (v10803 : BitVec 32) : Fin 3 → Nat :=
  let c128_i32_5942 : BitVec 32 := 128#32
  let v10664 : BitVec 32 := Scalar.muli v10643 c128_i32_5942
  let v10804 : BitVec 32 := Scalar.addi v10664 v10803
  let v11169 : Index := Scalar.indexCast v10804
  let c0_6236 : Index := 0#32
  let c0_6237 : Index := 0#32
  ![v11169.toNat, 0, 0]

def k0_off456 (v10643 : BitVec 32) (v10803 : BitVec 32) : Fin 3 → Nat :=
  let c128_i32_5942 : BitVec 32 := 128#32
  let v10664 : BitVec 32 := Scalar.muli v10643 c128_i32_5942
  let c1_i32_6018 : BitVec 32 := 1#32
  let v10805 : BitVec 32 := Scalar.addi v10803 c1_i32_6018
  let c127_i32_6019 : BitVec 32 := 127#32
  let v10806 : BitVec 32 := Scalar.minsi v10805 c127_i32_6019
  let v10807 : BitVec 32 := Scalar.addi v10664 v10806
  let v11172 : Index := Scalar.indexCast v10807
  let c0_6238 : Index := 0#32
  let c0_6239 : Index := 0#32
  ![v11172.toNat, 0, 0]

def k0_chk193 (v10643 : BitVec 32) (v10803 : BitVec 32) : Prop :=
  (∀ a, (k0_off455 v10643 v10803) a + S1x128x256.size a ≤ S256x128x256.size a) ∧
  (∀ a, (k0_off456 v10643 v10803) a + S1x128x256.size a ≤ S256x128x256.size a)
theorem k0_off455_inb : ∀ (v10643 : BitVec 32) (v10803 : BitVec 32) (k0_hw193 : k0_chk193 v10643 v10803), ∀ a, (k0_off455 v10643 v10803) a + S1x128x256.size a ≤ S256x128x256.size a := fun v10643 v10803 k0_hw193 => k0_hw193.1
theorem k0_off456_inb : ∀ (v10643 : BitVec 32) (v10803 : BitVec 32) (k0_hw193 : k0_chk193 v10643 v10803), ∀ a, (k0_off456 v10643 v10803) a + S1x128x256.size a ≤ S256x128x256.size a := fun v10643 v10803 k0_hw193 => k0_hw193.2

def k0_off457 (v10643 : BitVec 32) (v10816 : BitVec 32) : Fin 3 → Nat :=
  let c128_i32_5942 : BitVec 32 := 128#32
  let v10664 : BitVec 32 := Scalar.muli v10643 c128_i32_5942
  let v10817 : BitVec 32 := Scalar.addi v10664 v10816
  let v11181 : Index := Scalar.indexCast v10817
  let c0_6241 : Index := 0#32
  let c0_6242 : Index := 0#32
  ![v11181.toNat, 0, 0]

def k0_off458 (v10643 : BitVec 32) (v10816 : BitVec 32) : Fin 3 → Nat :=
  let c128_i32_5942 : BitVec 32 := 128#32
  let v10664 : BitVec 32 := Scalar.muli v10643 c128_i32_5942
  let c1_i32_6025 : BitVec 32 := 1#32
  let v10818 : BitVec 32 := Scalar.addi v10816 c1_i32_6025
  let c127_i32_6026 : BitVec 32 := 127#32
  let v10819 : BitVec 32 := Scalar.minsi v10818 c127_i32_6026
  let v10820 : BitVec 32 := Scalar.addi v10664 v10819
  let v11184 : Index := Scalar.indexCast v10820
  let c0_6243 : Index := 0#32
  let c0_6244 : Index := 0#32
  ![v11184.toNat, 0, 0]

def k0_chk194 (v10643 : BitVec 32) (v10816 : BitVec 32) : Prop :=
  (∀ a, (k0_off457 v10643 v10816) a + S1x128x256.size a ≤ S256x128x256.size a) ∧
  (∀ a, (k0_off458 v10643 v10816) a + S1x128x256.size a ≤ S256x128x256.size a)
theorem k0_off457_inb : ∀ (v10643 : BitVec 32) (v10816 : BitVec 32) (k0_hw194 : k0_chk194 v10643 v10816), ∀ a, (k0_off457 v10643 v10816) a + S1x128x256.size a ≤ S256x128x256.size a := fun v10643 v10816 k0_hw194 => k0_hw194.1
theorem k0_off458_inb : ∀ (v10643 : BitVec 32) (v10816 : BitVec 32) (k0_hw194 : k0_chk194 v10643 v10816), ∀ a, (k0_off458 v10643 v10816) a + S1x128x256.size a ≤ S256x128x256.size a := fun v10643 v10816 k0_hw194 => k0_hw194.2

def k0_off459 (v10643 : BitVec 32) (v10829 : BitVec 32) : Fin 3 → Nat :=
  let c128_i32_5942 : BitVec 32 := 128#32
  let v10664 : BitVec 32 := Scalar.muli v10643 c128_i32_5942
  let v10830 : BitVec 32 := Scalar.addi v10664 v10829
  let v11197 : Index := Scalar.indexCast v10830
  let c0_6250 : Index := 0#32
  let c0_6251 : Index := 0#32
  ![v11197.toNat, 0, 0]

def k0_off460 (v10643 : BitVec 32) (v10829 : BitVec 32) : Fin 3 → Nat :=
  let c128_i32_5942 : BitVec 32 := 128#32
  let v10664 : BitVec 32 := Scalar.muli v10643 c128_i32_5942
  let c1_i32_6032 : BitVec 32 := 1#32
  let v10831 : BitVec 32 := Scalar.addi v10829 c1_i32_6032
  let c127_i32_6033 : BitVec 32 := 127#32
  let v10832 : BitVec 32 := Scalar.minsi v10831 c127_i32_6033
  let v10833 : BitVec 32 := Scalar.addi v10664 v10832
  let v11200 : Index := Scalar.indexCast v10833
  let c0_6252 : Index := 0#32
  let c0_6253 : Index := 0#32
  ![v11200.toNat, 0, 0]

def k0_chk195 (v10643 : BitVec 32) (v10829 : BitVec 32) : Prop :=
  (∀ a, (k0_off459 v10643 v10829) a + S1x128x256.size a ≤ S256x128x256.size a) ∧
  (∀ a, (k0_off460 v10643 v10829) a + S1x128x256.size a ≤ S256x128x256.size a)
theorem k0_off459_inb : ∀ (v10643 : BitVec 32) (v10829 : BitVec 32) (k0_hw195 : k0_chk195 v10643 v10829), ∀ a, (k0_off459 v10643 v10829) a + S1x128x256.size a ≤ S256x128x256.size a := fun v10643 v10829 k0_hw195 => k0_hw195.1
theorem k0_off460_inb : ∀ (v10643 : BitVec 32) (v10829 : BitVec 32) (k0_hw195 : k0_chk195 v10643 v10829), ∀ a, (k0_off460 v10643 v10829) a + S1x128x256.size a ≤ S256x128x256.size a := fun v10643 v10829 k0_hw195 => k0_hw195.2

def k0_off461 (v10643 : BitVec 32) (v10842 : BitVec 32) : Fin 3 → Nat :=
  let c128_i32_5942 : BitVec 32 := 128#32
  let v10664 : BitVec 32 := Scalar.muli v10643 c128_i32_5942
  let v10843 : BitVec 32 := Scalar.addi v10664 v10842
  let v11209 : Index := Scalar.indexCast v10843
  let c0_6255 : Index := 0#32
  let c0_6256 : Index := 0#32
  ![v11209.toNat, 0, 0]

def k0_off462 (v10643 : BitVec 32) (v10842 : BitVec 32) : Fin 3 → Nat :=
  let c128_i32_5942 : BitVec 32 := 128#32
  let v10664 : BitVec 32 := Scalar.muli v10643 c128_i32_5942
  let c1_i32_6039 : BitVec 32 := 1#32
  let v10844 : BitVec 32 := Scalar.addi v10842 c1_i32_6039
  let c127_i32_6040 : BitVec 32 := 127#32
  let v10845 : BitVec 32 := Scalar.minsi v10844 c127_i32_6040
  let v10846 : BitVec 32 := Scalar.addi v10664 v10845
  let v11212 : Index := Scalar.indexCast v10846
  let c0_6257 : Index := 0#32
  let c0_6258 : Index := 0#32
  ![v11212.toNat, 0, 0]

def k0_chk196 (v10643 : BitVec 32) (v10842 : BitVec 32) : Prop :=
  (∀ a, (k0_off461 v10643 v10842) a + S1x128x256.size a ≤ S256x128x256.size a) ∧
  (∀ a, (k0_off462 v10643 v10842) a + S1x128x256.size a ≤ S256x128x256.size a)
theorem k0_off461_inb : ∀ (v10643 : BitVec 32) (v10842 : BitVec 32) (k0_hw196 : k0_chk196 v10643 v10842), ∀ a, (k0_off461 v10643 v10842) a + S1x128x256.size a ≤ S256x128x256.size a := fun v10643 v10842 k0_hw196 => k0_hw196.1
theorem k0_off462_inb : ∀ (v10643 : BitVec 32) (v10842 : BitVec 32) (k0_hw196 : k0_chk196 v10643 v10842), ∀ a, (k0_off462 v10643 v10842) a + S1x128x256.size a ≤ S256x128x256.size a := fun v10643 v10842 k0_hw196 => k0_hw196.2

def k0_off463 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c14_i32 : BitVec 32 := 14#32
  let v11458 : BitVec 32 := Scalar.addi v5 c14_i32
  let v11459 : Index := Scalar.indexCast v11458
  let c0_6383 : Index := 0#32
  ![v11459.toNat, 0]
def k0_off464 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c14_i32 : BitVec 32 := 14#32
  let v11458 : BitVec 32 := Scalar.addi v5 c14_i32
  let v11462 : Index := Scalar.indexCast v11458
  let c1_6384 : Index := 1#32
  ![v11462.toNat, 1]
def k0_off465 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c14_i32 : BitVec 32 := 14#32
  let v11458 : BitVec 32 := Scalar.addi v5 c14_i32
  let v11466 : Index := Scalar.indexCast v11458
  let c2_6387 : Index := 2#32
  ![v11466.toNat, 2]
def k0_off466 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c14_i32 : BitVec 32 := 14#32
  let v11458 : BitVec 32 := Scalar.addi v5 c14_i32
  let v11470 : Index := Scalar.indexCast v11458
  let c3_6390 : Index := 3#32
  ![v11470.toNat, 3]
def k0_off467 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c14_i32 : BitVec 32 := 14#32
  let v11458 : BitVec 32 := Scalar.addi v5 c14_i32
  let v11474 : Index := Scalar.indexCast v11458
  let c4_6393 : Index := 4#32
  ![v11474.toNat, 4]
def k0_off468 (v11461 : BitVec 32) (v11491 : BitVec 32) : Fin 3 → Nat :=
  let c128_i32_6398 : BitVec 32 := 128#32
  let v11482 : BitVec 32 := Scalar.muli v11461 c128_i32_6398
  let v11492 : BitVec 32 := Scalar.addi v11482 v11491
  let v11847 : Index := Scalar.indexCast v11492
  let c0_6623 : Index := 0#32
  let c0_6624 : Index := 0#32
  ![v11847.toNat, 0, 0]

def k0_off469 (v11461 : BitVec 32) (v11491 : BitVec 32) : Fin 3 → Nat :=
  let c128_i32_6398 : BitVec 32 := 128#32
  let v11482 : BitVec 32 := Scalar.muli v11461 c128_i32_6398
  let c1_i32_6404 : BitVec 32 := 1#32
  let v11493 : BitVec 32 := Scalar.addi v11491 c1_i32_6404
  let c127_i32_6405 : BitVec 32 := 127#32
  let v11494 : BitVec 32 := Scalar.minsi v11493 c127_i32_6405
  let v11495 : BitVec 32 := Scalar.addi v11482 v11494
  let v11850 : Index := Scalar.indexCast v11495
  let c0_6625 : Index := 0#32
  let c0_6626 : Index := 0#32
  ![v11850.toNat, 0, 0]

def k0_chk197 (v11461 : BitVec 32) (v11491 : BitVec 32) : Prop :=
  (∀ a, (k0_off468 v11461 v11491) a + S1x128x256.size a ≤ S256x128x256.size a) ∧
  (∀ a, (k0_off469 v11461 v11491) a + S1x128x256.size a ≤ S256x128x256.size a)
theorem k0_off468_inb : ∀ (v11461 : BitVec 32) (v11491 : BitVec 32) (k0_hw197 : k0_chk197 v11461 v11491), ∀ a, (k0_off468 v11461 v11491) a + S1x128x256.size a ≤ S256x128x256.size a := fun v11461 v11491 k0_hw197 => k0_hw197.1
theorem k0_off469_inb : ∀ (v11461 : BitVec 32) (v11491 : BitVec 32) (k0_hw197 : k0_chk197 v11461 v11491), ∀ a, (k0_off469 v11461 v11491) a + S1x128x256.size a ≤ S256x128x256.size a := fun v11461 v11491 k0_hw197 => k0_hw197.2

def k0_off470 (v11461 : BitVec 32) (v11504 : BitVec 32) : Fin 3 → Nat :=
  let c128_i32_6398 : BitVec 32 := 128#32
  let v11482 : BitVec 32 := Scalar.muli v11461 c128_i32_6398
  let v11505 : BitVec 32 := Scalar.addi v11482 v11504
  let v11859 : Index := Scalar.indexCast v11505
  let c0_6628 : Index := 0#32
  let c0_6629 : Index := 0#32
  ![v11859.toNat, 0, 0]

def k0_off471 (v11461 : BitVec 32) (v11504 : BitVec 32) : Fin 3 → Nat :=
  let c128_i32_6398 : BitVec 32 := 128#32
  let v11482 : BitVec 32 := Scalar.muli v11461 c128_i32_6398
  let c1_i32_6411 : BitVec 32 := 1#32
  let v11506 : BitVec 32 := Scalar.addi v11504 c1_i32_6411
  let c127_i32_6412 : BitVec 32 := 127#32
  let v11507 : BitVec 32 := Scalar.minsi v11506 c127_i32_6412
  let v11508 : BitVec 32 := Scalar.addi v11482 v11507
  let v11862 : Index := Scalar.indexCast v11508
  let c0_6630 : Index := 0#32
  let c0_6631 : Index := 0#32
  ![v11862.toNat, 0, 0]

def k0_chk198 (v11461 : BitVec 32) (v11504 : BitVec 32) : Prop :=
  (∀ a, (k0_off470 v11461 v11504) a + S1x128x256.size a ≤ S256x128x256.size a) ∧
  (∀ a, (k0_off471 v11461 v11504) a + S1x128x256.size a ≤ S256x128x256.size a)
theorem k0_off470_inb : ∀ (v11461 : BitVec 32) (v11504 : BitVec 32) (k0_hw198 : k0_chk198 v11461 v11504), ∀ a, (k0_off470 v11461 v11504) a + S1x128x256.size a ≤ S256x128x256.size a := fun v11461 v11504 k0_hw198 => k0_hw198.1
theorem k0_off471_inb : ∀ (v11461 : BitVec 32) (v11504 : BitVec 32) (k0_hw198 : k0_chk198 v11461 v11504), ∀ a, (k0_off471 v11461 v11504) a + S1x128x256.size a ≤ S256x128x256.size a := fun v11461 v11504 k0_hw198 => k0_hw198.2

def k0_off472 (v11461 : BitVec 32) (v11517 : BitVec 32) : Fin 3 → Nat :=
  let c128_i32_6398 : BitVec 32 := 128#32
  let v11482 : BitVec 32 := Scalar.muli v11461 c128_i32_6398
  let v11518 : BitVec 32 := Scalar.addi v11482 v11517
  let v11875 : Index := Scalar.indexCast v11518
  let c0_6636 : Index := 0#32
  let c0_6637 : Index := 0#32
  ![v11875.toNat, 0, 0]

def k0_off473 (v11461 : BitVec 32) (v11517 : BitVec 32) : Fin 3 → Nat :=
  let c128_i32_6398 : BitVec 32 := 128#32
  let v11482 : BitVec 32 := Scalar.muli v11461 c128_i32_6398
  let c1_i32_6418 : BitVec 32 := 1#32
  let v11519 : BitVec 32 := Scalar.addi v11517 c1_i32_6418
  let c127_i32_6419 : BitVec 32 := 127#32
  let v11520 : BitVec 32 := Scalar.minsi v11519 c127_i32_6419
  let v11521 : BitVec 32 := Scalar.addi v11482 v11520
  let v11878 : Index := Scalar.indexCast v11521
  let c0_6638 : Index := 0#32
  let c0_6639 : Index := 0#32
  ![v11878.toNat, 0, 0]

def k0_chk199 (v11461 : BitVec 32) (v11517 : BitVec 32) : Prop :=
  (∀ a, (k0_off472 v11461 v11517) a + S1x128x256.size a ≤ S256x128x256.size a) ∧
  (∀ a, (k0_off473 v11461 v11517) a + S1x128x256.size a ≤ S256x128x256.size a)
theorem k0_off472_inb : ∀ (v11461 : BitVec 32) (v11517 : BitVec 32) (k0_hw199 : k0_chk199 v11461 v11517), ∀ a, (k0_off472 v11461 v11517) a + S1x128x256.size a ≤ S256x128x256.size a := fun v11461 v11517 k0_hw199 => k0_hw199.1
theorem k0_off473_inb : ∀ (v11461 : BitVec 32) (v11517 : BitVec 32) (k0_hw199 : k0_chk199 v11461 v11517), ∀ a, (k0_off473 v11461 v11517) a + S1x128x256.size a ≤ S256x128x256.size a := fun v11461 v11517 k0_hw199 => k0_hw199.2

def k0_off474 (v11461 : BitVec 32) (v11530 : BitVec 32) : Fin 3 → Nat :=
  let c128_i32_6398 : BitVec 32 := 128#32
  let v11482 : BitVec 32 := Scalar.muli v11461 c128_i32_6398
  let v11531 : BitVec 32 := Scalar.addi v11482 v11530
  let v11887 : Index := Scalar.indexCast v11531
  let c0_6641 : Index := 0#32
  let c0_6642 : Index := 0#32
  ![v11887.toNat, 0, 0]

def k0_off475 (v11461 : BitVec 32) (v11530 : BitVec 32) : Fin 3 → Nat :=
  let c128_i32_6398 : BitVec 32 := 128#32
  let v11482 : BitVec 32 := Scalar.muli v11461 c128_i32_6398
  let c1_i32_6425 : BitVec 32 := 1#32
  let v11532 : BitVec 32 := Scalar.addi v11530 c1_i32_6425
  let c127_i32_6426 : BitVec 32 := 127#32
  let v11533 : BitVec 32 := Scalar.minsi v11532 c127_i32_6426
  let v11534 : BitVec 32 := Scalar.addi v11482 v11533
  let v11890 : Index := Scalar.indexCast v11534
  let c0_6643 : Index := 0#32
  let c0_6644 : Index := 0#32
  ![v11890.toNat, 0, 0]

def k0_chk200 (v11461 : BitVec 32) (v11530 : BitVec 32) : Prop :=
  (∀ a, (k0_off474 v11461 v11530) a + S1x128x256.size a ≤ S256x128x256.size a) ∧
  (∀ a, (k0_off475 v11461 v11530) a + S1x128x256.size a ≤ S256x128x256.size a)
theorem k0_off474_inb : ∀ (v11461 : BitVec 32) (v11530 : BitVec 32) (k0_hw200 : k0_chk200 v11461 v11530), ∀ a, (k0_off474 v11461 v11530) a + S1x128x256.size a ≤ S256x128x256.size a := fun v11461 v11530 k0_hw200 => k0_hw200.1
theorem k0_off475_inb : ∀ (v11461 : BitVec 32) (v11530 : BitVec 32) (k0_hw200 : k0_chk200 v11461 v11530), ∀ a, (k0_off475 v11461 v11530) a + S1x128x256.size a ≤ S256x128x256.size a := fun v11461 v11530 k0_hw200 => k0_hw200.2

def k0_off476 (v11461 : BitVec 32) (v11543 : BitVec 32) : Fin 3 → Nat :=
  let c128_i32_6398 : BitVec 32 := 128#32
  let v11482 : BitVec 32 := Scalar.muli v11461 c128_i32_6398
  let v11544 : BitVec 32 := Scalar.addi v11482 v11543
  let v11903 : Index := Scalar.indexCast v11544
  let c0_6650 : Index := 0#32
  let c0_6651 : Index := 0#32
  ![v11903.toNat, 0, 0]

def k0_off477 (v11461 : BitVec 32) (v11543 : BitVec 32) : Fin 3 → Nat :=
  let c128_i32_6398 : BitVec 32 := 128#32
  let v11482 : BitVec 32 := Scalar.muli v11461 c128_i32_6398
  let c1_i32_6432 : BitVec 32 := 1#32
  let v11545 : BitVec 32 := Scalar.addi v11543 c1_i32_6432
  let c127_i32_6433 : BitVec 32 := 127#32
  let v11546 : BitVec 32 := Scalar.minsi v11545 c127_i32_6433
  let v11547 : BitVec 32 := Scalar.addi v11482 v11546
  let v11906 : Index := Scalar.indexCast v11547
  let c0_6652 : Index := 0#32
  let c0_6653 : Index := 0#32
  ![v11906.toNat, 0, 0]

def k0_chk201 (v11461 : BitVec 32) (v11543 : BitVec 32) : Prop :=
  (∀ a, (k0_off476 v11461 v11543) a + S1x128x256.size a ≤ S256x128x256.size a) ∧
  (∀ a, (k0_off477 v11461 v11543) a + S1x128x256.size a ≤ S256x128x256.size a)
theorem k0_off476_inb : ∀ (v11461 : BitVec 32) (v11543 : BitVec 32) (k0_hw201 : k0_chk201 v11461 v11543), ∀ a, (k0_off476 v11461 v11543) a + S1x128x256.size a ≤ S256x128x256.size a := fun v11461 v11543 k0_hw201 => k0_hw201.1
theorem k0_off477_inb : ∀ (v11461 : BitVec 32) (v11543 : BitVec 32) (k0_hw201 : k0_chk201 v11461 v11543), ∀ a, (k0_off477 v11461 v11543) a + S1x128x256.size a ≤ S256x128x256.size a := fun v11461 v11543 k0_hw201 => k0_hw201.2

def k0_off478 (v11461 : BitVec 32) (v11556 : BitVec 32) : Fin 3 → Nat :=
  let c128_i32_6398 : BitVec 32 := 128#32
  let v11482 : BitVec 32 := Scalar.muli v11461 c128_i32_6398
  let v11557 : BitVec 32 := Scalar.addi v11482 v11556
  let v11915 : Index := Scalar.indexCast v11557
  let c0_6655 : Index := 0#32
  let c0_6656 : Index := 0#32
  ![v11915.toNat, 0, 0]

def k0_off479 (v11461 : BitVec 32) (v11556 : BitVec 32) : Fin 3 → Nat :=
  let c128_i32_6398 : BitVec 32 := 128#32
  let v11482 : BitVec 32 := Scalar.muli v11461 c128_i32_6398
  let c1_i32_6439 : BitVec 32 := 1#32
  let v11558 : BitVec 32 := Scalar.addi v11556 c1_i32_6439
  let c127_i32_6440 : BitVec 32 := 127#32
  let v11559 : BitVec 32 := Scalar.minsi v11558 c127_i32_6440
  let v11560 : BitVec 32 := Scalar.addi v11482 v11559
  let v11918 : Index := Scalar.indexCast v11560
  let c0_6657 : Index := 0#32
  let c0_6658 : Index := 0#32
  ![v11918.toNat, 0, 0]

def k0_chk202 (v11461 : BitVec 32) (v11556 : BitVec 32) : Prop :=
  (∀ a, (k0_off478 v11461 v11556) a + S1x128x256.size a ≤ S256x128x256.size a) ∧
  (∀ a, (k0_off479 v11461 v11556) a + S1x128x256.size a ≤ S256x128x256.size a)
theorem k0_off478_inb : ∀ (v11461 : BitVec 32) (v11556 : BitVec 32) (k0_hw202 : k0_chk202 v11461 v11556), ∀ a, (k0_off478 v11461 v11556) a + S1x128x256.size a ≤ S256x128x256.size a := fun v11461 v11556 k0_hw202 => k0_hw202.1
theorem k0_off479_inb : ∀ (v11461 : BitVec 32) (v11556 : BitVec 32) (k0_hw202 : k0_chk202 v11461 v11556), ∀ a, (k0_off479 v11461 v11556) a + S1x128x256.size a ≤ S256x128x256.size a := fun v11461 v11556 k0_hw202 => k0_hw202.2

def k0_off480 (v11461 : BitVec 32) (v11569 : BitVec 32) : Fin 3 → Nat :=
  let c128_i32_6398 : BitVec 32 := 128#32
  let v11482 : BitVec 32 := Scalar.muli v11461 c128_i32_6398
  let v11570 : BitVec 32 := Scalar.addi v11482 v11569
  let v11931 : Index := Scalar.indexCast v11570
  let c0_6664 : Index := 0#32
  let c0_6665 : Index := 0#32
  ![v11931.toNat, 0, 0]

def k0_off481 (v11461 : BitVec 32) (v11569 : BitVec 32) : Fin 3 → Nat :=
  let c128_i32_6398 : BitVec 32 := 128#32
  let v11482 : BitVec 32 := Scalar.muli v11461 c128_i32_6398
  let c1_i32_6446 : BitVec 32 := 1#32
  let v11571 : BitVec 32 := Scalar.addi v11569 c1_i32_6446
  let c127_i32_6447 : BitVec 32 := 127#32
  let v11572 : BitVec 32 := Scalar.minsi v11571 c127_i32_6447
  let v11573 : BitVec 32 := Scalar.addi v11482 v11572
  let v11934 : Index := Scalar.indexCast v11573
  let c0_6666 : Index := 0#32
  let c0_6667 : Index := 0#32
  ![v11934.toNat, 0, 0]

def k0_chk203 (v11461 : BitVec 32) (v11569 : BitVec 32) : Prop :=
  (∀ a, (k0_off480 v11461 v11569) a + S1x128x256.size a ≤ S256x128x256.size a) ∧
  (∀ a, (k0_off481 v11461 v11569) a + S1x128x256.size a ≤ S256x128x256.size a)
theorem k0_off480_inb : ∀ (v11461 : BitVec 32) (v11569 : BitVec 32) (k0_hw203 : k0_chk203 v11461 v11569), ∀ a, (k0_off480 v11461 v11569) a + S1x128x256.size a ≤ S256x128x256.size a := fun v11461 v11569 k0_hw203 => k0_hw203.1
theorem k0_off481_inb : ∀ (v11461 : BitVec 32) (v11569 : BitVec 32) (k0_hw203 : k0_chk203 v11461 v11569), ∀ a, (k0_off481 v11461 v11569) a + S1x128x256.size a ≤ S256x128x256.size a := fun v11461 v11569 k0_hw203 => k0_hw203.2

def k0_off482 (v11461 : BitVec 32) (v11582 : BitVec 32) : Fin 3 → Nat :=
  let c128_i32_6398 : BitVec 32 := 128#32
  let v11482 : BitVec 32 := Scalar.muli v11461 c128_i32_6398
  let v11583 : BitVec 32 := Scalar.addi v11482 v11582
  let v11943 : Index := Scalar.indexCast v11583
  let c0_6669 : Index := 0#32
  let c0_6670 : Index := 0#32
  ![v11943.toNat, 0, 0]

def k0_off483 (v11461 : BitVec 32) (v11582 : BitVec 32) : Fin 3 → Nat :=
  let c128_i32_6398 : BitVec 32 := 128#32
  let v11482 : BitVec 32 := Scalar.muli v11461 c128_i32_6398
  let c1_i32_6453 : BitVec 32 := 1#32
  let v11584 : BitVec 32 := Scalar.addi v11582 c1_i32_6453
  let c127_i32_6454 : BitVec 32 := 127#32
  let v11585 : BitVec 32 := Scalar.minsi v11584 c127_i32_6454
  let v11586 : BitVec 32 := Scalar.addi v11482 v11585
  let v11946 : Index := Scalar.indexCast v11586
  let c0_6671 : Index := 0#32
  let c0_6672 : Index := 0#32
  ![v11946.toNat, 0, 0]

def k0_chk204 (v11461 : BitVec 32) (v11582 : BitVec 32) : Prop :=
  (∀ a, (k0_off482 v11461 v11582) a + S1x128x256.size a ≤ S256x128x256.size a) ∧
  (∀ a, (k0_off483 v11461 v11582) a + S1x128x256.size a ≤ S256x128x256.size a)
theorem k0_off482_inb : ∀ (v11461 : BitVec 32) (v11582 : BitVec 32) (k0_hw204 : k0_chk204 v11461 v11582), ∀ a, (k0_off482 v11461 v11582) a + S1x128x256.size a ≤ S256x128x256.size a := fun v11461 v11582 k0_hw204 => k0_hw204.1
theorem k0_off483_inb : ∀ (v11461 : BitVec 32) (v11582 : BitVec 32) (k0_hw204 : k0_chk204 v11461 v11582), ∀ a, (k0_off483 v11461 v11582) a + S1x128x256.size a ≤ S256x128x256.size a := fun v11461 v11582 k0_hw204 => k0_hw204.2

def k0_off484 (v11461 : BitVec 32) (v11595 : BitVec 32) : Fin 3 → Nat :=
  let c128_i32_6398 : BitVec 32 := 128#32
  let v11482 : BitVec 32 := Scalar.muli v11461 c128_i32_6398
  let v11596 : BitVec 32 := Scalar.addi v11482 v11595
  let v11959 : Index := Scalar.indexCast v11596
  let c0_6678 : Index := 0#32
  let c0_6679 : Index := 0#32
  ![v11959.toNat, 0, 0]

def k0_off485 (v11461 : BitVec 32) (v11595 : BitVec 32) : Fin 3 → Nat :=
  let c128_i32_6398 : BitVec 32 := 128#32
  let v11482 : BitVec 32 := Scalar.muli v11461 c128_i32_6398
  let c1_i32_6460 : BitVec 32 := 1#32
  let v11597 : BitVec 32 := Scalar.addi v11595 c1_i32_6460
  let c127_i32_6461 : BitVec 32 := 127#32
  let v11598 : BitVec 32 := Scalar.minsi v11597 c127_i32_6461
  let v11599 : BitVec 32 := Scalar.addi v11482 v11598
  let v11962 : Index := Scalar.indexCast v11599
  let c0_6680 : Index := 0#32
  let c0_6681 : Index := 0#32
  ![v11962.toNat, 0, 0]

def k0_chk205 (v11461 : BitVec 32) (v11595 : BitVec 32) : Prop :=
  (∀ a, (k0_off484 v11461 v11595) a + S1x128x256.size a ≤ S256x128x256.size a) ∧
  (∀ a, (k0_off485 v11461 v11595) a + S1x128x256.size a ≤ S256x128x256.size a)
theorem k0_off484_inb : ∀ (v11461 : BitVec 32) (v11595 : BitVec 32) (k0_hw205 : k0_chk205 v11461 v11595), ∀ a, (k0_off484 v11461 v11595) a + S1x128x256.size a ≤ S256x128x256.size a := fun v11461 v11595 k0_hw205 => k0_hw205.1
theorem k0_off485_inb : ∀ (v11461 : BitVec 32) (v11595 : BitVec 32) (k0_hw205 : k0_chk205 v11461 v11595), ∀ a, (k0_off485 v11461 v11595) a + S1x128x256.size a ≤ S256x128x256.size a := fun v11461 v11595 k0_hw205 => k0_hw205.2

def k0_off486 (v11461 : BitVec 32) (v11608 : BitVec 32) : Fin 3 → Nat :=
  let c128_i32_6398 : BitVec 32 := 128#32
  let v11482 : BitVec 32 := Scalar.muli v11461 c128_i32_6398
  let v11609 : BitVec 32 := Scalar.addi v11482 v11608
  let v11971 : Index := Scalar.indexCast v11609
  let c0_6683 : Index := 0#32
  let c0_6684 : Index := 0#32
  ![v11971.toNat, 0, 0]

def k0_off487 (v11461 : BitVec 32) (v11608 : BitVec 32) : Fin 3 → Nat :=
  let c128_i32_6398 : BitVec 32 := 128#32
  let v11482 : BitVec 32 := Scalar.muli v11461 c128_i32_6398
  let c1_i32_6467 : BitVec 32 := 1#32
  let v11610 : BitVec 32 := Scalar.addi v11608 c1_i32_6467
  let c127_i32_6468 : BitVec 32 := 127#32
  let v11611 : BitVec 32 := Scalar.minsi v11610 c127_i32_6468
  let v11612 : BitVec 32 := Scalar.addi v11482 v11611
  let v11974 : Index := Scalar.indexCast v11612
  let c0_6685 : Index := 0#32
  let c0_6686 : Index := 0#32
  ![v11974.toNat, 0, 0]

def k0_chk206 (v11461 : BitVec 32) (v11608 : BitVec 32) : Prop :=
  (∀ a, (k0_off486 v11461 v11608) a + S1x128x256.size a ≤ S256x128x256.size a) ∧
  (∀ a, (k0_off487 v11461 v11608) a + S1x128x256.size a ≤ S256x128x256.size a)
theorem k0_off486_inb : ∀ (v11461 : BitVec 32) (v11608 : BitVec 32) (k0_hw206 : k0_chk206 v11461 v11608), ∀ a, (k0_off486 v11461 v11608) a + S1x128x256.size a ≤ S256x128x256.size a := fun v11461 v11608 k0_hw206 => k0_hw206.1
theorem k0_off487_inb : ∀ (v11461 : BitVec 32) (v11608 : BitVec 32) (k0_hw206 : k0_chk206 v11461 v11608), ∀ a, (k0_off487 v11461 v11608) a + S1x128x256.size a ≤ S256x128x256.size a := fun v11461 v11608 k0_hw206 => k0_hw206.2

def k0_off488 (v11461 : BitVec 32) (v11621 : BitVec 32) : Fin 3 → Nat :=
  let c128_i32_6398 : BitVec 32 := 128#32
  let v11482 : BitVec 32 := Scalar.muli v11461 c128_i32_6398
  let v11622 : BitVec 32 := Scalar.addi v11482 v11621
  let v11987 : Index := Scalar.indexCast v11622
  let c0_6692 : Index := 0#32
  let c0_6693 : Index := 0#32
  ![v11987.toNat, 0, 0]

def k0_off489 (v11461 : BitVec 32) (v11621 : BitVec 32) : Fin 3 → Nat :=
  let c128_i32_6398 : BitVec 32 := 128#32
  let v11482 : BitVec 32 := Scalar.muli v11461 c128_i32_6398
  let c1_i32_6474 : BitVec 32 := 1#32
  let v11623 : BitVec 32 := Scalar.addi v11621 c1_i32_6474
  let c127_i32_6475 : BitVec 32 := 127#32
  let v11624 : BitVec 32 := Scalar.minsi v11623 c127_i32_6475
  let v11625 : BitVec 32 := Scalar.addi v11482 v11624
  let v11990 : Index := Scalar.indexCast v11625
  let c0_6694 : Index := 0#32
  let c0_6695 : Index := 0#32
  ![v11990.toNat, 0, 0]

def k0_chk207 (v11461 : BitVec 32) (v11621 : BitVec 32) : Prop :=
  (∀ a, (k0_off488 v11461 v11621) a + S1x128x256.size a ≤ S256x128x256.size a) ∧
  (∀ a, (k0_off489 v11461 v11621) a + S1x128x256.size a ≤ S256x128x256.size a)
theorem k0_off488_inb : ∀ (v11461 : BitVec 32) (v11621 : BitVec 32) (k0_hw207 : k0_chk207 v11461 v11621), ∀ a, (k0_off488 v11461 v11621) a + S1x128x256.size a ≤ S256x128x256.size a := fun v11461 v11621 k0_hw207 => k0_hw207.1
theorem k0_off489_inb : ∀ (v11461 : BitVec 32) (v11621 : BitVec 32) (k0_hw207 : k0_chk207 v11461 v11621), ∀ a, (k0_off489 v11461 v11621) a + S1x128x256.size a ≤ S256x128x256.size a := fun v11461 v11621 k0_hw207 => k0_hw207.2

def k0_off490 (v11461 : BitVec 32) (v11634 : BitVec 32) : Fin 3 → Nat :=
  let c128_i32_6398 : BitVec 32 := 128#32
  let v11482 : BitVec 32 := Scalar.muli v11461 c128_i32_6398
  let v11635 : BitVec 32 := Scalar.addi v11482 v11634
  let v11999 : Index := Scalar.indexCast v11635
  let c0_6697 : Index := 0#32
  let c0_6698 : Index := 0#32
  ![v11999.toNat, 0, 0]

def k0_off491 (v11461 : BitVec 32) (v11634 : BitVec 32) : Fin 3 → Nat :=
  let c128_i32_6398 : BitVec 32 := 128#32
  let v11482 : BitVec 32 := Scalar.muli v11461 c128_i32_6398
  let c1_i32_6481 : BitVec 32 := 1#32
  let v11636 : BitVec 32 := Scalar.addi v11634 c1_i32_6481
  let c127_i32_6482 : BitVec 32 := 127#32
  let v11637 : BitVec 32 := Scalar.minsi v11636 c127_i32_6482
  let v11638 : BitVec 32 := Scalar.addi v11482 v11637
  let v12002 : Index := Scalar.indexCast v11638
  let c0_6699 : Index := 0#32
  let c0_6700 : Index := 0#32
  ![v12002.toNat, 0, 0]

def k0_chk208 (v11461 : BitVec 32) (v11634 : BitVec 32) : Prop :=
  (∀ a, (k0_off490 v11461 v11634) a + S1x128x256.size a ≤ S256x128x256.size a) ∧
  (∀ a, (k0_off491 v11461 v11634) a + S1x128x256.size a ≤ S256x128x256.size a)
theorem k0_off490_inb : ∀ (v11461 : BitVec 32) (v11634 : BitVec 32) (k0_hw208 : k0_chk208 v11461 v11634), ∀ a, (k0_off490 v11461 v11634) a + S1x128x256.size a ≤ S256x128x256.size a := fun v11461 v11634 k0_hw208 => k0_hw208.1
theorem k0_off491_inb : ∀ (v11461 : BitVec 32) (v11634 : BitVec 32) (k0_hw208 : k0_chk208 v11461 v11634), ∀ a, (k0_off491 v11461 v11634) a + S1x128x256.size a ≤ S256x128x256.size a := fun v11461 v11634 k0_hw208 => k0_hw208.2

def k0_off492 (v11461 : BitVec 32) (v11647 : BitVec 32) : Fin 3 → Nat :=
  let c128_i32_6398 : BitVec 32 := 128#32
  let v11482 : BitVec 32 := Scalar.muli v11461 c128_i32_6398
  let v11648 : BitVec 32 := Scalar.addi v11482 v11647
  let v12015 : Index := Scalar.indexCast v11648
  let c0_6706 : Index := 0#32
  let c0_6707 : Index := 0#32
  ![v12015.toNat, 0, 0]

def k0_off493 (v11461 : BitVec 32) (v11647 : BitVec 32) : Fin 3 → Nat :=
  let c128_i32_6398 : BitVec 32 := 128#32
  let v11482 : BitVec 32 := Scalar.muli v11461 c128_i32_6398
  let c1_i32_6488 : BitVec 32 := 1#32
  let v11649 : BitVec 32 := Scalar.addi v11647 c1_i32_6488
  let c127_i32_6489 : BitVec 32 := 127#32
  let v11650 : BitVec 32 := Scalar.minsi v11649 c127_i32_6489
  let v11651 : BitVec 32 := Scalar.addi v11482 v11650
  let v12018 : Index := Scalar.indexCast v11651
  let c0_6708 : Index := 0#32
  let c0_6709 : Index := 0#32
  ![v12018.toNat, 0, 0]

def k0_chk209 (v11461 : BitVec 32) (v11647 : BitVec 32) : Prop :=
  (∀ a, (k0_off492 v11461 v11647) a + S1x128x256.size a ≤ S256x128x256.size a) ∧
  (∀ a, (k0_off493 v11461 v11647) a + S1x128x256.size a ≤ S256x128x256.size a)
theorem k0_off492_inb : ∀ (v11461 : BitVec 32) (v11647 : BitVec 32) (k0_hw209 : k0_chk209 v11461 v11647), ∀ a, (k0_off492 v11461 v11647) a + S1x128x256.size a ≤ S256x128x256.size a := fun v11461 v11647 k0_hw209 => k0_hw209.1
theorem k0_off493_inb : ∀ (v11461 : BitVec 32) (v11647 : BitVec 32) (k0_hw209 : k0_chk209 v11461 v11647), ∀ a, (k0_off493 v11461 v11647) a + S1x128x256.size a ≤ S256x128x256.size a := fun v11461 v11647 k0_hw209 => k0_hw209.2

def k0_off494 (v11461 : BitVec 32) (v11660 : BitVec 32) : Fin 3 → Nat :=
  let c128_i32_6398 : BitVec 32 := 128#32
  let v11482 : BitVec 32 := Scalar.muli v11461 c128_i32_6398
  let v11661 : BitVec 32 := Scalar.addi v11482 v11660
  let v12027 : Index := Scalar.indexCast v11661
  let c0_6711 : Index := 0#32
  let c0_6712 : Index := 0#32
  ![v12027.toNat, 0, 0]

def k0_off495 (v11461 : BitVec 32) (v11660 : BitVec 32) : Fin 3 → Nat :=
  let c128_i32_6398 : BitVec 32 := 128#32
  let v11482 : BitVec 32 := Scalar.muli v11461 c128_i32_6398
  let c1_i32_6495 : BitVec 32 := 1#32
  let v11662 : BitVec 32 := Scalar.addi v11660 c1_i32_6495
  let c127_i32_6496 : BitVec 32 := 127#32
  let v11663 : BitVec 32 := Scalar.minsi v11662 c127_i32_6496
  let v11664 : BitVec 32 := Scalar.addi v11482 v11663
  let v12030 : Index := Scalar.indexCast v11664
  let c0_6713 : Index := 0#32
  let c0_6714 : Index := 0#32
  ![v12030.toNat, 0, 0]

def k0_chk210 (v11461 : BitVec 32) (v11660 : BitVec 32) : Prop :=
  (∀ a, (k0_off494 v11461 v11660) a + S1x128x256.size a ≤ S256x128x256.size a) ∧
  (∀ a, (k0_off495 v11461 v11660) a + S1x128x256.size a ≤ S256x128x256.size a)
theorem k0_off494_inb : ∀ (v11461 : BitVec 32) (v11660 : BitVec 32) (k0_hw210 : k0_chk210 v11461 v11660), ∀ a, (k0_off494 v11461 v11660) a + S1x128x256.size a ≤ S256x128x256.size a := fun v11461 v11660 k0_hw210 => k0_hw210.1
theorem k0_off495_inb : ∀ (v11461 : BitVec 32) (v11660 : BitVec 32) (k0_hw210 : k0_chk210 v11461 v11660), ∀ a, (k0_off495 v11461 v11660) a + S1x128x256.size a ≤ S256x128x256.size a := fun v11461 v11660 k0_hw210 => k0_hw210.2

def k0_off496 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c15_i32 : BitVec 32 := 15#32
  let v12276 : BitVec 32 := Scalar.addi v5 c15_i32
  let v12277 : Index := Scalar.indexCast v12276
  let c0_6839 : Index := 0#32
  ![v12277.toNat, 0]
def k0_off497 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c15_i32 : BitVec 32 := 15#32
  let v12276 : BitVec 32 := Scalar.addi v5 c15_i32
  let v12280 : Index := Scalar.indexCast v12276
  let c1_6840 : Index := 1#32
  ![v12280.toNat, 1]
def k0_off498 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c15_i32 : BitVec 32 := 15#32
  let v12276 : BitVec 32 := Scalar.addi v5 c15_i32
  let v12284 : Index := Scalar.indexCast v12276
  let c2_6843 : Index := 2#32
  ![v12284.toNat, 2]
def k0_off499 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c15_i32 : BitVec 32 := 15#32
  let v12276 : BitVec 32 := Scalar.addi v5 c15_i32
  let v12288 : Index := Scalar.indexCast v12276
  let c3_6846 : Index := 3#32
  ![v12288.toNat, 3]
def k0_off500 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c16_i32 : BitVec 32 := 16#32
  let v5 : BitVec 32 := Scalar.muli v4 c16_i32
  let c15_i32 : BitVec 32 := 15#32
  let v12276 : BitVec 32 := Scalar.addi v5 c15_i32
  let v12292 : Index := Scalar.indexCast v12276
  let c4_6849 : Index := 4#32
  ![v12292.toNat, 4]
def k0_off501 (v12279 : BitVec 32) (v12309 : BitVec 32) : Fin 3 → Nat :=
  let c128_i32_6854 : BitVec 32 := 128#32
  let v12300 : BitVec 32 := Scalar.muli v12279 c128_i32_6854
  let v12310 : BitVec 32 := Scalar.addi v12300 v12309
  let v12665 : Index := Scalar.indexCast v12310
  let c0_7079 : Index := 0#32
  let c0_7080 : Index := 0#32
  ![v12665.toNat, 0, 0]

def k0_off502 (v12279 : BitVec 32) (v12309 : BitVec 32) : Fin 3 → Nat :=
  let c128_i32_6854 : BitVec 32 := 128#32
  let v12300 : BitVec 32 := Scalar.muli v12279 c128_i32_6854
  let c1_i32_6860 : BitVec 32 := 1#32
  let v12311 : BitVec 32 := Scalar.addi v12309 c1_i32_6860
  let c127_i32_6861 : BitVec 32 := 127#32
  let v12312 : BitVec 32 := Scalar.minsi v12311 c127_i32_6861
  let v12313 : BitVec 32 := Scalar.addi v12300 v12312
  let v12668 : Index := Scalar.indexCast v12313
  let c0_7081 : Index := 0#32
  let c0_7082 : Index := 0#32
  ![v12668.toNat, 0, 0]

def k0_chk211 (v12279 : BitVec 32) (v12309 : BitVec 32) : Prop :=
  (∀ a, (k0_off501 v12279 v12309) a + S1x128x256.size a ≤ S256x128x256.size a) ∧
  (∀ a, (k0_off502 v12279 v12309) a + S1x128x256.size a ≤ S256x128x256.size a)
theorem k0_off501_inb : ∀ (v12279 : BitVec 32) (v12309 : BitVec 32) (k0_hw211 : k0_chk211 v12279 v12309), ∀ a, (k0_off501 v12279 v12309) a + S1x128x256.size a ≤ S256x128x256.size a := fun v12279 v12309 k0_hw211 => k0_hw211.1
theorem k0_off502_inb : ∀ (v12279 : BitVec 32) (v12309 : BitVec 32) (k0_hw211 : k0_chk211 v12279 v12309), ∀ a, (k0_off502 v12279 v12309) a + S1x128x256.size a ≤ S256x128x256.size a := fun v12279 v12309 k0_hw211 => k0_hw211.2

def k0_off503 (v12279 : BitVec 32) (v12322 : BitVec 32) : Fin 3 → Nat :=
  let c128_i32_6854 : BitVec 32 := 128#32
  let v12300 : BitVec 32 := Scalar.muli v12279 c128_i32_6854
  let v12323 : BitVec 32 := Scalar.addi v12300 v12322
  let v12677 : Index := Scalar.indexCast v12323
  let c0_7084 : Index := 0#32
  let c0_7085 : Index := 0#32
  ![v12677.toNat, 0, 0]

def k0_off504 (v12279 : BitVec 32) (v12322 : BitVec 32) : Fin 3 → Nat :=
  let c128_i32_6854 : BitVec 32 := 128#32
  let v12300 : BitVec 32 := Scalar.muli v12279 c128_i32_6854
  let c1_i32_6867 : BitVec 32 := 1#32
  let v12324 : BitVec 32 := Scalar.addi v12322 c1_i32_6867
  let c127_i32_6868 : BitVec 32 := 127#32
  let v12325 : BitVec 32 := Scalar.minsi v12324 c127_i32_6868
  let v12326 : BitVec 32 := Scalar.addi v12300 v12325
  let v12680 : Index := Scalar.indexCast v12326
  let c0_7086 : Index := 0#32
  let c0_7087 : Index := 0#32
  ![v12680.toNat, 0, 0]

def k0_chk212 (v12279 : BitVec 32) (v12322 : BitVec 32) : Prop :=
  (∀ a, (k0_off503 v12279 v12322) a + S1x128x256.size a ≤ S256x128x256.size a) ∧
  (∀ a, (k0_off504 v12279 v12322) a + S1x128x256.size a ≤ S256x128x256.size a)
theorem k0_off503_inb : ∀ (v12279 : BitVec 32) (v12322 : BitVec 32) (k0_hw212 : k0_chk212 v12279 v12322), ∀ a, (k0_off503 v12279 v12322) a + S1x128x256.size a ≤ S256x128x256.size a := fun v12279 v12322 k0_hw212 => k0_hw212.1
theorem k0_off504_inb : ∀ (v12279 : BitVec 32) (v12322 : BitVec 32) (k0_hw212 : k0_chk212 v12279 v12322), ∀ a, (k0_off504 v12279 v12322) a + S1x128x256.size a ≤ S256x128x256.size a := fun v12279 v12322 k0_hw212 => k0_hw212.2

def k0_off505 (v12279 : BitVec 32) (v12335 : BitVec 32) : Fin 3 → Nat :=
  let c128_i32_6854 : BitVec 32 := 128#32
  let v12300 : BitVec 32 := Scalar.muli v12279 c128_i32_6854
  let v12336 : BitVec 32 := Scalar.addi v12300 v12335
  let v12693 : Index := Scalar.indexCast v12336
  let c0_7092 : Index := 0#32
  let c0_7093 : Index := 0#32
  ![v12693.toNat, 0, 0]

def k0_off506 (v12279 : BitVec 32) (v12335 : BitVec 32) : Fin 3 → Nat :=
  let c128_i32_6854 : BitVec 32 := 128#32
  let v12300 : BitVec 32 := Scalar.muli v12279 c128_i32_6854
  let c1_i32_6874 : BitVec 32 := 1#32
  let v12337 : BitVec 32 := Scalar.addi v12335 c1_i32_6874
  let c127_i32_6875 : BitVec 32 := 127#32
  let v12338 : BitVec 32 := Scalar.minsi v12337 c127_i32_6875
  let v12339 : BitVec 32 := Scalar.addi v12300 v12338
  let v12696 : Index := Scalar.indexCast v12339
  let c0_7094 : Index := 0#32
  let c0_7095 : Index := 0#32
  ![v12696.toNat, 0, 0]

def k0_chk213 (v12279 : BitVec 32) (v12335 : BitVec 32) : Prop :=
  (∀ a, (k0_off505 v12279 v12335) a + S1x128x256.size a ≤ S256x128x256.size a) ∧
  (∀ a, (k0_off506 v12279 v12335) a + S1x128x256.size a ≤ S256x128x256.size a)
theorem k0_off505_inb : ∀ (v12279 : BitVec 32) (v12335 : BitVec 32) (k0_hw213 : k0_chk213 v12279 v12335), ∀ a, (k0_off505 v12279 v12335) a + S1x128x256.size a ≤ S256x128x256.size a := fun v12279 v12335 k0_hw213 => k0_hw213.1
theorem k0_off506_inb : ∀ (v12279 : BitVec 32) (v12335 : BitVec 32) (k0_hw213 : k0_chk213 v12279 v12335), ∀ a, (k0_off506 v12279 v12335) a + S1x128x256.size a ≤ S256x128x256.size a := fun v12279 v12335 k0_hw213 => k0_hw213.2

def k0_off507 (v12279 : BitVec 32) (v12348 : BitVec 32) : Fin 3 → Nat :=
  let c128_i32_6854 : BitVec 32 := 128#32
  let v12300 : BitVec 32 := Scalar.muli v12279 c128_i32_6854
  let v12349 : BitVec 32 := Scalar.addi v12300 v12348
  let v12705 : Index := Scalar.indexCast v12349
  let c0_7097 : Index := 0#32
  let c0_7098 : Index := 0#32
  ![v12705.toNat, 0, 0]

def k0_off508 (v12279 : BitVec 32) (v12348 : BitVec 32) : Fin 3 → Nat :=
  let c128_i32_6854 : BitVec 32 := 128#32
  let v12300 : BitVec 32 := Scalar.muli v12279 c128_i32_6854
  let c1_i32_6881 : BitVec 32 := 1#32
  let v12350 : BitVec 32 := Scalar.addi v12348 c1_i32_6881
  let c127_i32_6882 : BitVec 32 := 127#32
  let v12351 : BitVec 32 := Scalar.minsi v12350 c127_i32_6882
  let v12352 : BitVec 32 := Scalar.addi v12300 v12351
  let v12708 : Index := Scalar.indexCast v12352
  let c0_7099 : Index := 0#32
  let c0_7100 : Index := 0#32
  ![v12708.toNat, 0, 0]

def k0_chk214 (v12279 : BitVec 32) (v12348 : BitVec 32) : Prop :=
  (∀ a, (k0_off507 v12279 v12348) a + S1x128x256.size a ≤ S256x128x256.size a) ∧
  (∀ a, (k0_off508 v12279 v12348) a + S1x128x256.size a ≤ S256x128x256.size a)
theorem k0_off507_inb : ∀ (v12279 : BitVec 32) (v12348 : BitVec 32) (k0_hw214 : k0_chk214 v12279 v12348), ∀ a, (k0_off507 v12279 v12348) a + S1x128x256.size a ≤ S256x128x256.size a := fun v12279 v12348 k0_hw214 => k0_hw214.1
theorem k0_off508_inb : ∀ (v12279 : BitVec 32) (v12348 : BitVec 32) (k0_hw214 : k0_chk214 v12279 v12348), ∀ a, (k0_off508 v12279 v12348) a + S1x128x256.size a ≤ S256x128x256.size a := fun v12279 v12348 k0_hw214 => k0_hw214.2

def k0_off509 (v12279 : BitVec 32) (v12361 : BitVec 32) : Fin 3 → Nat :=
  let c128_i32_6854 : BitVec 32 := 128#32
  let v12300 : BitVec 32 := Scalar.muli v12279 c128_i32_6854
  let v12362 : BitVec 32 := Scalar.addi v12300 v12361
  let v12721 : Index := Scalar.indexCast v12362
  let c0_7106 : Index := 0#32
  let c0_7107 : Index := 0#32
  ![v12721.toNat, 0, 0]

def k0_off510 (v12279 : BitVec 32) (v12361 : BitVec 32) : Fin 3 → Nat :=
  let c128_i32_6854 : BitVec 32 := 128#32
  let v12300 : BitVec 32 := Scalar.muli v12279 c128_i32_6854
  let c1_i32_6888 : BitVec 32 := 1#32
  let v12363 : BitVec 32 := Scalar.addi v12361 c1_i32_6888
  let c127_i32_6889 : BitVec 32 := 127#32
  let v12364 : BitVec 32 := Scalar.minsi v12363 c127_i32_6889
  let v12365 : BitVec 32 := Scalar.addi v12300 v12364
  let v12724 : Index := Scalar.indexCast v12365
  let c0_7108 : Index := 0#32
  let c0_7109 : Index := 0#32
  ![v12724.toNat, 0, 0]

def k0_chk215 (v12279 : BitVec 32) (v12361 : BitVec 32) : Prop :=
  (∀ a, (k0_off509 v12279 v12361) a + S1x128x256.size a ≤ S256x128x256.size a) ∧
  (∀ a, (k0_off510 v12279 v12361) a + S1x128x256.size a ≤ S256x128x256.size a)
theorem k0_off509_inb : ∀ (v12279 : BitVec 32) (v12361 : BitVec 32) (k0_hw215 : k0_chk215 v12279 v12361), ∀ a, (k0_off509 v12279 v12361) a + S1x128x256.size a ≤ S256x128x256.size a := fun v12279 v12361 k0_hw215 => k0_hw215.1
theorem k0_off510_inb : ∀ (v12279 : BitVec 32) (v12361 : BitVec 32) (k0_hw215 : k0_chk215 v12279 v12361), ∀ a, (k0_off510 v12279 v12361) a + S1x128x256.size a ≤ S256x128x256.size a := fun v12279 v12361 k0_hw215 => k0_hw215.2

def k0_off511 (v12279 : BitVec 32) (v12374 : BitVec 32) : Fin 3 → Nat :=
  let c128_i32_6854 : BitVec 32 := 128#32
  let v12300 : BitVec 32 := Scalar.muli v12279 c128_i32_6854
  let v12375 : BitVec 32 := Scalar.addi v12300 v12374
  let v12733 : Index := Scalar.indexCast v12375
  let c0_7111 : Index := 0#32
  let c0_7112 : Index := 0#32
  ![v12733.toNat, 0, 0]

def k0_off512 (v12279 : BitVec 32) (v12374 : BitVec 32) : Fin 3 → Nat :=
  let c128_i32_6854 : BitVec 32 := 128#32
  let v12300 : BitVec 32 := Scalar.muli v12279 c128_i32_6854
  let c1_i32_6895 : BitVec 32 := 1#32
  let v12376 : BitVec 32 := Scalar.addi v12374 c1_i32_6895
  let c127_i32_6896 : BitVec 32 := 127#32
  let v12377 : BitVec 32 := Scalar.minsi v12376 c127_i32_6896
  let v12378 : BitVec 32 := Scalar.addi v12300 v12377
  let v12736 : Index := Scalar.indexCast v12378
  let c0_7113 : Index := 0#32
  let c0_7114 : Index := 0#32
  ![v12736.toNat, 0, 0]

def k0_chk216 (v12279 : BitVec 32) (v12374 : BitVec 32) : Prop :=
  (∀ a, (k0_off511 v12279 v12374) a + S1x128x256.size a ≤ S256x128x256.size a) ∧
  (∀ a, (k0_off512 v12279 v12374) a + S1x128x256.size a ≤ S256x128x256.size a)
theorem k0_off511_inb : ∀ (v12279 : BitVec 32) (v12374 : BitVec 32) (k0_hw216 : k0_chk216 v12279 v12374), ∀ a, (k0_off511 v12279 v12374) a + S1x128x256.size a ≤ S256x128x256.size a := fun v12279 v12374 k0_hw216 => k0_hw216.1
theorem k0_off512_inb : ∀ (v12279 : BitVec 32) (v12374 : BitVec 32) (k0_hw216 : k0_chk216 v12279 v12374), ∀ a, (k0_off512 v12279 v12374) a + S1x128x256.size a ≤ S256x128x256.size a := fun v12279 v12374 k0_hw216 => k0_hw216.2

def k0_off513 (v12279 : BitVec 32) (v12387 : BitVec 32) : Fin 3 → Nat :=
  let c128_i32_6854 : BitVec 32 := 128#32
  let v12300 : BitVec 32 := Scalar.muli v12279 c128_i32_6854
  let v12388 : BitVec 32 := Scalar.addi v12300 v12387
  let v12749 : Index := Scalar.indexCast v12388
  let c0_7120 : Index := 0#32
  let c0_7121 : Index := 0#32
  ![v12749.toNat, 0, 0]

def k0_off514 (v12279 : BitVec 32) (v12387 : BitVec 32) : Fin 3 → Nat :=
  let c128_i32_6854 : BitVec 32 := 128#32
  let v12300 : BitVec 32 := Scalar.muli v12279 c128_i32_6854
  let c1_i32_6902 : BitVec 32 := 1#32
  let v12389 : BitVec 32 := Scalar.addi v12387 c1_i32_6902
  let c127_i32_6903 : BitVec 32 := 127#32
  let v12390 : BitVec 32 := Scalar.minsi v12389 c127_i32_6903
  let v12391 : BitVec 32 := Scalar.addi v12300 v12390
  let v12752 : Index := Scalar.indexCast v12391
  let c0_7122 : Index := 0#32
  let c0_7123 : Index := 0#32
  ![v12752.toNat, 0, 0]

def k0_chk217 (v12279 : BitVec 32) (v12387 : BitVec 32) : Prop :=
  (∀ a, (k0_off513 v12279 v12387) a + S1x128x256.size a ≤ S256x128x256.size a) ∧
  (∀ a, (k0_off514 v12279 v12387) a + S1x128x256.size a ≤ S256x128x256.size a)
theorem k0_off513_inb : ∀ (v12279 : BitVec 32) (v12387 : BitVec 32) (k0_hw217 : k0_chk217 v12279 v12387), ∀ a, (k0_off513 v12279 v12387) a + S1x128x256.size a ≤ S256x128x256.size a := fun v12279 v12387 k0_hw217 => k0_hw217.1
theorem k0_off514_inb : ∀ (v12279 : BitVec 32) (v12387 : BitVec 32) (k0_hw217 : k0_chk217 v12279 v12387), ∀ a, (k0_off514 v12279 v12387) a + S1x128x256.size a ≤ S256x128x256.size a := fun v12279 v12387 k0_hw217 => k0_hw217.2

def k0_off515 (v12279 : BitVec 32) (v12400 : BitVec 32) : Fin 3 → Nat :=
  let c128_i32_6854 : BitVec 32 := 128#32
  let v12300 : BitVec 32 := Scalar.muli v12279 c128_i32_6854
  let v12401 : BitVec 32 := Scalar.addi v12300 v12400
  let v12761 : Index := Scalar.indexCast v12401
  let c0_7125 : Index := 0#32
  let c0_7126 : Index := 0#32
  ![v12761.toNat, 0, 0]

def k0_off516 (v12279 : BitVec 32) (v12400 : BitVec 32) : Fin 3 → Nat :=
  let c128_i32_6854 : BitVec 32 := 128#32
  let v12300 : BitVec 32 := Scalar.muli v12279 c128_i32_6854
  let c1_i32_6909 : BitVec 32 := 1#32
  let v12402 : BitVec 32 := Scalar.addi v12400 c1_i32_6909
  let c127_i32_6910 : BitVec 32 := 127#32
  let v12403 : BitVec 32 := Scalar.minsi v12402 c127_i32_6910
  let v12404 : BitVec 32 := Scalar.addi v12300 v12403
  let v12764 : Index := Scalar.indexCast v12404
  let c0_7127 : Index := 0#32
  let c0_7128 : Index := 0#32
  ![v12764.toNat, 0, 0]

def k0_chk218 (v12279 : BitVec 32) (v12400 : BitVec 32) : Prop :=
  (∀ a, (k0_off515 v12279 v12400) a + S1x128x256.size a ≤ S256x128x256.size a) ∧
  (∀ a, (k0_off516 v12279 v12400) a + S1x128x256.size a ≤ S256x128x256.size a)
theorem k0_off515_inb : ∀ (v12279 : BitVec 32) (v12400 : BitVec 32) (k0_hw218 : k0_chk218 v12279 v12400), ∀ a, (k0_off515 v12279 v12400) a + S1x128x256.size a ≤ S256x128x256.size a := fun v12279 v12400 k0_hw218 => k0_hw218.1
theorem k0_off516_inb : ∀ (v12279 : BitVec 32) (v12400 : BitVec 32) (k0_hw218 : k0_chk218 v12279 v12400), ∀ a, (k0_off516 v12279 v12400) a + S1x128x256.size a ≤ S256x128x256.size a := fun v12279 v12400 k0_hw218 => k0_hw218.2

def k0_off517 (v12279 : BitVec 32) (v12413 : BitVec 32) : Fin 3 → Nat :=
  let c128_i32_6854 : BitVec 32 := 128#32
  let v12300 : BitVec 32 := Scalar.muli v12279 c128_i32_6854
  let v12414 : BitVec 32 := Scalar.addi v12300 v12413
  let v12777 : Index := Scalar.indexCast v12414
  let c0_7134 : Index := 0#32
  let c0_7135 : Index := 0#32
  ![v12777.toNat, 0, 0]

def k0_off518 (v12279 : BitVec 32) (v12413 : BitVec 32) : Fin 3 → Nat :=
  let c128_i32_6854 : BitVec 32 := 128#32
  let v12300 : BitVec 32 := Scalar.muli v12279 c128_i32_6854
  let c1_i32_6916 : BitVec 32 := 1#32
  let v12415 : BitVec 32 := Scalar.addi v12413 c1_i32_6916
  let c127_i32_6917 : BitVec 32 := 127#32
  let v12416 : BitVec 32 := Scalar.minsi v12415 c127_i32_6917
  let v12417 : BitVec 32 := Scalar.addi v12300 v12416
  let v12780 : Index := Scalar.indexCast v12417
  let c0_7136 : Index := 0#32
  let c0_7137 : Index := 0#32
  ![v12780.toNat, 0, 0]

def k0_chk219 (v12279 : BitVec 32) (v12413 : BitVec 32) : Prop :=
  (∀ a, (k0_off517 v12279 v12413) a + S1x128x256.size a ≤ S256x128x256.size a) ∧
  (∀ a, (k0_off518 v12279 v12413) a + S1x128x256.size a ≤ S256x128x256.size a)
theorem k0_off517_inb : ∀ (v12279 : BitVec 32) (v12413 : BitVec 32) (k0_hw219 : k0_chk219 v12279 v12413), ∀ a, (k0_off517 v12279 v12413) a + S1x128x256.size a ≤ S256x128x256.size a := fun v12279 v12413 k0_hw219 => k0_hw219.1
theorem k0_off518_inb : ∀ (v12279 : BitVec 32) (v12413 : BitVec 32) (k0_hw219 : k0_chk219 v12279 v12413), ∀ a, (k0_off518 v12279 v12413) a + S1x128x256.size a ≤ S256x128x256.size a := fun v12279 v12413 k0_hw219 => k0_hw219.2

def k0_off519 (v12279 : BitVec 32) (v12426 : BitVec 32) : Fin 3 → Nat :=
  let c128_i32_6854 : BitVec 32 := 128#32
  let v12300 : BitVec 32 := Scalar.muli v12279 c128_i32_6854
  let v12427 : BitVec 32 := Scalar.addi v12300 v12426
  let v12789 : Index := Scalar.indexCast v12427
  let c0_7139 : Index := 0#32
  let c0_7140 : Index := 0#32
  ![v12789.toNat, 0, 0]

def k0_off520 (v12279 : BitVec 32) (v12426 : BitVec 32) : Fin 3 → Nat :=
  let c128_i32_6854 : BitVec 32 := 128#32
  let v12300 : BitVec 32 := Scalar.muli v12279 c128_i32_6854
  let c1_i32_6923 : BitVec 32 := 1#32
  let v12428 : BitVec 32 := Scalar.addi v12426 c1_i32_6923
  let c127_i32_6924 : BitVec 32 := 127#32
  let v12429 : BitVec 32 := Scalar.minsi v12428 c127_i32_6924
  let v12430 : BitVec 32 := Scalar.addi v12300 v12429
  let v12792 : Index := Scalar.indexCast v12430
  let c0_7141 : Index := 0#32
  let c0_7142 : Index := 0#32
  ![v12792.toNat, 0, 0]

def k0_chk220 (v12279 : BitVec 32) (v12426 : BitVec 32) : Prop :=
  (∀ a, (k0_off519 v12279 v12426) a + S1x128x256.size a ≤ S256x128x256.size a) ∧
  (∀ a, (k0_off520 v12279 v12426) a + S1x128x256.size a ≤ S256x128x256.size a)
theorem k0_off519_inb : ∀ (v12279 : BitVec 32) (v12426 : BitVec 32) (k0_hw220 : k0_chk220 v12279 v12426), ∀ a, (k0_off519 v12279 v12426) a + S1x128x256.size a ≤ S256x128x256.size a := fun v12279 v12426 k0_hw220 => k0_hw220.1
theorem k0_off520_inb : ∀ (v12279 : BitVec 32) (v12426 : BitVec 32) (k0_hw220 : k0_chk220 v12279 v12426), ∀ a, (k0_off520 v12279 v12426) a + S1x128x256.size a ≤ S256x128x256.size a := fun v12279 v12426 k0_hw220 => k0_hw220.2

def k0_off521 (v12279 : BitVec 32) (v12439 : BitVec 32) : Fin 3 → Nat :=
  let c128_i32_6854 : BitVec 32 := 128#32
  let v12300 : BitVec 32 := Scalar.muli v12279 c128_i32_6854
  let v12440 : BitVec 32 := Scalar.addi v12300 v12439
  let v12805 : Index := Scalar.indexCast v12440
  let c0_7148 : Index := 0#32
  let c0_7149 : Index := 0#32
  ![v12805.toNat, 0, 0]

def k0_off522 (v12279 : BitVec 32) (v12439 : BitVec 32) : Fin 3 → Nat :=
  let c128_i32_6854 : BitVec 32 := 128#32
  let v12300 : BitVec 32 := Scalar.muli v12279 c128_i32_6854
  let c1_i32_6930 : BitVec 32 := 1#32
  let v12441 : BitVec 32 := Scalar.addi v12439 c1_i32_6930
  let c127_i32_6931 : BitVec 32 := 127#32
  let v12442 : BitVec 32 := Scalar.minsi v12441 c127_i32_6931
  let v12443 : BitVec 32 := Scalar.addi v12300 v12442
  let v12808 : Index := Scalar.indexCast v12443
  let c0_7150 : Index := 0#32
  let c0_7151 : Index := 0#32
  ![v12808.toNat, 0, 0]

def k0_chk221 (v12279 : BitVec 32) (v12439 : BitVec 32) : Prop :=
  (∀ a, (k0_off521 v12279 v12439) a + S1x128x256.size a ≤ S256x128x256.size a) ∧
  (∀ a, (k0_off522 v12279 v12439) a + S1x128x256.size a ≤ S256x128x256.size a)
theorem k0_off521_inb : ∀ (v12279 : BitVec 32) (v12439 : BitVec 32) (k0_hw221 : k0_chk221 v12279 v12439), ∀ a, (k0_off521 v12279 v12439) a + S1x128x256.size a ≤ S256x128x256.size a := fun v12279 v12439 k0_hw221 => k0_hw221.1
theorem k0_off522_inb : ∀ (v12279 : BitVec 32) (v12439 : BitVec 32) (k0_hw221 : k0_chk221 v12279 v12439), ∀ a, (k0_off522 v12279 v12439) a + S1x128x256.size a ≤ S256x128x256.size a := fun v12279 v12439 k0_hw221 => k0_hw221.2

def k0_off523 (v12279 : BitVec 32) (v12452 : BitVec 32) : Fin 3 → Nat :=
  let c128_i32_6854 : BitVec 32 := 128#32
  let v12300 : BitVec 32 := Scalar.muli v12279 c128_i32_6854
  let v12453 : BitVec 32 := Scalar.addi v12300 v12452
  let v12817 : Index := Scalar.indexCast v12453
  let c0_7153 : Index := 0#32
  let c0_7154 : Index := 0#32
  ![v12817.toNat, 0, 0]

def k0_off524 (v12279 : BitVec 32) (v12452 : BitVec 32) : Fin 3 → Nat :=
  let c128_i32_6854 : BitVec 32 := 128#32
  let v12300 : BitVec 32 := Scalar.muli v12279 c128_i32_6854
  let c1_i32_6937 : BitVec 32 := 1#32
  let v12454 : BitVec 32 := Scalar.addi v12452 c1_i32_6937
  let c127_i32_6938 : BitVec 32 := 127#32
  let v12455 : BitVec 32 := Scalar.minsi v12454 c127_i32_6938
  let v12456 : BitVec 32 := Scalar.addi v12300 v12455
  let v12820 : Index := Scalar.indexCast v12456
  let c0_7155 : Index := 0#32
  let c0_7156 : Index := 0#32
  ![v12820.toNat, 0, 0]

def k0_chk222 (v12279 : BitVec 32) (v12452 : BitVec 32) : Prop :=
  (∀ a, (k0_off523 v12279 v12452) a + S1x128x256.size a ≤ S256x128x256.size a) ∧
  (∀ a, (k0_off524 v12279 v12452) a + S1x128x256.size a ≤ S256x128x256.size a)
theorem k0_off523_inb : ∀ (v12279 : BitVec 32) (v12452 : BitVec 32) (k0_hw222 : k0_chk222 v12279 v12452), ∀ a, (k0_off523 v12279 v12452) a + S1x128x256.size a ≤ S256x128x256.size a := fun v12279 v12452 k0_hw222 => k0_hw222.1
theorem k0_off524_inb : ∀ (v12279 : BitVec 32) (v12452 : BitVec 32) (k0_hw222 : k0_chk222 v12279 v12452), ∀ a, (k0_off524 v12279 v12452) a + S1x128x256.size a ≤ S256x128x256.size a := fun v12279 v12452 k0_hw222 => k0_hw222.2

def k0_off525 (v12279 : BitVec 32) (v12465 : BitVec 32) : Fin 3 → Nat :=
  let c128_i32_6854 : BitVec 32 := 128#32
  let v12300 : BitVec 32 := Scalar.muli v12279 c128_i32_6854
  let v12466 : BitVec 32 := Scalar.addi v12300 v12465
  let v12833 : Index := Scalar.indexCast v12466
  let c0_7162 : Index := 0#32
  let c0_7163 : Index := 0#32
  ![v12833.toNat, 0, 0]

def k0_off526 (v12279 : BitVec 32) (v12465 : BitVec 32) : Fin 3 → Nat :=
  let c128_i32_6854 : BitVec 32 := 128#32
  let v12300 : BitVec 32 := Scalar.muli v12279 c128_i32_6854
  let c1_i32_6944 : BitVec 32 := 1#32
  let v12467 : BitVec 32 := Scalar.addi v12465 c1_i32_6944
  let c127_i32_6945 : BitVec 32 := 127#32
  let v12468 : BitVec 32 := Scalar.minsi v12467 c127_i32_6945
  let v12469 : BitVec 32 := Scalar.addi v12300 v12468
  let v12836 : Index := Scalar.indexCast v12469
  let c0_7164 : Index := 0#32
  let c0_7165 : Index := 0#32
  ![v12836.toNat, 0, 0]

def k0_chk223 (v12279 : BitVec 32) (v12465 : BitVec 32) : Prop :=
  (∀ a, (k0_off525 v12279 v12465) a + S1x128x256.size a ≤ S256x128x256.size a) ∧
  (∀ a, (k0_off526 v12279 v12465) a + S1x128x256.size a ≤ S256x128x256.size a)
theorem k0_off525_inb : ∀ (v12279 : BitVec 32) (v12465 : BitVec 32) (k0_hw223 : k0_chk223 v12279 v12465), ∀ a, (k0_off525 v12279 v12465) a + S1x128x256.size a ≤ S256x128x256.size a := fun v12279 v12465 k0_hw223 => k0_hw223.1
theorem k0_off526_inb : ∀ (v12279 : BitVec 32) (v12465 : BitVec 32) (k0_hw223 : k0_chk223 v12279 v12465), ∀ a, (k0_off526 v12279 v12465) a + S1x128x256.size a ≤ S256x128x256.size a := fun v12279 v12465 k0_hw223 => k0_hw223.2

def k0_off527 (v12279 : BitVec 32) (v12478 : BitVec 32) : Fin 3 → Nat :=
  let c128_i32_6854 : BitVec 32 := 128#32
  let v12300 : BitVec 32 := Scalar.muli v12279 c128_i32_6854
  let v12479 : BitVec 32 := Scalar.addi v12300 v12478
  let v12845 : Index := Scalar.indexCast v12479
  let c0_7167 : Index := 0#32
  let c0_7168 : Index := 0#32
  ![v12845.toNat, 0, 0]

def k0_off528 (v12279 : BitVec 32) (v12478 : BitVec 32) : Fin 3 → Nat :=
  let c128_i32_6854 : BitVec 32 := 128#32
  let v12300 : BitVec 32 := Scalar.muli v12279 c128_i32_6854
  let c1_i32_6951 : BitVec 32 := 1#32
  let v12480 : BitVec 32 := Scalar.addi v12478 c1_i32_6951
  let c127_i32_6952 : BitVec 32 := 127#32
  let v12481 : BitVec 32 := Scalar.minsi v12480 c127_i32_6952
  let v12482 : BitVec 32 := Scalar.addi v12300 v12481
  let v12848 : Index := Scalar.indexCast v12482
  let c0_7169 : Index := 0#32
  let c0_7170 : Index := 0#32
  ![v12848.toNat, 0, 0]

def k0_chk224 (v12279 : BitVec 32) (v12478 : BitVec 32) : Prop :=
  (∀ a, (k0_off527 v12279 v12478) a + S1x128x256.size a ≤ S256x128x256.size a) ∧
  (∀ a, (k0_off528 v12279 v12478) a + S1x128x256.size a ≤ S256x128x256.size a)
theorem k0_off527_inb : ∀ (v12279 : BitVec 32) (v12478 : BitVec 32) (k0_hw224 : k0_chk224 v12279 v12478), ∀ a, (k0_off527 v12279 v12478) a + S1x128x256.size a ≤ S256x128x256.size a := fun v12279 v12478 k0_hw224 => k0_hw224.1
theorem k0_off528_inb : ∀ (v12279 : BitVec 32) (v12478 : BitVec 32) (k0_hw224 : k0_chk224 v12279 v12478), ∀ a, (k0_off528 v12279 v12478) a + S1x128x256.size a ≤ S256x128x256.size a := fun v12279 v12478 k0_hw224 => k0_hw224.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 1 → Memref sig .tc .smem S1024x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x7x7x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S2x256x128x128 : Shape := ⟨4, ![2, 256, 128, 128]⟩
abbrev S1024x5 : Shape := ⟨2, ![1024, 5]⟩
abbrev S1024x1 : Shape := ⟨2, ![1024, 1]⟩
abbrev S1024 : Shape := ⟨1, ![1024]⟩
abbrev S_ : Shape := ⟨0, ![]⟩
abbrev S2 : Shape := ⟨1, ![2]⟩
abbrev S7 : Shape := ⟨1, ![7]⟩
abbrev S1024x1x1 : Shape := ⟨3, ![1024, 1, 1]⟩
abbrev S1x7x1 : Shape := ⟨3, ![1, 7, 1]⟩
abbrev S1x1x2 : Shape := ⟨3, ![1, 1, 2]⟩
abbrev S1x7x2 : Shape := ⟨3, ![1, 7, 2]⟩
abbrev S1024x7x2 : Shape := ⟨3, ![1024, 7, 2]⟩
abbrev S1024x14 : Shape := ⟨2, ![1024, 14]⟩
abbrev S1024x14x1 : Shape := ⟨3, ![1024, 14, 1]⟩
abbrev S1024x14x14 : Shape := ⟨3, ![1024, 14, 14]⟩
abbrev S1024x196 : Shape := ⟨2, ![1024, 196]⟩
abbrev S1024x1x14 : Shape := ⟨3, ![1024, 1, 14]⟩
abbrev S1024x196x1 : Shape := ⟨3, ![1024, 196, 1]⟩
abbrev S1024x196x3 : Shape := ⟨3, ![1024, 196, 3]⟩
abbrev S1024x196x256 : Shape := ⟨3, ![1024, 196, 256]⟩
abbrev S1024x7x2x7x2x256 : Shape := ⟨6, ![1024, 7, 2, 7, 2, 256]⟩
abbrev S1024x7x7x256 : Shape := ⟨4, ![1024, 7, 7, 256]⟩
abbrev S1024x256x7x7 : Shape := ⟨4, ![1024, 256, 7, 7]⟩

abbrev nBuf : Space → Nat
  | .hbm => 305
  | .vmem => 0
  | .smem => 0
  | _ => 0

abbrev hbmTy0_0 (i : Nat) : BufTy := match i % 128 with
  | 0 => ⟨S2x256x128x128, .f32⟩
  | 1 => ⟨S1024x5, .f32⟩
  | 2 => ⟨S1024x1, .f32⟩
  | 3 => ⟨S1024, .f32⟩
  | 4 => ⟨S1024, .i32⟩
  | 5 => ⟨S1024x1, .f32⟩
  | 6 => ⟨S1024, .f32⟩
  | 7 => ⟨S_, .f32⟩
  | 8 => ⟨S1024, .f32⟩
  | 9 => ⟨S1024, .f32⟩
  | 10 => ⟨S_, .f32⟩
  | 11 => ⟨S1024, .f32⟩
  | 12 => ⟨S1024, .f32⟩
  | 13 => ⟨S1024x1, .f32⟩
  | 14 => ⟨S1024, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024x1, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024x1, .f32⟩
  | 30 => ⟨S1024, .f32⟩
  | 31 => ⟨S_, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S2, .f32⟩
  | 46 => ⟨S_, .f32⟩
  | 47 => ⟨S2, .f32⟩
  | 48 => ⟨S2, .f32⟩
  | 49 => ⟨S_, .f32⟩
  | 50 => ⟨S2, .f32⟩
  | 51 => ⟨S2, .f32⟩
  | 52 => ⟨S7, .f32⟩
  | 53 => ⟨S1024x1x1, .f32⟩
  | 54 => ⟨S1x7x1, .f32⟩
  | 55 => ⟨S1x1x2, .f32⟩
  | 56 => ⟨S1x7x2, .f32⟩
  | 57 => ⟨S1x7x2, .f32⟩
  | 58 => ⟨S1x7x2, .f32⟩
  | 59 => ⟨S1024x1x1, .f32⟩
  | 60 => ⟨S1024x7x2, .f32⟩
  | 61 => ⟨S1024x7x2, .f32⟩
  | 62 => ⟨S1024x7x2, .f32⟩
  | 63 => ⟨S1024x7x2, .f32⟩
  | 64 => ⟨S1024x7x2, .f32⟩
  | 65 => ⟨S1024x1x1, .f32⟩
  | 66 => ⟨S1x7x1, .f32⟩
  | 67 => ⟨S1x1x2, .f32⟩
  | 68 => ⟨S1x7x2, .f32⟩
  | 69 => ⟨S1x7x2, .f32⟩
  | 70 => ⟨S1x7x2, .f32⟩
  | 71 => ⟨S1024x1x1, .f32⟩
  | 72 => ⟨S1024x7x2, .f32⟩
  | 73 => ⟨S1024x7x2, .f32⟩
  | 74 => ⟨S1024x7x2, .f32⟩
  | 75 => ⟨S1024x7x2, .f32⟩
  | 76 => ⟨S1024x7x2, .f32⟩
  | 77 => ⟨S1024x14, .f32⟩
  | 78 => ⟨S1024x14, .f32⟩
  | 79 => ⟨S1024x14x1, .f32⟩
  | 80 => ⟨S1024x14x14, .f32⟩
  | 81 => ⟨S1024x196, .f32⟩
  | 82 => ⟨S1024x1x14, .f32⟩
  | 83 => ⟨S1024x14x14, .f32⟩
  | 84 => ⟨S1024x196, .f32⟩
  | 85 => ⟨S_, .f32⟩
  | 86 => ⟨S1024x196, .f32⟩
  | 87 => ⟨S1024x196, .i1⟩
  | 88 => ⟨S_, .f32⟩
  | 89 => ⟨S1024x196, .f32⟩
  | 90 => ⟨S1024x196, .i1⟩
  | 91 => ⟨S1024x196, .i1⟩
  | 92 => ⟨S_, .f32⟩
  | 93 => ⟨S1024x196, .f32⟩
  | 94 => ⟨S1024x196, .i1⟩
  | 95 => ⟨S1024x196, .i1⟩
  | 96 => ⟨S_, .f32⟩
  | 97 => ⟨S1024x196, .f32⟩
  | 98 => ⟨S1024x196, .i1⟩
  | 99 => ⟨S1024x196, .i1⟩
  | 100 => ⟨S_, .f32⟩
  | 101 => ⟨S1024x196, .f32⟩
  | 102 => ⟨S1024x196, .f32⟩
  | 103 => ⟨S_, .f32⟩
  | 104 => ⟨S1024x196, .f32⟩
  | 105 => ⟨S1024x196, .f32⟩
  | 106 => ⟨S1024x196, .f32⟩
  | 107 => ⟨S1024x196, .i32⟩
  | 108 => ⟨S_, .i32⟩
  | 109 => ⟨S_, .i32⟩
  | 110 => ⟨S_, .i32⟩
  | 111 => ⟨S1024x196, .i32⟩
  | 112 => ⟨S1024x196, .i32⟩
  | 113 => ⟨S_, .i32⟩
  | 114 => ⟨S1024x196, .i32⟩
  | 115 => ⟨S1024x196, .i32⟩
  | 116 => ⟨S1024x196, .f32⟩
  | 117 => ⟨S1024x196, .i32⟩
  | 118 => ⟨S_, .i32⟩
  | 119 => ⟨S_, .i32⟩
  | 120 => ⟨S_, .i32⟩
  | 121 => ⟨S1024x196, .i32⟩
  | 122 => ⟨S1024x196, .i32⟩
  | 123 => ⟨S_, .i32⟩
  | 124 => ⟨S1024x196, .i32⟩
  | 125 => ⟨S1024x196, .i32⟩
  | 126 => ⟨S_, .i32⟩
  | 127 => ⟨S1024x196, .i32⟩
  | _ => ⟨S2x256x128x128, .f32⟩

abbrev hbmTy0_1 (i : Nat) : BufTy := match i % 128 with
  | 0 => ⟨S1024x196, .i32⟩
  | 1 => ⟨S_, .i32⟩
  | 2 => ⟨S1024x196, .i32⟩
  | 3 => ⟨S1024x196, .i32⟩
  | 4 => ⟨S_, .i32⟩
  | 5 => ⟨S1024x196, .i32⟩
  | 6 => ⟨S1024x196, .i32⟩
  | 7 => ⟨S_, .i32⟩
  | 8 => ⟨S1024x196, .i32⟩
  | 9 => ⟨S1024x196, .i32⟩
  | 10 => ⟨S1024x196, .f32⟩
  | 11 => ⟨S1024x196, .f32⟩
  | 12 => ⟨S_, .f32⟩
  | 13 => ⟨S_, .f32⟩
  | 14 => ⟨S_, .f32⟩
  | 15 => ⟨S1024x196, .f32⟩
  | 16 => ⟨S1024x196, .f32⟩
  | 17 => ⟨S_, .f32⟩
  | 18 => ⟨S1024x196, .f32⟩
  | 19 => ⟨S1024x196, .f32⟩
  | 20 => ⟨S1024x196, .f32⟩
  | 21 => ⟨S1024x196, .f32⟩
  | 22 => ⟨S_, .f32⟩
  | 23 => ⟨S_, .f32⟩
  | 24 => ⟨S_, .f32⟩
  | 25 => ⟨S1024x196, .f32⟩
  | 26 => ⟨S1024x196, .f32⟩
  | 27 => ⟨S_, .f32⟩
  | 28 => ⟨S1024x196, .f32⟩
  | 29 => ⟨S1024x196, .f32⟩
  | 30 => ⟨S_, .f32⟩
  | 31 => ⟨S1024x196, .f32⟩
  | 32 => ⟨S1024x196, .f32⟩
  | 33 => ⟨S_, .f32⟩
  | 34 => ⟨S1024x196, .f32⟩
  | 35 => ⟨S1024x196, .f32⟩
  | 36 => ⟨S1024x1, .i32⟩
  | 37 => ⟨S_, .i32⟩
  | 38 => ⟨S1024x1, .i32⟩
  | 39 => ⟨S1024x1, .i1⟩
  | 40 => ⟨S_, .i32⟩
  | 41 => ⟨S1024x1, .i32⟩
  | 42 => ⟨S1024x1, .i32⟩
  | 43 => ⟨S1024x1, .i32⟩
  | 44 => ⟨S_, .i32⟩
  | 45 => ⟨S1024x196, .i32⟩
  | 46 => ⟨S1024x196, .i1⟩
  | 47 => ⟨S_, .i32⟩
  | 48 => ⟨S1024x196, .i32⟩
  | 49 => ⟨S1024x196, .i32⟩
  | 50 => ⟨S1024x196, .i32⟩
  | 51 => ⟨S_, .i32⟩
  | 52 => ⟨S1024x196, .i32⟩
  | 53 => ⟨S1024x196, .i1⟩
  | 54 => ⟨S_, .i32⟩
  | 55 => ⟨S1024x196, .i32⟩
  | 56 => ⟨S1024x196, .i32⟩
  | 57 => ⟨S1024x196, .i32⟩
  | 58 => ⟨S1024x196, .i32⟩
  | 59 => ⟨S1024x196x1, .i32⟩
  | 60 => ⟨S1024x196x1, .i32⟩
  | 61 => ⟨S1024x196x1, .i32⟩
  | 62 => ⟨S1024x196x3, .i32⟩
  | 63 => ⟨S1024x196x256, .f32⟩
  | 64 => ⟨S_, .i32⟩
  | 65 => ⟨S1024x1, .i32⟩
  | 66 => ⟨S1024x1, .i1⟩
  | 67 => ⟨S_, .i32⟩
  | 68 => ⟨S1024x1, .i32⟩
  | 69 => ⟨S1024x1, .i32⟩
  | 70 => ⟨S1024x1, .i32⟩
  | 71 => ⟨S_, .i32⟩
  | 72 => ⟨S1024x196, .i32⟩
  | 73 => ⟨S1024x196, .i1⟩
  | 74 => ⟨S_, .i32⟩
  | 75 => ⟨S1024x196, .i32⟩
  | 76 => ⟨S1024x196, .i32⟩
  | 77 => ⟨S1024x196, .i32⟩
  | 78 => ⟨S_, .i32⟩
  | 79 => ⟨S1024x196, .i32⟩
  | 80 => ⟨S1024x196, .i1⟩
  | 81 => ⟨S_, .i32⟩
  | 82 => ⟨S1024x196, .i32⟩
  | 83 => ⟨S1024x196, .i32⟩
  | 84 => ⟨S1024x196, .i32⟩
  | 85 => ⟨S1024x196, .i32⟩
  | 86 => ⟨S1024x196x1, .i32⟩
  | 87 => ⟨S1024x196x1, .i32⟩
  | 88 => ⟨S1024x196x1, .i32⟩
  | 89 => ⟨S1024x196x3, .i32⟩
  | 90 => ⟨S1024x196x256, .f32⟩
  | 91 => ⟨S_, .i32⟩
  | 92 => ⟨S1024x1, .i32⟩
  | 93 => ⟨S1024x1, .i1⟩
  | 94 => ⟨S_, .i32⟩
  | 95 => ⟨S1024x1, .i32⟩
  | 96 => ⟨S1024x1, .i32⟩
  | 97 => ⟨S1024x1, .i32⟩
  | 98 => ⟨S_, .i32⟩
  | 99 => ⟨S1024x196, .i32⟩
  | 100 => ⟨S1024x196, .i1⟩
  | 101 => ⟨S_, .i32⟩
  | 102 => ⟨S1024x196, .i32⟩
  | 103 => ⟨S1024x196, .i32⟩
  | 104 => ⟨S1024x196, .i32⟩
  | 105 => ⟨S_, .i32⟩
  | 106 => ⟨S1024x196, .i32⟩
  | 107 => ⟨S1024x196, .i1⟩
  | 108 => ⟨S_, .i32⟩
  | 109 => ⟨S1024x196, .i32⟩
  | 110 => ⟨S1024x196, .i32⟩
  | 111 => ⟨S1024x196, .i32⟩
  | 112 => ⟨S1024x196, .i32⟩
  | 113 => ⟨S1024x196x1, .i32⟩
  | 114 => ⟨S1024x196x1, .i32⟩
  | 115 => ⟨S1024x196x1, .i32⟩
  | 116 => ⟨S1024x196x3, .i32⟩
  | 117 => ⟨S1024x196x256, .f32⟩
  | 118 => ⟨S_, .i32⟩
  | 119 => ⟨S1024x1, .i32⟩
  | 120 => ⟨S1024x1, .i1⟩
  | 121 => ⟨S_, .i32⟩
  | 122 => ⟨S1024x1, .i32⟩
  | 123 => ⟨S1024x1, .i32⟩
  | 124 => ⟨S1024x1, .i32⟩
  | 125 => ⟨S_, .i32⟩
  | 126 => ⟨S1024x196, .i32⟩
  | 127 => ⟨S1024x196, .i1⟩
  | _ => ⟨S2x256x128x128, .f32⟩

abbrev hbmTy0_2 (i : Nat) : BufTy := match i % 128 with
  | 0 => ⟨S_, .i32⟩
  | 1 => ⟨S1024x196, .i32⟩
  | 2 => ⟨S1024x196, .i32⟩
  | 3 => ⟨S1024x196, .i32⟩
  | 4 => ⟨S_, .i32⟩
  | 5 => ⟨S1024x196, .i32⟩
  | 6 => ⟨S1024x196, .i1⟩
  | 7 => ⟨S_, .i32⟩
  | 8 => ⟨S1024x196, .i32⟩
  | 9 => ⟨S1024x196, .i32⟩
  | 10 => ⟨S1024x196, .i32⟩
  | 11 => ⟨S1024x196, .i32⟩
  | 12 => ⟨S1024x196x1, .i32⟩
  | 13 => ⟨S1024x196x1, .i32⟩
  | 14 => ⟨S1024x196x1, .i32⟩
  | 15 => ⟨S1024x196x3, .i32⟩
  | 16 => ⟨S1024x196x256, .f32⟩
  | 17 => ⟨S1024x196, .f32⟩
  | 18 => ⟨S1024x196x1, .f32⟩
  | 19 => ⟨S1024x196, .f32⟩
  | 20 => ⟨S1024x196x1, .f32⟩
  | 21 => ⟨S1024x196, .f32⟩
  | 22 => ⟨S1024x196x1, .f32⟩
  | 23 => ⟨S1024x196, .f32⟩
  | 24 => ⟨S1024x196x1, .f32⟩
  | 25 => ⟨S1024x196x256, .f32⟩
  | 26 => ⟨S1024x196x256, .f32⟩
  | 27 => ⟨S1024x196x256, .f32⟩
  | 28 => ⟨S1024x196x256, .f32⟩
  | 29 => ⟨S1024x196x256, .f32⟩
  | 30 => ⟨S1024x196x256, .f32⟩
  | 31 => ⟨S1024x196x256, .f32⟩
  | 32 => ⟨S1024x196x256, .f32⟩
  | 33 => ⟨S1024x196x256, .f32⟩
  | 34 => ⟨S1024x196x256, .f32⟩
  | 35 => ⟨S1024x196x256, .f32⟩
  | 36 => ⟨S1024x196x1, .i1⟩
  | 37 => ⟨S_, .f32⟩
  | 38 => ⟨S_, .f32⟩
  | 39 => ⟨S1024x196x256, .i1⟩
  | 40 => ⟨S1024x196x256, .f32⟩
  | 41 => ⟨S1024x196x256, .f32⟩
  | 42 => ⟨S1024x7x2x7x2x256, .f32⟩
  | 43 => ⟨S_, .f32⟩
  | 44 => ⟨S1024x7x7x256, .f32⟩
  | 45 => ⟨S_, .f32⟩
  | 46 => ⟨S1024x7x7x256, .f32⟩
  | 47 => ⟨S1024x7x7x256, .f32⟩
  | 48 => ⟨S1024x256x7x7, .f32⟩
  | _ => ⟨S2x256x128x128, .f32⟩

abbrev hbmTy (i : Nat) : BufTy := match i / 128 with
  | 0 => hbmTy0_0 i
  | 1 => hbmTy0_1 i
  | 2 => hbmTy0_2 i
  | _ => ⟨S2x256x128x128, .f32⟩

abbrev bufTy : (tb : Table) → Fin (tcTables nBuf tb) → BufTy
  | .hbm, ⟨i, _⟩ => hbmTy i
  | _, _ => ⟨S2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_11 : Ref sig .tc := ⟨.hbm, 85, rfl⟩
abbrev main_v71 : Ref sig .tc := ⟨.hbm, 86, rfl⟩
abbrev main_v72 : Ref sig .tc := ⟨.hbm, 87, rfl⟩
abbrev main_cst_12 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_13 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_14 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_15 : Ref sig .tc := ⟨.hbm, 100, rfl⟩
abbrev main_v82 : Ref sig .tc := ⟨.hbm, 101, rfl⟩
abbrev main_v83 : Ref sig .tc := ⟨.hbm, 102, rfl⟩
abbrev main_cst_16 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c : Ref sig .tc := ⟨.hbm, 108, rfl⟩
abbrev main_c_17 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_18 : Ref sig .tc := ⟨.hbm, 118, rfl⟩
abbrev main_c_19 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v91 : Ref sig .tc := ⟨.hbm, 125, rfl⟩
abbrev main_c_20 : Ref sig .tc := ⟨.hbm, 126, rfl⟩
abbrev main_v92 : Ref sig .tc := ⟨.hbm, 127, rfl⟩
abbrev main_v93 : Ref sig .tc := ⟨.hbm, 128, rfl⟩
abbrev main_c_21 : Ref sig .tc := ⟨.hbm, 129, rfl⟩
abbrev main_v94 : Ref sig .tc := ⟨.hbm, 130, rfl⟩
abbrev main_v95 : Ref sig .tc := ⟨.hbm, 131, rfl⟩
abbrev main_c_22 : Ref sig .tc := ⟨.hbm, 132, rfl⟩
abbrev main_v96 : Ref sig .tc := ⟨.hbm, 133, rfl⟩
abbrev main_v97 : Ref sig .tc := ⟨.hbm, 134, rfl⟩
abbrev main_c_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_24 : Ref sig .tc := ⟨.hbm, 140, rfl⟩
abbrev main_cst_25 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_26 : Ref sig .tc := ⟨.hbm, 150, rfl⟩
abbrev main_cst_27 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_v105 : Ref sig .tc := ⟨.hbm, 157, rfl⟩
abbrev main_cst_28 : Ref sig .tc := ⟨.hbm, 158, rfl⟩
abbrev main_v106 : Ref sig .tc := ⟨.hbm, 159, rfl⟩
abbrev main_v107 : Ref sig .tc := ⟨.hbm, 160, rfl⟩
abbrev main_cst_29 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_30 : Ref sig .tc := ⟨.hbm, 165, rfl⟩
abbrev main_v111 : Ref sig .tc := ⟨.hbm, 166, rfl⟩
abbrev main_v112 : Ref sig .tc := ⟨.hbm, 167, rfl⟩
abbrev main_c_31 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_c_32 : Ref sig .tc := ⟨.hbm, 172, rfl⟩
abbrev main_v116 : Ref sig .tc := ⟨.hbm, 173, rfl⟩
abbrev main_v117 : Ref sig .tc := ⟨.hbm, 174, rfl⟩
abbrev main_c_33 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_34 : Ref sig .tc := ⟨.hbm, 179, rfl⟩
abbrev main_v121 : Ref sig .tc := ⟨.hbm, 180, rfl⟩
abbrev main_v122 : Ref sig .tc := ⟨.hbm, 181, rfl⟩
abbrev main_c_35 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_36 : Ref sig .tc := ⟨.hbm, 192, rfl⟩
abbrev main_v132 : Ref sig .tc := ⟨.hbm, 193, rfl⟩
abbrev main_v133 : Ref sig .tc := ⟨.hbm, 194, rfl⟩
abbrev main_c_37 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_38 : Ref sig .tc := ⟨.hbm, 199, rfl⟩
abbrev main_v137 : Ref sig .tc := ⟨.hbm, 200, rfl⟩
abbrev main_v138 : Ref sig .tc := ⟨.hbm, 201, rfl⟩
abbrev main_c_39 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_c_40 : Ref sig .tc := ⟨.hbm, 206, rfl⟩
abbrev main_v142 : Ref sig .tc := ⟨.hbm, 207, rfl⟩
abbrev main_v143 : Ref sig .tc := ⟨.hbm, 208, rfl⟩
abbrev main_c_41 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_42 : Ref sig .tc := ⟨.hbm, 219, rfl⟩
abbrev main_v153 : Ref sig .tc := ⟨.hbm, 220, rfl⟩
abbrev main_v154 : Ref sig .tc := ⟨.hbm, 221, rfl⟩
abbrev main_c_43 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_44 : Ref sig .tc := ⟨.hbm, 226, rfl⟩
abbrev main_v158 : Ref sig .tc := ⟨.hbm, 227, rfl⟩
abbrev main_v159 : Ref sig .tc := ⟨.hbm, 228, rfl⟩
abbrev main_c_45 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_c_46 : Ref sig .tc := ⟨.hbm, 233, rfl⟩
abbrev main_v163 : Ref sig .tc := ⟨.hbm, 234, rfl⟩
abbrev main_v164 : Ref sig .tc := ⟨.hbm, 235, rfl⟩
abbrev main_c_47 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_c_48 : Ref sig .tc := ⟨.hbm, 246, rfl⟩
abbrev main_v174 : Ref sig .tc := ⟨.hbm, 247, rfl⟩
abbrev main_v175 : Ref sig .tc := ⟨.hbm, 248, rfl⟩
abbrev main_c_49 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_c_50 : Ref sig .tc := ⟨.hbm, 253, rfl⟩
abbrev main_v179 : Ref sig .tc := ⟨.hbm, 254, rfl⟩
abbrev main_v180 : Ref sig .tc := ⟨.hbm, 255, rfl⟩
abbrev main_c_51 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_c_52 : Ref sig .tc := ⟨.hbm, 260, rfl⟩
abbrev main_v184 : Ref sig .tc := ⟨.hbm, 261, rfl⟩
abbrev main_v185 : Ref sig .tc := ⟨.hbm, 262, rfl⟩
abbrev main_c_53 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_cst_54 : Ref sig .tc := ⟨.hbm, 293, rfl⟩
abbrev main_call4_v0 : Ref sig .tc := ⟨.hbm, 294, rfl⟩
abbrev main_call4_v1 : Ref sig .tc := ⟨.hbm, 295, rfl⟩
abbrev main_call4_v2 : Ref sig .tc := ⟨.hbm, 296, rfl⟩
abbrev main_v215 : Ref sig .tc := ⟨.hbm, 297, rfl⟩
abbrev main_v216 : Ref sig .tc := ⟨.hbm, 298, rfl⟩
abbrev main_cst_55 : Ref sig .tc := ⟨.hbm, 299, rfl⟩
abbrev main_v217 : Ref sig .tc := ⟨.hbm, 300, rfl⟩
abbrev main_cst_56 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩

abbrev nD : Nat := 1
abbrev τ : Topo := Topo.v7x

variable {F : FTy → Type} [FloatOps F]
-- ==== Proof.Roi.lean ====
/-
  The kernel's body, said once. The printed body is the same code sixteen times over, once for each of the sixteen
  boxes of a grid point, cut into windows of sixty statements. Here the code of ONE box is written as a program in the
  box's number `m`, its fourteen row taps and seven output rows as loops, and the body as the loop over the boxes;
  `Proof/Body.lean` proves that this is the printed body. Everything proved of the kernel is then proved of one box.
-/
module

public import proofs.«01_k».proof.KernelIdeal

@[expose] public section

noncomputable section

namespace Cert.KernelIdeal.Roi

open Idealize.ShloMosaic Idealize.SL.Sem

variable {F : FTy → Type} [FloatOps F]

/-! ## The arithmetic of a sample point -/

/-- The fourteen sample positions along an edge in units of a bin: `(j + 1/2) / 2` for `j < 14`, as binary32 words. -/
def tapWord (j : Nat) : BitVec 32 :=
  [0x3E800000#32, 0x3F400000#32, 0x3FA00000#32, 0x3FE00000#32, 0x40100000#32, 0x40300000#32, 0x40500000#32,
   0x40700000#32, 0x40880000#32, 0x40980000#32, 0x40A80000#32, 0x40B80000#32, 0x40C80000#32, 0x40D80000#32].getD j 0#32

/-- A corner of a box in feature coordinates: `c / 16 - 1/2`. -/
def corner (c : F .f32) : F .f32 := Scalar.subf (Scalar.mulf c (Scalar.ofBits .f32 0x3D800000#32)) (Scalar.ofBits .f32 0x3F000000#32)
/-- A seventh of the way from `lo` to `hi`. -/
def bin (lo hi : F .f32) : F .f32 := Scalar.divf (Scalar.subf hi lo) (Scalar.ofBits .f32 0x40E00000#32)
/-- The `j`-th sample coordinate, not below zero. -/
def coord (lo b : F .f32) (j : Nat) : F .f32 :=
  Scalar.maximumf (Scalar.addf lo (Scalar.mulf (Scalar.ofBits .f32 (tapWord j)) b)) (Scalar.ofBits .f32 0x00000000#32)
/-- The cell a coordinate falls in, at most 127. -/
def cell (y : F .f32) : F .f32 := Scalar.minimumf (Scalar.floor y) (Scalar.ofBits .f32 0x42FE0000#32)
/-- Where in its cell a coordinate lies, from 0 to 1. -/
def part (y : F .f32) : F .f32 :=
  Scalar.minimumf (Scalar.ofBits .f32 0x3F800000#32) (Scalar.maximumf (Scalar.ofBits .f32 0x00000000#32) (Scalar.subf y (cell y)))
/-- The cell as an integer. -/
def cellI (y : F .f32) : BitVec 32 := Scalar.fptosi 32 (cell y)
/-- The cell after `v`, at most 127. -/
def nextI (v : BitVec 32) : BitVec 32 := Scalar.minsi (Scalar.addi v 1#32) 127#32

/-! ## The pieces a box stores -/

/-- One row tap: the two feature rows `f0`, `f1` weighed by where the sample lies between them. -/
def blend (ly : F .f32) (f0 f1 : Vec F S1x128x256 .f32) [Facts₀] : FVec F S128x256 .f32 :=
  addf (mulf (broadcast S128x256 (Scalar.subf (Scalar.ofBits .f32 0x3F800000#32) ly)) (shapeCast S128x256 f0 Facts₀.shapeCasts_S1x128x256_S128x256))
    (mulf (broadcast S128x256 ly) (shapeCast S128x256 f1 Facts₀.shapeCasts_S1x128x256_S128x256))

variable [Facts]
open Facts₀ Facts

/-- The weights one column sample puts on the 128 columns: a quarter, split between the two neighbours. -/
def colTap (x : F .f32) : FVec F S1x128 .f32 :=
  addf
    (select (cmpi .eq (iota .tc S1x128 32 [1] iota_S1x128_d1_w32) (broadcast S1x128 (Scalar.subi (cellI x) 0#32)))
      (broadcast S1x128 (Scalar.subf (Scalar.ofBits .f32 0x3E800000#32) (Scalar.mulf (Scalar.ofBits .f32 0x3E800000#32) (part x))))
      (broadcast S1x128 (Scalar.ofBits .f32 0x00000000#32)))
    (select (cmpi .eq (iota .tc S1x128 32 [1] iota_S1x128_d1_w32) (broadcast S1x128 (Scalar.subi (nextI (cellI x)) 0#32)))
      (broadcast S1x128 (Scalar.mulf (Scalar.ofBits .f32 0x3E800000#32) (part x)))
      (broadcast S1x128 (Scalar.ofBits .f32 0x00000000#32)))

/-- The weights of output column `pw`: its two column samples'. -/
def colRow (lo b : F .f32) (pw : Nat) : FVec F S1x128 .f32 :=
  addf (colTap (coord lo b (2 * pw))) (colTap (coord lo b (2 * pw + 1)))

/-- The weight matrix of a box: one row of 128 weights for each of the seven output columns. -/
def weights (lo b : F .f32) : FVec F S7x128 .f32 :=
  concatenate S7x128 0 [⟨S1x128, colRow lo b 0⟩, ⟨S1x128, colRow lo b 1⟩, ⟨S1x128, colRow lo b 2⟩, ⟨S1x128, colRow lo b 3⟩,
    ⟨S1x128, colRow lo b 4⟩, ⟨S1x128, colRow lo b 5⟩, ⟨S1x128, colRow lo b 6⟩]
    concatenates_S1x128_S1x128_S1x128_S1x128_S1x128_S1x128_S1x128_S7x128_d0

/-- An output row: the weight matrix times the row the box kept. -/
def outRow (w : FVec F S7x128 .f32) (r : Vec F S1x1x128x256 .f32) : FVec F S1x1x7x256 .f32 :=
  shapeCast S1x1x7x256 (matmul dot_S7x128_S128x256_S7x256_1_0_0_1_n_n none w (shapeCast S128x256 r shapeCasts_S1x1x128x256_S128x256)
    (constant S7x256 .f32 0x00000000#32)) shapeCasts_S7x256_S1x1x7x256

/-! ## The program of one box -/

/-- The step's first box: `(32 p + j) * 16` at grid point `(p, j)`. -/
def first (i : grid0.Coords) : BitVec 32 :=
  Scalar.muli (Scalar.addi (Scalar.muli (BitVec.ofNat 32 (i 0).val) 32#32) (BitVec.ofNat 32 (i 1).val)) 16#32

/-- Where word `k` of the step's box `m` lies in the table of boxes. -/
def wordOff (i : grid0.Coords) (m k : Nat) : Fin 2 → Nat :=
  ![(Scalar.indexCast (Scalar.addi (first i) (BitVec.ofNat 32 m)) : BitVec 32).toNat, k]

/-- The step's box numbers are below 1024: no sum or product wraps. -/
theorem first_add (i : grid0.Coords) (m : Nat) (hm : m < 16) :
    (Scalar.indexCast (Scalar.addi (first i) (BitVec.ofNat 32 m)) : BitVec 32).toNat = ((i 0).val * 32 + (i 1).val) * 16 + m := by
  have h0 : (i 0).val < 2 := (i 0).isLt
  have h1 : (i 1).val < 32 := (i 1).isLt
  simp only [first, Scalar.indexCast, Scalar.addi, Scalar.muli, IntOp.addi, IntOp.muli, BitVec.toNat_add, BitVec.toNat_mul, BitVec.toNat_ofNat]
  omega

/-- A word of a box lies in the table of boxes. -/
theorem wordOff_inb (i : grid0.Coords) (m k : Nat) (hm : m < 16) (hk : k < 5) :
    ∀ a, wordOff i m k a + S1x1.size a ≤ S1024x5.size a := by
  have h0 : (i 0).val < 2 := (i 0).isLt
  have h1 : (i 1).val < 32 := (i 1).isLt
  have hf := first_add i m hm
  intro a
  fin_cases a
  · show (Scalar.indexCast (Scalar.addi (first i) (BitVec.ofNat 32 m)) : BitVec 32).toNat + 1 ≤ 1024
    omega
  · show k + 1 ≤ 5
    omega

/-- A kept row lies in its scratch. -/
theorem rows_inb (m ph : Nat) (hm : m < 16) (hp : ph < 7) :
    ∀ a, (![m, ph, 0, 0] : Fin 4 → Nat) a + S1x1x128x256.size a ≤ S16x7x128x256.size a := by
  intro a
  fin_cases a
  · show m + 1 ≤ 16; omega
  · show ph + 1 ≤ 7; omega
  · show 0 + 128 ≤ 128; omega
  · show 0 + 256 ≤ 256; omega

/-- An output row lies in the output block. -/
theorem out_inb (m ph : Nat) (hm : m < 16) (hp : ph < 7) :
    ∀ a, (![m, ph, 0, 0] : Fin 4 → Nat) a + S1x1x7x256.size a ≤ S16x7x7x256.size a := by
  intro a
  fin_cases a
  · show m + 1 ≤ 16; omega
  · show ph + 1 ≤ 7; omega
  · show 0 + 7 ≤ 7; omega
  · show 0 + 256 ≤ 256; omega

/-- Programs of the kernel's core. -/
abbrev Pg (F : FTy → Type) [FloatOps F] (α : Type) := Prog (TpuEff nD τ sig (Elt F) Λ₀ .tc) α

/-- The side conditions of the first `n` row taps: both feature rows of each lie inside the feature array. -/
def checks (b : BitVec 32) (y : Nat → BitVec 32) : (n : Nat) → Pg F (PLift (∀ j, j < n → k0_chk1 b (y j)))
  | 0 => pure ⟨fun _ h => absurd h (Nat.not_lt_zero _)⟩
  | n + 1 => do
    let h ← checks b y n
    let h' ← Prog.lift (TpuEff.assume (k0_chk1 b (y n)) (k0_chk1.dec b (y n)))
    pure ⟨fun j hj => (Nat.lt_succ_iff_lt_or_eq.mp hj).elim (fun hl => h.down j hl) fun he => he ▸ h'.down⟩

section Box

variable (arg2 : Memref sig .tc .smem S1024x5 .f32) (arg4 : Memref sig .tc .vmem S16x7x7x256 .f32)
  (arg5 : Memref sig .tc .vmem S256x128x256 .f32) (arg6 : Memref sig .tc .vmem S16x7x128x256 .f32)

/-- One of the two row taps of output row `ph`: two loads of feature rows, blended. -/
def rowTap (b : BitVec 32) (y : F .f32) (h : k0_chk1 b (cellI y)) : Pg F (FVec F S128x256 .f32) := do
  let f0 ← Prog.lift (.load arg5 (Rect.unit (s := S256x128x256) (k0_off6 b (cellI y)) S1x128x256.size (k0_off6_inb b (cellI y) h)).toLoadRect (View.loadsAt_vmem h_S1x128x256))
  let f1 ← Prog.lift (.load arg5 (Rect.unit (s := S256x128x256) (k0_off7 b (cellI y)) S1x128x256.size (k0_off7_inb b (cellI y) h)).toLoadRect (View.loadsAt_vmem h_S1x128x256))
  pure (blend (part y) f0 f1)

/-- The rows of box `m` for the output rows below `n`, kept in the scratch. -/
def keepRows (m : Nat) (hm : m < 16) (b : BitVec 32) (y : Nat → F .f32) (h : ∀ j, j < 14 → k0_chk1 b (cellI (y j))) :
    (n : Nat) → n ≤ 7 → Pg F PUnit
  | 0, _ => pure ⟨⟩
  | ph + 1, hn => do
    keepRows m hm b y h ph (Nat.le_of_succ_le hn)
    let r0 ← rowTap arg5 b (y (2 * ph)) (h (2 * ph) (by omega))
    let r1 ← rowTap arg5 b (y (2 * ph + 1)) (h (2 * ph + 1) (by omega))
    let _ ← Prog.lift (.load arg6 (Rect.unit (s := S16x7x128x256) ![m, ph, 0, 0] S1x1x128x256.size (rows_inb m ph hm hn)).toLoadRect (View.loadsAt_vmem h_S1x1x128x256))
    Prog.lift (.store arg6 (Rect.unit (s := S16x7x128x256) ![m, ph, 0, 0] S1x1x128x256.size (rows_inb m ph hm hn))
      (shapeCast S1x1x128x256 (addf r0 r1) shapeCasts_S128x256_S1x1x128x256) Finset.univ (View.stores_vmem_bits_univ h_S1x1x128x256 rfl) (.inl rfl))

/-- The output rows of box `m` below `n`, stored. -/
def storeRows (m : Nat) (hm : m < 16) (w : FVec F S7x128 .f32) : (n : Nat) → n ≤ 7 → Pg F PUnit
  | 0, _ => pure ⟨⟩
  | ph + 1, hn => do
    storeRows m hm w ph (Nat.le_of_succ_le hn)
    let r ← Prog.lift (.load arg6 (Rect.unit (s := S16x7x128x256) ![m, ph, 0, 0] S1x1x128x256.size (rows_inb m ph hm hn)).toLoadRect (View.loadsAt_vmem h_S1x1x128x256))
    let _ ← Prog.lift (.load arg4 (Rect.unit (s := S16x7x7x256) ![m, ph, 0, 0] S1x1x7x256.size (out_inb m ph hm hn)).toLoadRect (View.loadsAt_vmem h_S1x1x7x256))
    Prog.lift (.store arg4 (Rect.unit (s := S16x7x7x256) ![m, ph, 0, 0] S1x1x7x256.size (out_inb m ph hm hn))
      (outRow w r) Finset.univ (View.stores_vmem_bits_univ h_S1x1x7x256 rfl) (.inl rfl))

/-- Word `k` of the step's box `m`. -/
def word (i : grid0.Coords) (m k : Nat) (hm : m < 16) (hk : k < 5) : Pg F (Elt F .f32) :=
  smemLoad arg2 (Rect.unit (s := S1024x5) (wordOff i m k) S1x1.size (wordOff_inb i m k hm hk)) numel1_S1x1 rfl

/-- Box `m` of the step: its five words, the side conditions, the kept rows, the output rows. -/
def box (i : grid0.Coords) (m : Nat) (hm : m < 16) : Pg F PUnit := do
  let rb ← word arg2 i m 0 hm (by omega)
  let rx1 ← word arg2 i m 1 hm (by omega)
  let ry1 ← word arg2 i m 2 hm (by omega)
  let rx2 ← word arg2 i m 3 hm (by omega)
  let ry2 ← word arg2 i m 4 hm (by omega)
  let h ← checks (Scalar.fptosi 32 rb) (fun j => cellI (coord (corner ry1) (bin (corner ry1) (corner ry2)) j)) 14
  keepRows arg5 arg6 m hm (Scalar.fptosi 32 rb) (coord (corner ry1) (bin (corner ry1) (corner ry2))) h.down 7 (Nat.le_refl 7)
  storeRows arg4 arg6 m hm (weights (corner rx1) (bin (corner rx1) (corner rx2))) 7 (Nat.le_refl 7)

/-- The boxes of the step below `n`. -/
def boxes (i : grid0.Coords) : (n : Nat) → n ≤ 16 → Pg F PUnit
  | 0, _ => pure ⟨⟩
  | m + 1, hn => do
    boxes i m (Nat.le_of_succ_le hn)
    box arg2 arg4 arg5 arg6 i m hn

end Box

/-- At the first step of each half the whole feature array is copied into the scratch, and the copy waited for. -/
def fetch (i : grid0.Coords) (arg3 : Memref sig .tc .hbm S256x128x256 .f32) (harg3 : arg3.IsWhole)
    (arg5 : Memref sig .tc .vmem S256x128x256 .f32) (harg5 : arg5.IsWhole) (arg7 : DmaSems sig S_) : Pg F PUnit :=
  if Scalar.cmpi .ne (Scalar.extui (Scalar.cmpi .eq (BitVec.ofNat 32 (i 1).val) 0#32) : BitVec 32) 0#32 = 1#1 then do
    Prog.lift (.enqueueDma arg3 (.here arg5) (.dma arg7.sem) harg3.wordExact harg5.wordExact ⟨Or.inl rfl, trivial⟩)
    Prog.lift (.waitDma2 arg7.sem arg3 arg5 harg3.wordExact harg5.wordExact)
    pure ⟨⟩
  else do
    pure ⟨⟩

/-- The body: the fetch, then the sixteen boxes. -/
def body (i : grid0.Coords) (arg2 : Memref sig .tc .smem S1024x5 .f32) (arg3 : Memref sig .tc .hbm S256x128x256 .f32) (harg3 : arg3.IsWhole)
    (arg4 : Memref sig .tc .vmem S16x7x7x256 .f32) (arg5 : Memref sig .tc .vmem S256x128x256 .f32) (harg5 : arg5.IsWhole)
    (arg6 : Memref sig .tc .vmem S16x7x128x256 .f32) (arg7 : DmaSems sig S_) : Pg F PUnit := do
  fetch i arg3 harg3 arg5 harg5 arg7
  boxes arg2 arg4 arg5 arg6 i 16 (Nat.le_refl 16)

end Cert.KernelIdeal.Roi

end
-- ==== Proof.Block.lean ====
/-
  What a step leaves in its output block, as plain functions: of the feature array `A` in the scratch and of the table of
  boxes `R`. `Proof/Triple.lean` proves that the body computes them.
-/
module

public import proofs.«01_k».proof.Proof.Roi
public import Idealize.ShloMosaic.Lib.Pointwise.Index

@[expose] public section

noncomputable section

namespace Cert.KernelIdeal.Roi

open Idealize.ShloMosaic Idealize.SL.Sem

variable {F : FTy → Type} [FloatOps F] [Facts]
open Facts₀ Facts

/-- Row `r` of the feature array: 128 columns of 256 channels. -/
def featRow (A : Vec F S256x128x256 .f32) (r : Nat) : Vec F S1x128x256 .f32 :=
  fun x => A (ix3 (⟨r % 256, Nat.mod_lt _ (by decide)⟩ : Fin 256) (x 1) (x 2))

/-- The row number of cell row `v` of image `b`. -/
def rowNo (b v : BitVec 32) : Nat := (Scalar.indexCast (Scalar.addi (Scalar.muli b 128#32) v) : BitVec 32).toNat

/-- What one row tap gives. -/
def tapOf (A : Vec F S256x128x256 .f32) (b : BitVec 32) (y : F .f32) : FVec F S128x256 .f32 :=
  blend (part y) (featRow A (rowNo b (cellI y))) (featRow A (rowNo b (nextI (cellI y))))

/-- The row a box keeps for output row `ph`: its two row taps' sum. -/
def keptOf (A : Vec F S256x128x256 .f32) (b : BitVec 32) (y : Nat → F .f32) (ph : Nat) : FVec F S1x1x128x256 .f32 :=
  shapeCast S1x1x128x256 (addf (tapOf A b (y (2 * ph))) (tapOf A b (y (2 * ph + 1)))) shapeCasts_S128x256_S1x1x128x256

/-- The sample rows of a box from its words `q` (image, left, top, right, bottom). -/
def rowsOf (q : Nat → F .f32) : Nat → F .f32 := coord (corner (q 2)) (bin (corner (q 2)) (corner (q 4)))

/-- The image a box lies in. -/
def imageOf (q : Nat → F .f32) : BitVec 32 := Scalar.fptosi 32 (q 0)

/-- The weight matrix of a box. -/
def weightsOf (q : Nat → F .f32) : FVec F S7x128 .f32 := weights (corner (q 1)) (bin (corner (q 1)) (corner (q 3)))

/-- Output row `ph` of the box of words `q`. -/
def boxOf (A : Vec F S256x128x256 .f32) (q : Nat → F .f32) (ph : Nat) : FVec F S1x1x7x256 .f32 :=
  outRow (weightsOf q) (keptOf A (imageOf q) (rowsOf q) ph)

/-- The words of the step's box `m`. -/
def wordsOf (R : Vec F S1024x5 .f32) (i : grid0.Coords) (m : Nat) : Nat → F .f32 :=
  fun k => R (ix2 (⟨(((i 0).val * 32 + (i 1).val) * 16 + m) % 1024, Nat.mod_lt _ (by decide)⟩ : Fin 1024)
    (⟨k % 5, Nat.mod_lt _ (by decide)⟩ : Fin 5))

/-- The block the step leaves: element `(m, ph, pw, c)` is element `(pw, c)` of output row `ph` of box `m`. -/
def blockOf (A : Vec F S256x128x256 .f32) (R : Vec F S1024x5 .f32) (i : grid0.Coords) : Vec F S16x7x7x256 .f32 :=
  fun x => boxOf A (wordsOf R i (x 0).val) (x 1).val (ix4 (0 : Fin 1) (0 : Fin 1) (x 2) (x 3))

/-- The side conditions of the step's box `m`. -/
def BoxOk (R : Vec F S1024x5 .f32) (i : grid0.Coords) (m : Nat) : Prop :=
  ∀ j, j < 14 → k0_chk1 (imageOf (wordsOf R i m)) (cellI (rowsOf (wordsOf R i m) j))

end Cert.KernelIdeal.Roi

end
-- ==== Proof.Reals.lean ====
/-
  The arithmetic of one sample over the extended reals. A box whose corners lie in the image has finite sample
  coordinates between -1/2 and 127 1/2; the operations of `Proof/Roi.lean` then are the plain real ones.
-/
module

public import proofs.«01_k».proof.Proof.Block
public import Idealize.ShloMosaic.PureOps.Ideal
public import Idealize.ShloMosaic.PureOps.Ideal.Laws
public import Idealize.ShloMosaic.Lib.IdealHost

@[expose] public section

noncomputable section

namespace Cert.KernelIdeal.Roi

open Idealize.ShloMosaic Idealize.SL.Sem

/-! ## The constants -/

/-- The word of 1/16. -/
theorem word_sixteenth : Ideal.ofBits .f32 0x3D800000#32 = ((1 / 16 : ℝ) : EReal) := by
  simp [Ideal.ofBits, Ideal.ieee, -EReal.coe_mul]; norm_num
/-- The word of 1/2. -/
theorem word_half : Ideal.ofBits .f32 0x3F000000#32 = ((1 / 2 : ℝ) : EReal) := by
  simp [Ideal.ofBits, Ideal.ieee, -EReal.coe_mul]; norm_num
/-- The word of 7. -/
theorem word_seven : Ideal.ofBits .f32 0x40E00000#32 = ((7 : ℝ) : EReal) := by
  simp [Ideal.ofBits, Ideal.ieee, -EReal.coe_mul]; norm_num
/-- The word of 127. -/
theorem word_last : Ideal.ofBits .f32 0x42FE0000#32 = ((127 : ℝ) : EReal) := by
  simp [Ideal.ofBits, Ideal.ieee, -EReal.coe_mul]; norm_num
/-- The word of 1/4. -/
theorem word_quarter : Ideal.ofBits .f32 0x3E800000#32 = ((1 / 4 : ℝ) : EReal) := by
  simp [Ideal.ofBits, Ideal.ieee, -EReal.coe_mul]; norm_num
/-- The word of 1, as a real. -/
theorem word_one : Ideal.ofBits .f32 0x3F800000#32 = ((1 : ℝ) : EReal) := by
  simp [Ideal.ofBits, Ideal.ieee, -EReal.coe_mul]; norm_num
/-- The word of 0, as a real. -/
theorem word_zero : Ideal.ofBits .f32 0x00000000#32 = ((0 : ℝ) : EReal) := by
  simp [Ideal.ofBits, Ideal.ieee]
/-- The word of 2048. -/
theorem word_side : Ideal.ofBits .f32 0x45000000#32 = ((2048 : ℝ) : EReal) := by
  simp [Ideal.ofBits, Ideal.ieee, -EReal.coe_mul]; norm_num

/-- The `j`-th sample lies `(2 j + 1) / 4` bins along its edge. -/
theorem word_tap (j : Nat) (h : j < 14) : Ideal.ofBits .f32 (tapWord j) = (((2 * j + 1) / 4 : ℝ) : EReal) := by
  interval_cases j <;>
  · simp [tapWord, Ideal.ofBits, Ideal.ieee, -EReal.coe_mul]; try norm_num

/-- A quotient by a real other than zero. -/
theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- The greater of two reals, among the extended reals. -/
theorem max_coe (x y : ℝ) : max (x : EReal) (y : EReal) = ((max x y : ℝ) : EReal) := EReal.coe_strictMono.monotone.map_max.symm
/-- The less of two reals, among the extended reals. -/
theorem min_coe (x y : ℝ) : min (x : EReal) (y : EReal) = ((min x y : ℝ) : EReal) := EReal.coe_strictMono.monotone.map_min.symm

/-! ## A sample's position -/

/-- Where the `j`-th sample of an edge from `a` to `b` (in image coordinates) lies, in feature coordinates. -/
def place (a b : ℝ) (j : Nat) : ℝ := a / 16 - 1 / 2 + (2 * j + 1) / 4 * ((b / 16 - 1 / 2 - (a / 16 - 1 / 2)) / 7)

/-- The same, moved into the feature array at its low end. -/
def spot (a b : ℝ) (j : Nat) : ℝ := max (place a b j) 0

/-- A sample of a box in the image lies between -1/2 and 127.5. -/
theorem place_bounds {a b : ℝ} (ha : 0 ≤ a) (ha' : a ≤ 2048) (hb : 0 ≤ b) (hb' : b ≤ 2048) {j : Nat} (hj : j < 14) :
    -1 / 2 ≤ place a b j ∧ place a b j ≤ 127.5 := by
  have h : (j : ℝ) ≤ 13 := by exact_mod_cast Nat.lt_succ_iff.mp hj
  have h0 : (0 : ℝ) ≤ j := Nat.cast_nonneg j
  have e : place a b j = a / 16 * (1 - (2 * j + 1) / 28) + b / 16 * ((2 * j + 1) / 28) - 1 / 2 := by
    unfold place; ring
  have p : (0 : ℝ) ≤ (2 * j + 1) / 28 := by positivity
  have p' : (0 : ℝ) ≤ 1 - (2 * j + 1) / 28 := by linarith
  rw [e]
  constructor
  · have := mul_nonneg (show 0 ≤ a / 16 by linarith) p'
    have := mul_nonneg (show 0 ≤ b / 16 by linarith) p
    linarith
  · have := mul_le_mul_of_nonneg_right (show a / 16 ≤ 128 by linarith) p'
    have := mul_le_mul_of_nonneg_right (show b / 16 ≤ 128 by linarith) p
    linarith

/-- A clamped sample is not negative. -/
theorem spot_nonneg (a b : ℝ) (j : Nat) : 0 ≤ spot a b j := le_max_right _ _

/-- A clamped sample of a box in the image is at most 127.5. -/
theorem spot_le {a b : ℝ} (ha : 0 ≤ a) (ha' : a ≤ 2048) (hb : 0 ≤ b) (hb' : b ≤ 2048) {j : Nat} (hj : j < 14) :
    spot a b j ≤ 127.5 := max_le (place_bounds ha ha' hb hb' hj).2 (by norm_num)

/-- A corner in feature coordinates, of a real. -/
theorem corner_coe (a : ℝ) : corner (F := Ideal) (a : EReal) = ((a / 16 - 1 / 2 : ℝ) : EReal) := by
  show (a : EReal) * Ideal.ofBits .f32 0x3D800000#32 - Ideal.ofBits .f32 0x3F000000#32 = _
  rw [word_sixteenth, word_half, ← EReal.coe_mul, ← EReal.coe_sub]
  congr 1; ring

/-- A seventh of an edge, of reals. -/
theorem bin_coe (x y : ℝ) : bin (F := Ideal) (x : EReal) (y : EReal) = (((y - x) / 7 : ℝ) : EReal) := by
  show Ideal.div ((y : EReal) - (x : EReal)) (Ideal.ofBits .f32 0x40E00000#32) = _
  rw [word_seven, ← EReal.coe_sub, div_coe _ _ (by norm_num)]

/-- The kernel's sample coordinate is `spot`. -/
theorem coord_coe (a b : ℝ) {j : Nat} (hj : j < 14) :
    coord (corner (F := Ideal) (a : EReal)) (bin (corner (F := Ideal) (a : EReal)) (corner (F := Ideal) (b : EReal))) j
      = ((spot a b j : ℝ) : EReal) := by
  rw [corner_coe, corner_coe, bin_coe]
  show max (((a / 16 - 1 / 2 : ℝ) : EReal) + Ideal.ofBits .f32 (tapWord j) * _) (Ideal.ofBits .f32 0x00000000#32) = _
  rw [word_tap j hj, word_zero, ← EReal.coe_mul, ← EReal.coe_add, max_coe]
  rfl

/-! ## The cell of a coordinate -/

/-- The cell's number. -/
def num (z : ℝ) : Nat := ⌊z⌋₊
/-- How far into its cell a coordinate lies. -/
def off (z : ℝ) : ℝ := z - ⌊z⌋₊
/-- The number of the cell after, at most 127. -/
def after (n : Nat) : Nat := min (n + 1) 127

/-- A cell's number is below 128. -/
theorem num_lt {z : ℝ} (h0 : 0 ≤ z) (h : z ≤ 127.5) : num z < 128 :=
  (Nat.floor_lt h0).mpr (lt_of_le_of_lt h (by norm_num))
/-- A sample is not before its cell. -/
theorem off_nonneg {z : ℝ} (h0 : 0 ≤ z) : 0 ≤ off z := sub_nonneg.mpr (Nat.floor_le h0)
/-- A sample is at most one past its cell. -/
theorem off_le_one (z : ℝ) : off z ≤ 1 := by
  have := (Nat.lt_floor_add_one z).le
  unfold off; linarith
/-- The neighbouring cell's number is below 128. -/
theorem after_lt (n : Nat) : after n < 128 := by unfold after; omega

/-- The floor of a real is its cell's number. -/
theorem floor_coe {z : ℝ} (h0 : 0 ≤ z) : Ideal.liftRound Int.floor (z : EReal) = ((num z : ℝ) : EReal) := by
  show (((⌊z⌋ : ℤ) : ℝ) : EReal) = _
  rw [num, ← Int.natCast_floor_eq_floor h0]; rfl

/-- A small natural number read as an integer word. -/
theorem toInt_natCast (n : Nat) (h : n < 2 ^ 31) : Ideal.fptosi 32 (((n : ℝ)) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  have : max (-((2 ^ (32 - 1) : Nat) : Int)) (min (((2 ^ (32 - 1) : Nat) : Int) - 1) (n : Int)) = (n : Int) := by
    norm_num; omega
  rw [this]
  exact BitVec.ofInt_natCast 32 n

/-- The kernel's cell of a real sample, as a float. -/
theorem cell_coe {z : ℝ} (h0 : 0 ≤ z) (h : z ≤ 127.5) : cell (F := Ideal) (z : EReal) = ((num z : ℝ) : EReal) := by
  show min (Ideal.liftRound Int.floor (z : EReal)) (Ideal.ofBits .f32 0x42FE0000#32) = _
  rw [floor_coe h0, word_last, min_coe, min_eq_left]
  exact_mod_cast Nat.lt_succ_iff.mp (num_lt h0 h)

/-- The kernel's cell of a real sample, as a word. -/
theorem cellI_coe {z : ℝ} (h0 : 0 ≤ z) (h : z ≤ 127.5) : cellI (F := Ideal) (z : EReal) = BitVec.ofNat 32 (num z) := by
  show Ideal.fptosi 32 (cell (F := Ideal) (z : EReal)) = _
  rw [cell_coe h0 h, toInt_natCast _ (lt_trans (num_lt h0 h) (by norm_num))]

/-- The kernel's weight of the neighbouring cell. -/
theorem part_coe {z : ℝ} (h0 : 0 ≤ z) (h : z ≤ 127.5) : part (F := Ideal) (z : EReal) = ((off z : ℝ) : EReal) := by
  show min (Ideal.ofBits .f32 0x3F800000#32) (max (Ideal.ofBits .f32 0x00000000#32) ((z : EReal) - cell (F := Ideal) (z : EReal))) = _
  rw [cell_coe h0 h, word_one, word_zero, ← EReal.coe_sub, max_coe, min_coe]
  congr 1
  show min 1 (max 0 (off z)) = off z
  rw [max_eq_right (off_nonneg h0), min_eq_right (off_le_one z)]

/-- The kernel's neighbouring cell, as a word. -/
theorem nextI_ofNat {n : Nat} (h : n < 128) : nextI (BitVec.ofNat 32 n) = BitVec.ofNat 32 (after n) := by
  have : ∀ k : Fin 128, nextI (BitVec.ofNat 32 k.val) = BitVec.ofNat 32 (after k.val) := by decide
  exact this ⟨n, h⟩

/-! ## A box in the image -/

/-- What the precondition says of one box's five words: the image index from 0 to 1, the corners from 0 to 2048. -/
structure InImage (q : Nat → EReal) : Prop where
  image : 0 ≤ q 0 ∧ q 0 ≤ 1
  corners : ∀ k, 1 ≤ k → k ≤ 4 → 0 ≤ q k ∧ q k ≤ 2048

/-- An extended real between two reals is a real. -/
theorem coe_of_mem {x : EReal} {u v : ℝ} (h0 : (u : EReal) ≤ x) (h1 : x ≤ (v : EReal)) : ∃ r : ℝ, x = r ∧ u ≤ r ∧ r ≤ v := by
  induction x with
  | bot => exact absurd h0 (by simp)
  | top => exact absurd h1 (by simp)
  | coe r => exact ⟨r, rfl, by exact_mod_cast h0, by exact_mod_cast h1⟩

/-- Such a box's corners are reals. -/
theorem InImage.corner_real {q : Nat → EReal} (h : InImage q) {k : Nat} (h1 : 1 ≤ k) (h4 : k ≤ 4) :
    ∃ r : ℝ, q k = r ∧ 0 ≤ r ∧ r ≤ 2048 :=
  coe_of_mem (by simpa using (h.corners k h1 h4).1) (by exact_mod_cast (h.corners k h1 h4).2)

/-- Such a box's image index is 0 or 1 once rounded towards zero. -/
theorem InImage.image_word {q : Nat → EReal} (h : InImage q) : ∃ b : Nat, b < 2 ∧ Ideal.fptosi 32 (q 0) = BitVec.ofNat 32 b := by
  obtain ⟨r, hr, h0, h1⟩ := coe_of_mem (x := q 0) (u := 0) (v := 1) (by simpa using h.image.1) (by simpa using h.image.2)
  have hf : num r < 2 := (Nat.floor_lt h0).mpr (lt_of_le_of_lt h1 (by norm_num))
  refine ⟨num r, hf, ?_⟩
  rw [hr, ← toInt_natCast _ (lt_trans hf (by norm_num))]
  show BitVec.ofInt 32 (max _ (min _ (if (0 : ℝ) ≤ r then ⌊r⌋ else ⌈r⌉))) = BitVec.ofInt 32 (max _ (min _ (if (0 : ℝ) ≤ (num r : ℝ) then ⌊(num r : ℝ)⌋ else ⌈(num r : ℝ)⌉)))
  rw [if_pos h0, if_pos (Nat.cast_nonneg _), Int.floor_natCast, num, ← Int.natCast_floor_eq_floor h0]

end Cert.KernelIdeal.Roi

end
-- ==== Proof.Sample.lean ====
/-
  The equation between the two ways to pool four samples. The reference adds four bilinear samples and divides by four;
  the kernel blends the feature rows first, then multiplies by a row of column weights. Over the extended reals the two
  agree because every weight is a real not below zero: such a factor distributes over any sum.
-/
module

public import proofs.«01_k».proof.Proof.Reals

@[expose] public section

noncomputable section

namespace Cert.KernelIdeal.Roi

open Idealize.ShloMosaic Idealize.SL.Sem
open scoped BigOperators

/-! ## Factors that distribute -/

/-- A real factor not below zero, applied to a term with a real factor. -/
theorem coe_mul_coe_mul (a b : ℝ) (x : EReal) : (a : EReal) * ((b : EReal) * x) = ((a * b : ℝ) : EReal) * x := by
  rw [← mul_assoc, EReal.coe_mul]

/-- A real factor not below zero distributes over a sum. -/
theorem coe_mul_add {a : ℝ} (ha : 0 ≤ a) (x y : EReal) : (a : EReal) * (x + y) = a * x + a * y :=
  EReal.left_distrib_of_nonneg_of_ne_top (EReal.coe_nonneg.mpr ha) (EReal.coe_ne_top a) x y

/-! ## The two ways -/

/-- A bilinear sample of `G` at row coordinate `z` and column coordinate `w`. -/
def sample (G : Nat → Nat → EReal) (z w : ℝ) : EReal :=
  (((1 - off z) * (1 - off w) : ℝ) : EReal) * G (num z) (num w) + (((1 - off z) * off w : ℝ) : EReal) * G (num z) (after (num w))
    + ((off z * (1 - off w) : ℝ) : EReal) * G (after (num z)) (num w) + ((off z * off w : ℝ) : EReal) * G (after (num z)) (after (num w))

/-- Column `x` of the feature row blended at row coordinate `z`. -/
def rowAt (G : Nat → Nat → EReal) (z : ℝ) (x : Nat) : EReal :=
  ((1 - off z : ℝ) : EReal) * G (num z) x + ((off z : ℝ) : EReal) * G (after (num z)) x

/-- The weight that column coordinate `w` puts on column `x`: a quarter in all. -/
def colAt (w : ℝ) (x : Nat) : EReal :=
  (if x = num w then ((1 / 4 - 1 / 4 * off w : ℝ) : EReal) else 0) + (if x = after (num w) then ((1 / 4 * off w : ℝ) : EReal) else 0)

/-- A coordinate of the feature array. -/
structure Coord (z : ℝ) : Prop where
  nonneg : 0 ≤ off z
  le_one : off z ≤ 1
  lt : num z < 128

/-- A sample of a box in the image is a coordinate. -/
theorem Coord.of_spot {a b : ℝ} (ha : 0 ≤ a ∧ a ≤ 2048) (hb : 0 ≤ b ∧ b ≤ 2048) {j : Nat} (hj : j < 14) : Coord (spot a b j) :=
  ⟨off_nonneg (spot_nonneg a b j), off_le_one _, num_lt (spot_nonneg a b j) (spot_le ha.1 ha.2 hb.1 hb.2 hj)⟩

/-- A column weight is not negative. -/
theorem colAt_nonneg {w : ℝ} (h : Coord w) (x : Nat) : 0 ≤ colAt w x := by
  have h0 : 0 ≤ (1 / 4 - 1 / 4 * off w : ℝ) := by have := h.le_one; linarith
  have h1 : 0 ≤ (1 / 4 * off w : ℝ) := by have := h.nonneg; linarith
  unfold colAt
  refine add_nonneg ?_ ?_ <;> split
  · exact EReal.coe_nonneg.mpr h0
  · exact le_rfl
  · exact EReal.coe_nonneg.mpr h1
  · exact le_rfl

/-- One column of the 128 picked out of a sum. -/
theorem sum_pick (n : Nat) (hn : n < 128) (a : EReal) (r : Nat → EReal) :
    ∑ x : Fin 128, (if x.val = n then a else 0) * r x.val = a * r n := by
  rw [Finset.sum_eq_single (⟨n, hn⟩ : Fin 128)]
  · rw [if_pos rfl]
  · intro b _ hb
    rw [if_neg fun e => hb (Fin.ext e), zero_mul]
  · exact fun h => absurd (Finset.mem_univ _) h

/-- The weights of one column coordinate against a row. -/
theorem sum_colAt {w : ℝ} (h : Coord w) (r : Nat → EReal) :
    ∑ x : Fin 128, colAt w x.val * r x.val
      = ((1 / 4 - 1 / 4 * off w : ℝ) : EReal) * r (num w) + ((1 / 4 * off w : ℝ) : EReal) * r (after (num w)) := by
  have h0 : 0 ≤ (1 / 4 - 1 / 4 * off w : ℝ) := by have := h.le_one; linarith
  have h1 : 0 ≤ (1 / 4 * off w : ℝ) := by have := h.nonneg; linarith
  rw [← sum_pick _ h.lt, ← sum_pick _ (after_lt _), ← Finset.sum_add_distrib]
  refine Finset.sum_congr rfl fun x _ => ?_
  unfold colAt
  refine EReal.right_distrib_of_nonneg ?_ ?_ <;> split
  · exact EReal.coe_nonneg.mpr h0
  · exact le_rfl
  · exact EReal.coe_nonneg.mpr h1
  · exact le_rfl

/-- A quarter of one column coordinate's sample over the sum of two blended rows. -/
theorem quarter_sample {z z' w : ℝ} (hz : Coord z) (hz' : Coord z') (hw : Coord w) (G : Nat → Nat → EReal) :
    ((1 / 4 - 1 / 4 * off w : ℝ) : EReal) * (rowAt G z (num w) + rowAt G z' (num w))
        + ((1 / 4 * off w : ℝ) : EReal) * (rowAt G z (after (num w)) + rowAt G z' (after (num w)))
      = ((1 / 4 : ℝ) : EReal) * sample G z w + ((1 / 4 : ℝ) : EReal) * sample G z' w := by
  have h0 : 0 ≤ (1 / 4 - 1 / 4 * off w : ℝ) := by have := hw.le_one; linarith
  have h1 : 0 ≤ (1 / 4 * off w : ℝ) := by have := hw.nonneg; linarith
  have h4 : (0 : ℝ) ≤ 1 / 4 := by norm_num
  unfold rowAt sample
  simp only [coe_mul_add h0, coe_mul_add h1, coe_mul_add h4, coe_mul_coe_mul]
  rw [show (1 / 4 - 1 / 4 * off w) * (1 - off z) = 1 / 4 * ((1 - off z) * (1 - off w)) by ring,
    show (1 / 4 - 1 / 4 * off w) * off z = 1 / 4 * (off z * (1 - off w)) by ring,
    show (1 / 4 - 1 / 4 * off w) * (1 - off z') = 1 / 4 * ((1 - off z') * (1 - off w)) by ring,
    show (1 / 4 - 1 / 4 * off w) * off z' = 1 / 4 * (off z' * (1 - off w)) by ring,
    show 1 / 4 * off w * (1 - off z) = 1 / 4 * ((1 - off z) * off w) by ring,
    show 1 / 4 * off w * off z = 1 / 4 * (off z * off w) by ring,
    show 1 / 4 * off w * (1 - off z') = 1 / 4 * ((1 - off z') * off w) by ring,
    show 1 / 4 * off w * off z' = 1 / 4 * (off z' * off w) by ring]
  ac_rfl

/-- THE EQUATION: the kernel's product of column weights and blended rows is the mean of the four samples. -/
theorem pooled {z z' w w' : ℝ} (hz : Coord z) (hz' : Coord z') (hw : Coord w) (hw' : Coord w') (G : Nat → Nat → EReal) :
    ∑ x : Fin 128, (colAt w x.val + colAt w' x.val) * (rowAt G z x.val + rowAt G z' x.val)
      = Ideal.div (0 + ((sample G z w + sample G z w') + (sample G z' w + sample G z' w'))) (Ideal.ofBits .f32 0x40800000#32) := by
  have h4 : (0 : ℝ) ≤ 1 / 4 := by norm_num
  have e4 : Ideal.ofBits .f32 0x40800000#32 = ((4 : ℝ) : EReal) := by
    simp [Ideal.ofBits, Ideal.ieee, -EReal.coe_mul]; norm_num
  have hd : ∀ x : EReal, Ideal.div x ((4 : ℝ) : EReal) = ((1 / 4 : ℝ) : EReal) * x := fun x => by
    unfold Ideal.div
    rw [if_neg (by exact_mod_cast (by norm_num : (4 : ℝ) ≠ 0)), mul_comm, ← EReal.coe_inv]
    norm_num
  simp only [EReal.right_distrib_of_nonneg (colAt_nonneg hw _) (colAt_nonneg hw' _)]
  rw [Finset.sum_add_distrib, sum_colAt hw (fun x => rowAt G z x + rowAt G z' x), sum_colAt hw' (fun x => rowAt G z x + rowAt G z' x),
    quarter_sample hz hz' hw G, quarter_sample hz hz' hw' G, e4, hd, zero_add]
  simp only [coe_mul_add h4]
  ac_rfl

end Cert.KernelIdeal.Roi

end
-- ==== Proof.Body.lean ====
/- The printed body is the loop over the boxes: the two programs unfold to the same tree of effects. -/
module

public import proofs.«01_k».proof.Proof.Roi
public import Idealize.ShloMosaic.Lib.Tactic

@[expose] public section

noncomputable section

namespace Cert.KernelIdeal.Roi

open Idealize.ShloMosaic Idealize.SL.Sem

variable {F : FTy → Type} [FloatOps F] [Facts]

/-- A program that starts with `f` still does so after two continuations are put behind it. -/
theorem start_of {α β γ : Type} {p : Pg F α} {f : Pg F PUnit} {q : Pg F α} {k : α → Pg F β} {k' : β → Pg F γ}
    (h : p = f >>= fun _ => q) : p >>= k >>= k' = f >>= fun _ => q >>= k >>= k' := by
  simp only [h, Prog.bind_assoc]

/-- The first window of the body after the fetch: the first box's five words and its scalars. -/
def firstWindow (i : grid0.Coords) (arg2 : Memref sig .tc .smem S1024x5 .f32) :
    Pg F (Σ' (v5 : BitVec 32) (v9 : BitVec 32) (v13 : F .f32) (v17 : F .f32) (v27 : F .f32) (v29 : F .f32) (v30 : BitVec 32), F .f32) := do
  let rb ← word arg2 i 0 0 (by omega) (by omega)
  let rx1 ← word arg2 i 0 1 (by omega) (by omega)
  let ry1 ← word arg2 i 0 2 (by omega) (by omega)
  let rx2 ← word arg2 i 0 3 (by omega) (by omega)
  let ry2 ← word arg2 i 0 4 (by omega) (by omega)
  pure ⟨first i, Scalar.fptosi 32 rb, corner rx1, corner ry1, bin (corner rx1) (corner rx2), bin (corner ry1) (corner ry2),
    Scalar.muli (Scalar.fptosi 32 rb) 128#32, coord (corner ry1) (bin (corner ry1) (corner ry2)) 0⟩

/-- The first window is the fetch and then the first box's words. -/
theorem firstWindow_eq (i : grid0.Coords) (arg2 : Memref sig .tc .smem S1024x5 .f32) (harg2 : arg2.IsWhole)
    (arg3 : Memref sig .tc .hbm S256x128x256 .f32) (harg3 : arg3.IsWhole)
    (arg4 : Memref sig .tc .vmem S16x7x7x256 .f32) (harg4 : arg4.IsWhole)
    (arg5 : Memref sig .tc .vmem S256x128x256 .f32) (harg5 : arg5.IsWhole)
    (arg6 : Memref sig .tc .vmem S16x7x128x256 .f32) (harg6 : arg6.IsWhole) (arg7 : DmaSems sig S_) :
    k0_part1 (F := F) i arg2 harg2 arg3 harg3 arg4 harg4 arg5 harg5 arg6 harg6 arg7
      = fetch i arg3 harg3 arg5 harg5 arg7 >>= fun _ => firstWindow i arg2 := by
  unfold fetch
  by_cases h : (Scalar.cmpi .ne (Scalar.extui (Scalar.cmpi .eq (BitVec.ofNat 32 (i 1).val) 0#32) : BitVec 32) 0#32 = 1#1)
  · rw [if_pos h]
    exact (dif_pos h).trans rfl
  · rw [if_neg h]
    exact (dif_neg h).trans rfl

set_option maxRecDepth 100000 in
/-- The printed body is the program that treats box after box. -/
theorem body_eq (i : grid0.Coords) (arg2 : Memref sig .tc .smem S1024x5 .f32) (harg2 : arg2.IsWhole)
    (arg3 : Memref sig .tc .hbm S256x128x256 .f32) (harg3 : arg3.IsWhole)
    (arg4 : Memref sig .tc .vmem S16x7x7x256 .f32) (harg4 : arg4.IsWhole)
    (arg5 : Memref sig .tc .vmem S256x128x256 .f32) (harg5 : arg5.IsWhole)
    (arg6 : Memref sig .tc .vmem S16x7x128x256 .f32) (harg6 : arg6.IsWhole) (arg7 : DmaSems sig S_) :
    cc0__roi_align_body (F := F) i arg2 harg2 arg3 harg3 arg4 harg4 arg5 harg5 arg6 harg6 arg7
      = body i arg2 arg3 harg3 arg4 arg5 harg5 arg6 arg7 := by
  unfold cc0__roi_align_body k0_part349
  refine (start_of (firstWindow_eq ..)).trans ?_
  unfold body
  refine congrArg (fetch i arg3 harg3 arg5 harg5 arg7 >>= ·) (funext fun _ => ?_)
  sl_kernel_rfl

end Cert.KernelIdeal.Roi

end
-- ==== Proof.Triple.lean ====
/-
  The boxes of a step, run. The feature array `A`, the table of boxes `R` are read; a box's seven kept rows go through the
  scratch; after `n` boxes the first `n` planes of the output block are those of `blockOf A R i`. What a buffer holds is
  said of the positions already written, for any contents elsewhere.
-/
module

public import proofs.«01_k».proof.Proof.Block
public import Idealize.ShloMosaic.Lib.Pipeline.Frame
public import Idealize.ShloMosaic.Lib.Tactic
public import Idealize.ShloMosaic.Lib.Transfers

@[expose] public section

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] [∀ e, Nonempty (Elt F e)]
open Facts₀ Facts

local notation "𝕄" => MT nD τ sig Unit (Elt F) ℕ (Pipeline.UD sig nD τ) ℕ

/-! ## One piece of a block of rank 4 -/

/-- A piece of one plane and one row of a rank-4 block. -/
abbrev piece (n0 n1 n2 n3 a b : Nat) (h : ∀ k, (![a, b, 0, 0] : Fin 4 → Nat) k + (⟨4, ![1, 1, n2, n3]⟩ : Shape).size k ≤ (⟨4, ![n0, n1, n2, n3]⟩ : Shape).size k) :
    Rect (⟨4, ![n0, n1, n2, n3]⟩ : Shape) := Rect.unit (s := ⟨4, ![n0, n1, n2, n3]⟩) ![a, b, 0, 0] (⟨4, ![1, 1, n2, n3]⟩ : Shape).size h

section Piece
variable {n0 n1 n2 n3 a b : Nat}
  (h : ∀ k, (![a, b, 0, 0] : Fin 4 → Nat) k + (⟨4, ![1, 1, n2, n3]⟩ : Shape).size k ≤ (⟨4, ![n0, n1, n2, n3]⟩ : Shape).size k)

/-- Where an index of a piece lies in the array. -/
theorem piece_idx_val (y : (piece n0 n1 n2 n3 a b h).shape.Idx) :
    ((piece n0 n1 n2 n3 a b h).emb y 0).val = a ∧ ((piece n0 n1 n2 n3 a b h).emb y 1).val = b
      ∧ ((piece n0 n1 n2 n3 a b h).emb y 2).val = (y 2).val ∧ ((piece n0 n1 n2 n3 a b h).emb y 3).val = (y 3).val := by
  have h0 : (y 0).val < 1 := (y 0).isLt
  have h1 : (y 1).val < 1 := (y 1).isLt
  refine ⟨?_, ?_, ?_, ?_⟩
  · show a + 1 * (y 0).val = a; omega
  · show b + 1 * (y 1).val = b; omega
  · show 0 + 1 * (y 2).val = (y 2).val; omega
  · show 0 + 1 * (y 3).val = (y 3).val; omega

variable {κ : Kind} {sp : Space} {e : EltTy} (v : View sig κ sp ⟨4, ![n0, n1, n2, n3]⟩ e)

/-- After a store of the piece, a position of it holds what was stored; -/
theorem read_piece_in (f : v.ty.Contents (Elt F)) (w : (⟨4, ![1, 1, n2, n3]⟩ : Shape).Idx → Elt F e) (x : (⟨4, ![n0, n1, n2, n3]⟩ : Shape).Idx)
    (h0 : (x 0).val = a) (h1 : (x 1).val = b) :
    v.read (Elt F) ((v.slice (piece n0 n1 n2 n3 a b h)).write (Elt F) f w Finset.univ) x = w (ix4 (0 : Fin 1) (0 : Fin 1) (x 2) (x 3)) := by
  have e : x = (piece n0 n1 n2 n3 a b h).emb (ix4 (0 : Fin 1) (0 : Fin 1) (x 2) (x 3)) := by
    have hv := piece_idx_val h (ix4 (0 : Fin 1) (0 : Fin 1) (x 2) (x 3))
    funext k
    match k with
    | ⟨0, _⟩ => exact Fin.ext (h0.trans hv.1.symm)
    | ⟨1, _⟩ => exact Fin.ext (h1.trans hv.2.1.symm)
    | ⟨2, _⟩ => exact Fin.ext hv.2.2.1.symm
    | ⟨3, _⟩ => exact Fin.ext hv.2.2.2.symm
  conv_lhs => rw [e]
  exact View.read_slice_write_emb (piece n0 n1 n2 n3 a b h) f w (Finset.mem_univ _)

/-- every other position what it held. -/
theorem read_piece_out (f : v.ty.Contents (Elt F)) (w : (⟨4, ![1, 1, n2, n3]⟩ : Shape).Idx → Elt F e) (x : (⟨4, ![n0, n1, n2, n3]⟩ : Shape).Idx)
    (hx : (x 0).val ≠ a ∨ (x 1).val ≠ b) :
    v.read (Elt F) ((v.slice (piece n0 n1 n2 n3 a b h)).write (Elt F) f w Finset.univ) x = v.read (Elt F) f x := by
  refine View.read_slice_write_of_not_mem (piece n0 n1 n2 n3 a b h) f w Finset.univ fun hm => ?_
  obtain ⟨y, -, rfl⟩ := Finset.mem_map.mp hm
  have hv := piece_idx_val h y
  exact hx.elim (fun hn => hn hv.1) fun hn => hn hv.2.1

end Piece

/-! ## The feature rows read -/

/-- The read of a sample's feature row. -/
theorem read_row6 (A : Vec F S256x128x256 .f32) (b v : BitVec 32) (h : ∀ a, k0_off6 b v a + S1x128x256.size a ≤ S256x128x256.size a) :
    (fun x => A ((Rect.unit (s := S256x128x256) (k0_off6 b v) S1x128x256.size h).toLoadRect.idx x)) = featRow A (rowNo b v) := by
  have h0 : rowNo b v + 1 ≤ 256 := h 0
  funext x
  have hx0 : (x 0).val < 1 := (x 0).isLt
  refine congrArg A (funext fun k => ?_)
  match k with
  | ⟨0, _⟩ => exact Fin.ext (show rowNo b v + 1 * (x 0).val = rowNo b v % 256 by omega)
  | ⟨1, _⟩ => exact Fin.ext (show 0 + 1 * (x 1).val = (x 1).val by omega)
  | ⟨2, _⟩ => exact Fin.ext (show 0 + 1 * (x 2).val = (x 2).val by omega)

/-- The read of the neighbouring feature row. -/
theorem read_row7 (A : Vec F S256x128x256 .f32) (b v : BitVec 32) (h : ∀ a, k0_off7 b v a + S1x128x256.size a ≤ S256x128x256.size a) :
    (fun x => A ((Rect.unit (s := S256x128x256) (k0_off7 b v) S1x128x256.size h).toLoadRect.idx x)) = featRow A (rowNo b (nextI v)) :=
  read_row6 A b (nextI v) h

/-- The read of a word of a box. -/
theorem read_word (R : Vec F S1024x5 .f32) (i : grid0.Coords) (m k : Nat) (hm : m < 16) (hk : k < 5)
    (y : (Rect.unit (s := S1024x5) (wordOff i m k) S1x1.size (wordOff_inb i m k hm hk)).toLoadRect.shape.Idx) :
    R ((Rect.unit (s := S1024x5) (wordOff i m k) S1x1.size (wordOff_inb i m k hm hk)).toLoadRect.idx y) = wordsOf R i m k := by
  have hf := first_add i m hm
  have h0 : (i 0).val < 2 := (i 0).isLt
  have h1 : (i 1).val < 32 := (i 1).isLt
  have hy0 : (y 0).val < 1 := (y 0).isLt
  have hy1 : (y 1).val < 1 := (y 1).isLt
  refine congrArg R (funext fun a => ?_)
  match a with
  | ⟨0, _⟩ => exact Fin.ext (show (Scalar.indexCast (Scalar.addi (first i) (BitVec.ofNat 32 m)) : BitVec 32).toNat + 1 * (y 0).val
      = (((i 0).val * 32 + (i 1).val) * 16 + m) % 1024 by omega)
  | ⟨1, _⟩ => exact Fin.ext (show k + 1 * (y 1).val = k % 5 by omega)

/-! ## The run -/

variable (c : Dev nD)

/-- A memref's buffer on core `c` held whole at `f`. -/
abbrev pt {sp : Space} {S : Shape} {e : EltTy} (M : Memref sig .tc sp S e) (f : Buf (Elt F) (M.view.loc (c : Thread nD τ))) : sProp 𝕄 :=
  M.view.loc (c : Thread nD τ) ↦{fullShare} f

/-- The elements of a memref's buffer that the memref covers, held at `f`'s contents. -/
abbrev pv {sp : Space} {S : Shape} {e : EltTy} (M : Memref sig .tc sp S e) (f : Buf (Elt F) (M.view.loc (c : Thread nD τ))) : sProp 𝕄 :=
  M.view.loc (c : Thread nD τ) ↦[M.view.set]{fullShare} f

/-- What the core's run of `p` must establish to end in `Q`. -/
abbrev Run {α : Type} (p : Pg F α) (Q : α → sProp 𝕄) : sProp 𝕄 :=
  wp frame (wpE (defs₀ (F := F)) Variants.none (c : Thread nD τ) none) Set.univ p Q

/-- A program followed by another. -/
theorem run_bind {α β : Type} (p : Pg F α) (k : α → Pg F β) (Q : β → sProp 𝕄) :
    Run c (p >>= k) Q = Run c p fun a => Run c (k a) Q := wp_bind ..

/-- A program that only returns. -/
theorem run_ret {α : Type} (a : α) (Q : α → sProp 𝕄) : Q a ⊢ Run c (pure a) Q := le_wp_ret _ _ _ a Q

/-- The side conditions, given that they hold. -/
theorem run_checks (b : BitVec 32) (y : Nat → BitVec 32) : ∀ (n : Nat) (_ : ∀ j, j < n → k0_chk1 b (y j))
    (Q : PLift (∀ j, j < n → k0_chk1 b (y j)) → sProp 𝕄), (iprop(∀ h, Q h) : sProp 𝕄) ⊢ Run c (checks (F := F) b y n) Q
  | 0, h, Q => by
    unfold checks
    iintro HQ
    iapply (run_ret c)
    iapply HQ
  | n + 1, h, Q => by
    unfold checks
    rw [run_bind]
    iintro HQ
    iapply (run_checks b y n (fun j hj => h j (Nat.lt_succ_of_lt hj)) _)
    iintro %h1
    iapply (wp_assume Variants.none (c : Thread nD τ) none Set.univ (h n (Nat.lt_succ_self n)))
    iapply (run_ret c)
    iapply HQ

section Box

variable {arg2 : Memref sig .tc .smem S1024x5 .f32} {arg4 : Memref sig .tc .vmem S16x7x7x256 .f32}
  {arg5 : Memref sig .tc .vmem S256x128x256 .f32} {arg6 : Memref sig .tc .vmem S16x7x128x256 .f32}
  {A : Vec F S256x128x256 .f32} {R : Vec F S1024x5 .f32}

/-- A row tap: the feature array is read, and what it gives is `tapOf`. -/
theorem run_rowTap {f5 : Buf (Elt F) (arg5.view.loc (c : Thread nD τ))} (hA : arg5.view.read (Elt F) f5 = A) (b : BitVec 32) (y : F .f32)
    (h : k0_chk1 b (cellI y)) (Q : FVec F S128x256 .f32 → sProp 𝕄) :
    iprop(pt c arg5 f5 ∗ (pt c arg5 f5 -∗ Q (tapOf A b y))) ⊢ Run c (rowTap arg5 b y h) Q := by
  have e6 := read_row6 A b (cellI y) h.1
  have e7 := read_row7 A b (cellI y) h.2
  subst hA
  unfold rowTap
  iintro ⟨HF, HQ⟩
  iapply (wp_load Variants.none (c : Thread nD τ) none Set.univ (S := Finset.univ) (Finset.subset_univ _)) $$ HF
  iintro HF
  iapply (wp_load Variants.none (c : Thread nD τ) none Set.univ (S := Finset.univ) (Finset.subset_univ _)) $$ HF
  iintro HF
  have e : blend (part y) (arg5.view.readAt (Elt F) (Rect.unit (s := S256x128x256) (k0_off6 b (cellI y)) S1x128x256.size (k0_off6_inb b (cellI y) h)).toLoadRect f5)
      (arg5.view.readAt (Elt F) (Rect.unit (s := S256x128x256) (k0_off7 b (cellI y)) S1x128x256.size (k0_off7_inb b (cellI y) h)).toLoadRect f5)
      = tapOf (arg5.view.read (Elt F) f5) b y := congrArg₂ (fun p q => blend (part y) p q) e6 e7
  iapply (run_ret c)
  rw [e]
  iapply HQ
  iexact HF

/-- The rows of box `m` below `n` are in the scratch. -/
def RowsIn (m : Nat) (K : Nat → FVec F S1x1x128x256 .f32) (n : Nat) (f6 : Buf (Elt F) (arg6.view.loc (c : Thread nD τ))) : Prop :=
  ∀ x : S16x7x128x256.Idx, (x 0).val = m → (x 1).val < n → arg6.view.read (Elt F) f6 x = K (x 1).val (ix4 (0 : Fin 1) (0 : Fin 1) (x 2) (x 3))

/-- Keeping the first `n` rows of a box. -/
theorem run_keepRows {f5 : Buf (Elt F) (arg5.view.loc (c : Thread nD τ))} (hA : arg5.view.read (Elt F) f5 = A) (m : Nat) (hm : m < 16) (b : BitVec 32)
    (y : Nat → F .f32) (h : ∀ j, j < 14 → k0_chk1 b (cellI (y j))) (f6 : Buf (Elt F) (arg6.view.loc (c : Thread nD τ))) :
    ∀ (n : Nat) (hn : n ≤ 7) (Q : PUnit → sProp 𝕄),
      iprop(pt c arg5 f5 ∗ pt c arg6 f6
        ∗ (∀ g, ⌜RowsIn c (arg6 := arg6) m (keptOf A b y) n g⌝ -∗ pt c arg5 f5 -∗ pt c arg6 g -∗ Q ⟨⟩))
      ⊢ Run c (keepRows arg5 arg6 m hm b y h n hn) Q
  | 0, _, Q => by
    unfold keepRows
    iintro ⟨HF, HR, HQ⟩
    iapply (run_ret c)
    iapply HQ $$ %f6 [] [HF] [HR]
    · ipureintro; exact fun x _ hx => absurd hx (Nat.not_lt_zero _)
    · iexact HF
    · iexact HR
  | n + 1, hn, Q => by
    unfold keepRows
    rw [run_bind]
    iintro ⟨HF, HR, HQ⟩
    iapply (run_keepRows hA m hm b y h f6 n (Nat.le_of_succ_le hn) _)
    isplitl [HF]; · iexact HF
    isplitl [HR]; · iexact HR
    iintro %g %hg HF HR
    rw [run_bind]
    iapply (run_rowTap c hA)
    isplitl [HF]; · iexact HF
    iintro HF
    rw [run_bind]
    iapply (run_rowTap c hA)
    isplitl [HF]; · iexact HF
    iintro HF
    iapply (wp_load Variants.none (c : Thread nD τ) none Set.univ (S := Finset.univ) (Finset.subset_univ _)) $$ HR
    iintro HR
    iapply (wp_store Variants.none (c : Thread nD τ) none Set.univ (m := arg6)
      (r := Rect.unit (s := S16x7x128x256) ![m, n, 0, 0] S1x1x128x256.size (rows_inb m n hm hn)) (S := Finset.univ) (Finset.subset_univ _)) $$ HR
    iintro HR
    iapply (run_ret c)
    iapply HQ $$ [] [HF] [HR]
    rotate_left
    · iexact HF
    · iexact HR
    ipureintro
    intro x hx0 hx1
    by_cases hp : (x 1).val = n
    · rw [hp]
      exact read_piece_in (rows_inb m n hm hn) arg6.view g _ x hx0 hp
    · rw [← hg x hx0 (by omega)]
      exact read_piece_out (rows_inb m n hm hn) arg6.view g _ x (.inr hp)

/-- The output block agrees with `B` on the planes below `m` and on the rows below `n` of plane `m`. -/
def OutIn (B : Vec F S16x7x7x256 .f32) (m n : Nat) (f4 : Buf (Elt F) (arg4.view.loc (c : Thread nD τ))) : Prop :=
  ∀ x : S16x7x7x256.Idx, (x 0).val < m ∨ ((x 0).val = m ∧ (x 1).val < n) → arg4.view.read (Elt F) f4 x = B x

/-- Storing the first `n` output rows of a box. -/
theorem run_storeRows {B : Vec F S16x7x7x256 .f32} (m : Nat) (hm : m < 16) (w : FVec F S7x128 .f32) (K : Nat → FVec F S1x1x128x256 .f32)
    (hB : ∀ x : S16x7x7x256.Idx, (x 0).val = m → B x = outRow w (K (x 1).val) (ix4 (0 : Fin 1) (0 : Fin 1) (x 2) (x 3)))
    {f6 : Buf (Elt F) (arg6.view.loc (c : Thread nD τ))} (hK : RowsIn c m K 7 f6)
    (f4 : Buf (Elt F) (arg4.view.loc (c : Thread nD τ))) (h4 : OutIn c B m 0 f4) :
    ∀ (n : Nat) (hn : n ≤ 7) (Q : PUnit → sProp 𝕄),
      iprop(pt c arg6 f6 ∗ pv c arg4 f4
        ∗ (∀ g, ⌜OutIn c (arg4 := arg4) B m n g⌝ -∗ pt c arg6 f6 -∗ pv c arg4 g -∗ Q ⟨⟩))
      ⊢ Run c (storeRows arg4 arg6 m hm w n hn) Q
  | 0, _, Q => by
    unfold storeRows
    iintro ⟨HR, HO, HQ⟩
    iapply (run_ret c)
    iapply HQ $$ %f4 [] [HR] [HO]
    · ipureintro; exact h4
    · iexact HR
    · iexact HO
  | n + 1, hn, Q => by
    unfold storeRows
    rw [run_bind]
    iintro ⟨HR, HO, HQ⟩
    iapply (run_storeRows m hm w K hB hK f4 h4 n (Nat.le_of_succ_le hn) _)
    isplitl [HR]; · iexact HR
    isplitl [HO]; · iexact HO
    iintro %g %hg HR HO
    iapply (wp_load Variants.none (c : Thread nD τ) none Set.univ (S := Finset.univ) (Finset.subset_univ _)) $$ HR
    iintro HR
    iapply (wp_load Variants.none (c : Thread nD τ) none Set.univ (S := arg4.view.set) (View.setOn_subset_set _ _)) $$ HO
    iintro HO
    iapply (wp_store Variants.none (c : Thread nD τ) none Set.univ (m := arg4)
      (r := Rect.unit (s := S16x7x7x256) ![m, n, 0, 0] S1x1x7x256.size (out_inb m n hm hn)) (S := arg4.view.set) (View.set_slice_subset _ _)) $$ HO
    iintro HO
    have e : arg6.view.readAt (Elt F) (Rect.unit (s := S16x7x128x256) ![m, n, 0, 0] S1x1x128x256.size (rows_inb m n hm hn)).toLoadRect f6 = K n := by
      funext z
      have hv := piece_idx_val (rows_inb m n hm hn) z
      have hz0 : (z 0).val < 1 := (z 0).isLt
      have hz1 : (z 1).val < 1 := (z 1).isLt
      refine (hK ((piece 16 7 128 256 m n (rows_inb m n hm hn)).emb z) hv.1 (by rw [hv.2.1]; omega)).trans ?_
      rw [hv.2.1]
      refine congrArg (K n) (funext fun k => ?_)
      match k with
      | ⟨0, _⟩ => exact Fin.ext (show 0 = (z 0).val by omega)
      | ⟨1, _⟩ => exact Fin.ext (show 0 = (z 1).val by omega)
      | ⟨2, _⟩ => exact Fin.ext hv.2.2.1
      | ⟨3, _⟩ => exact Fin.ext hv.2.2.2
    rw [e]
    iapply (run_ret c)
    iapply HQ $$ [] [HR] [HO]
    rotate_left
    · iexact HR
    · iexact HO
    ipureintro
    intro x hx
    by_cases hp : (x 0).val = m ∧ (x 1).val = n
    · rw [hB x hp.1, hp.2]
      exact read_piece_in (out_inb m n hm hn) arg4.view g _ x hp.1 hp.2
    · rw [← hg x (by omega)]
      exact read_piece_out (out_inb m n hm hn) arg4.view g _ x (by omega)

/-- Reading a word of a box. -/
theorem run_word {f2 : Buf (Elt F) (arg2.view.loc (c : Thread nD τ))} (hR : arg2.view.read (Elt F) f2 = R) (i : grid0.Coords) (m k : Nat)
    (hm : m < 16) (hk : k < 5) (Q : Elt F .f32 → sProp 𝕄) :
    iprop(pv c arg2 f2 ∗ (pv c arg2 f2 -∗ Q (wordsOf R i m k))) ⊢ Run c (word arg2 i m k hm hk) Q := by
  subst hR
  unfold word smemLoad smemLoadElt
  iintro ⟨H, HQ⟩
  iapply (wp_load Variants.none (c : Thread nD τ) none Set.univ (S := arg2.view.set) (View.setOn_subset_set _ _)) $$ H
  iintro H
  rw [View.readAt_apply, read_word (arg2.view.read (Elt F) f2) i m k hm hk]
  iapply (run_ret c)
  iapply HQ
  iexact H

variable {f2 : Buf (Elt F) (arg2.view.loc (c : Thread nD τ))} (hR : arg2.view.read (Elt F) f2 = R)
  {f5 : Buf (Elt F) (arg5.view.loc (c : Thread nD τ))} (hA : arg5.view.read (Elt F) f5 = A) (i : grid0.Coords)

include hR hA

/-- One box. -/
theorem run_box (m : Nat) (hm : m < 16) (hok : BoxOk R i m) (f4 : Buf (Elt F) (arg4.view.loc (c : Thread nD τ)))
    (h4 : OutIn c (blockOf A R i) m 0 f4) (f6 : Buf (Elt F) (arg6.view.loc (c : Thread nD τ))) (Q : PUnit → sProp 𝕄) :
    iprop(pv c arg2 f2 ∗ pt c arg5 f5 ∗ pt c arg6 f6 ∗ pv c arg4 f4
        ∗ (∀ g, ⌜OutIn c (arg4 := arg4) (blockOf A R i) (m + 1) 0 g⌝ -∗ pv c arg2 f2 -∗ pt c arg5 f5 -∗ (∃ d, pt c arg6 d) -∗ pv c arg4 g -∗ Q ⟨⟩))
      ⊢ Run c (box arg2 arg4 arg5 arg6 i m hm) Q := by
  unfold box
  iintro ⟨HT, HF, HR, HO, HQ⟩
  rw [run_bind]
  iapply (run_word c hR); isplitl [HT]; · iexact HT
  iintro HT; rw [run_bind]
  iapply (run_word c hR); isplitl [HT]; · iexact HT
  iintro HT; rw [run_bind]
  iapply (run_word c hR); isplitl [HT]; · iexact HT
  iintro HT; rw [run_bind]
  iapply (run_word c hR); isplitl [HT]; · iexact HT
  iintro HT; rw [run_bind]
  iapply (run_word c hR); isplitl [HT]; · iexact HT
  iintro HT; rw [run_bind]
  iapply (run_checks c (Scalar.fptosi 32 (wordsOf R i m 0)) (fun j => cellI (coord (corner (wordsOf R i m 2)) (bin (corner (wordsOf R i m 2)) (corner (wordsOf R i m 4))) j)) 14 hok)
  iintro %h; rw [run_bind]
  iapply (run_keepRows c hA m hm (Scalar.fptosi 32 (wordsOf R i m 0)) (coord (corner (wordsOf R i m 2)) (bin (corner (wordsOf R i m 2)) (corner (wordsOf R i m 4)))) h.down f6 7 (Nat.le_refl 7) _)
  isplitl [HF]; · iexact HF
  isplitl [HR]; · iexact HR
  iintro %g6 %hg6 HF HR
  iapply (run_storeRows c m hm (weights (corner (wordsOf R i m 1)) (bin (corner (wordsOf R i m 1)) (corner (wordsOf R i m 3)))) _ (fun x hx => by subst hx; rfl) hg6 f4 h4 7 (Nat.le_refl 7) _)
  isplitl [HR]; · iexact HR
  isplitl [HO]; · iexact HO
  iintro %g4 %hg4 HR HO
  iapply HQ $$ [] [HT] [HF] [HR] [HO]
  · ipureintro
    intro x hx
    have h1 : (x 1).val < 7 := (x 1).isLt
    exact hg4 x (by omega)
  · iexact HT
  · iexact HF
  · iexists _; iexact HR
  · iexact HO

/-- The step's boxes below `n`. -/
theorem run_boxes (hok : ∀ m, m < 16 → BoxOk R i m) (f4 : Buf (Elt F) (arg4.view.loc (c : Thread nD τ)))
    (f6 : Buf (Elt F) (arg6.view.loc (c : Thread nD τ))) : ∀ (n : Nat) (hn : n ≤ 16) (Q : PUnit → sProp 𝕄),
    iprop(pv c arg2 f2 ∗ pt c arg5 f5 ∗ pt c arg6 f6 ∗ pv c arg4 f4
        ∗ (∀ g, ⌜OutIn c (arg4 := arg4) (blockOf A R i) n 0 g⌝ -∗ pv c arg2 f2 -∗ pt c arg5 f5 -∗ (∃ d, pt c arg6 d) -∗ pv c arg4 g -∗ Q ⟨⟩))
      ⊢ Run c (boxes arg2 arg4 arg5 arg6 i n hn) Q
  | 0, _, Q => by
    unfold boxes
    iintro ⟨HT, HF, HR, HO, HQ⟩
    iapply (run_ret c)
    iapply HQ $$ %f4 [] [HT] [HF] [HR] [HO]
    · ipureintro; intro x hx; omega
    · iexact HT
    · iexact HF
    · iexists _; iexact HR
    · iexact HO
  | n + 1, hn, Q => by
    unfold boxes
    rw [run_bind]
    iintro ⟨HT, HF, HR, HO, HQ⟩
    iapply (run_boxes hok f4 f6 n (Nat.le_of_succ_le hn) _)
    isplitl [HT]; · iexact HT
    isplitl [HF]; · iexact HF
    isplitl [HR]; · iexact HR
    isplitl [HO]; · iexact HO
    iintro %g %hg HT HF ⟨%d, HR⟩ HO
    iapply (run_box c hR hA i n hn (hok n hn) g hg d _)
    isplitl [HT]; · iexact HT
    isplitl [HF]; · iexact HF
    isplitl [HR]; · iexact HR
    isplitl [HO]; · iexact HO
    iexact HQ

end Box

end Cert.KernelIdeal.Roi

end
-- ==== Proof.Fetch.lean ====
/- The copy of the feature array into the scratch: issued and waited for at the first step of each half, skipped elsewhere. -/
module

public import proofs.«01_k».proof.Proof.Triple

@[expose] public section

noncomputable section

namespace Cert.KernelIdeal.Roi

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] [∀ e, Nonempty (Elt F e)]
open Facts₀ Facts

local notation "𝕄" => MT nD τ sig Unit (Elt F) ℕ (Pipeline.UD sig nD τ) ℕ

variable (c : Dev nD)

/-- The scratch that holds the feature array, and the feature array left in main memory. -/
abbrev scM : Memref sig .tc .vmem S256x128x256 .f32 := Memref.whole cc0_scratch0
/-- The feature array, whole. -/
abbrev hbM : Memref sig .tc .hbm S256x128x256 .f32 := Memref.whole main_v1

/-- The printed condition says that the step is the first of its half. -/
theorem fetch_cond (n : Nat) (h : n < 32) :
    (Scalar.cmpi .ne (Scalar.extui (Scalar.cmpi .eq (BitVec.ofNat 32 n) 0#32) : BitVec 32) 0#32 = 1#1) ↔ n = 0 := by
  have H : ∀ n : Fin 32, (Scalar.cmpi .ne (Scalar.extui (Scalar.cmpi .eq (BitVec.ofNat 32 n.val) 0#32) : BitVec 32) 0#32 = 1#1) ↔ n.val = 0 := by decide
  exact H ⟨n, h⟩

/-- At a step that is not the first of its half, the fetch does nothing. -/
theorem run_skip (i : grid0.Coords) (hi : (i 1).val ≠ 0) (Q : PUnit → sProp 𝕄) :
    Q ⟨⟩ ⊢ Run c (fetch i hbM (Memref.isWhole_whole _) scM (Memref.isWhole_whole _) cc0_scratch2) Q := by
  unfold fetch
  rw [if_neg (mt (fetch_cond _ (i 1).isLt).mp hi)]
  exact run_ret c _ Q

/-- At the first step of a half, the fetch leaves the feature array in the scratch. -/
theorem run_fetch (i : grid0.Coords) (hi : (i 1).val = 0) (fs : Buf (Elt F) (scM.view.loc (c : Thread nD τ)))
    (fh : Buf (Elt F) (hbM.view.loc (c : Thread nD τ))) (W : Waits sig Unit) (Q : PUnit → sProp 𝕄) :
    iprop(pt c scM fs ∗ pt c hbM fh ∗ semVal ((c : Thread nD τ), SemLoc.dma 3) 0 ∗ owes (c : Thread nD τ) 0 W
        ∗ ((∃ g, ⌜scM.view.read (Elt F) g = hbM.view.read (Elt F) fh⌝ ∗ pt c scM g) -∗ pt c hbM fh -∗ semVal ((c : Thread nD τ), SemLoc.dma 3) 0
            -∗ (∃ W', owes (c : Thread nD τ) 0 W') -∗ Q ⟨⟩))
      ⊢ Run c (fetch i hbM (Memref.isWhole_whole _) scM (Memref.isWhole_whole _) cc0_scratch2) Q := by
  unfold fetch Run
  rw [if_pos ((fetch_cond _ (i 1).isLt).mpr hi)]
  iintro ⟨HS, HH, Hq, HW, HQ⟩
  sl_exec
  iapply (run_ret c)
  iapply HQ $$ [HS] [HH] [Hq] [HW]
  · iexists _
    isplitr
    swap
    · iexact HS
    · ipureintro; exact View.read_write_univ _ _
  · iexact HH
  · iexact Hq
  · iexists _; iexact HW

end Cert.KernelIdeal.Roi

end
-- ==== Proof.Run.lean ====
/-
  The launch. At every grid point the body leaves the block `Roi.blockOf` of the feature array and the table of boxes; the
  scratch keeps the feature array from the first point on. What @main's buffers hold in the end follows from the pipeline's
  launch theorem.
-/
module

public import proofs.«01_k».proof.Proof.Gen.KernelIdeal.Frame
public import proofs.«01_k».proof.Proof.Body
public import proofs.«01_k».proof.Proof.Fetch
public import Idealize.ShloMosaic.Lib.Pipeline.FrameSuffix

@[expose] public section

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

-- the loop of sixteen boxes stays folded here
attribute [local irreducible] boxes box fetch body cc0__roi_align_body defs₀

/-! ## The operands the body is handed -/

abbrev ms0 (t : Fin cfg0.N) : Memref sig .tc .smem S1024x5 .f32 := win0_0.stage (cfg0.slots t 0)
abbrev ms1 (t : Fin cfg0.N) : Memref sig .tc .vmem S16x7x7x256 .f32 := win0_1.stage (cfg0.slots t 1)
/-- The scratch of the kept rows. -/
abbrev rwM : Memref sig .tc .vmem S16x7x128x256 .f32 := Memref.whole cc0_scratch1

/-! ## The kernel's own semaphore and the operand left in main memory -/

abbrev osem0 : Fin 1 → SemLoc sig := fun _ => SemLoc.dma 3
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 3) 0 := by
  rw [Pipeline.ownSems0_eq_of_list c osem0 [0] (by decide) (by decide)]; rfl
def H0 : Finset (Ref sig .tc) := {main_v1}
theorem H0_sub : H0 ⊆ Pipeline.restRefs sig spec0 := by decide
theorem hbmPts0_eq (c : Dev nD) :
    (bigSep H0 (fun b => ((c : Thread nD τ).loc b) ↦{fullShare} V m c b) : sProp 𝕄) = pt c hbM (V m c main_v1) := by
  rw [BI.bigSep_eq_bigSepL_of_eq [main_v1] (by decide) (by decide)]; rfl

/-- What the launch hands over and takes back. -/
theorem PhiD0_eq (c : Dev nD) :
    (Pipeline.ΦD osem0 spec0 H0 (V m) c : sProp 𝕄)
      = iprop(iprop((∃ f, pt c scM f) ∗ (∃ f, pt c rwM f)) ∗ (∃ r, prngReg c r)
          ∗ semVal ((c : Thread nD τ), SemLoc.dma 3) 0 ∗ pt c hbM (V m c main_v1)) := by
  rw [Pipeline.ΦD_eq, scopedRest0_eq, ownSems00_eq, hbmPts0_eq]

/-! ## What the body leaves -/

/-- The feature array the scratch is filled with. -/
def feats (c : Dev nD) : Vec F S256x128x256 .f32 := hbM.view.read (Elt F) (V m c main_v1)

variable [Facts]

/-- The block point `t` leaves. -/
def blockAt (c : Dev nD) (t : Fin cfg0.N) : Vec F S16x7x7x256 .f32 := blockOf (feats m c) (iblk m c 0 t) (grid0.coords t)

/-- Between two points: the feature scratch (filled, if `filled`), the row scratch, the register, the semaphore at zero,
    the feature array. -/
def Held (c : Dev nD) (fh : Buf (Elt F) (hbM.view.loc (c : Thread nD τ))) (filled : Prop) : sProp 𝕄 :=
  iprop((∃ f, ⌜filled → scM.view.read (Elt F) f = hbM.view.read (Elt F) fh⌝ ∗ pt c scM f) ∗ (∃ f, pt c rwM f) ∗ (∃ r, prngReg c r)
    ∗ semVal ((c : Thread nD τ), SemLoc.dma 3) 0 ∗ pt c hbM fh)

/-- The feature scratch is filled after the first point. -/
def Phi (c : Dev nD) (t : Fin (cfg0.N + 1)) : sProp 𝕄 := Held c (V m c main_v1) (0 < t.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => blockAt m c t
  Φ := Phi m c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = blockAt m c t := rfl

theorem Phi_eq (c : Dev nD) (t) : (dats m 0 c).Φ t = Phi m c t := rfl

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem coords_0 (t : Fin cfg0.N) : ((grid0.coords t) 0).val = t.val / 32 % 2 := Pipeline.Grid.coords_val (G := grid0) t 0 (by decide : grid0.stride 0 = 32) rfl
theorem coords_1 (t : Fin cfg0.N) : ((grid0.coords t) 1).val = t.val / 1 % 32 := Pipeline.Grid.coords_val (G := grid0) t 1 (by decide : grid0.stride 1 = 1) rfl

/-- A point that is not the first of its half is not point zero. -/
theorem pos_of_coord (t : Fin cfg0.N) (h : ((grid0.coords t) 1).val ≠ 0) : 0 < t.val := by
  rw [coords_1] at h
  omega

section Point

variable (c : Dev nD) (i : grid0.Coords) (fh : Buf (Elt F) (hbM.view.loc (c : Thread nD τ))) (f : Buf (Elt F) (scM.view.loc (c : Thread nD τ)))
  (hf : (i 1).val ≠ 0 → scM.view.read (Elt F) f = hbM.view.read (Elt F) fh)

include hf

/-- The fetch leaves the scratch filled. -/
theorem run_fetch_any (W : Waits sig Unit) (Q : PUnit → sProp 𝕄) :
    iprop(pt c scM f ∗ pt c hbM fh ∗ semVal ((c : Thread nD τ), SemLoc.dma 3) 0 ∗ owes (c : Thread nD τ) 0 W
        ∗ ((∃ g, ⌜scM.view.read (Elt F) g = hbM.view.read (Elt F) fh⌝ ∗ pt c scM g) -∗ pt c hbM fh -∗ semVal ((c : Thread nD τ), SemLoc.dma 3) 0
            -∗ (∃ W', owes (c : Thread nD τ) 0 W') -∗ Q ⟨⟩))
      ⊢ Run c (fetch i hbM (Memref.isWhole_whole _) scM (Memref.isWhole_whole _) cc0_scratch2) Q := by
  by_cases hi : (i 1).val = 0
  · exact run_fetch c _ hi f fh W Q
  · refine BIBase.Entails.trans ?_ (run_skip c _ hi Q)
    iintro ⟨HS, HH, Hq, HW, HQ⟩
    iapply HQ $$ [HS] [HH] [Hq] [HW]
    · iexists f; isplitr
      · ipureintro; exact hf hi
      · iexact HS
    · iexact HH
    · iexact Hq
    · iexists _; iexact HW

omit hf in
/-- A program that fills the scratch, then the sixteen boxes. -/
theorem run_then_boxes {arg2 : Memref sig .tc .smem S1024x5 .f32} {arg4 : Memref sig .tc .vmem S16x7x7x256 .f32}
    {arg5 : Memref sig .tc .vmem S256x128x256 .f32} {arg6 : Memref sig .tc .vmem S16x7x128x256 .f32}
    {A : Vec F S256x128x256 .f32} {R : Vec F S1024x5 .f32} (hok : ∀ n, n < 16 → BoxOk R i n) (d1 : Vec F S16x7x7x256 .f32)
    (fr : Buf (Elt F) (arg6.view.loc (c : Thread nD τ))) (p : Pg F PUnit) (P P' : sProp 𝕄)
    (hp : ∀ Q : PUnit → sProp 𝕄, iprop(P ∗ ((∃ g, ⌜arg5.view.read (Elt F) g = A⌝ ∗ pt c arg5 g) -∗ P' -∗ Q ⟨⟩)) ⊢ Run c p Q) (Q : PUnit → sProp 𝕄) :
    iprop(P ∗ pt c arg6 fr ∗ owns (c : Thread nD τ) arg2 fullShare R ∗ owns (c : Thread nD τ) arg4 fullShare d1
        ∗ ((∃ g, ⌜arg5.view.read (Elt F) g = A⌝ ∗ pt c arg5 g) -∗ P' -∗ (∃ g, pt c arg6 g) -∗ owns (c : Thread nD τ) arg2 fullShare R
            -∗ owns (c : Thread nD τ) arg4 fullShare (blockOf A R i) -∗ Q ⟨⟩))
      ⊢ Run c (p >>= fun _ => boxes arg2 arg4 arg5 arg6 i 16 (Nat.le_refl 16)) Q := by
  unfold owns
  rw [run_bind]
  iintro ⟨HP, HR, ⟨%f0, %h0, H0⟩, ⟨%f1, -, H1⟩, HQ⟩
  iapply (hp _)
  isplitl [HP]; · iexact HP
  iintro ⟨%g, %hg, HS⟩ HP
  iapply (run_boxes c h0 hg i hok f1 fr 16 (Nat.le_refl 16) _)
  isplitl [H0]; · iexact H0
  isplitl [HS]; · iexact HS
  isplitl [HR]; · iexact HR
  isplitl [H1]; · iexact H1
  iintro %g1 %hg1 H0 HS HR H1
  iapply HQ $$ [HS] [HP] [HR] [H0] [H1]
  · iexists g; isplitr
    · ipureintro; exact hg
    · iexact HS
  · iexact HP
  · iexact HR
  · iexists f0; isplitr
    · ipureintro; exact h0
    · iexact H0
  · iexists g1; isplitr
    · ipureintro; exact funext fun x => hg1 x (.inl (x 0).isLt)
    · iexact H1

/-- The whole body, on any staging buffers. -/
theorem run_body (arg2 : Memref sig .tc .smem S1024x5 .f32) (arg4 : Memref sig .tc .vmem S16x7x7x256 .f32)
    (R : Vec F S1024x5 .f32) (hok : ∀ n, n < 16 → BoxOk R i n) (d1 : Vec F S16x7x7x256 .f32) (fr : Buf (Elt F) (rwM.view.loc (c : Thread nD τ)))
    (W : Waits sig Unit) (Q : PUnit → sProp 𝕄) :
    iprop(iprop(pt c scM f ∗ pt c hbM fh ∗ semVal ((c : Thread nD τ), SemLoc.dma 3) 0 ∗ owes (c : Thread nD τ) 0 W)
        ∗ pt c rwM fr ∗ owns (c : Thread nD τ) arg2 fullShare R ∗ owns (c : Thread nD τ) arg4 fullShare d1
        ∗ ((∃ g, ⌜scM.view.read (Elt F) g = hbM.view.read (Elt F) fh⌝ ∗ pt c scM g)
            -∗ iprop(pt c hbM fh ∗ semVal ((c : Thread nD τ), SemLoc.dma 3) 0 ∗ (∃ W', owes (c : Thread nD τ) 0 W'))
            -∗ (∃ g, pt c rwM g) -∗ owns (c : Thread nD τ) arg2 fullShare R
            -∗ owns (c : Thread nD τ) arg4 fullShare (blockOf (hbM.view.read (Elt F) fh) R i) -∗ Q ⟨⟩))
      ⊢ Run c (body i arg2 hbM (Memref.isWhole_whole _) arg4 scM (Memref.isWhole_whole _) rwM cc0_scratch2) Q := by
  unfold body
  exact run_then_boxes c i hok d1 fr _ _ _ (fun Q' => by
    refine BIBase.Entails.trans ?_ (run_fetch_any c i fh f hf W Q')
    iintro ⟨⟨HS, HH, Hq, HW⟩, HQ⟩
    isplitl [HS]; · iexact HS
    isplitl [HH]; · iexact HH
    isplitl [Hq]; · iexact Hq
    isplitl [HW]; · iexact HW
    iintro HS HH Hq HW
    iapply HQ $$ [HS] [HH Hq HW]
    · iexact HS
    isplitl [HH]; · iexact HH
    isplitl [Hq]; · iexact Hq
    iexact HW) Q

end Point

/-- A point's triple, for any contents of the feature array. -/
theorem run_held (c : Dev nD) (i : grid0.Coords) (fh : Buf (Elt F) (hbM.view.loc (c : Thread nD τ))) (filled filled' : Prop)
    (hf : (i 1).val ≠ 0 → filled) (arg2 : Memref sig .tc .smem S1024x5 .f32) (arg4 : Memref sig .tc .vmem S16x7x7x256 .f32)
    (R : Vec F S1024x5 .f32) (hok : ∀ n, n < 16 → BoxOk R i n) (X : Vec F S16x7x7x256 .f32 → Vec F S16x7x7x256 .f32) :
    iprop(Held c fh filled ∗ (∃ W, owes (c : Thread nD τ) 0 W)
      ∗ owns (c : Thread nD τ) arg2 fullShare R ∗ (∃ d, owns (c : Thread nD τ) arg4 fullShare (X d)))
    ⊢ Run c (body i arg2 hbM (Memref.isWhole_whole _) arg4 scM (Memref.isWhole_whole _) rwM cc0_scratch2)
      (fun _ => iprop(Held c fh filled' ∗ (∃ W, owes (c : Thread nD τ) 0 W)
        ∗ owns (c : Thread nD τ) arg2 fullShare R ∗ owns (c : Thread nD τ) arg4 fullShare (blockOf (hbM.view.read (Elt F) fh) R i))) := by
  unfold Held
  iintro ⟨⟨⟨%f, %hs, HS⟩, ⟨%fr, HR⟩, Hg, Hq, HH⟩, ⟨%W, HW⟩, H0, ⟨%d1, H1⟩⟩
  iapply (run_body c i fh f (fun h => hs (hf h)) arg2 arg4 R hok (X d1) fr W _)
  isplitl [HS HH Hq HW]
  · isplitl [HS]; · iexact HS
    isplitl [HH]; · iexact HH
    isplitl [Hq]; · iexact Hq
    iexact HW
  isplitl [HR]; · iexact HR
  isplitl [H0]; · iexact H0
  isplitl [H1]; · iexact H1
  iintro ⟨%g, %hg, HS⟩ ⟨HH, Hq, ⟨%W', HW⟩⟩ HR H0 H1
  isplitl [HS HR Hg Hq HH]
  · isplitl [HS]
    · iexists g; isplitr
      · ipureintro; exact fun _ => hg
      · iexact HS
    isplitl [HR]; · iexact HR
    isplitl [Hg]; · iexact Hg
    isplitl [Hq]; · iexact Hq
    iexact HH
  isplitl [HW]; · iexists W'; iexact HW
  isplitl [H0]; · iexact H0
  iexact H1

/-- The printed body is the one run here. -/
theorem bodyAt_eq (t : Fin cfg0.N) : bodyAt0 (F := F) t
    = body (grid0.coords t) (ms0 t) hbM (Memref.isWhole_whole _) (ms1 t) scM (Memref.isWhole_whole _) rwM cc0_scratch2 := by
  unfold bodyAt0
  exact body_eq _ _ _ _ _ _ _ _ _ _ _ _

variable (hok : ∀ c t n, n < 16 → BoxOk (iblk m c 0 t) (grid0.coords t) n)

include hok in
theorem run_point (c : Dev nD) (t : Fin cfg0.N) (X : Vec F S16x7x7x256 .f32 → Vec F S16x7x7x256 .f32) :
    iprop(Phi m c t.castSucc ∗ (∃ W, owes (c : Thread nD τ) 0 W)
      ∗ owns (c : Thread nD τ) (ms0 t) fullShare (iblk m c 0 t) ∗ (∃ d, owns (c : Thread nD τ) (ms1 t) fullShare (X d)))
    ⊢ Run c (bodyAt0 t) (fun _ => iprop(Phi m c t.succ ∗ (∃ W, owes (c : Thread nD τ) 0 W)
      ∗ owns (c : Thread nD τ) (ms0 t) fullShare (iblk m c 0 t) ∗ owns (c : Thread nD τ) (ms1 t) fullShare (blockAt m c t))) := by
  rw [bodyAt_eq]
  unfold Phi blockAt feats
  have hpos : ((grid0.coords t) 1).val ≠ 0 → 0 < t.castSucc.val := fun h => by rw [Fin.val_castSucc]; exact pos_of_coord t h
  generalize (0 < t.castSucc.val) = p at hpos ⊢
  generalize (0 < t.succ.val) = p'
  have h := hok c t
  generalize iblk m c 0 t = R at h ⊢
  exact run_held c (grid0.coords t) (V m c main_v1) p p' hpos (ms0 t) (ms1 t) R h X

/-- A run between weaker ends. -/
theorem run_conseq (c : Dev nD) (p : Pg F PUnit) {P P' Q Q' : sProp 𝕄} (h1 : P' ⊢ P) (h : P ⊢ Run c p (fun _ => Q)) (h2 : Q ⊢ Q') :
    P' ⊢ Run c p (fun _ => Q') := by
  have h3 := wp_mono (M := 𝕄) frame (wpE (defs₀ (F := F)) Variants.none (c : Thread nD τ) none) Set.univ (p := p) (Q := fun _ => Q) (Q' := fun _ => Q') fun _ => h2
  exact BIBase.Entails.trans h1 (BIBase.Entails.trans h h3)

theorem open_pre (c : Dev nD) (t : Fin cfg0.N) : bodyPre m c t
    ⊢ iprop(Phi m c t.castSucc ∗ (∃ W, owes (c : Thread nD τ) 0 W)
      ∗ owns (c : Thread nD τ) (ms0 t) fullShare (iblk m c 0 t) ∗ (∃ d, owns (c : Thread nD τ) (ms1 t) fullShare ((dats m 0 c).before 1 t d))) := by
  unfold bodyPre Dat.owesAt Pipeline.owesWithin
  rw [Phi_eq]
  simp only [before_0]
  iintro ⟨HP, ⟨%W, -, HW⟩, ⟨%d0, H0⟩, H1⟩
  isplitl [HP]; · iexact HP
  isplitl [HW]; · iexists W; iexact HW
  isplitl [H0]; · iexact H0
  iexact H1

theorem close_post (c : Dev nD) (t : Fin cfg0.N) :
    iprop(Phi m c t.succ ∗ (∃ W, owes (c : Thread nD τ) 0 W)
      ∗ owns (c : Thread nD τ) (ms0 t) fullShare (iblk m c 0 t) ∗ owns (c : Thread nD τ) (ms1 t) fullShare (blockAt m c t)) ⊢ bodyPost m c t := by
  unfold bodyPost Dat.owesAt Pipeline.owesWithin
  rw [after_0, after_1, Phi_eq]
  iintro ⟨HP, ⟨%W, HW⟩, H0, H1⟩
  isplitl [HP]; · iexact HP
  isplitl [HW]
  · iexists W; isplitr
    · ipureintro; exact fun _ _ => Or.inl trivial
    · iexact HW
  isplitl [H0]; · iexact H0
  iexact H1

include hok in
theorem sound_body (c : Dev nD) (t : Fin cfg0.N) : bodyPre m c t ⊢ Run c (bodyAt0 t) (fun _ => bodyPost m c t) :=
  run_conseq c _ (open_pre m c t) (run_point m hok c t ((dats m 0 c).before 1 t)) (close_post m c t)

theorem defs₀_row (t : Fin cfg0.N) : defs₀ (F := F) .tc cfg0.body (cfg0.bodyArgs t (cfg0.slots t)) = bodyAt0 t := by
  unfold defs₀; rw [Defs.onTc_tc]

include hok in
theorem body_obligation (c : Dev nD) : BodyObligation (dats (F := F) m 0 c) (defs₀ (F := F)) Variants.none () Set.univ := fun t => by
  rw [bigSep_W0, bigSep_W0, defs₀_row]
  exact triple_restated (sound_body m hok c t) rfl .rfl fun _ => .rfl

/-! ## The launch -/

/-- @main around the region, at the algebra the transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) fun b hb => ?_
  obtain rfl := Finset.mem_singleton.mp hb
  simp only [hostOps1, List.mem_cons, List.mem_nil_iff, or_false] at hop
  subst hop
  show Proc.devRef .tc main_v1 ∉ ({Proc.devRef .tc main_v2, Proc.devRef .tc main_v3} : Finset (DevRef τ sig))
  rw [Finset.mem_insert, Finset.mem_singleton, not_or]
  exact ⟨StableHlo.devRef_ne_of_ne (by decide), StableHlo.devRef_ne_of_ne (by decide)⟩

theorem Phi_in (c : Dev nD) : (Pipeline.ΦD osem0 spec0 H0 (V m) c : sProp 𝕄) ⊢ (dats m 0 c).Φ 0 := by
  rw [PhiD0_eq, Phi_eq]
  unfold Phi Held
  iintro ⟨⟨⟨%f, HS⟩, HR⟩, Hg, Hq, HH⟩
  isplitl [HS]
  · iexists f; isplitr
    · ipureintro; exact fun h => absurd h (by simp)
    · iexact HS
  isplitl [HR]; · iexact HR
  isplitl [Hg]; · iexact Hg
  isplitl [Hq]; · iexact Hq
  iexact HH

theorem Phi_out (c : Dev nD) : (dats m 0 c).Φ (Fin.last cfg0.N) ⊢ (Pipeline.ΦD osem0 spec0 H0 (V m) c : sProp 𝕄) := by
  rw [PhiD0_eq, Phi_eq]
  unfold Phi Held
  generalize (0 < (Fin.last cfg0.N).val) = p
  iintro ⟨⟨%f, -, HS⟩, HR, Hg, Hq, HH⟩
  isplitl [HS HR]
  · isplitl [HS]
    · iexists f; iexact HS
    · iexact HR
  isplitl [Hg]; · iexact Hg
  isplitl [Hq]; · iexact Hq
  iexact HH

include hok in
set_option backward.isDefEq.respectTransparency.types false in
/-- Every run of @main ends, with every array at what the proof data say and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hok c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := Phi_in m) (hout := Phi_out m)

end Cert.KernelIdeal.Roi

end
-- ==== Proof.Range.lean ====
/-
  The kernel's side conditions, from the precondition: every feature row that a box reads lies inside the feature array.
-/
module

public import proofs.«01_k».proof.Proof.Reals
public import Idealize.ShloMosaic.Lib.Pipeline.Value
public import proofs.«01_k».proof.Proof.Run
public import proofs.«01_k».proof.Pre_boxes_in_image

@[expose] public section

noncomputable section

namespace Cert.KernelIdeal.Roi

open Idealize.ShloMosaic Idealize.SL.Sem

/-! ## The precondition, box by box -/

/-- A one-bit conjunction is one only if both are. -/
theorem and_one {x y : BitVec 1} (h : IntOp.andi x y = 1#1) : x = 1#1 ∧ y = 1#1 := by
  revert h; revert x y; decide

/-- A comparison that answers one holds. -/
theorem of_cmp_oge {x y : EReal} (h : Ideal.cmp .oge x y = 1#1) : y ≤ x := by
  by_contra hn
  simp [Ideal.cmp, hn] at h
/-- A comparison that gives true says the order. -/
theorem of_cmp_ole {x y : EReal} (h : Ideal.cmp .ole x y = 1#1) : x ≤ y := by
  by_contra hn
  simp [Ideal.cmp, hn] at h

/-- Row `r` of a table of boxes, as its words. -/
def rowOf (R : Vec Ideal S1024x5 .f32) (r : Fin 1024) : Nat → EReal := fun k => R (ix2 r (⟨k % 5, Nat.mod_lt _ (by decide)⟩ : Fin 5))

/-- The precondition says of every row that it is a box in the image. -/
theorem inImage [hP : Cert.Pre_boxes_in_image.Facts] (A : FVec Ideal Cert.Pre_boxes_in_image.S2x256x128x128 .f32)
    (R : Vec Ideal S1024x5 .f32) (h : Cert.Pre_boxes_in_image.fn (F := Ideal) A R = fun _ => 1#1) (r : Fin 1024) : InImage (rowOf R r) := by
  have key : ∀ k : Fin 4, (0 ≤ R (ix2 r (0 : Fin 5)) ∧ R (ix2 r (0 : Fin 5)) ≤ 1) ∧ 0 ≤ R (ix2 r (⟨k.val + 1, by omega⟩ : Fin 5))
      ∧ R (ix2 r (⟨k.val + 1, by omega⟩ : Fin 5)) ≤ 2048 := by
    intro k
    have e := congrFun h (ix2 r k)
    unfold Cert.Pre_boxes_in_image.fn at e
    obtain ⟨e1, e4⟩ := and_one e
    obtain ⟨e2, e3⟩ := and_one e1
    obtain ⟨e5, e6⟩ := and_one e2
    have e5 := of_cmp_oge e5
    have e6 := of_cmp_ole e6
    have e3 := of_cmp_oge e3
    have e4 := of_cmp_ole e4
    have z : ∀ i : Shape.Idx _, constant (F := Ideal) Cert.Pre_boxes_in_image.S_ .f32 0x00000000#32 i = 0 := fun _ => Ideal.ofBits_zero_f32
    refine ⟨⟨?_, ?_⟩, ?_, ?_⟩
    · exact ((le_of_eq (z _).symm).trans e5).trans_eq (congrArg R (funext fun a => Fin.ext (by
        fin_cases a; exacts [Nat.zero_add r.val, rfl])))
    · exact (le_of_eq (congrArg R (funext fun a => Fin.ext (by
        fin_cases a; exacts [(Nat.zero_add r.val).symm, rfl])))).trans (e6.trans_eq Ideal.ofBits_one_f32)
    · exact ((le_of_eq (z _).symm).trans e3).trans_eq (congrArg R (funext fun a => Fin.ext (by
        fin_cases a; exacts [Nat.zero_add r.val, Nat.add_comm 1 k.val])))
    · exact (le_of_eq (congrArg R (funext fun a => Fin.ext (by
        fin_cases a; exacts [(Nat.zero_add r.val).symm, Nat.add_comm k.val 1])))).trans (e4.trans_eq (word_side.trans rfl))
  refine ⟨(key 0).1, fun k h1 h4 => ?_⟩
  obtain ⟨n, rfl⟩ : ∃ n, k = n + 1 := ⟨k - 1, by omega⟩
  have := (key ⟨n, by omega⟩).2
  rw [show rowOf R r (n + 1) = R (ix2 r (⟨n + 1, by omega⟩ : Fin 5)) from congrArg (fun j => R (ix2 r j)) (Fin.ext (Nat.mod_eq_of_lt (by omega)))]
  exact this

/-! ## The side conditions -/

/-- Cell row `v` of image `b` is row `128 b + v` of the feature array. -/
theorem rowNo_ofNat {b v : Nat} (hb : b < 2) (hv : v < 128) : rowNo (BitVec.ofNat 32 b) (BitVec.ofNat 32 v) = b * 128 + v := by
  simp only [rowNo, Scalar.indexCast, Scalar.addi, Scalar.muli, IntOp.addi, IntOp.muli, BitVec.toNat_add, BitVec.toNat_mul, BitVec.toNat_ofNat]
  omega

/-- A sample row of a box in the image. -/
theorem InImage.row {q : Nat → EReal} (h : InImage q) : ∃ a b : ℝ, (0 ≤ a ∧ a ≤ 2048) ∧ (0 ≤ b ∧ b ≤ 2048)
    ∧ ∀ j, j < 14 → rowsOf (F := Ideal) q j = ((spot a b j : ℝ) : EReal) := by
  obtain ⟨a, ha, ha'⟩ := h.corner_real (k := 2) (by omega) (by omega)
  obtain ⟨b, hb, hb'⟩ := h.corner_real (k := 4) (by omega) (by omega)
  refine ⟨a, b, ha', hb', fun j hj => ?_⟩
  rw [← coord_coe a b hj, rowsOf, ha, hb]

/-- The side conditions of a box in the image. -/
theorem InImage.ok [Facts] {q : Nat → EReal} (h : InImage q) (j : Nat) (hj : j < 14) :
    k0_chk1 (imageOf (F := Ideal) q) (cellI (rowsOf (F := Ideal) q j)) := by
  obtain ⟨i, hi, he⟩ := h.image_word
  obtain ⟨a, b, ha, hb, hr⟩ := h.row
  have hn := num_lt (spot_nonneg a b j) (spot_le ha.1 ha.2 hb.1 hb.2 hj)
  rw [hr j hj, cellI_coe (spot_nonneg a b j) (spot_le ha.1 ha.2 hb.1 hb.2 hj), show imageOf (F := Ideal) q = _ from he]
  have h0 : rowNo (BitVec.ofNat 32 i) (BitVec.ofNat 32 (num (spot a b j))) + 1 ≤ 256 := by rw [rowNo_ofNat hi hn]; omega
  have h1 : rowNo (BitVec.ofNat 32 i) (nextI (BitVec.ofNat 32 (num (spot a b j)))) + 1 ≤ 256 := by
    rw [nextI_ofNat hn, rowNo_ofNat hi (after_lt _)]
    have := after_lt (num (spot a b j))
    omega
  refine ⟨fun x => ?_, fun x => ?_⟩ <;> fin_cases x
  · exact h0
  · exact (by decide : 0 + 128 ≤ 128)
  · exact (by decide : 0 + 256 ≤ 256)
  · exact h1
  · exact (by decide : 0 + 128 ≤ 128)
  · exact (by decide : 0 + 256 ≤ 256)

/-! ## At every step -/

variable (m : (ℓ : Loc nD τ sig) → Buf (Elt Ideal) ℓ) [Facts]

/-- Every step is handed the whole table of boxes. -/
theorem iblk_table (c : Dev nD) (t : Fin cfg0.N) : Gen.iblk m c 0 t = m ((c.tc : Thread nD τ).loc main_arg1) := by
  refine (funext fun i => ?_ : Gen.iblk m c 0 t = Gen.V m c main_arg1).trans (Gen.V_main_arg1 m c)
  refine congrArg (Gen.V m c main_arg1) (funext fun a => Fin.ext ?_)
  exact Pipeline.Window.rect_emb_val_of_index_zero win0_0 t a (by fin_cases a <;> rfl) i

/-- The words of a step's box are a row of the table. -/
theorem wordsOf_eq (R : Vec Ideal S1024x5 .f32) (i : grid0.Coords) (n : Nat) :
    wordsOf R i n = rowOf R (⟨(((i 0).val * 32 + (i 1).val) * 16 + n) % 1024, Nat.mod_lt _ (by decide)⟩ : Fin 1024) := rfl

/-- The precondition gives the side conditions of every box of every step. -/
theorem boxes_ok [hP : Cert.Pre_boxes_in_image.Facts]
    (h : ∀ c : Dev nD, Cert.Pre_boxes_in_image.fn (F := Ideal) (m ((c.tc : Thread nD τ).loc main_arg0)) (m ((c.tc : Thread nD τ).loc main_arg1)) = fun _ => 1#1)
    (c : Dev nD) (t : Fin cfg0.N) (n : Nat) (_ : n < 16) : BoxOk (F := Ideal) (Gen.iblk m c 0 t) (grid0.coords t) n := by
  intro j hj
  rw [iblk_table m c t, wordsOf_eq]
  exact (inImage _ _ (h c) _).ok j hj

end Cert.KernelIdeal.Roi

end
-- ==== Proof.RefPlace.lean ====
/-
  The reference's sample positions, read at an index: sample `s` of box `r` lies in row position `s / 14` and column
  position `s % 14` of the box, and its coordinates are the kernel's `spot`.
-/
module

public import proofs.«01_k».proof.Proof.Sample
public import proofs.«01_k».proof.Proof.Range
public import proofs.«01_k».proof.Proof.Gen.ReferenceIdeal.Run
public import Idealize.ShloMosaic.Lib.Pipeline.Value

@[expose] public section

noncomputable section

namespace Cert.ReferenceIdeal.At

open Cert.ReferenceIdeal Cert.ReferenceIdeal.Gen Cert.ReferenceIdeal.Value Cert.KernelIdeal.Roi
open Idealize.ShloMosaic Idealize.ShloMosaic.TcCoe Idealize.SL.Sem

/-- The index of a rank-one array. -/
abbrev i1 {n : Nat} (a : Fin n) : (⟨1, ![n]⟩ : Shape).Idx := Idealize.ShloMosaic.ix1 a

variable (V0 : Valuation τ sig (Elt Ideal))

/-- The feature argument. -/
abbrev img : FVec Ideal S2x256x128x128 .f32 := V0 (Proc.devRef .tc main_arg0)
/-- The table of boxes. -/
abbrev tbl : FVec Ideal S1024x5 .f32 := V0 (Proc.devRef .tc main_arg1)
/-- The words of box `r`. -/
abbrev words (r : Fin 1024) : Nat → EReal := rowOf (tbl V0) r

/-- A column of the table, as a vector. -/
theorem column (R : FVec Ideal S1024x5 .f32) (k : Nat) (hk : k < 5) (hs : S1024x5.Slices ![0, k] S1024x1) (hc : S1024x1.ShapeCasts S1024)
    (r : Fin 1024) : shapeCast S1024 (extractStridedSlice S1024x1 ![0, k] R hs) hc (i1 r) = rowOf R r k := by
  rw [shapeCast_apply _ _ _ (Idealize.ShloMosaic.ix2 r (0 : Fin 1)) (by
      rw [Shape.rowMajor_val_two, Shape.rowMajor_val_one]; exact (by omega : r.val * 1 + 0 = r.val)),
    extractStridedSlice_apply _ _ _ _ (Idealize.ShloMosaic.ix2 r (⟨k % 5, Nat.mod_lt _ (by decide)⟩ : Fin 5)) (by
      intro a; fin_cases a
      · exact (Nat.zero_add _).symm
      · exact Nat.mod_eq_of_lt hk)]
  rfl

/-- A box's left edge. -/
theorem left_at (r : Fin 1024) : res_main_v8 V0 (i1 r) = corner (F := Ideal) (rowOf (tbl V0) r 1) := by
  rw [← column (tbl V0) 1 (by decide) slices_S1024x5_S1024x1_0_1 shapeCasts_S1024x1_S1024 r]
  rfl

/-- A box's top edge. -/
theorem top_at (r : Fin 1024) : res_main_v14 V0 (i1 r) = corner (F := Ideal) (rowOf (tbl V0) r 2) := by
  rw [← column (tbl V0) 2 (by decide) slices_S1024x5_S1024x1_0_2 shapeCasts_S1024x1_S1024 r]
  rfl

/-- A small word read as a signed integer, as a real. -/
theorem sitofp_small (n : Nat) (hn : n < 128) : Scalar.sitofp (F := Ideal) .f32 (BitVec.ofNat 32 n) = (((n : ℝ)) : EReal) := by
  show (((BitVec.ofNat 32 n).toInt : ℝ) : EReal) = _
  have e : (BitVec.ofNat 32 n).toInt = (n : Int) := by
    have : ∀ k : Fin 128, (BitVec.ofNat 32 k.val).toInt = (k.val : Int) := by decide
    exact this ⟨n, hn⟩
  rw [e]
  rfl

/-- A bin's number, as a float. -/
theorem bin_number (p : Fin 7) : res_main_v38 V0 (i1 p) = (((p.val : ℝ)) : EReal) := sitofp_small p.val (by omega)

/-- A sample's place inside its bin. -/
theorem bin_part (i : Fin 2) : res_main_v37 V0 (i1 i) = (((2 * i.val + 1) / 4 : ℝ) : EReal) := by
  have e2 : Ideal.ofBits .f32 0x40000000#32 = ((2 : ℝ) : EReal) := by
    simp [Ideal.ofBits, Ideal.ieee, -EReal.coe_mul]; norm_num
  show Ideal.div (Scalar.sitofp (F := Ideal) .f32 (BitVec.ofNat 32 i.val) + Ideal.ofBits .f32 0x3F000000#32) (Ideal.ofBits .f32 0x40000000#32) = _
  rw [sitofp_small _ (by omega), word_half, e2, ← EReal.coe_add, div_coe _ _ (by norm_num)]
  congr 1; ring

/-- A vector over the boxes spread over the samples of an axis. -/
theorem spread (v : FVec Ideal S1024 .f32) (h : S1024.BroadcastsInDim S1024x1x1 ![0]) (h' : S1024x1x1.BroadcastsInDim S1024x7x2 ![0, 1, 2])
    (r : Fin 1024) (p : Fin 7) (i : Fin 2) :
    broadcastInDim S1024x7x2 ![0, 1, 2] h' (broadcastInDim S1024x1x1 ![0] h v) (ix3 r p i) = v (i1 r) := by
  rw [broadcastInDim_apply _ _ _ _ (ix3 r (0 : Fin 1) (0 : Fin 1)) (by intro a; fin_cases a <;> rfl),
    broadcastInDim_apply _ _ _ _ (i1 r) (by intro a; fin_cases a; rfl)]

/-- The coordinates of the fourteen samples of an axis, from the low corner `lo` and the bin `b`. -/
def axisOf (lo b : FVec Ideal S1024 .f32) : FVec Ideal S1024x14 .f32 :=
  shapeCast _ (addf (broadcastInDim S1024x7x2 ![0, 1, 2] bcast_S1024x1x1_S1024x7x2_0_1_2 (broadcastInDim S1024x1x1 ![0] bcast_S1024_S1024x1x1_0 lo)) (mulf (broadcastInDim S1024x7x2 ![0, 1, 2] bcast_S1x7x2_S1024x7x2_0_1_2 (addf (broadcastInDim S1x7x2 ![0, 1, 2] bcast_S1x7x1_S1x7x2_0_1_2 (broadcastInDim S1x7x1 ![1] bcast_S7_S1x7x1_1 (res_main_v38 V0))) (broadcastInDim S1x7x2 ![0, 1, 2] bcast_S1x1x2_S1x7x2_0_1_2 (broadcastInDim S1x1x2 ![2] bcast_S2_S1x1x2_2 (res_main_v37 V0))))) (broadcastInDim S1024x7x2 ![0, 1, 2] bcast_S1024x1x1_S1024x7x2_0_1_2 (broadcastInDim S1024x1x1 ![0] bcast_S1024_S1024x1x1_0 b)))) shapeCasts_S1024x7x2_S1024x14

/-- A sample's place along one axis. -/
theorem axisOf_apply (lo b : FVec Ideal S1024 .f32) (r : Fin 1024) (j : Fin 14) :
    axisOf V0 lo b (ix2 r j) = lo (i1 r) + (((2 * j.val + 1) / 4 : ℝ) : EReal) * b (i1 r) := by
  have hp : j.val / 2 < 7 := by omega
  have hi : j.val % 2 < 2 := by omega
  have hsum : broadcastInDim S1024x7x2 ![0, 1, 2] bcast_S1x7x2_S1024x7x2_0_1_2 (addf (broadcastInDim S1x7x2 ![0, 1, 2] bcast_S1x7x1_S1x7x2_0_1_2 (broadcastInDim S1x7x1 ![1] bcast_S7_S1x7x1_1 (res_main_v38 V0))) (broadcastInDim S1x7x2 ![0, 1, 2] bcast_S1x1x2_S1x7x2_0_1_2 (broadcastInDim S1x1x2 ![2] bcast_S2_S1x1x2_2 (res_main_v37 V0))))
      (ix3 r (⟨j.val / 2, hp⟩ : Fin 7) (⟨j.val % 2, hi⟩ : Fin 2)) = (((2 * j.val + 1) / 4 : ℝ) : EReal) := by
    rw [broadcastInDim_apply _ _ _ _ (ix3 (0 : Fin 1) (⟨j.val / 2, hp⟩ : Fin 7) (⟨j.val % 2, hi⟩ : Fin 2)) (by intro a; fin_cases a <;> rfl)]
    show broadcastInDim S1x7x2 _ _ _ _ + broadcastInDim S1x7x2 _ _ _ _ = _
    rw [broadcastInDim_apply _ _ _ _ (ix3 (0 : Fin 1) (⟨j.val / 2, hp⟩ : Fin 7) (0 : Fin 1)) (by intro a; fin_cases a <;> rfl),
      broadcastInDim_apply _ _ _ _ (i1 (⟨j.val / 2, hp⟩ : Fin 7)) (by intro a; fin_cases a; rfl),
      broadcastInDim_apply _ _ _ _ (ix3 (0 : Fin 1) (0 : Fin 1) (⟨j.val % 2, hi⟩ : Fin 2)) (by intro a; fin_cases a <;> rfl),
      broadcastInDim_apply _ _ _ _ (i1 (⟨j.val % 2, hi⟩ : Fin 2)) (by intro a; fin_cases a; rfl), bin_number, bin_part, ← EReal.coe_add]
    congr 1
    have : (j.val : ℝ) = 2 * (j.val / 2 : ℕ) + (j.val % 2 : ℕ) := by exact_mod_cast (Nat.div_add_mod j.val 2).symm
    rw [this]; push_cast; ring
  unfold axisOf
  rw [shapeCast_apply _ _ _ (ix3 r (⟨j.val / 2, hp⟩ : Fin 7) (⟨j.val % 2, hi⟩ : Fin 2)) (by
    rw [Shape.rowMajor_val_three, Shape.rowMajor_val_two]
    show (r.val * 7 + j.val / 2) * 2 + j.val % 2 = r.val * 14 + j.val
    omega)]
  show broadcastInDim S1024x7x2 _ _ _ _ + _ * broadcastInDim S1024x7x2 _ _ _ _ = _
  rw [hsum, spread, spread]

/-- The samples' row coordinates before clamping. -/
theorem y_at (r : Fin 1024) (s : Fin 196) (x y : ℝ) (hx : words V0 r 2 = x) (hy : words V0 r 4 = y) :
    res_main_v67 V0 (ix2 r s) = ((place x y (s.val / 14) : ℝ) : EReal) := by
  have h1 : s.val / 14 < 14 := by omega
  have h2 : s.val % 14 < 14 := by omega
  refine (shapeCast_apply (t := S1024x196) _ _ (ix2 r s) (ix3 r (⟨s.val / 14, h1⟩ : Fin 14) (⟨s.val % 14, h2⟩ : Fin 14)) (by
    rw [Shape.rowMajor_val_three, Shape.rowMajor_val_two]
    show (r.val * 14 + s.val / 14) * 14 + s.val % 14 = r.val * 196 + s.val
    omega)).trans ?_
  rw [broadcastInDim_apply _ _ _ _ (ix3 r (⟨s.val / 14, h1⟩ : Fin 14) (0 : Fin 1)) (by intro a; fin_cases a <;> rfl),
    broadcastInDim_apply _ _ _ _ (ix2 r (⟨s.val / 14, h1⟩ : Fin 14)) (by intro a; fin_cases a <;> rfl)]
  refine (axisOf_apply V0 _ _ r _).trans ?_
  show _ + _ * Ideal.div (corner (F := Ideal) _ - res_main_v14 V0 (i1 r)) (Ideal.ofBits .f32 0x40E00000#32) = _
  rw [column (tbl V0) 4 (by decide), top_at, show rowOf (tbl V0) r 4 = y from hy, show rowOf (tbl V0) r 2 = x from hx, corner_coe, corner_coe, word_seven, ← EReal.coe_sub,
    div_coe _ _ (by norm_num), ← EReal.coe_mul, ← EReal.coe_add]
  rfl

/-- The samples' column coordinates before clamping. -/
theorem x_at (r : Fin 1024) (s : Fin 196) (x y : ℝ) (hx : words V0 r 1 = x) (hy : words V0 r 3 = y) :
    res_main_v70 V0 (ix2 r s) = ((place x y (s.val % 14) : ℝ) : EReal) := by
  have h1 : s.val / 14 < 14 := by omega
  have h2 : s.val % 14 < 14 := by omega
  refine (shapeCast_apply (t := S1024x196) _ _ (ix2 r s) (ix3 r (⟨s.val / 14, h1⟩ : Fin 14) (⟨s.val % 14, h2⟩ : Fin 14)) (by
    rw [Shape.rowMajor_val_three, Shape.rowMajor_val_two]
    show (r.val * 14 + s.val / 14) * 14 + s.val % 14 = r.val * 196 + s.val
    omega)).trans ?_
  rw [broadcastInDim_apply _ _ _ _ (ix3 r (0 : Fin 1) (⟨s.val % 14, h2⟩ : Fin 14)) (by intro a; fin_cases a <;> rfl),
    broadcastInDim_apply _ _ _ _ (ix2 r (⟨s.val % 14, h2⟩ : Fin 14)) (by intro a; fin_cases a <;> rfl)]
  refine (axisOf_apply V0 _ _ r _).trans ?_
  show _ + _ * Ideal.div (corner (F := Ideal) _ - res_main_v8 V0 (i1 r)) (Ideal.ofBits .f32 0x40E00000#32) = _
  rw [column (tbl V0) 3 (by decide), left_at, show rowOf (tbl V0) r 3 = y from hy, show rowOf (tbl V0) r 1 = x from hx, corner_coe, corner_coe, word_seven, ← EReal.coe_sub,
    div_coe _ _ (by norm_num), ← EReal.coe_mul, ← EReal.coe_add]
  rfl

end Cert.ReferenceIdeal.At

end
-- ==== Proof.RefSample.lean ====
/-
  The reference's sample values, read at an index: the cells and weights of a sample, the four gathers, and their sum, which
  is `sample` of the box's image.
-/
module

public import proofs.«01_k».proof.Proof.RefPlace

@[expose] public section

noncomputable section

namespace Cert.ReferenceIdeal.At

open Cert.ReferenceIdeal Cert.ReferenceIdeal.Gen Cert.ReferenceIdeal.Value Cert.KernelIdeal.Roi
open Idealize.ShloMosaic Idealize.ShloMosaic.TcCoe Idealize.SL.Sem

/-! ## One coordinate's cell and weight -/

/-- A clamped coordinate's cell, as the reference computes it. -/
theorem cell_word {z : ℝ} (h0 : 0 ≤ z) (h : z ≤ 127.5) :
    IntOp.minsi (127#32) (IntOp.maxsi 0#32 (Ideal.fptosi 32 (Ideal.liftRound Int.floor (z : EReal)))) = BitVec.ofNat 32 (num z) := by
  rw [floor_coe h0, toInt_natCast _ (lt_trans (num_lt h0 h) (by norm_num))]
  have : ∀ k : Fin 128, IntOp.minsi (127#32) (IntOp.maxsi 0#32 (BitVec.ofNat 32 k.val)) = BitVec.ofNat 32 k.val := by decide
  exact this ⟨num z, num_lt h0 h⟩

/-- The cell after. -/
theorem next_word {n : Nat} (h : n < 128) : IntOp.minsi (IntOp.addi (BitVec.ofNat 32 n) 1#32) 127#32 = BitVec.ofNat 32 (after n) := by
  have : ∀ k : Fin 128, IntOp.minsi (IntOp.addi (BitVec.ofNat 32 k.val) 1#32) 127#32 = BitVec.ofNat 32 (after k.val) := by decide
  exact this ⟨n, h⟩

/-- The weight. -/
theorem weight_word {z : ℝ} (h0 : 0 ≤ z) (h : z ≤ 127.5) :
    min (Ideal.ofBits .f32 0x3F800000#32) (max (Ideal.ofBits .f32 0x00000000#32) ((z : EReal) - Scalar.sitofp (F := Ideal) .f32 (BitVec.ofNat 32 (num z))))
      = ((off z : ℝ) : EReal) := by
  rw [sitofp_small _ (num_lt h0 h), word_one, word_zero, ← EReal.coe_sub, max_coe, min_coe]
  congr 1
  show min 1 (max 0 (off z)) = off z
  rw [max_eq_right (off_nonneg h0), min_eq_right (off_le_one z)]

/-- An index below the axis' size is not wrapped. -/
theorem wrap_word (n : Nat) (hn : n < 128) (k : BitVec 32) :
    (if IntOp.cmpi .slt (BitVec.ofNat 32 n) 0#32 = 1#1 then IntOp.addi (BitVec.ofNat 32 n) k else BitVec.ofNat 32 n) = BitVec.ofNat 32 n := by
  have : ∀ j : Fin 128, IntOp.cmpi .slt (BitVec.ofNat 32 j.val) 0#32 = 0#1 := by decide
  rw [if_neg (by rw [this ⟨n, hn⟩]; decide)]

/-! ## A sample of a box in the image -/

variable (V0 : Valuation τ sig (Elt Ideal))

/-- A sample of the reference: its box's four corner words as reals in the image, and its image's number. -/
structure Placed (r : Fin 1024) (b : Nat) (x0 y0 x1 y1 : ℝ) : Prop where
  image : b < 2
  word : Ideal.fptosi 32 (words V0 r 0) = BitVec.ofNat 32 b
  left : words V0 r 1 = x0
  top : words V0 r 2 = y0
  right : words V0 r 3 = x1
  bottom : words V0 r 4 = y1
  leftIn : 0 ≤ x0 ∧ x0 ≤ 2048
  topIn : 0 ≤ y0 ∧ y0 ≤ 2048
  rightIn : 0 ≤ x1 ∧ x1 ≤ 2048
  bottomIn : 0 ≤ y1 ∧ y1 ≤ 2048

/-- A box in the image is placed by real corners. -/
theorem Placed.of_inImage {r : Fin 1024} (h : InImage (words V0 r)) : ∃ b x0 y0 x1 y1, Placed V0 r b x0 y0 x1 y1 := by
  obtain ⟨b, hb, hw⟩ := h.image_word
  obtain ⟨x0, e1, l1⟩ := h.corner_real (k := 1) (by omega) (by omega)
  obtain ⟨y0, e2, l2⟩ := h.corner_real (k := 2) (by omega) (by omega)
  obtain ⟨x1, e3, l3⟩ := h.corner_real (k := 3) (by omega) (by omega)
  obtain ⟨y1, e4, l4⟩ := h.corner_real (k := 4) (by omega) (by omega)
  exact ⟨b, x0, y0, x1, y1, hb, hw, e1, e2, e3, e4, l1, l2, l3, l4⟩

section Box

variable {V0} {r : Fin 1024} {b : Nat} {x0 y0 x1 y1 : ℝ} (P : Placed V0 r b x0 y0 x1 y1) (s : Fin 196)
include P

/-- A row sample is at most 127.5. -/
theorem Placed.y_le : spot y0 y1 (s.val / 14) ≤ 127.5 := spot_le P.topIn.1 P.topIn.2 P.bottomIn.1 P.bottomIn.2 (by omega)
/-- A column sample is at most 127.5. -/
theorem Placed.x_le : spot x0 x1 (s.val % 14) ≤ 127.5 := spot_le P.leftIn.1 P.leftIn.2 P.rightIn.1 P.rightIn.2 (by omega)

/-- The clamped row sample. -/
theorem Placed.y_clamped : res_main_v83 V0 (ix2 r s) = ((spot y0 y1 (s.val / 14) : ℝ) : EReal) := by
  show max (α := EReal) (res_main_v67 V0 (ix2 r s)) (Ideal.ofBits .f32 0x00000000#32) = _
  rw [y_at V0 r s y0 y1 P.top P.bottom, word_zero, max_coe]; rfl
/-- The clamped column sample. -/
theorem Placed.x_clamped : res_main_v85 V0 (ix2 r s) = ((spot x0 x1 (s.val % 14) : ℝ) : EReal) := by
  show max (α := EReal) (res_main_v70 V0 (ix2 r s)) (Ideal.ofBits .f32 0x00000000#32) = _
  rw [x_at V0 r s x0 x1 P.left P.right, word_zero, max_coe]; rfl

/-- The row sample's cell. -/
theorem Placed.y_cell : res_main_v88 V0 (ix2 r s) = BitVec.ofNat 32 (num (spot y0 y1 (s.val / 14))) := by
  show IntOp.minsi (127#32) (IntOp.maxsi 0#32 (Ideal.fptosi 32 (Ideal.liftRound Int.floor (res_main_v83 V0 (ix2 r s))))) = _
  rw [P.y_clamped s, cell_word (spot_nonneg _ _ _) (P.y_le s)]
/-- The column sample's cell. -/
theorem Placed.x_cell : res_main_v91 V0 (ix2 r s) = BitVec.ofNat 32 (num (spot x0 x1 (s.val % 14))) := by
  show IntOp.minsi (127#32) (IntOp.maxsi 0#32 (Ideal.fptosi 32 (Ideal.liftRound Int.floor (res_main_v85 V0 (ix2 r s))))) = _
  rw [P.x_clamped s, cell_word (spot_nonneg _ _ _) (P.x_le s)]

/-- The row sample's cell is inside the image. -/
theorem Placed.y_lt : num (spot y0 y1 (s.val / 14)) < 128 := num_lt (spot_nonneg _ _ _) (P.y_le s)
/-- The column sample's cell is inside the image. -/
theorem Placed.x_lt : num (spot x0 x1 (s.val % 14)) < 128 := num_lt (spot_nonneg _ _ _) (P.x_le s)

/-- The row sample's neighbouring cell. -/
theorem Placed.y_next : res_main_v95 V0 (ix2 r s) = BitVec.ofNat 32 (after (num (spot y0 y1 (s.val / 14)))) := by
  show IntOp.minsi (IntOp.addi (res_main_v88 V0 (ix2 r s)) 1#32) 127#32 = _
  rw [P.y_cell s, next_word (P.y_lt s)]
/-- The column sample's neighbouring cell. -/
theorem Placed.x_next : res_main_v99 V0 (ix2 r s) = BitVec.ofNat 32 (after (num (spot x0 x1 (s.val % 14)))) := by
  show IntOp.minsi (IntOp.addi (res_main_v91 V0 (ix2 r s)) 1#32) 127#32 = _
  rw [P.x_cell s, next_word (P.x_lt s)]

/-- The weight of the neighbouring row. -/
theorem Placed.y_weight : res_main_v102 V0 (ix2 r s) = ((off (spot y0 y1 (s.val / 14)) : ℝ) : EReal) := by
  show min (Ideal.ofBits .f32 0x3F800000#32) (max (Ideal.ofBits .f32 0x00000000#32)
    (HSub.hSub (α := EReal) (β := EReal) (γ := EReal) (res_main_v83 V0 (ix2 r s)) (Scalar.sitofp (F := Ideal) .f32 (res_main_v88 V0 (ix2 r s))))) = _
  rw [P.y_clamped s, P.y_cell s, weight_word (spot_nonneg _ _ _) (P.y_le s)]
/-- The weight of the neighbouring column. -/
theorem Placed.x_weight : res_main_v105 V0 (ix2 r s) = ((off (spot x0 x1 (s.val % 14)) : ℝ) : EReal) := by
  show min (Ideal.ofBits .f32 0x3F800000#32) (max (Ideal.ofBits .f32 0x00000000#32)
    (HSub.hSub (α := EReal) (β := EReal) (γ := EReal) (res_main_v85 V0 (ix2 r s)) (Scalar.sitofp (F := Ideal) .f32 (res_main_v91 V0 (ix2 r s))))) = _
  rw [P.x_clamped s, P.x_cell s, weight_word (spot_nonneg _ _ _) (P.x_le s)]

/-- The weight of the row sample's own cell. -/
theorem Placed.y_rest : res_main_v107 V0 (ix2 r s) = ((1 - off (spot y0 y1 (s.val / 14)) : ℝ) : EReal) := by
  show Ideal.ofBits .f32 0x3F800000#32 - res_main_v102 V0 (ix2 r s) = _
  rw [P.y_weight s, word_one, ← EReal.coe_sub]
/-- The weight of the column sample's own cell. -/
theorem Placed.x_rest : res_main_v109 V0 (ix2 r s) = ((1 - off (spot x0 x1 (s.val % 14)) : ℝ) : EReal) := by
  show Ideal.ofBits .f32 0x3F800000#32 - res_main_v105 V0 (ix2 r s) = _
  rw [P.x_weight s, word_one, ← EReal.coe_sub]

/-- The box's image number. -/
theorem Placed.image_at : res_main_v110 V0 (ix2 r (0 : Fin 1)) = BitVec.ofNat 32 b := by
  unfold res_main_v110
  rw [broadcastInDim_apply _ _ _ _ (i1 r) (by intro a; fin_cases a; rfl)]
  show Ideal.fptosi 32 (shapeCast S1024 _ _ (i1 r)) = _
  rw [column (tbl V0) 0 (by decide)]
  exact P.word

end Box

/-! ## The gathers -/

/-- The feature argument's element at an image, a row, a column and a channel, as a function of numbers. -/
def pix (A : FVec Ideal S2x256x128x128 .f32) (b ch : Nat) (y x : Nat) : EReal :=
  A (ix4 (⟨b % 2, Nat.mod_lt _ (by decide)⟩ : Fin 2) (⟨ch % 256, Nat.mod_lt _ (by decide)⟩ : Fin 256)
    (⟨y % 128, Nat.mod_lt _ (by decide)⟩ : Fin 128) (⟨x % 128, Nat.mod_lt _ (by decide)⟩ : Fin 128))

/-- The three index columns of a gather side by side. -/
def triple (B Y X : IVec S1024x196x1 32) : IVec S1024x196x3 32 :=
  concatenate S1024x196x3 2 [⟨S1024x196x1, B⟩, ⟨S1024x196x1, Y⟩, ⟨S1024x196x1, X⟩] concatenates_S1024x196x1_S1024x196x1_S1024x196x1_S1024x196x3_d2

/-- Off the joined axis, the three index columns agree. -/
theorem alike {k : Fin 3} (r : Fin 1024) (s : Fin 196) : ∀ a : Fin S1024x196x1.rank, a.cast (rfl : S1024x196x1.rank = S1024x196x3.rank) ≠ 2 →
    ((ix3 r s (0 : Fin 1) : S1024x196x1.Idx) a).val = ((ix3 r s k : S1024x196x3.Idx) (a.cast (rfl : S1024x196x1.rank = S1024x196x3.rank))).val
  | ⟨0, _⟩, _ => rfl
  | ⟨1, _⟩, _ => rfl
  | ⟨2, _⟩, h => absurd rfl h

/-- The index triple of a gather: image, row, column. -/
theorem triple_at (B Y X : IVec S1024x196x1 32) (r : Fin 1024) (s : Fin 196) :
    triple B Y X (ix3 r s (0 : Fin 3)) = B (ix3 r s (0 : Fin 1)) ∧ triple B Y X (ix3 r s (1 : Fin 3)) = Y (ix3 r s (0 : Fin 1))
      ∧ triple B Y X (ix3 r s (2 : Fin 3)) = X (ix3 r s (0 : Fin 1)) := by
  unfold triple
  refine ⟨?_, ?_, ?_⟩
  · exact concatenate_apply_piece (t := S1024x196x3) (2 : Fin 3) [⟨S1024x196x1, B⟩, ⟨S1024x196x1, Y⟩, ⟨S1024x196x1, X⟩]
      concatenates_S1024x196x1_S1024x196x1_S1024x196x1_S1024x196x3_d2 (ix3 r s (0 : Fin 3)) 0 (by show 0 < 3; decide) S1024x196x1 B rfl rfl 0 rfl (ix3 r s (0 : Fin 1))
      (alike r s) rfl
  · exact concatenate_apply_piece (t := S1024x196x3) (2 : Fin 3) [⟨S1024x196x1, B⟩, ⟨S1024x196x1, Y⟩, ⟨S1024x196x1, X⟩]
      concatenates_S1024x196x1_S1024x196x1_S1024x196x1_S1024x196x3_d2 (ix3 r s (1 : Fin 3)) 1 (by show 1 < 3; decide) S1024x196x1 Y rfl rfl 1 rfl (ix3 r s (0 : Fin 1))
      (alike r s) rfl
  · exact concatenate_apply_piece (t := S1024x196x3) (2 : Fin 3) [⟨S1024x196x1, B⟩, ⟨S1024x196x1, Y⟩, ⟨S1024x196x1, X⟩]
      concatenates_S1024x196x1_S1024x196x1_S1024x196x1_S1024x196x3_d2 (ix3 r s (2 : Fin 3)) 2 (by show 2 < 3; decide) S1024x196x1 X rfl rfl 2 rfl (ix3 r s (0 : Fin 1))
      (alike r s) rfl

/-- A gather of pixels by image, row and column. -/
theorem gather_at (A : FVec Ideal S2x256x128x128 .f32) (I : IVec S1024x196x3 32) (r : Fin 1024) (s : Fin 196) (ch : Fin 256) (b y x : Nat)
    (hb : b < 2) (hy : y < 128) (hx : x < 128) (eb : I (ix3 r s (0 : Fin 3)) = BitVec.ofNat 32 b)
    (ey : I (ix3 r s (1 : Fin 3)) = BitVec.ofNat 32 y) (ex : I (ix3 r s (2 : Fin 3)) = BitVec.ofNat 32 x) :
    Host.gather gather_S2x256x128x128_S1024x196x3_S1024x196x256_2_023_n_n_023_2_125611 A I (ix3 r s ch) = pix A b ch.val y x := by
  have hn : ∀ n : Nat, n < 128 → (BitVec.ofNat 32 n).toInt.toNat = n := fun n h => by
    have : ∀ k : Fin 128, (BitVec.ofNat 32 k.val).toInt.toNat = k.val := by decide
    exact this ⟨n, h⟩
  unfold Host.gather pix
  refine congrArg A (funext fun a => Fin.ext ?_)
  show GatherDims.start _ (ix3 r s ch) I a + GatherDims.batchCoord _ (ix3 r s ch) a + GatherDims.offCoord _ (ix3 r s ch) a = _
  rw [GatherDims.batchCoord_eq_zero _ _ _ List.not_mem_nil, Nat.add_zero]
  fin_cases a
  · rw [GatherDims.offCoord_eq_zero _ _ _ (by decide)]
    unfold GatherDims.start
    rw [dif_pos (by decide)]
    show min (I _).toInt.toNat 1 = b % 2
    rw [show I _ = _ from (congrArg I (funext fun a => Fin.ext (by fin_cases a <;> rfl))).trans eb, hn b (by omega)]
    omega
  · unfold GatherDims.start
    rw [dif_neg (by decide), Nat.zero_add]
    unfold GatherDims.offCoord
    rw [dif_pos (by decide)]
    exact (Nat.mod_eq_of_lt ch.isLt).symm
  · rw [GatherDims.offCoord_eq_zero _ _ _ (by decide)]
    unfold GatherDims.start
    rw [dif_pos (by decide)]
    show min (I _).toInt.toNat 127 = y % 128
    rw [show I _ = _ from (congrArg I (funext fun a => Fin.ext (by fin_cases a <;> rfl))).trans ey, hn y hy]
    omega
  · rw [GatherDims.offCoord_eq_zero _ _ _ (by decide)]
    unfold GatherDims.start
    rw [dif_pos (by decide)]
    show min (I _).toInt.toNat 127 = x % 128
    rw [show I _ = _ from (congrArg I (funext fun a => Fin.ext (by fin_cases a <;> rfl))).trans ex, hn x hx]
    omega

end Cert.ReferenceIdeal.At

end
-- ==== Proof.RefAt.lean ====
/-
  The reference's result, read at an index: the mask is true, a masked sample is `sample` of the box's image, and an element
  of the result is the mean of its four samples.
-/
module

public import proofs.«01_k».proof.Proof.RefSample
public import Idealize.ShloMosaic.Lib.Pointwise.Reduce
public import Idealize.ShloMosaic.Lib.ValueIdxRank6

@[expose] public section

noncomputable section

namespace Cert.ReferenceIdeal.At

open Cert.ReferenceIdeal Cert.ReferenceIdeal.Gen Cert.ReferenceIdeal.Value Cert.KernelIdeal.Roi
open Idealize.ShloMosaic Idealize.ShloMosaic.TcCoe Idealize.SL.Sem
open scoped BigOperators

/-! ## The pieces -/

/-- A column of indices, negative ones counted from the axis' end. -/
def wrapped (v : IVec S1024x196 32) : IVec S1024x196x1 32 :=
  broadcastInDim S1024x196x1 ![0, 1] bcast_S1024x196_S1024x196x1_0_1
    (select (cmpi .slt v (broadcastInDim S1024x196 ![] bcast_S_S1024x196 (constantI S_ 32 0#32)))
      (addi v (broadcastInDim S1024x196 ![] bcast_S_S1024x196 (constantI S_ 32 128#32))) v)

/-- A row or column number that is not negative is kept as it is. -/
theorem wrapped_at (v : IVec S1024x196 32) (r : Fin 1024) (s : Fin 196) (n : Nat) (hn : n < 128) (h : v (ix2 r s) = BitVec.ofNat 32 n) :
    wrapped v (ix3 r s (0 : Fin 1)) = BitVec.ofNat 32 n := by
  unfold wrapped
  rw [broadcastInDim_apply _ _ _ _ (ix2 r s) (by intro a; fin_cases a <;> rfl)]
  show (if IntOp.cmpi .slt (v (ix2 r s)) 0#32 = 1#1 then IntOp.addi (v (ix2 r s)) 128#32 else v (ix2 r s)) = _
  rw [h]
  exact wrap_word n hn _

/-- The column of image numbers, negative ones counted from the end. -/
def images (v : IVec S1024x1 32) : IVec S1024x196x1 32 :=
  broadcastInDim S1024x196x1 ![0, 1] bcast_S1024x196_S1024x196x1_0_1 (broadcastInDim S1024x196 ![0, 1] bcast_S1024x1_S1024x196_0_1
    (select (cmpi .slt v (broadcastInDim S1024x1 ![] bcast_S_S1024x1 (constantI S_ 32 0#32)))
      (addi v (broadcastInDim S1024x1 ![] bcast_S_S1024x1 (constantI S_ 32 2#32))) v))

/-- An image number that is not negative is kept as it is, for every sample. -/
theorem images_at (v : IVec S1024x1 32) (r : Fin 1024) (s : Fin 196) (n : Nat) (hn : n < 128) (h : v (ix2 r (0 : Fin 1)) = BitVec.ofNat 32 n) :
    images v (ix3 r s (0 : Fin 1)) = BitVec.ofNat 32 n := by
  unfold images
  rw [broadcastInDim_apply _ _ _ _ (ix2 r s) (by intro a; fin_cases a <;> rfl),
    broadcastInDim_apply _ _ _ _ (ix2 r (0 : Fin 1)) (by intro a; fin_cases a <;> rfl)]
  show (if IntOp.cmpi .slt (v (ix2 r (0 : Fin 1))) 0#32 = 1#1 then IntOp.addi (v (ix2 r (0 : Fin 1))) 2#32 else v (ix2 r (0 : Fin 1))) = _
  rw [h]
  exact wrap_word n hn _

/-- An array over boxes and samples, the same for every channel. -/
def overCh {α : Type} (v : S1024x196.Idx → α) : S1024x196x256.Idx → α :=
  broadcastInDim S1024x196x256 ![0, 1, 2] bcast_S1024x196x1_S1024x196x256_0_1_2 (broadcastInDim S1024x196x1 ![0, 1] bcast_S1024x196_S1024x196x1_0_1 v)

/-- A weight spread over the channels. -/
theorem overCh_at {α : Type} (v : S1024x196.Idx → α) (r : Fin 1024) (s : Fin 196) (ch : Fin 256) : overCh v (ix3 r s ch) = v (ix2 r s) := by
  unfold overCh
  rw [broadcastInDim_apply _ _ _ _ (ix3 r s (0 : Fin 1)) (by intro a; fin_cases a <;> rfl),
    broadcastInDim_apply _ _ _ _ (ix2 r s) (by intro a; fin_cases a <;> rfl)]

/-- The pixels at given rows and columns, weighed by two arrays. -/
def corners (A : FVec Ideal S2x256x128x128 .f32) (b : IVec S1024x1 32) (y x : IVec S1024x196 32) (wy wx : FVec Ideal S1024x196 .f32) :
    FVec Ideal S1024x196x256 .f32 :=
  mulf (overCh (mulf wy wx)) (Host.gather gather_S2x256x128x128_S1024x196x3_S1024x196x256_2_023_n_n_023_2_125611 A
    (triple (images b) (wrapped y) (wrapped x)))

/-- One of the four gathers times its weight. -/
theorem corners_at (A : FVec Ideal S2x256x128x128 .f32) (b : IVec S1024x1 32) (y x : IVec S1024x196 32) (wy wx : FVec Ideal S1024x196 .f32)
    (r : Fin 1024) (s : Fin 196) (ch : Fin 256) (nb ny nx : Nat) (hb : nb < 2) (hy : ny < 128) (hx : nx < 128) (uy ux : ℝ)
    (eb : b (ix2 r (0 : Fin 1)) = BitVec.ofNat 32 nb) (ey : y (ix2 r s) = BitVec.ofNat 32 ny) (ex : x (ix2 r s) = BitVec.ofNat 32 nx)
    (e1 : wy (ix2 r s) = (uy : EReal)) (e2 : wx (ix2 r s) = (ux : EReal)) :
    corners A b y x wy wx (ix3 r s ch) = ((uy * ux : ℝ) : EReal) * pix A nb ch.val ny nx := by
  obtain ⟨t0, t1, t2⟩ := triple_at (images b) (wrapped y) (wrapped x) r s
  show (overCh (mulf wy wx) (ix3 r s ch) : EReal) * Host.gather gather_S2x256x128x128_S1024x196x3_S1024x196x256_2_023_n_n_023_2_125611 A
    (triple (images b) (wrapped y) (wrapped x)) (ix3 r s ch) = _
  rw [gather_at A _ r s ch nb ny nx hb hy hx (t0.trans (images_at b r s nb (by omega) eb)) (t1.trans (wrapped_at y r s ny hy ey))
    (t2.trans (wrapped_at x r s nx hx ex)), overCh_at]
  show (HMul.hMul (α := EReal) (β := EReal) (γ := EReal) (wy (ix2 r s)) (wx (ix2 r s))) * _ = _
  rw [e1, e2, ← EReal.coe_mul]

variable (V0 : Valuation τ sig (Elt Ideal))

/-- Where a sample lies inside the image, as the reference decides it. -/
def valid : IVec S1024x196 1 :=
  andi (andi (andi (cmpf (F := Ideal) (φ := .f32) .ogt (res_main_v67 V0) (broadcastInDim S1024x196 ![] bcast_S_S1024x196 (constant S_ .f32 0xBF800000#32)))
    (cmpf (F := Ideal) (φ := .f32) .olt (res_main_v67 V0) (broadcastInDim S1024x196 ![] bcast_S_S1024x196 (constant S_ .f32 0x43000000#32))))
    (cmpf (F := Ideal) (φ := .f32) .ogt (res_main_v70 V0) (broadcastInDim S1024x196 ![] bcast_S_S1024x196 (constant S_ .f32 0xBF800000#32))))
    (cmpf (F := Ideal) (φ := .f32) .olt (res_main_v70 V0) (broadcastInDim S1024x196 ![] bcast_S_S1024x196 (constant S_ .f32 0x43000000#32)))

/-- The sum of the four weighed pixels. -/
def blended : FVec Ideal S1024x196x256 .f32 :=
  addf (addf (addf (corners (img V0) (res_main_v110 V0) (res_main_v88 V0) (res_main_v91 V0) (res_main_v107 V0) (res_main_v109 V0))
    (corners (img V0) (res_main_v110 V0) (res_main_v88 V0) (res_main_v99 V0) (res_main_v107 V0) (res_main_v105 V0)))
    (corners (img V0) (res_main_v110 V0) (res_main_v95 V0) (res_main_v91 V0) (res_main_v102 V0) (res_main_v109 V0)))
    (corners (img V0) (res_main_v110 V0) (res_main_v95 V0) (res_main_v99 V0) (res_main_v102 V0) (res_main_v105 V0))

/-- The samples: zero outside the image. -/
def samples : FVec Ideal S1024x196x256 .f32 :=
  select (overCh (valid V0)) (blended V0) (broadcastInDim S1024x196x256 ![] bcast_S_S1024x196x256 (id (constant S_ .f32 0x00000000#32)))

/-- The means of four samples. -/
def means (x : FVec Ideal S1024x196x256 .f32) : FVec Ideal S1024x7x7x256 .f32 :=
  Host.divf (Host.reduceAdd (shapeCast S1024x7x2x7x2x256 x shapeCasts_S1024x196x256_S1024x7x2x7x2x256)
    (constant S_ .f32 0x00000000#32) reducesTo_S1024x7x2x7x2x256_S1024x7x7x256_d2_4 h_S_)
    (broadcastInDim S1024x7x7x256 ![] bcast_S_S1024x7x7x256 (constant S_ .f32 0x40800000#32))

/-! ## The samples at an index -/

/-- The words of -1 and of 128. -/
theorem word_neg_one : Ideal.ofBits .f32 0xBF800000#32 = ((-1 : ℝ) : EReal) := by
  simp [Ideal.ofBits, Ideal.ieee, -EReal.coe_mul, -EReal.coe_neg]; norm_num
/-- The word of the image's width. -/
theorem word_width : Ideal.ofBits .f32 0x43000000#32 = ((128 : ℝ) : EReal) := by
  simp [Ideal.ofBits, Ideal.ieee, -EReal.coe_mul]; norm_num

/-- A sample of a box in the image passes the mask's two comparisons. -/
theorem between {z : ℝ} (h : -1 / 2 ≤ z ∧ z ≤ 127.5) :
    Ideal.cmp .ogt (z : EReal) (Ideal.ofBits .f32 0xBF800000#32) = 1#1 ∧ Ideal.cmp .olt (z : EReal) (Ideal.ofBits .f32 0x43000000#32) = 1#1 := by
  have h1 : ((-1 : ℝ) : EReal) < z := EReal.coe_lt_coe_iff.mpr (by linarith [h.1])
  have h2 : (z : EReal) < ((128 : ℝ) : EReal) := EReal.coe_lt_coe_iff.mpr (by linarith [h.2])
  rw [word_neg_one, word_width]
  constructor
  · show BitVec.ofBool (decide _) = _
    rw [decide_eq_true h1]; rfl
  · show BitVec.ofBool (decide _) = _
    rw [decide_eq_true h2]; rfl

section Box

variable {V0} {r : Fin 1024} {b : Nat} {x0 y0 x1 y1 : ℝ} (P : Placed V0 r b x0 y0 x1 y1)
include P

/-- The mask is true on every sample of a box in the image. -/
theorem Placed.valid_at (s : Fin 196) : valid V0 (ix2 r s) = 1#1 := by
  obtain ⟨a1, a2⟩ := between (place_bounds P.topIn.1 P.topIn.2 P.bottomIn.1 P.bottomIn.2 (j := s.val / 14) (by omega))
  obtain ⟨b1, b2⟩ := between (place_bounds P.leftIn.1 P.leftIn.2 P.rightIn.1 P.rightIn.2 (j := s.val % 14) (by omega))
  show IntOp.andi (IntOp.andi (IntOp.andi (Ideal.cmp .ogt (res_main_v67 V0 (ix2 r s)) (Ideal.ofBits .f32 0xBF800000#32))
    (Ideal.cmp .olt (res_main_v67 V0 (ix2 r s)) (Ideal.ofBits .f32 0x43000000#32))) (Ideal.cmp .ogt (res_main_v70 V0 (ix2 r s)) (Ideal.ofBits .f32 0xBF800000#32)))
    (Ideal.cmp .olt (res_main_v70 V0 (ix2 r s)) (Ideal.ofBits .f32 0x43000000#32)) = 1#1
  rw [y_at V0 r s y0 y1 P.top P.bottom, x_at V0 r s x0 x1 P.left P.right, a1, a2, b1, b2]
  rfl

/-- The four weighed neighbours of a sample add up to the bilinear sample. -/
theorem Placed.blended_at (s : Fin 196) (ch : Fin 256) : blended V0 (ix3 r s ch)
    = sample (pix (img V0) b ch.val) (spot y0 y1 (s.val / 14)) (spot x0 x1 (s.val % 14)) := by
  have A := fun (y x : IVec S1024x196 32) (wy wx : FVec Ideal S1024x196 .f32) => corners_at (img V0) (res_main_v110 V0) y x wy wx r s ch b
  have ny := P.y_lt s
  have nx := P.x_lt s
  show (((corners _ _ _ _ _ _ (ix3 r s ch) : EReal) + (corners _ _ _ _ _ _ (ix3 r s ch) : EReal) : EReal) + (corners _ _ _ _ _ _ (ix3 r s ch) : EReal) : EReal)
    + (corners _ _ _ _ _ _ (ix3 r s ch) : EReal) = _
  rw [A _ _ _ _ _ _ P.image ny nx _ _ P.image_at (P.y_cell s) (P.x_cell s) (P.y_rest s) (P.x_rest s),
    A _ _ _ _ _ _ P.image ny (after_lt _) _ _ P.image_at (P.y_cell s) (P.x_next s) (P.y_rest s) (P.x_weight s),
    A _ _ _ _ _ _ P.image (after_lt _) nx _ _ P.image_at (P.y_next s) (P.x_cell s) (P.y_weight s) (P.x_rest s),
    A _ _ _ _ _ _ P.image (after_lt _) (after_lt _) _ _ P.image_at (P.y_next s) (P.x_next s) (P.y_weight s) (P.x_weight s)]
  rfl

/-- The masked sample is the bilinear sample. -/
theorem Placed.samples_at (s : Fin 196) (ch : Fin 256) : samples V0 (ix3 r s ch)
    = sample (pix (img V0) b ch.val) (spot y0 y1 (s.val / 14)) (spot x0 x1 (s.val % 14)) := by
  show (if overCh (valid V0) (ix3 r s ch) = 1#1 then blended V0 (ix3 r s ch) else _) = _
  rw [overCh_at, P.valid_at s, if_pos rfl, P.blended_at s ch]

end Box

/-! ## The means at an index -/

/-- The four samples of an output element. -/
def quad (r : Fin 1024) (ph pw : Fin 7) (ch : Fin 256) (k : Fin 2 × Fin 2) : S1024x7x2x7x2x256.Idx := ix6 r ph k.1 pw k.2 ch

/-- The four samples of a bin are four different ones. -/
theorem quad_injective (r : Fin 1024) (ph pw : Fin 7) (ch : Fin 256) : Function.Injective (quad r ph pw ch) := fun k l h =>
  Prod.ext (congrFun h 2) (congrFun h 4)

/-- The samples that the mean sums for a bin are its four. -/
theorem quad_fiber (r : Fin 1024) (ph pw : Fin 7) (ch : Fin 256) (i : S1024x7x2x7x2x256.Idx) :
    (reducesTo_S1024x7x2x7x2x256_S1024x7x7x256_d2_4).drop i = ix4 r ph pw ch ↔ ∃ k, quad r ph pw ch k = i := by
  constructor
  · intro h
    refine ⟨(i 2, i 4), funext fun a => ?_⟩
    fin_cases a
    · exact Fin.ext (congrArg Fin.val (congrFun h 0)).symm
    · exact Fin.ext (congrArg Fin.val (congrFun h 1)).symm
    · rfl
    · exact Fin.ext (congrArg Fin.val (congrFun h 2)).symm
    · rfl
    · exact Fin.ext (congrArg Fin.val (congrFun h 3)).symm
  · rintro ⟨k, rfl⟩
    funext a
    fin_cases a <;> exact Fin.ext rfl

/-- The number of a sample among its box's 196. -/
theorem number_lt (ph i pw j : Nat) (h1 : ph < 7) (h2 : i < 2) (h3 : pw < 7) (h4 : j < 2) : (2 * ph + i) * 14 + (2 * pw + j) < 196 := by omega

/-- The samples regrouped by bin. -/
theorem regrouped (x : FVec Ideal S1024x196x256 .f32) (r : Fin 1024) (ph pw : Fin 7) (ch : Fin 256) (i j : Fin 2) :
    shapeCast S1024x7x2x7x2x256 x shapeCasts_S1024x196x256_S1024x7x2x7x2x256 (ix6 r ph i pw j ch)
      = x (ix3 r (⟨(2 * ph.val + i.val) * 14 + (2 * pw.val + j.val), number_lt _ _ _ _ ph.isLt i.isLt pw.isLt j.isLt⟩ : Fin 196) ch) := by
  refine shapeCast_apply (t := S1024x7x2x7x2x256) _ _ _ _ ?_
  rw [Shape.rowMajor_val_three, Shape.rowMajor_val_six]
  show (r.val * 196 + ((2 * ph.val + i.val) * 14 + (2 * pw.val + j.val))) * 256 + ch.val
    = ((((r.val * 7 + ph.val) * 2 + i.val) * 7 + pw.val) * 2 + j.val) * 256 + ch.val
  omega

/-- The mean of a bin is a quarter of the sum of its four samples. -/
theorem means_at (x : FVec Ideal S1024x196x256 .f32) (r : Fin 1024) (ph pw : Fin 7) (ch : Fin 256) (S : Nat → Nat → EReal)
    (h : ∀ s : Fin 196, x (ix3 r s ch) = S (s.val / 14) (s.val % 14)) :
    means x (ix4 r ph pw ch) = Ideal.div (0 + ((S (2 * ph.val) (2 * pw.val) + S (2 * ph.val) (2 * pw.val + 1))
      + (S (2 * ph.val + 1) (2 * pw.val) + S (2 * ph.val + 1) (2 * pw.val + 1)))) (Ideal.ofBits .f32 0x40800000#32) := by
  have key : ∀ i j : Fin 2, shapeCast S1024x7x2x7x2x256 x shapeCasts_S1024x196x256_S1024x7x2x7x2x256 (ix6 r ph i pw j ch)
      = S (2 * ph.val + i.val) (2 * pw.val + j.val) := by
    intro i j
    rw [regrouped, h]
    congr 1 <;> simp only <;> omega
  show Ideal.div (Ideal.ofBits .f32 0x00000000#32 + ∑ i ∈ Finset.univ.filter
    (fun i => (reducesTo_S1024x7x2x7x2x256_S1024x7x7x256_d2_4).drop i = ix4 r ph pw ch), (shapeCast S1024x7x2x7x2x256 x
      shapeCasts_S1024x196x256_S1024x7x2x7x2x256 i : EReal)) (Ideal.ofBits .f32 0x40800000#32) = _
  rw [Finset.sum_filter_eq_sum_of_fiber _ (quad r ph pw ch) (quad_injective r ph pw ch) (quad_fiber r ph pw ch), Fintype.sum_prod_type,
    Fin.sum_univ_two, Fin.sum_univ_two, Fin.sum_univ_two, word_zero]
  show Ideal.div (((0 : ℝ) : EReal) + ((shapeCast _ x _ (ix6 r ph 0 pw 0 ch) + shapeCast _ x _ (ix6 r ph 0 pw 1 ch) : EReal)
    + (shapeCast _ x _ (ix6 r ph 1 pw 0 ch) + shapeCast _ x _ (ix6 r ph 1 pw 1 ch) : EReal))) _ = _
  rw [key, key, key, key]
  rfl

/-- An element of the reference's means, where the box lies in the image. -/
theorem Placed.means_at {V0 : Valuation τ sig (Elt Ideal)} {r : Fin 1024} {b : Nat} {x0 y0 x1 y1 : ℝ} (P : Placed V0 r b x0 y0 x1 y1)
    (ph pw : Fin 7) (ch : Fin 256) : means (samples V0) (ix4 r ph pw ch)
      = Ideal.div (0 + ((sample (pix (img V0) b ch.val) (spot y0 y1 (2 * ph.val)) (spot x0 x1 (2 * pw.val))
          + sample (pix (img V0) b ch.val) (spot y0 y1 (2 * ph.val)) (spot x0 x1 (2 * pw.val + 1)))
        + (sample (pix (img V0) b ch.val) (spot y0 y1 (2 * ph.val + 1)) (spot x0 x1 (2 * pw.val))
          + sample (pix (img V0) b ch.val) (spot y0 y1 (2 * ph.val + 1)) (spot x0 x1 (2 * pw.val + 1))))) (Ideal.ofBits .f32 0x40800000#32) :=
  At.means_at (samples V0) r ph pw ch (fun j k => sample (pix (img V0) b ch.val) (spot y0 y1 j) (spot x0 x1 k)) fun s => P.samples_at s ch

end Cert.ReferenceIdeal.At

end
-- ==== Proof.KernelAt.lean ====
/-
  An element of the kernel's output block, read at an index: an output row is 128 weights against the row the box kept, the
  weights are those of two column samples, the row is the sum of two blended feature rows.
-/
module

public import proofs.«01_k».proof.Proof.Sample
public import proofs.«01_k».proof.Proof.Range
public import Idealize.ShloMosaic.Lib.Pipeline.Value
public import Idealize.ShloMosaic.Lib.Pointwise.Contract

@[expose] public section

noncomputable section

namespace Cert.KernelIdeal.Roi

open Idealize.ShloMosaic Idealize.SL.Sem
open scoped BigOperators

variable [Facts]
open Facts₀ Facts

/-! ## An output row -/

/-- An element of an output row: the sum over columns of weights times the kept row. -/
theorem outRow_at (w : FVec Ideal S7x128 .f32) (k : Vec Ideal S1x1x128x256 .f32) (pw : Fin 7) (ch : Fin 256) :
    outRow (F := Ideal) w k (ix4 (0 : Fin 1) (0 : Fin 1) pw ch)
      = ∑ x : Fin 128, (w (ix2 pw x) : EReal) * (k (ix4 (0 : Fin 1) (0 : Fin 1) x ch) : EReal) := by
  unfold outRow
  rw [shapeCast_apply _ _ _ (ix2 pw ch) (by
    rw [Shape.rowMajor_val_two, Shape.rowMajor_val_four]
    show pw.val * 256 + ch.val = ((0 * 1 + 0) * 7 + pw.val) * 256 + ch.val
    omega)]
  refine (Ideal.matmul_constant_zero_apply _ _ _ _ _).trans ?_
  rw [DotDims.sum_contr₁ dot_S7x128_S128x256_S7x256_1_0_0_1_n_n (a := (1 : Fin 2)) rfl (K := 128) rfl]
  refine Finset.sum_congr rfl fun x _ => ?_
  refine congrArg₂ (HMul.hMul (α := EReal) (β := EReal) (γ := EReal)) (congrArg w (funext fun a => Fin.ext ?_)) ?_
  · fin_cases a <;> rfl
  · refine shapeCast_apply (t := S128x256) _ _ _ _ ?_
    refine Eq.trans ?_ (congrArg (fun j => (S128x256.rowMajor j).val) (funext fun a => Fin.ext ?_ : ix2 x ch = _))
    · rw [Shape.rowMajor_val_two, Shape.rowMajor_val_four]
      show ((0 * 1 + 0) * 128 + x.val) * 256 + ch.val = x.val * 256 + ch.val
      omega
    · fin_cases a <;> rfl

/-! ## The kept row -/

/-- The feature array's element at an image, a row, a column and a channel, as a function of numbers. -/
def cells (A : Vec Ideal S256x128x256 .f32) (b ch y x : Nat) : EReal :=
  A (ix3 (⟨(b * 128 + y % 128) % 256, Nat.mod_lt _ (by decide)⟩ : Fin 256) (⟨x % 128, Nat.mod_lt _ (by decide)⟩ : Fin 128)
    (⟨ch % 256, Nat.mod_lt _ (by decide)⟩ : Fin 256))

/-- A feature row read from the scratch, at a column and a channel. -/
theorem featRow_at (A : Vec Ideal S256x128x256 .f32) {b y : Nat} (hb : b < 2) (hy : y < 128) (x : Fin 128) (ch : Fin 256) :
    featRow A (rowNo (BitVec.ofNat 32 b) (BitVec.ofNat 32 y)) (ix3 (0 : Fin 1) x ch) = cells A b ch.val y x.val := by
  rw [rowNo_ofNat hb hy]
  unfold featRow cells
  refine congrArg A (funext fun a => Fin.ext ?_)
  fin_cases a
  · show (b * 128 + y) % 256 = (b * 128 + y % 128) % 256
    rw [Nat.mod_eq_of_lt hy]
  · exact (Nat.mod_eq_of_lt x.isLt).symm
  · exact (Nat.mod_eq_of_lt ch.isLt).symm

/-- Two feature rows blended by a weight, at a column and a channel. -/
theorem blend_at (l : EReal) (f0 f1 : Vec Ideal S1x128x256 .f32) (x : Fin 128) (ch : Fin 256) :
    blend (F := Ideal) l f0 f1 (ix2 x ch) = (Ideal.ofBits .f32 0x3F800000#32 - l) * (f0 (ix3 (0 : Fin 1) x ch) : EReal) + l * (f1 (ix3 (0 : Fin 1) x ch) : EReal) := by
  have e : ∀ f : Vec Ideal S1x128x256 .f32, shapeCast S128x256 f shapeCasts_S1x128x256_S128x256 (ix2 x ch) = f (ix3 (0 : Fin 1) x ch) := fun f =>
    shapeCast_apply _ _ _ _ (by
      rw [Shape.rowMajor_val_two, Shape.rowMajor_val_three]
      show (0 * 128 + x.val) * 256 + ch.val = x.val * 256 + ch.val
      omega)
  show (Ideal.ofBits .f32 0x3F800000#32 - l) * (shapeCast S128x256 f0 _ (ix2 x ch) : EReal) + l * (shapeCast S128x256 f1 _ (ix2 x ch) : EReal) = _
  rw [e, e]

/-- The blended rows of one row sample, at a column and a channel. -/
theorem tapOf_at (A : Vec Ideal S256x128x256 .f32) {b : Nat} (hb : b < 2) {z : ℝ} (h0 : 0 ≤ z) (h : z ≤ 127.5) (x : Fin 128) (ch : Fin 256) :
    tapOf (F := Ideal) A (BitVec.ofNat 32 b) (z : EReal) (ix2 x ch) = rowAt (cells A b ch.val) z x.val := by
  have hn := num_lt h0 h
  unfold tapOf rowAt
  rw [cellI_coe h0 h, nextI_ofNat hn, part_coe h0 h, blend_at, featRow_at A hb hn, featRow_at A hb (after_lt _), word_one, ← EReal.coe_sub]

/-- The row that a box keeps for one output row: its two row samples added. -/
theorem keptOf_at (A : Vec Ideal S256x128x256 .f32) {b : Nat} (hb : b < 2) (y : Nat → EReal) (ph : Nat) {z z' : ℝ}
    (e : y (2 * ph) = z) (e' : y (2 * ph + 1) = z') (h0 : 0 ≤ z) (h : z ≤ 127.5) (h0' : 0 ≤ z') (h' : z' ≤ 127.5) (x : Fin 128) (ch : Fin 256) :
    keptOf (F := Ideal) A (BitVec.ofNat 32 b) y ph (ix4 (0 : Fin 1) (0 : Fin 1) x ch)
      = rowAt (cells A b ch.val) z x.val + rowAt (cells A b ch.val) z' x.val := by
  unfold keptOf
  rw [shapeCast_apply _ _ _ (ix2 x ch) (by
    rw [Shape.rowMajor_val_two, Shape.rowMajor_val_four]
    show x.val * 256 + ch.val = ((0 * 1 + 0) * 128 + x.val) * 256 + ch.val
    omega), e, e']
  show (tapOf (F := Ideal) A (BitVec.ofNat 32 b) (z : EReal) (ix2 x ch) : EReal) + tapOf (F := Ideal) A (BitVec.ofNat 32 b) (z' : EReal) (ix2 x ch) = _
  rw [tapOf_at A hb h0 h, tapOf_at A hb h0' h']

/-! ## The weights -/

/-- A column's number against a cell's. -/
theorem same_word {x n : Nat} (hx : x < 128) (hn : n < 128) :
    IntOp.cmpi .eq (BitVec.ofNat 32 x) (IntOp.subi (BitVec.ofNat 32 n) 0#32) = 1#1 ↔ x = n := by
  have e : IntOp.subi (BitVec.ofNat 32 n) 0#32 = BitVec.ofNat 32 n := BitVec.sub_zero _
  rw [e]
  constructor
  · intro h
    by_contra hne
    have hw : BitVec.ofNat 32 x ≠ BitVec.ofNat 32 n := fun hw => hne (by
      have := congrArg BitVec.toNat hw
      simp only [BitVec.toNat_ofNat] at this
      omega)
    have hf : (BitVec.ofNat 32 x == BitVec.ofNat 32 n) = false := beq_eq_false_iff_ne.mpr hw
    unfold IntOp.cmpi at h
    simp only [hf] at h
    exact absurd h (by decide)
  · rintro rfl
    simp [IntOp.cmpi]

/-- A column's number in the row of column numbers. -/
theorem iota_at (x : Fin 128) : iota .tc S1x128 32 [1] iota_S1x128_d1_w32 (ix2 (0 : Fin 1) x) = BitVec.ofNat 32 x.val := by
  show BitVec.ofNat 32 (0 * 128 + x.val) = _
  rw [Nat.zero_mul, Nat.zero_add]

/-- One sample's column weights at a column. -/
theorem colTap_at {w : ℝ} (h0 : 0 ≤ w) (h : w ≤ 127.5) (x : Fin 128) :
    colTap (F := Ideal) (w : EReal) (ix2 (0 : Fin 1) x) = colAt w x.val := by
  have hn := num_lt h0 h
  unfold colTap
  rw [cellI_coe h0 h, nextI_ofNat hn, part_coe h0 h]
  show (if IntOp.cmpi .eq (iota .tc S1x128 32 [1] iota_S1x128_d1_w32 (ix2 (0 : Fin 1) x)) (IntOp.subi (BitVec.ofNat 32 (num w)) 0#32) = 1#1
      then Ideal.ofBits .f32 0x3E800000#32 - Ideal.ofBits .f32 0x3E800000#32 * ((off w : ℝ) : EReal) else Ideal.ofBits .f32 0x00000000#32)
    + (if IntOp.cmpi .eq (iota .tc S1x128 32 [1] iota_S1x128_d1_w32 (ix2 (0 : Fin 1) x)) (IntOp.subi (BitVec.ofNat 32 (after (num w))) 0#32) = 1#1
      then Ideal.ofBits .f32 0x3E800000#32 * ((off w : ℝ) : EReal) else Ideal.ofBits .f32 0x00000000#32) = _
  rw [iota_at]
  simp only [same_word x.isLt hn, same_word x.isLt (after_lt _), word_quarter, word_zero, ← EReal.coe_mul, ← EReal.coe_sub]
  rfl

/-- A bin column's weights at a column: those of its two samples. -/
theorem colRow_at (lo b : EReal) (pw : Nat) {w w' : ℝ} (e : coord (F := Ideal) lo b (2 * pw) = (w : EReal))
    (e' : coord (F := Ideal) lo b (2 * pw + 1) = (w' : EReal)) (h0 : 0 ≤ w) (h : w ≤ 127.5) (h0' : 0 ≤ w') (h' : w' ≤ 127.5) (x : Fin 128) :
    colRow (F := Ideal) lo b pw (ix2 (0 : Fin 1) x) = colAt w x.val + colAt w' x.val := by
  unfold colRow
  rw [e, e']
  show (colTap (F := Ideal) (w : EReal) (ix2 (0 : Fin 1) x) : EReal) + colTap (F := Ideal) (w' : EReal) (ix2 (0 : Fin 1) x) = _
  rw [colTap_at h0 h, colTap_at h0' h']

/-- Off the joined axis, a row of the weights and the matrix agree. -/
theorem beside (pw : Fin 7) (x : Fin 128) : ∀ a : Fin S1x128.rank, a.cast (rfl : S1x128.rank = S7x128.rank) ≠ 0 →
    ((ix2 (0 : Fin 1) x : S1x128.Idx) a).val = ((ix2 pw x : S7x128.Idx) (a.cast (rfl : S1x128.rank = S7x128.rank))).val
  | ⟨0, _⟩, h => absurd rfl h
  | ⟨1, _⟩, _ => rfl

/-- Row `pw` of the weights is the column weights of bin column `pw`. -/
theorem weights_at (lo b : EReal) (pw : Fin 7) (x : Fin 128) : weights (F := Ideal) lo b (ix2 pw x) = colRow (F := Ideal) lo b pw.val (ix2 (0 : Fin 1) x) :=
  concatenate_ofFn_unit_apply (t := S7x128) (s₁ := S1x128) (0 : Fin 2) (fun n : Fin 7 => colRow (F := Ideal) lo b n.val)
    concatenates_S1x128_S1x128_S1x128_S1x128_S1x128_S1x128_S1x128_S7x128_d0 rfl rfl (ix2 pw x) pw rfl (ix2 (0 : Fin 1) x) (beside pw x)

/-! ## The output element -/

/-- An element of the kernel's output row `ph` of a box in the image: the mean of four samples. -/
theorem boxOf_at (A : Vec Ideal S256x128x256 .f32) (q : Nat → EReal) {b : Nat} (hb : b < 2) (ei : Ideal.fptosi 32 (q 0) = BitVec.ofNat 32 b)
    {x0 y0 x1 y1 : ℝ} (e1 : q 1 = x0) (e2 : q 2 = y0) (e3 : q 3 = x1) (e4 : q 4 = y1) (l1 : 0 ≤ x0 ∧ x0 ≤ 2048) (l2 : 0 ≤ y0 ∧ y0 ≤ 2048)
    (l3 : 0 ≤ x1 ∧ x1 ≤ 2048) (l4 : 0 ≤ y1 ∧ y1 ≤ 2048) (ph pw : Fin 7) (ch : Fin 256) :
    boxOf (F := Ideal) A q ph.val (ix4 (0 : Fin 1) (0 : Fin 1) pw ch)
      = Ideal.div (0 + ((sample (cells A b ch.val) (spot y0 y1 (2 * ph.val)) (spot x0 x1 (2 * pw.val))
          + sample (cells A b ch.val) (spot y0 y1 (2 * ph.val)) (spot x0 x1 (2 * pw.val + 1)))
        + (sample (cells A b ch.val) (spot y0 y1 (2 * ph.val + 1)) (spot x0 x1 (2 * pw.val))
          + sample (cells A b ch.val) (spot y0 y1 (2 * ph.val + 1)) (spot x0 x1 (2 * pw.val + 1))))) (Ideal.ofBits .f32 0x40800000#32) := by
  have hp : 2 * ph.val < 14 := by omega
  have hp' : 2 * ph.val + 1 < 14 := by omega
  have hq : 2 * pw.val < 14 := by omega
  have hq' : 2 * pw.val + 1 < 14 := by omega
  rw [← pooled (Coord.of_spot l2 l4 hp) (Coord.of_spot l2 l4 hp') (Coord.of_spot l1 l3 hq) (Coord.of_spot l1 l3 hq') (cells A b ch.val)]
  unfold boxOf
  rw [outRow_at]
  refine Finset.sum_congr rfl fun x _ => ?_
  have er : ∀ j, j < 14 → rowsOf (F := Ideal) q j = ((spot y0 y1 j : ℝ) : EReal) := fun j hj => by rw [← coord_coe y0 y1 hj, rowsOf, e2, e4]
  rw [show imageOf (F := Ideal) q = BitVec.ofNat 32 b from ei,
    keptOf_at A hb (rowsOf (F := Ideal) q) ph.val (er _ hp) (er _ hp') (spot_nonneg _ _ _) (spot_le l2.1 l2.2 l4.1 l4.2 hp)
      (spot_nonneg _ _ _) (spot_le l2.1 l2.2 l4.1 l4.2 hp'), weightsOf, weights_at, e1, e3,
    colRow_at _ _ pw.val (coord_coe x0 x1 hq) (coord_coe x0 x1 hq') (spot_nonneg _ _ _) (spot_le l1.1 l1.2 l3.1 l3.2 hq)
      (spot_nonneg _ _ _) (spot_le l1.1 l1.2 l3.1 l3.2 hq')]

end Cert.KernelIdeal.Roi

end
-- ==== Proof.Frames.lean ====
/-
  The two programs' frames. The kernel runs without a fault on boxes in the image and leaves its arguments as they were;
  the reference does so on every input. Every counter is back at zero in both.
-/
module

public import proofs.«01_k».proof.Defs
public import proofs.«01_k».proof.Proof.Range
public import proofs.«01_k».proof.Proof.Run
public import proofs.«01_k».proof.Proof.Gen.ReferenceIdeal.Run
public import Idealize.ShloMosaic.Lib.Quiescent

@[expose] public section

noncomputable section

/-- The shape relations the precondition states. -/
instance Cert.Pre_boxes_in_image.holds : Cert.Pre_boxes_in_image.Facts where
  slices_S1024x5_S1024x1_0_0 := by decide
  slices_S1024x5_S1024x4_0_1 := by decide
  bcast_S_S1024x1 := by decide
  bcast_S_S1024x4 := by decide
  bcast_S1024x1_S1024x4_0_1 := by decide

namespace Cert.KernelIdeal.Roi

open Idealize.ShloMosaic Idealize.ShloMosaic.TcCoe Idealize.SL.Sem

variable (m : (ℓ : Loc nD τ sig) → Buf (Elt Ideal) ℓ)

/-- No host operation after the region writes the feature argument: it ends as launched. -/
theorem tail_arg0 (c : Dev nD) :
    Pipeline.afterTail₀ cfgs (dats m) 0 (Gen.V0 m) [Gen.hostOps1] c main_arg0 = m ((c : Thread nD τ).loc main_arg0) := by
  unfold Pipeline.afterTail₀
  rw [StableHlo.after_of_forall_not_mem (b := Proc.devRef .tc main_arg0) _ _ (List.forall_iff_forall_mem.mp (by
      simp only [Gen.hostOps1, List.flatten_cons, List.flatten_nil, List.append_nil, List.Forall, StableHlo.unary_writes, Finset.mem_singleton]
      exact StableHlo.devRef_ne_of_ne (by decide))),
    Pipeline.withArrays_of_ne _ c (Gen.V0 m c) _ main_arg0 (by exact (by decide : ∀ w, Pipeline.arrRef spec0 w ≠ main_arg0))]
  exact Gen.V_main_arg0 m c

/-- What the frame run's post says of the two arguments. -/
theorem args_of_post {r : PUnit × MemSt nD τ sig (Elt Ideal)}
    (h : Pipeline.FramePost cfgs (dats m) 0 (Pipeline.afterTail₀ cfgs (dats m) 0 (Gen.V0 m) [Gen.hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (tail_arg0 m c),
    ((h c).1 0).trans (((dats m 0 c).arrAt_in 0 rfl _).trans ((A_eq m c 0).trans (Gen.V_main_arg1 m c)))⟩

end Cert.KernelIdeal.Roi

namespace Cert.Proof

open Idealize.ShloMosaic Idealize.ShloMosaic.TcCoe Idealize.SL.Sem

/-- The kernel's frame. -/
theorem kernel_frame : Cert.quiescent_KernelIdeal := fun m g h =>
  (θ_run _ _ _).mono (fun _ r => ⟨fun c => Cert.KernelIdeal.Roi.args_of_post m r.1 c, r.2⟩)
    (Cert.KernelIdeal.Roi.run_main m g (Cert.KernelIdeal.Roi.boxes_ok m h))

/-- The reference's frame, on any arguments. -/
theorem reference_frame : Cert.quiescent_ReferenceIdeal := fun m g _ =>
  (θ_run _ _ _).mono (fun _ h => ⟨fun c => ⟨(h c).2.1, (h c).2.2⟩, sem_eq_zero_of_no_sems rfl _⟩) (Cert.ReferenceIdeal.Value.run m g)

/-- The reference's frame on boxes in the image: a case of the other. -/
theorem reference_frame_boxes : Cert.quiescent_ReferenceIdeal_pre_boxes_in_image := fun m g _ => reference_frame m g trivial

end Cert.Proof

end
-- ==== Proof.Output.lean ====
/-
  The kernel's output array: the blocks of the steps cover it, so each of its elements is an element of its box's output row;
  and the feature array the kernel reads is the feature argument with its axes moved.
-/
module

public import proofs.«01_k».proof.Proof.KernelAt
public import proofs.«01_k».proof.Proof.Frames
public import Idealize.ShloMosaic.Lib.Pipeline.ValueKit.Geometry

@[expose] public section

noncomputable section

namespace Cert.KernelIdeal.Roi

open Idealize.ShloMosaic Idealize.ShloMosaic.TcCoe Idealize.SL.Sem

variable (m : (ℓ : Loc nD τ sig) → Buf (Elt Ideal) ℓ)

/-! ## The feature array -/

/-- The feature array at the region's entry: the feature argument, its channels moved last and its images joined. -/
theorem entry_features (c : Dev nD) : Gen.V m c main_v1
    = shapeCast S256x128x256 (transpose S2x128x128x256 [0, 2, 3, 1] (m ((c.tc : Thread nD τ).loc main_arg0) : FVec Ideal S2x256x128x128 .f32)
        Facts₀.transposes_S2x256x128x128_S2x128x128x256_0_2_3_1) Facts₀.shapeCasts_S2x128x128x256_S256x128x256 := by
  unfold Gen.V Gen.V0
  simp only [List.flatten_cons, List.flatten_nil, List.append_nil, StableHlo.after_cons, StableHlo.after_nil]
  refine (StableHlo.reshape_result ..).trans ?_
  rw [StableHlo.unary_result]
  rfl

/-- A feature of the array that the kernel reads, by image, channel, row and column, is the argument's. -/
theorem feats_at (c : Dev nD) {b : Nat} (hb : b < 2) (ch : Nat) (y x : Nat) : cells (feats m c) b ch y x
    = (m ((c.tc : Thread nD τ).loc main_arg0) : FVec Ideal S2x256x128x128 .f32)
        (ix4 (⟨b % 2, Nat.mod_lt _ (by decide)⟩ : Fin 2) (⟨ch % 256, Nat.mod_lt _ (by decide)⟩ : Fin 256)
          (⟨y % 128, Nat.mod_lt _ (by decide)⟩ : Fin 128) (⟨x % 128, Nat.mod_lt _ (by decide)⟩ : Fin 128)) := by
  have e : feats m c = Gen.V m c main_v1 := rfl
  unfold cells
  rw [e, entry_features]
  refine (shapeCast_apply (t := S256x128x256) _ _ _ (ix4 (⟨b % 2, Nat.mod_lt _ (by decide)⟩ : Fin 2) (⟨y % 128, Nat.mod_lt _ (by decide)⟩ : Fin 128)
    (⟨x % 128, Nat.mod_lt _ (by decide)⟩ : Fin 128) (⟨ch % 256, Nat.mod_lt _ (by decide)⟩ : Fin 256)) ?_).trans ?_
  · rw [Shape.rowMajor_val_three, Shape.rowMajor_val_four]
    show ((b % 2 * 128 + y % 128) * 128 + x % 128) * 256 + ch % 256 = ((b * 128 + y % 128) % 256 * 128 + x % 128) * 256 + ch % 256
    omega
  · exact transpose_apply _ _ _ _ _ (by intro a; fin_cases a <;> rfl)

/-! ## The output array -/

/-- What the output array ends as. -/
def pooledArr (c : Dev nD) : Vec Ideal S1024x7x7x256 .f32 :=
  fun i => boxOf (F := Ideal) (feats m c) (rowOf (m ((c.tc : Thread nD τ).loc main_arg1)) (i 0)) (i 1).val (ix4 (0 : Fin 1) (0 : Fin 1) (i 2) (i 3))

/-- Step `t`'s block of the output starts at box `16 t`. -/
theorem block_index : ∀ t : Fin cfg0.N, win0_1.index t = ![((grid0.coords t) 0).val * 32 + ((grid0.coords t) 1).val, 0, 0, 0] :=
  (by decide +kernel : ∀ t : Fin grid0.N, win0_1.index t = ![((grid0.coords t) 0).val * 32 + ((grid0.coords t) 1).val, 0, 0, 0])

/-- Where an index of a step's output block lies in the output. -/
theorem block_emb (t : Fin cfg0.N) (y : S16x7x7x256.Idx) (a : Fin 4) :
    ((((cfg0.win 1).blk t).view.emb y : S1024x7x7x256.Idx) a).val
      = (![((grid0.coords t) 0).val * 32 + ((grid0.coords t) 1).val, 0, 0, 0] : Fin 4 → Nat) a * S16x7x7x256.size a + (y a).val := by
  rw [← block_index t]
  exact Pipeline.Window.rect_emb_val win0_1 t y a

/-- An element of a step's output block is that of its box. -/
theorem block_at (c : Dev nD) (t : Fin cfg0.N) (y : S16x7x7x256.Idx) :
    blockAt m c t y = pooledArr m c (((cfg0.win 1).blk t).view.emb y : S1024x7x7x256.Idx) := by
  have h0 := coords_0 t
  have h1 := coords_1 t
  have e0 := block_emb t y 0
  have e1 := block_emb t y 1
  have e2 := block_emb t y 2
  have e3 := block_emb t y 3
  generalize (((cfg0.win 1).blk t).view.emb y : S1024x7x7x256.Idx) = i at e0 e1 e2 e3 ⊢
  have b0 : (y 0).val < 16 := (y 0).isLt
  have b1 : (i 0).val < 1024 := (i 0).isLt
  have f0 : (i 0).val = (((grid0.coords t) 0).val * 32 + ((grid0.coords t) 1).val) * 16 + (y 0).val := e0
  have f1 : (i 1).val = (y 1).val := e1.trans (by show 0 * 7 + (y 1).val = _; omega)
  have f2 : i 2 = y 2 := Fin.ext (e2.trans (by show 0 * 7 + (y 2).val = _; omega))
  have f3 : i 3 = y 3 := Fin.ext (e3.trans (by show 0 * 256 + (y 3).val = _; omega))
  unfold blockAt blockOf pooledArr
  rw [iblk_table m c t, wordsOf_eq, f1, f2, f3]
  rw [show (⟨((((grid0.coords t) 0).val * 32 + ((grid0.coords t) 1).val) * 16 + (y 0).val) % 1024, Nat.mod_lt _ (by decide)⟩ : Fin 1024) = i 0 from
    Fin.ext (by show _ % 1024 = _; rw [← f0]; exact Nat.mod_eq_of_lt b1)]

/-- The output array after the run. -/
theorem arrAt_out (c : Dev nD) : (dats m 0 c).arrAt 1 cfg0.N = pooledArr m c :=
  (dats m 0 c).arrAt_eq_of_covers 1 (pooledArr m c) (by decide +kernel) fun t _ y => block_at m c t y

/-- The kernel's result after the run: the output array, its channels moved back. -/
theorem tail_result (c : Dev nD) : Pipeline.afterTail₀ cfgs (dats m) 0 (Gen.V0 m) [Gen.hostOps1] c main_v3
    = transpose S1024x256x7x7 [0, 3, 1, 2] (pooledArr m c) Facts₀.transposes_S1024x7x7x256_S1024x256x7x7_0_3_1_2 := by
  unfold Pipeline.afterTail₀
  simp only [Gen.hostOps1, List.flatten_cons, List.flatten_nil, List.append_nil, StableHlo.after_cons, StableHlo.after_nil]
  rw [StableHlo.unary_result]
  rw [show Pipeline.withArrays (cfgs 0).spec c (Gen.V0 m c) (fun w => (dats m 0 c).arrAt w (cfgs 0).N) (Proc.devRef .tc main_v2) = pooledArr m c from
    (Pipeline.withArrays_arr spec0 (by decide) c (Gen.V0 m c) (fun w => (dats m 0 c).arrAt w cfg0.N) 1).trans (arrAt_out m c)]

/-- What the launch's final state says of the result. -/
theorem result_of_post {r : PUnit × MemSt nD τ sig (Elt Ideal)}
    (h : Pipeline.FramePost cfgs (dats m) 0 (Pipeline.afterTail₀ cfgs (dats m) 0 (Gen.V0 m) [Gen.hostOps1]) r) (c : Dev nD) :
    r.2.mem ((c.tc : Thread nD τ).loc main_v3)
      = transpose S1024x256x7x7 [0, 3, 1, 2] (pooledArr m c) Facts₀.transposes_S1024x7x7x256_S1024x256x7x7_0_3_1_2 :=
  ((h c).2 main_v3 (Pipeline.mem_restRefs_of main_v3 (by decide) (by decide))).trans (tail_result m c)

end Cert.KernelIdeal.Roi

end
-- ==== Proof.Equal.lean ====
/-
  THE VALUE CLAIM: the kernel and the reference end with the same result. Both results are transposes of an array whose
  element at a box, an output row, an output column and a channel is the mean of the same four samples.
-/
module

public import proofs.«01_k».proof.Proof.RefAt
public import proofs.«01_k».proof.Proof.Output

@[expose] public section

noncomputable section

namespace Cert.Proof

open Idealize.ShloMosaic Idealize.ShloMosaic.TcCoe Idealize.SL.Sem

/-- On a table of boxes in the image, the kernel's output array is the reference's array of means. -/
theorem pooled_eq_means (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hA : Cert.ReferenceIdeal.At.img V0 = m ((c.tc : Thread Cert.KernelIdeal.nD Cert.KernelIdeal.τ).loc Cert.KernelIdeal.main_arg0))
    (hR : Cert.ReferenceIdeal.At.tbl V0 = m ((c.tc : Thread Cert.KernelIdeal.nD Cert.KernelIdeal.τ).loc Cert.KernelIdeal.main_arg1))
    (h : ∀ r, Cert.KernelIdeal.Roi.InImage (Cert.ReferenceIdeal.At.words V0 r)) :
    Cert.KernelIdeal.Roi.pooledArr m c = Cert.ReferenceIdeal.At.means (Cert.ReferenceIdeal.At.samples V0) := by
  funext i
  obtain ⟨r, ph, pw, ch, rfl⟩ : ∃ (r : Fin 1024) (ph pw : Fin 7) (ch : Fin 256), i = ix4 r ph pw ch :=
    ⟨i 0, i 1, i 2, i 3, funext fun a => by fin_cases a <;> rfl⟩
  obtain ⟨b, x0, y0, x1, y1, P⟩ := Cert.ReferenceIdeal.At.Placed.of_inImage V0 (h r)
  rw [P.means_at ph pw ch]
  have hG : Cert.KernelIdeal.Roi.cells (Cert.KernelIdeal.Roi.feats m c) b ch.val = Cert.ReferenceIdeal.At.pix (Cert.ReferenceIdeal.At.img V0) b ch.val := by
    funext y x
    rw [Cert.KernelIdeal.Roi.feats_at m c P.image, hA]
    rfl
  rw [← hG]
  show Cert.KernelIdeal.Roi.boxOf (F := Ideal) (Cert.KernelIdeal.Roi.feats m c) (Cert.KernelIdeal.Roi.rowOf
    (m ((c.tc : Thread Cert.KernelIdeal.nD Cert.KernelIdeal.τ).loc Cert.KernelIdeal.main_arg1)) r) ph.val (ix4 (0 : Fin 1) (0 : Fin 1) pw ch) = _
  rw [← hR]
  exact Cert.KernelIdeal.Roi.boxOf_at _ _ P.image P.word P.left P.top P.right P.bottom P.leftIn P.topIn P.rightIn P.bottomIn ph pw ch

/-- The kernel against the reference. -/
theorem kernel_algebraic : Cert.algebraic_KernelIdeal_ReferenceIdeal := fun m g m' g' hpre hagree => by
  refine ⟨fun c => transpose Cert.KernelIdeal.S1024x256x7x7 [0, 3, 1, 2] (Cert.KernelIdeal.Roi.pooledArr m c)
    Cert.KernelIdeal.Facts₀.transposes_S1024x7x7x256_S1024x256x7x7_0_3_1_2, ?_, ?_⟩
  · exact (θ_run _ _ _).mono (fun _ r c => ⟨Cert.KernelIdeal.Roi.result_of_post m r.1 c, Cert.KernelIdeal.Roi.args_of_post m r.1 c⟩)
      (Cert.KernelIdeal.Roi.run_main m g (Cert.KernelIdeal.Roi.boxes_ok m hpre))
  · refine (θ_run _ _ _).mono (fun _ h c => ⟨(h c).1.trans ?_, (h c).2⟩) (Cert.ReferenceIdeal.Value.run m' g')
    have hA := (hagree c).1
    have hR := (hagree c).2
    refine Eq.trans ?_ (congrArg (fun x => transpose Cert.KernelIdeal.S1024x256x7x7 [0, 3, 1, 2] x
      Cert.KernelIdeal.Facts₀.transposes_S1024x7x7x256_S1024x256x7x7_0_3_1_2)
      (pooled_eq_means m (StableHlo.launchContents m' c) c hA hR fun r => by
        have := Cert.KernelIdeal.Roi.inImage _ _ (hpre c) r
        rw [← hR] at this
        exact this).symm)
    rfl

end Cert.Proof

end
-- ==== Proof.lean ====
module

public import proofs.«01_k».proof.Defs
public import proofs.«01_k».proof.Proof.Equal

@[expose] public section

noncomputable section

namespace Cert.Proof

theorem claim : Cert.Claim := ⟨Cert.KernelIdeal.Gen.facts, Cert.ReferenceIdeal.Gen.facts, Cert.Pre_boxes_in_image.holds,
  kernel_frame, reference_frame, reference_frame_boxes, kernel_algebraic⟩

end Cert.Proof

end
